-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)) (v1 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_v5) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v10)) (v1 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_v12) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v121) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v58)) (v1 : (c : Dev Cert.Kernel6Ideal.nD) → Buf (Elt Ideal) ((c.tc : Thread Cert.Kernel6Ideal.nD Cert.Kernel6Ideal.τ).loc Cert.Kernel6Ideal.main_v60)) (v2 : (c : Dev Cert.Kernel6Ideal.nD) → Buf (Elt Ideal) ((c.tc : Thread Cert.Kernel6Ideal.nD Cert.Kernel6Ideal.τ).loc Cert.Kernel6Ideal.main_v62)) (v3 : (c : Dev Cert.Kernel6Ideal.nD) → Buf (Elt Ideal) ((c.tc : Thread Cert.Kernel6Ideal.nD Cert.Kernel6Ideal.τ).loc Cert.Kernel6Ideal.main_v64)) (v4 : (c : Dev Cert.Kernel6Ideal.nD) → Buf (Elt Ideal) ((c.tc : Thread Cert.Kernel6Ideal.nD Cert.Kernel6Ideal.τ).loc Cert.Kernel6Ideal.main_v65)) (v5 : (c : Dev Cert.Kernel6Ideal.nD) → Buf (Elt Ideal) ((c.tc : Thread Cert.Kernel6Ideal.nD Cert.Kernel6Ideal.τ).loc Cert.Kernel6Ideal.main_v69)) (v6 : (c : Dev Cert.Kernel6Ideal.nD) → Buf (Elt Ideal) ((c.tc : Thread Cert.Kernel6Ideal.nD Cert.Kernel6Ideal.τ).loc Cert.Kernel6Ideal.main_v70)) (v7 : (c : Dev Cert.Kernel6Ideal.nD) → Buf (Elt Ideal) ((c.tc : Thread Cert.Kernel6Ideal.nD Cert.Kernel6Ideal.τ).loc Cert.Kernel6Ideal.main_v71)) (v8 : (c : Dev Cert.Kernel6Ideal.nD) → Buf (Elt Ideal) ((c.tc : Thread Cert.Kernel6Ideal.nD Cert.Kernel6Ideal.τ).loc Cert.Kernel6Ideal.main_v72)) (v9 : (c : Dev Cert.Kernel6Ideal.nD) → Buf (Elt Ideal) ((c.tc : Thread Cert.Kernel6Ideal.nD Cert.Kernel6Ideal.τ).loc Cert.Kernel6Ideal.main_v73)) (v10 : (c : Dev Cert.Kernel6Ideal.nD) → Buf (Elt Ideal) ((c.tc : Thread Cert.Kernel6Ideal.nD Cert.Kernel6Ideal.τ).loc Cert.Kernel6Ideal.main_v74)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v58) = v0 c
          ∧ r.2.mem ((c.tc : Thread Cert.Kernel6Ideal.nD Cert.Kernel6Ideal.τ).loc Cert.Kernel6Ideal.main_v60) = v1 c
          ∧ r.2.mem ((c.tc : Thread Cert.Kernel6Ideal.nD Cert.Kernel6Ideal.τ).loc Cert.Kernel6Ideal.main_v62) = v2 c
          ∧ r.2.mem ((c.tc : Thread Cert.Kernel6Ideal.nD Cert.Kernel6Ideal.τ).loc Cert.Kernel6Ideal.main_v64) = v3 c
          ∧ r.2.mem ((c.tc : Thread Cert.Kernel6Ideal.nD Cert.Kernel6Ideal.τ).loc Cert.Kernel6Ideal.main_v65) = v4 c
          ∧ r.2.mem ((c.tc : Thread Cert.Kernel6Ideal.nD Cert.Kernel6Ideal.τ).loc Cert.Kernel6Ideal.main_v69) = v5 c
          ∧ r.2.mem ((c.tc : Thread Cert.Kernel6Ideal.nD Cert.Kernel6Ideal.τ).loc Cert.Kernel6Ideal.main_v70) = v6 c
          ∧ r.2.mem ((c.tc : Thread Cert.Kernel6Ideal.nD Cert.Kernel6Ideal.τ).loc Cert.Kernel6Ideal.main_v71) = v7 c
          ∧ r.2.mem ((c.tc : Thread Cert.Kernel6Ideal.nD Cert.Kernel6Ideal.τ).loc Cert.Kernel6Ideal.main_v72) = v8 c
          ∧ r.2.mem ((c.tc : Thread Cert.Kernel6Ideal.nD Cert.Kernel6Ideal.τ).loc Cert.Kernel6Ideal.main_v73) = v9 c
          ∧ r.2.mem ((c.tc : Thread Cert.Kernel6Ideal.nD Cert.Kernel6Ideal.τ).loc Cert.Kernel6Ideal.main_v74) = v10 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v123) = v0 c
          ∧ r.2.mem ((c.tc : Thread Cert.Reference6Ideal.nD Cert.Reference6Ideal.τ).loc Cert.Reference6Ideal.main_v331) = v1 c
          ∧ r.2.mem ((c.tc : Thread Cert.Reference6Ideal.nD Cert.Reference6Ideal.τ).loc Cert.Reference6Ideal.main_v445) = v2 c
          ∧ r.2.mem ((c.tc : Thread Cert.Reference6Ideal.nD Cert.Reference6Ideal.τ).loc Cert.Reference6Ideal.main_v446) = v3 c
          ∧ r.2.mem ((c.tc : Thread Cert.Reference6Ideal.nD Cert.Reference6Ideal.τ).loc Cert.Reference6Ideal.main_v447) = v4 c
          ∧ r.2.mem ((c.tc : Thread Cert.Reference6Ideal.nD Cert.Reference6Ideal.τ).loc Cert.Reference6Ideal.main_v448) = v5 c
          ∧ r.2.mem ((c.tc : Thread Cert.Reference6Ideal.nD Cert.Reference6Ideal.τ).loc Cert.Reference6Ideal.main_v449) = v6 c
          ∧ r.2.mem ((c.tc : Thread Cert.Reference6Ideal.nD Cert.Reference6Ideal.τ).loc Cert.Reference6Ideal.main_v450) = v7 c
          ∧ r.2.mem ((c.tc : Thread Cert.Reference6Ideal.nD Cert.Reference6Ideal.τ).loc Cert.Reference6Ideal.main_v454) = v8 c
          ∧ r.2.mem ((c.tc : Thread Cert.Reference6Ideal.nD Cert.Reference6Ideal.τ).loc Cert.Reference6Ideal.main_v461) = v9 c
          ∧ r.2.mem ((c.tc : Thread Cert.Reference6Ideal.nD Cert.Reference6Ideal.τ).loc Cert.Reference6Ideal.main_v464) = v10 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v257) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S6x8704x384 : Shape := ⟨3, ![6, 8704, 384]⟩
abbrev S8704x384 : Shape := ⟨2, ![8704, 384]⟩
abbrev S6x8192x384 : Shape := ⟨3, ![6, 8192, 384]⟩
abbrev S_ : Shape := ⟨0, ![]⟩
abbrev S8192x384 : Shape := ⟨2, ![8192, 384]⟩

class Facts : Prop where
  bitsLt_bf16_f32 : FTy.bits .bf16 < FTy.bits .f32
  slices_S6x8704x384_S6x8192x384_0_0_0 : S6x8704x384.Slices ![0, 0, 0] S6x8192x384
  bcast_S_S6x8192x384 : S_.BroadcastsInDim S6x8192x384 (![] : Fin 0 → Fin S6x8192x384.rank)
  reducesTo_S6x8192x384_S_d0_1_2 : S6x8192x384.ReducesTo [0, 1, 2] S_
  h_S_ : 0 < S_.numel
  slices_S8704x384_S8192x384_0_0 : S8704x384.Slices ![0, 0] S8192x384
  bcast_S_S8192x384 : S_.BroadcastsInDim S8192x384 (![] : Fin 0 → Fin S8192x384.rank)
  reducesTo_S8192x384_S_d0_1 : S8192x384.ReducesTo [0, 1] S_

variable [Facts]

def fn {F : FTy → Type} [FloatOps F] (main_arg0 : FVec F S6x8704x384 .bf16) (main_arg1 : FVec F S8704x384 .bf16) : IVec S_ 1 :=
  let main_v0 : FVec F S6x8704x384 .f32 := (extf .f32 · bitsLt_bf16_f32) main_arg0
  let main_v1 : FVec F S6x8192x384 .f32 := (extractStridedSlice S6x8192x384 ![0, 0, 0] · slices_S6x8704x384_S6x8192x384_0_0_0) main_v0
  let main_v2 : FVec F S6x8192x384 .f32 := Host.absf main_v1
  let main_cst : FVec F S_ .f32 := constant S_ .f32 0x7F800000#32
  let main_v3 : FVec F S6x8192x384 .f32 := broadcastInDim S6x8192x384 ![] bcast_S_S6x8192x384 main_cst
  let main_v4 : IVec S6x8192x384 1 := cmpf .olt main_v2 main_v3
  let main_c : IVec S_ 1 := constantI S_ 1 1#1
  let main_v5 : IVec S_ 1 := (fun x v => Host.reduce IntOp.andi x v reducesTo_S6x8192x384_S_d0_1_2 h_S_) main_v4 main_c
  let main_v6 : FVec F S8704x384 .f32 := (extf .f32 · bitsLt_bf16_f32) main_arg1
  let main_v7 : FVec F S8192x384 .f32 := (extractStridedSlice S8192x384 ![0, 0] · slices_S8704x384_S8192x384_0_0) main_v6
  let main_v8 : FVec F S8192x384 .f32 := Host.absf main_v7
  let main_cst_0 : FVec F S_ .f32 := constant S_ .f32 0x7F800000#32
  let main_v9 : FVec F S8192x384 .f32 := broadcastInDim S8192x384 ![] bcast_S_S8192x384 main_cst_0
  let main_v10 : IVec S8192x384 1 := cmpf .olt main_v8 main_v9
  let main_c_1 : IVec S_ 1 := constantI S_ 1 1#1
  let main_v11 : IVec S_ 1 := (fun x v => Host.reduce IntOp.andi x v reducesTo_S8192x384_S_d0_1 h_S_) main_v10 main_c_1
  let main_v12 : IVec S_ 1 := andi main_v5 main_v11
  main_v12
-- ==== Kernel.lean ====
abbrev S6x8704x384 : Shape := ⟨3, ![6, 8704, 384]⟩
abbrev S8704x384 : Shape := ⟨2, ![8704, 384]⟩
abbrev S8192x1536 : Shape := ⟨2, ![8192, 1536]⟩
abbrev S6x256x384 : Shape := ⟨3, ![6, 256, 384]⟩
abbrev S2048x384 : Shape := ⟨2, ![2048, 384]⟩
abbrev S256x1536 : Shape := ⟨2, ![256, 1536]⟩
abbrev S1536x128 : Shape := ⟨2, ![1536, 128]⟩
abbrev S1536x256 : Shape := ⟨2, ![1536, 256]⟩
abbrev S1536x384 : Shape := ⟨2, ![1536, 384]⟩
abbrev S768x512 : Shape := ⟨2, ![768, 512]⟩
abbrev S512x384 : Shape := ⟨2, ![512, 384]⟩
abbrev S768x384 : Shape := ⟨2, ![768, 384]⟩
abbrev S768x128 : Shape := ⟨2, ![768, 128]⟩
abbrev S768 : Shape := ⟨1, ![768]⟩
abbrev S768x1 : Shape := ⟨2, ![768, 1]⟩
abbrev S768x256 : Shape := ⟨2, ![768, 256]⟩
abbrev S512x256 : Shape := ⟨2, ![512, 256]⟩
abbrev S256x256 : Shape := ⟨2, ![256, 256]⟩

abbrev nBuf : Space → Nat
  | .hbm => 3
  | .vmem => 9
  | .smem => 0
  | _ => 0

abbrev bufTy : (tb : Table) → Fin (tcTables nBuf tb) → BufTy
  | .hbm, ⟨0, _⟩ => ⟨S6x8704x384, .bf16⟩
  | .hbm, ⟨1, _⟩ => ⟨S8704x384, .bf16⟩
  | .hbm, ⟨2, _⟩ => ⟨S8192x1536, .bf16⟩
  | .local _ .vmem, ⟨0, _⟩ => ⟨S6x256x384, .bf16⟩
  | .local _ .vmem, ⟨1, _⟩ => ⟨S6x256x384, .bf16⟩
  | .local _ .vmem, ⟨2, _⟩ => ⟨S2048x384, .bf16⟩
  | .local _ .vmem, ⟨3, _⟩ => ⟨S2048x384, .bf16⟩
  | .local _ .vmem, ⟨4, _⟩ => ⟨S256x1536, .bf16⟩
  | .local _ .vmem, ⟨5, _⟩ => ⟨S256x1536, .bf16⟩
  | .local _ .vmem, ⟨6, _⟩ => ⟨S1536x128, .f32⟩
  | .local _ .vmem, ⟨7, _⟩ => ⟨S1536x128, .f32⟩
  | .local _ .vmem, ⟨8, _⟩ => ⟨S1536x256, .f32⟩
  | _, _ => ⟨S6x8704x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_19 : BitVec 32 := 0#32
  let arg1 : BitVec 32 := BitVec.ofNat 32 (i 1).val
  let c256_i32_10 : BitVec 32 := 256#32
  let v21 : BitVec 32 := Scalar.muli arg1 c256_i32_10
  let c256_i32_11 : BitVec 32 := 256#32
  let v22 : BitVec 32 := Scalar.addi v21 c256_i32_11
  let c512_i32 : BitVec 32 := 512#32
  let v23 : BitVec 32 := Scalar.addi v22 c512_i32
  let c1_i32 : BitVec 32 := 1#32
  let v24 : BitVec 32 := Scalar.subi v23 c1_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_12 : BitVec 32 := 512#32
  let c0_i32_14 : BitVec 32 := 0#32
  let v31 : BitVec 1 := Scalar.cmpi .sgt c512_i32_12 c0_i32_14
  let v32 : BitVec 32 := Scalar.extui v31
  let c0_i32_15 : BitVec 32 := 0#32
  let v33 : BitVec 1 := Scalar.cmpi .slt c512_i32_12 c0_i32_15
  let v34 : BitVec 32 := Scalar.extui v33
  let v35 : BitVec 32 := Scalar.subi v32 v34
  let v36 : BitVec 1 := Scalar.cmpi .ne v30 v35
  let v37 : BitVec 32 := Scalar.remsi v24 c512_i32_12
  let c0_i32_16 : BitVec 32 := 0#32
  let v38 : BitVec 1 := Scalar.cmpi .ne v37 c0_i32_16
  let v39 : BitVec 1 := Scalar.andi v36 v38
  let v25 : BitVec 32 := Scalar.divsi v24 c512_i32_12
  let c1_i32_17 : BitVec 32 := 1#32
  let v40 : BitVec 32 := Scalar.subi v25 c1_i32_17
  let v41 : BitVec 32 := Scalar.select v39 v40 v25
  let v42 : BitVec 32 := Scalar.subi v41 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_21 : BitVec 32 := 1#32
  ⟨c0_i32_19, v46, c1_i32_21⟩
def k0_mult1 (i : grid0.Coords) (k0_t1 : Fin (k0_t1_loop i).trips) : BitVec 32 :=
  let c0_i32_19 : BitVec 32 := 0#32
  let c1_i32_21 : BitVec 32 := 1#32
  let arg8 : BitVec 32 := Scf.iv c0_i32_19 c1_i32_21 k0_t1
  let c512_i32_34 : BitVec 32 := 512#32
  let v69 : BitVec 32 := Scalar.muli arg8 c512_i32_34
  v69
def k0_off1 (i : grid0.Coords) (k0_t1 : Fin (k0_t1_loop i).trips) : Fin 2 → Nat :=
  let c0_i32_19 : BitVec 32 := 0#32
  let c1_i32_21 : BitVec 32 := 1#32
  let arg8 : BitVec 32 := Scf.iv c0_i32_19 c1_i32_21 k0_t1
  let c512_i32_34 : BitVec 32 := 512#32
  let v69 : BitVec 32 := Scalar.muli arg8 c512_i32_34
  let v70 : BitVec 32 := v69
  let v71 : Index := Scalar.indexCast v70
  let c0_35 : Index := 0#32
  ![v71.toNat, 0]
@[reducible] def k0_t2_loop (i : grid0.Coords) : Scf.Loop 32 :=
  let c0_i32_19 : BitVec 32 := 0#32
  let arg1 : BitVec 32 := BitVec.ofNat 32 (i 1).val
  let c256_i32_10 : BitVec 32 := 256#32
  let v21 : BitVec 32 := Scalar.muli arg1 c256_i32_10
  let c256_i32_11 : BitVec 32 := 256#32
  let v22 : BitVec 32 := Scalar.addi v21 c256_i32_11
  let c512_i32 : BitVec 32 := 512#32
  let v23 : BitVec 32 := Scalar.addi v22 c512_i32
  let c1_i32 : BitVec 32 := 1#32
  let v24 : BitVec 32 := Scalar.subi v23 c1_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_12 : BitVec 32 := 512#32
  let c0_i32_14 : BitVec 32 := 0#32
  let v31 : BitVec 1 := Scalar.cmpi .sgt c512_i32_12 c0_i32_14
  let v32 : BitVec 32 := Scalar.extui v31
  let c0_i32_15 : BitVec 32 := 0#32
  let v33 : BitVec 1 := Scalar.cmpi .slt c512_i32_12 c0_i32_15
  let v34 : BitVec 32 := Scalar.extui v33
  let v35 : BitVec 32 := Scalar.subi v32 v34
  let v36 : BitVec 1 := Scalar.cmpi .ne v30 v35
  let v37 : BitVec 32 := Scalar.remsi v24 c512_i32_12
  let c0_i32_16 : BitVec 32 := 0#32
  let v38 : BitVec 1 := Scalar.cmpi .ne v37 c0_i32_16
  let v39 : BitVec 1 := Scalar.andi v36 v38
  let v25 : BitVec 32 := Scalar.divsi v24 c512_i32_12
  let c1_i32_17 : BitVec 32 := 1#32
  let v40 : BitVec 32 := Scalar.subi v25 c1_i32_17
  let v41 : BitVec 32 := Scalar.select v39 v40 v25
  let v42 : BitVec 32 := Scalar.subi v41 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let v43 : BitVec 32 := Scalar.addi c0_i32_19 v42
  let c1_i32_22 : BitVec 32 := 1#32
  ⟨v46, v43, c1_i32_22⟩
def k0_mult2 (i : grid0.Coords) (k0_t2 : Fin (k0_t2_loop i).trips) : BitVec 32 :=
  let c0_i32_19 : BitVec 32 := 0#32
  let arg1 : BitVec 32 := BitVec.ofNat 32 (i 1).val
  let c256_i32_10 : BitVec 32 := 256#32
  let v21 : BitVec 32 := Scalar.muli arg1 c256_i32_10
  let c256_i32_11 : BitVec 32 := 256#32
  let v22 : BitVec 32 := Scalar.addi v21 c256_i32_11
  let c512_i32 : BitVec 32 := 512#32
  let v23 : BitVec 32 := Scalar.addi v22 c512_i32
  let c1_i32 : BitVec 32 := 1#32
  let v24 : BitVec 32 := Scalar.subi v23 c1_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_12 : BitVec 32 := 512#32
  let c0_i32_14 : BitVec 32 := 0#32
  let v31 : BitVec 1 := Scalar.cmpi .sgt c512_i32_12 c0_i32_14
  let v32 : BitVec 32 := Scalar.extui v31
  let c0_i32_15 : BitVec 32 := 0#32
  let v33 : BitVec 1 := Scalar.cmpi .slt c512_i32_12 c0_i32_15
  let v34 : BitVec 32 := Scalar.extui v33
  let v35 : BitVec 32 := Scalar.subi v32 v34
  let v36 : BitVec 1 := Scalar.cmpi .ne v30 v35
  let v37 : BitVec 32 := Scalar.remsi v24 c512_i32_12
  let c0_i32_16 : BitVec 32 := 0#32
  let v38 : BitVec 1 := Scalar.cmpi .ne v37 c0_i32_16
  let v39 : BitVec 1 := Scalar.andi v36 v38
  let v25 : BitVec 32 := Scalar.divsi v24 c512_i32_12
  let c1_i32_17 : BitVec 32 := 1#32
  let v40 : BitVec 32 := Scalar.subi v25 c1_i32_17
  let v41 : BitVec 32 := Scalar.select v39 v40 v25
  let v42 : BitVec 32 := Scalar.subi v41 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg8 : BitVec 32 := Scf.iv v46 c1_i32_22 k0_t2
  let c512_i32_34 : BitVec 32 := 512#32
  let v69 : BitVec 32 := Scalar.muli arg8 c512_i32_34
  v69
def k0_off2 (i : grid0.Coords) (k0_t2 : Fin (k0_t2_loop i).trips) : Fin 2 → Nat :=
  let c0_i32_19 : BitVec 32 := 0#32
  let arg1 : BitVec 32 := BitVec.ofNat 32 (i 1).val
  let c256_i32_10 : BitVec 32 := 256#32
  let v21 : BitVec 32 := Scalar.muli arg1 c256_i32_10
  let c256_i32_11 : BitVec 32 := 256#32
  let v22 : BitVec 32 := Scalar.addi v21 c256_i32_11
  let c512_i32 : BitVec 32 := 512#32
  let v23 : BitVec 32 := Scalar.addi v22 c512_i32
  let c1_i32 : BitVec 32 := 1#32
  let v24 : BitVec 32 := Scalar.subi v23 c1_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_12 : BitVec 32 := 512#32
  let c0_i32_14 : BitVec 32 := 0#32
  let v31 : BitVec 1 := Scalar.cmpi .sgt c512_i32_12 c0_i32_14
  let v32 : BitVec 32 := Scalar.extui v31
  let c0_i32_15 : BitVec 32 := 0#32
  let v33 : BitVec 1 := Scalar.cmpi .slt c512_i32_12 c0_i32_15
  let v34 : BitVec 32 := Scalar.extui v33
  let v35 : BitVec 32 := Scalar.subi v32 v34
  let v36 : BitVec 1 := Scalar.cmpi .ne v30 v35
  let v37 : BitVec 32 := Scalar.remsi v24 c512_i32_12
  let c0_i32_16 : BitVec 32 := 0#32
  let v38 : BitVec 1 := Scalar.cmpi .ne v37 c0_i32_16
  let v39 : BitVec 1 := Scalar.andi v36 v38
  let v25 : BitVec 32 := Scalar.divsi v24 c512_i32_12
  let c1_i32_17 : BitVec 32 := 1#32
  let v40 : BitVec 32 := Scalar.subi v25 c1_i32_17
  let v41 : BitVec 32 := Scalar.select v39 v40 v25
  let v42 : BitVec 32 := Scalar.subi v41 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg8 : BitVec 32 := Scf.iv v46 c1_i32_22 k0_t2
  let c512_i32_34 : BitVec 32 := 512#32
  let v69 : BitVec 32 := Scalar.muli arg8 c512_i32_34
  let v70 : BitVec 32 := v69
  let v71 : Index := Scalar.indexCast v70
  let c0_35 : Index := 0#32
  ![v71.toNat, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S6x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S6x8704x384 : Shape := ⟨3, ![6, 8704, 384]⟩
abbrev S8704x384 : Shape := ⟨2, ![8704, 384]⟩
abbrev S6x8192x384 : Shape := ⟨3, ![6, 8192, 384]⟩
abbrev S6x4x2048x384 : Shape := ⟨4, ![6, 4, 2048, 384]⟩
abbrev S8192x384 : Shape := ⟨2, ![8192, 384]⟩
abbrev S4x2048x384 : Shape := ⟨3, ![4, 2048, 384]⟩
abbrev S4x2048x256 : Shape := ⟨3, ![4, 2048, 256]⟩
abbrev S4x2048x128 : Shape := ⟨3, ![4, 2048, 128]⟩
abbrev S6x4x2048x256 : Shape := ⟨4, ![6, 4, 2048, 256]⟩
abbrev S4x6x2048x2048 : Shape := ⟨4, ![4, 6, 2048, 2048]⟩
abbrev S6x4x2048x128 : Shape := ⟨4, ![6, 4, 2048, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S_ : Shape := ⟨0, ![]⟩
abbrev S4x6x2048 : Shape := ⟨3, ![4, 6, 2048]⟩
abbrev S4x6x2048x1 : Shape := ⟨4, ![4, 6, 2048, 1]⟩
abbrev S4x256x6x2048 : Shape := ⟨4, ![4, 256, 6, 2048]⟩
abbrev S4x2048x6x256 : Shape := ⟨4, ![4, 2048, 6, 256]⟩
abbrev S8192x1536 : Shape := ⟨2, ![8192, 1536]⟩

abbrev nBuf : Space → Nat
  | .hbm => 59
  | .vmem => 0
  | .smem => 0
  | _ => 0

abbrev bufTy : (tb : Table) → Fin (tcTables nBuf tb) → BufTy
  | .hbm, ⟨0, _⟩ => ⟨S6x8704x384, .bf16⟩
  | .hbm, ⟨1, _⟩ => ⟨S8704x384, .bf16⟩
  | .hbm, ⟨2, _⟩ => ⟨S6x8704x384, .f32⟩
  | .hbm, ⟨3, _⟩ => ⟨S6x8192x384, .f32⟩
  | .hbm, ⟨4, _⟩ => ⟨S6x4x2048x384, .f32⟩
  | .hbm, ⟨5, _⟩ => ⟨S8704x384, .f32⟩
  | .hbm, ⟨6, _⟩ => ⟨S8192x384, .f32⟩
  | .hbm, ⟨7, _⟩ => ⟨S4x2048x384, .f32⟩
  | .hbm, ⟨8, _⟩ => ⟨S4x2048x256, .f32⟩
  | .hbm, ⟨9, _⟩ => ⟨S4x2048x128, .f32⟩
  | .hbm, ⟨10, _⟩ => ⟨S6x4x2048x256, .f32⟩
  | .hbm, ⟨11, _⟩ => ⟨S4x6x2048x2048, .f32⟩
  | .hbm, ⟨12, _⟩ => ⟨S6x4x2048x128, .f32⟩
  | .hbm, ⟨13, _⟩ => ⟨S4x6x2048x2048, .f32⟩
  | .hbm, ⟨14, _⟩ => ⟨S4x6x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S1x1x2048x2048, .i1⟩
  | .hbm, ⟨22, _⟩ => ⟨S_, .f32⟩
  | .hbm, ⟨23, _⟩ => ⟨S_, .f32⟩
  | .hbm, ⟨24, _⟩ => ⟨S4x6x2048x2048, .i1⟩
  | .hbm, ⟨25, _⟩ => ⟨S4x6x2048x2048, .f32⟩
  | .hbm, ⟨26, _⟩ => ⟨S4x6x2048x2048, .f32⟩
  | .hbm, ⟨27, _⟩ => ⟨S_, .f32⟩
  | .hbm, ⟨28, _⟩ => ⟨S4x6x2048, .f32⟩
  | .hbm, ⟨29, _⟩ => ⟨S4x6x2048x1, .f32⟩
  | .hbm, ⟨30, _⟩ => ⟨S4x6x2048x1, .f32⟩
  | .hbm, ⟨31, _⟩ => ⟨S_, .f32⟩
  | .hbm, ⟨32, _⟩ => ⟨S4x6x2048x1, .f32⟩
  | .hbm, ⟨33, _⟩ => ⟨S4x6x2048x1, .i1⟩
  | .hbm, ⟨34, _⟩ => ⟨S_, .f32⟩
  | .hbm, ⟨35, _⟩ => ⟨S_, .f32⟩
  | .hbm, ⟨36, _⟩ => ⟨S4x6x2048x1, .f32⟩
  | .hbm, ⟨37, _⟩ => ⟨S4x6x2048x1, .f32⟩
  | .hbm, ⟨38, _⟩ => ⟨S4x6x2048x2048, .f32⟩
  | .hbm, ⟨39, _⟩ => ⟨S4x6x2048x2048, .f32⟩
  | .hbm, ⟨40, _⟩ => ⟨S4x6x2048x2048, .f32⟩
  | .hbm, ⟨41, _⟩ => ⟨S_, .f32⟩
  | .hbm, ⟨42, _⟩ => ⟨S4x6x2048, .f32⟩
  | .hbm, ⟨43, _⟩ => ⟨S4x6x2048x1, .f32⟩
  | .hbm, ⟨44, _⟩ => ⟨S_, .f32⟩
  | .hbm, ⟨45, _⟩ => ⟨S4x6x2048x1, .f32⟩
  | .hbm, ⟨46, _⟩ => ⟨S4x6x2048x1, .i1⟩
  | .hbm, ⟨47, _⟩ => ⟨S_, .f32⟩
  | .hbm, ⟨48, _⟩ => ⟨S_, .f32⟩
  | .hbm, ⟨49, _⟩ => ⟨S4x6x2048x1, .f32⟩
  | .hbm, ⟨50, _⟩ => ⟨S4x6x2048x1, .f32⟩
  | .hbm, ⟨51, _⟩ => ⟨S4x6x2048x2048, .f32⟩
  | .hbm, ⟨52, _⟩ => ⟨S4x6x2048x2048, .f32⟩
  | .hbm, ⟨53, _⟩ => ⟨S4x6x2048x2048, .bf16⟩
  | .hbm, ⟨54, _⟩ => ⟨S4x6x2048x2048, .f32⟩
  | .hbm, ⟨55, _⟩ => ⟨S4x256x6x2048, .f32⟩
  | .hbm, ⟨56, _⟩ => ⟨S4x2048x6x256, .f32⟩
  | .hbm, ⟨57, _⟩ => ⟨S8192x1536, .f32⟩
  | .hbm, ⟨58, _⟩ => ⟨S8192x1536, .bf16⟩
  | _, _ => ⟨S6x8704x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_call2_v0 : Ref sig .tc := ⟨.hbm, 48, rfl⟩
abbrev main_call2_v1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel2.lean ====
abbrev S8704x2048 : Shape := ⟨2, ![8704, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4x2048x8192, .bf16⟩
  | .hbm, ⟨8, _⟩ => ⟨S4x8192x2048, .bf16⟩
  | .hbm, ⟨9, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8704x2048 : Shape := ⟨2, ![8704, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S8704x8192 : Shape := ⟨2, ![8704, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S8704x2048, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x2048, .f32⟩
  | .hbm, ⟨18, _⟩ => ⟨S8704x2048, .f32⟩
  | .hbm, ⟨19, _⟩ => ⟨S1x2048, .f32⟩
  | .hbm, ⟨20, _⟩ => ⟨S8704x2048, .f32⟩
  | .hbm, ⟨21, _⟩ => ⟨S8704x2048, .f32⟩
  | .hbm, ⟨22, _⟩ => ⟨S1x2048x8192, .f32⟩
  | .hbm, ⟨23, _⟩ => ⟨S2048x8192, .f32⟩
  | .hbm, ⟨24, _⟩ => ⟨S1x8192x2048, .f32⟩
  | .hbm, ⟨25, _⟩ => ⟨S8192x2048, .f32⟩
  | .hbm, ⟨26, _⟩ => ⟨S8704x8192, .f32⟩
  | .hbm, ⟨27, _⟩ => ⟨S_, .f32⟩
  | .hbm, ⟨28, _⟩ => ⟨S8704x8192, .f32⟩
  | .hbm, ⟨29, _⟩ => ⟨S8704x8192, .f32⟩
  | .hbm, ⟨30, _⟩ => ⟨S8704x8192, .f32⟩
  | .hbm, ⟨31, _⟩ => ⟨S8704x2048, .f32⟩
  | .hbm, ⟨32, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel3.lean ====
abbrev S8704x2048 : Shape := ⟨2, ![8704, 2048]⟩
abbrev S4x2048 : Shape := ⟨2, ![4, 2048]⟩
abbrev S4x2048x3044 : Shape := ⟨3, ![4, 2048, 3044]⟩
abbrev S1x2048 : Shape := ⟨2, ![1, 2048]⟩
abbrev S2048 : Shape := ⟨1, ![2048]⟩
abbrev S3044x4x2048 : Shape := ⟨3, ![3044, 4, 2048]⟩
abbrev S3044x1x2048 : Shape := ⟨3, ![3044, 1, 2048]⟩
abbrev S3044x2048 : Shape := ⟨2, ![3044, 2048]⟩
abbrev S512x2048 : Shape := ⟨2, ![512, 2048]⟩
abbrev S256x2048 : Shape := ⟨2, ![256, 2048]⟩
abbrev S64x2048 : Shape := ⟨2, ![64, 2048]⟩
abbrev S_ : Shape := ⟨0, ![]⟩
abbrev S128x2048 : Shape := ⟨2, ![128, 2048]⟩
abbrev S768x2048 : Shape := ⟨2, ![768, 2048]⟩
abbrev S384x2048 : Shape := ⟨2, ![384, 2048]⟩
abbrev S36x2048 : Shape := ⟨2, ![36, 2048]⟩
abbrev S1024x2048 : Shape := ⟨2, ![1024, 2048]⟩
abbrev S3200x2048 : Shape := ⟨2, ![3200, 2048]⟩
abbrev S8704x3200 : Shape := ⟨2, ![8704, 3200]⟩
abbrev S512x3200 : Shape := ⟨2, ![512, 3200]⟩
abbrev S512 : Shape := ⟨1, ![512]⟩
abbrev S512x1 : Shape := ⟨2, ![512, 1]⟩
abbrev S8704x832 : Shape := ⟨2, ![8704, 832]⟩
abbrev S8704x1188 : Shape := ⟨2, ![8704, 1188]⟩
abbrev S8704x1024 : Shape := ⟨2, ![8704, 1024]⟩
abbrev S8704x3044 : Shape := ⟨2, ![8704, 3044]⟩

abbrev nBuf : Space → Nat
  | .hbm => 29
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S4x2048, .f32⟩
  | .hbm, ⟨2, _⟩ => ⟨S4x2048x3044, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S3044x4x2048, .f32⟩
  | .hbm, ⟨7, _⟩ => ⟨S3044x1x2048, .f32⟩
  | .hbm, ⟨8, _⟩ => ⟨S3044x2048, .f32⟩
  | .hbm, ⟨9, _⟩ => ⟨S512x2048, .f32⟩
  | .hbm, ⟨10, _⟩ => ⟨S256x2048, .f32⟩
  | .hbm, ⟨11, _⟩ => ⟨S64x2048, .f32⟩
  | .hbm, ⟨12, _⟩ => ⟨S_, .i32⟩
  | .hbm, ⟨13, _⟩ => ⟨S_, .f32⟩
  | .hbm, ⟨14, _⟩ => ⟨S128x2048, .f32⟩
  | .hbm, ⟨15, _⟩ => ⟨S768x2048, .f32⟩
  | .hbm, ⟨16, _⟩ => ⟨S384x2048, .f32⟩
  | .hbm, ⟨17, _⟩ => ⟨S36x2048, .f32⟩
  | .hbm, ⟨18, _⟩ => ⟨S_, .i32⟩
  | .hbm, ⟨19, _⟩ => ⟨S_, .f32⟩
  | .hbm, ⟨20, _⟩ => ⟨S128x2048, .f32⟩
  | .hbm, ⟨21, _⟩ => ⟨S1024x2048, .f32⟩
  | .hbm, ⟨22, _⟩ => ⟨S3200x2048, .f32⟩
  | .hbm, ⟨23, _⟩ => ⟨S3200x2048, .bf16⟩
  | .hbm, ⟨24, _⟩ => ⟨S8704x3200, .f32⟩
  | .hbm, ⟨25, _⟩ => ⟨S8704x832, .f32⟩
  | .hbm, ⟨26, _⟩ => ⟨S8704x1188, .f32⟩
  | .hbm, ⟨27, _⟩ => ⟨S8704x1024, .f32⟩
  | .hbm, ⟨28, _⟩ => ⟨S8704x3044, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S3200x2048, .bf16⟩
  | .local _ .vmem, ⟨4, _⟩ => ⟨S512x3200, .f32⟩
  | .local _ .vmem, ⟨5, _⟩ => ⟨S512x3200, .f32⟩
  | .local _ .vmem, ⟨6, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3200x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8704x2048 : Shape := ⟨2, ![8704, 2048]⟩
abbrev S4x2048 : Shape := ⟨2, ![4, 2048]⟩
abbrev S4x2048x3044 : Shape := ⟨3, ![4, 2048, 3044]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048x3044 : Shape := ⟨3, ![1, 2048, 3044]⟩
abbrev S2048x3044 : Shape := ⟨2, ![2048, 3044]⟩
abbrev S8704x3044 : Shape := ⟨2, ![8704, 3044]⟩

abbrev nBuf : Space → Nat
  | .hbm => 24
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x2048, .f32⟩
  | .hbm, ⟨2, _⟩ => ⟨S4x2048x3044, .f32⟩
  | .hbm, ⟨3, _⟩ => ⟨S1x2048, .f32⟩
  | .hbm, ⟨4, _⟩ => ⟨S2048, .f32⟩
  | .hbm, ⟨5, _⟩ => ⟨S8704x2048, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x2048, .f32⟩
  | .hbm, ⟨17, _⟩ => ⟨S8704x2048, .f32⟩
  | .hbm, ⟨18, _⟩ => ⟨S1x2048, .f32⟩
  | .hbm, ⟨19, _⟩ => ⟨S8704x2048, .f32⟩
  | .hbm, ⟨20, _⟩ => ⟨S8704x2048, .f32⟩
  | .hbm, ⟨21, _⟩ => ⟨S1x2048x3044, .f32⟩
  | .hbm, ⟨22, _⟩ => ⟨S2048x3044, .f32⟩
  | .hbm, ⟨23, _⟩ => ⟨S8704x3044, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S8704x2048 : Shape := ⟨2, ![8704, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S8192x2048 : Shape := ⟨2, ![8192, 2048]⟩
abbrev S4x2048x2048 : Shape := ⟨3, ![4, 2048, 2048]⟩
abbrev S128x4x2048 : Shape := ⟨3, ![128, 4, 2048]⟩

abbrev nBuf : Space → Nat
  | .hbm => 8
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S8704x2048, .f32⟩
  | .hbm, ⟨4, _⟩ => ⟨S8192x2048, .f32⟩
  | .hbm, ⟨5, _⟩ => ⟨S4x2048x2048, .f32⟩
  | .hbm, ⟨6, _⟩ => ⟨S512x2048, .f32⟩
  | .hbm, ⟨7, _⟩ => ⟨S128x4x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8704x2048 : Shape := ⟨2, ![8704, 2048]⟩
abbrev S2048 : Shape := ⟨1, ![2048]⟩
abbrev S8192x2048 : Shape := ⟨2, ![8192, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S512x2048 : Shape := ⟨2, ![512, 2048]⟩
abbrev S128x4x2048 : Shape := ⟨3, ![128, 4, 2048]⟩
abbrev S128x4 : Shape := ⟨2, ![128, 4]⟩
abbrev S128x4x1 : Shape := ⟨3, ![128, 4, 1]⟩

abbrev nBuf : Space → Nat
  | .hbm => 38
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S8192x2048, .f32⟩
  | .hbm, ⟨3, _⟩ => ⟨S4x2048x2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S512x2048, .f32⟩
  | .hbm, ⟨21, _⟩ => ⟨S128x4x2048, .f32⟩
  | .hbm, ⟨22, _⟩ => ⟨S128x4x2048, .f32⟩
  | .hbm, ⟨23, _⟩ => ⟨S_, .f32⟩
  | .hbm, ⟨24, _⟩ => ⟨S128x4, .f32⟩
  | .hbm, ⟨25, _⟩ => ⟨S128x4x1, .f32⟩
  | .hbm, ⟨26, _⟩ => ⟨S_, .f32⟩
  | .hbm, ⟨27, _⟩ => ⟨S128x4x1, .f32⟩
  | .hbm, ⟨28, _⟩ => ⟨S128x4x1, .f32⟩
  | .hbm, ⟨29, _⟩ => ⟨S_, .f32⟩
  | .hbm, ⟨30, _⟩ => ⟨S128x4x1, .f32⟩
  | .hbm, ⟨31, _⟩ => ⟨S128x4x1, .f32⟩
  | .hbm, ⟨32, _⟩ => ⟨S128x4x1, .f32⟩
  | .hbm, ⟨33, _⟩ => ⟨S128x4x2048, .f32⟩
  | .hbm, ⟨34, _⟩ => ⟨S128x4x2048, .f32⟩
  | .hbm, ⟨35, _⟩ => ⟨S1x1x2048, .f32⟩
  | .hbm, ⟨36, _⟩ => ⟨S128x4x2048, .f32⟩
  | .hbm, ⟨37, _⟩ => ⟨S128x4x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel5.lean ====
abbrev S8704x2048 : Shape := ⟨2, ![8704, 2048]⟩
abbrev S8192x1536 : Shape := ⟨2, ![8192, 1536]⟩
abbrev S512x1536 : Shape := ⟨2, ![512, 1536]⟩
abbrev S8192x768 : Shape := ⟨2, ![8192, 768]⟩
abbrev S512x768 : Shape := ⟨2, ![512, 768]⟩
abbrev S8192x512 : Shape := ⟨2, ![8192, 512]⟩
abbrev S512x512 : Shape := ⟨2, ![512, 512]⟩
abbrev S4x256x6x128 : Shape := ⟨4, ![4, 256, 6, 128]⟩
abbrev S4x2048 : Shape := ⟨2, ![4, 2048]⟩
abbrev S4x2048x2048 : Shape := ⟨3, ![4, 2048, 2048]⟩
abbrev S1x256x6x128 : Shape := ⟨4, ![1, 256, 6, 128]⟩
abbrev S256x6x128 : Shape := ⟨3, ![256, 6, 128]⟩
abbrev S6x256x128 : Shape := ⟨3, ![6, 256, 128]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S512x256 : Shape := ⟨2, ![512, 256]⟩
abbrev S1x256x128 : Shape := ⟨3, ![1, 256, 128]⟩
abbrev S256x128 : Shape := ⟨2, ![256, 128]⟩
abbrev S512x128 : Shape := ⟨2, ![512, 128]⟩
abbrev S1x768 : Shape := ⟨2, ![1, 768]⟩
abbrev S512 : Shape := ⟨1, ![512]⟩
abbrev S512x1 : Shape := ⟨2, ![512, 1]⟩
abbrev S1x512 : Shape := ⟨2, ![1, 512]⟩
abbrev S2048x2048 : Shape := ⟨2, ![2048, 2048]⟩
abbrev S8192x2048 : Shape := ⟨2, ![8192, 2048]⟩
abbrev S128x4x2048 : Shape := ⟨3, ![128, 4, 2048]⟩

abbrev nBuf : Space → Nat
  | .hbm => 23
  | .vmem => 16
  | .smem => 0
  | _ => 0

abbrev bufTy : (tb : Table) → Fin (tcTables nBuf tb) → BufTy
  | .hbm, ⟨0, _⟩ => ⟨S8704x2048, .f32⟩
  | .hbm, ⟨1, _⟩ => ⟨S8192x1536, .bf16⟩
  | .hbm, ⟨2, _⟩ => ⟨S512x1536, .bf16⟩
  | .hbm, ⟨3, _⟩ => ⟨S8192x768, .f32⟩
  | .hbm, ⟨4, _⟩ => ⟨S512x768, .f32⟩
  | .hbm, ⟨5, _⟩ => ⟨S8192x512, .f32⟩
  | .hbm, ⟨6, _⟩ => ⟨S512x512, .f32⟩
  | .hbm, ⟨7, _⟩ => ⟨S4x256x6x128, .f32⟩
  | .hbm, ⟨8, _⟩ => ⟨S4x2048, .f32⟩
  | .hbm, ⟨9, _⟩ => ⟨S4x2048x2048, .f32⟩
  | .hbm, ⟨10, _⟩ => ⟨S1x256x6x128, .f32⟩
  | .hbm, ⟨11, _⟩ => ⟨S256x6x128, .f32⟩
  | .hbm, ⟨12, _⟩ => ⟨S6x256x128, .f32⟩
  | .hbm, ⟨13, _⟩ => ⟨S6x256x128, .bf16⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S4x2048x2048, .bf16⟩
  | .hbm, ⟨18, _⟩ => ⟨S8704x2048, .f32⟩
  | .hbm, ⟨19, _⟩ => ⟨S8192x2048, .f32⟩
  | .hbm, ⟨20, _⟩ => ⟨S4x2048x2048, .f32⟩
  | .hbm, ⟨21, _⟩ => ⟨S512x2048, .f32⟩
  | .hbm, ⟨22, _⟩ => ⟨S128x4x2048, .f32⟩
  | .local _ .vmem, ⟨0, _⟩ => ⟨S512x2048, .f32⟩
  | .local _ .vmem, ⟨1, _⟩ => ⟨S512x2048, .f32⟩
  | .local _ .vmem, ⟨2, _⟩ => ⟨S512x1536, .bf16⟩
  | .local _ .vmem, ⟨3, _⟩ => ⟨S512x1536, .bf16⟩
  | .local _ .vmem, ⟨4, _⟩ => ⟨S512x1536, .bf16⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S6x256x128, .bf16⟩
  | .local _ .vmem, ⟨12, _⟩ => ⟨S1x2048, .f32⟩
  | .local _ .vmem, ⟨13, _⟩ => ⟨S1x2048x2048, .bf16⟩
  | .local _ .vmem, ⟨14, _⟩ => ⟨S512x2048, .f32⟩
  | .local _ .vmem, ⟨15, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S8704x2048 : Shape := ⟨2, ![8704, 2048]⟩
abbrev S8192x1536 : Shape := ⟨2, ![8192, 1536]⟩
abbrev S512x1536 : Shape := ⟨2, ![512, 1536]⟩
abbrev S8192x768 : Shape := ⟨2, ![8192, 768]⟩
abbrev S512x768 : Shape := ⟨2, ![512, 768]⟩
abbrev S8192x512 : Shape := ⟨2, ![8192, 512]⟩
abbrev S512x512 : Shape := ⟨2, ![512, 512]⟩
abbrev S4x256x6x128 : Shape := ⟨4, ![4, 256, 6, 128]⟩
abbrev S4x2048 : Shape := ⟨2, ![4, 2048]⟩
abbrev S4x2048x2048 : Shape := ⟨3, ![4, 2048, 2048]⟩
abbrev S8192x2048 : Shape := ⟨2, ![8192, 2048]⟩
abbrev S512x2048 : Shape := ⟨2, ![512, 2048]⟩
abbrev S128x4x2048 : Shape := ⟨3, ![128, 4, 2048]⟩
abbrev S4x2048x6x256 : Shape := ⟨4, ![4, 2048, 6, 256]⟩
abbrev S128x4x6x256 : Shape := ⟨4, ![128, 4, 6, 256]⟩
abbrev S4x2048x12x64 : Shape := ⟨4, ![4, 2048, 12, 64]⟩
abbrev S128x4x12x64 : Shape := ⟨4, ![128, 4, 12, 64]⟩
abbrev S4x2048x512 : Shape := ⟨3, ![4, 2048, 512]⟩
abbrev S128x4x512 : Shape := ⟨3, ![128, 4, 512]⟩
abbrev S1x256x6x128 : Shape := ⟨4, ![1, 256, 6, 128]⟩
abbrev S256x6x128 : Shape := ⟨3, ![256, 6, 128]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S6x128x4x2048 : Shape := ⟨4, ![6, 128, 4, 2048]⟩
abbrev S4x2048x6x128 : Shape := ⟨4, ![4, 2048, 6, 128]⟩
abbrev S4x2048x768 : Shape := ⟨3, ![4, 2048, 768]⟩
abbrev S768 : Shape := ⟨1, ![768]⟩
abbrev S_ : Shape := ⟨0, ![]⟩
abbrev S4x2048x1 : Shape := ⟨3, ![4, 2048, 1]⟩
abbrev S1x1x768 : Shape := ⟨3, ![1, 1, 768]⟩
abbrev S512 : Shape := ⟨1, ![512]⟩
abbrev S1x1x512 : Shape := ⟨3, ![1, 1, 512]⟩
abbrev S6x128x128x4 : Shape := ⟨4, ![6, 128, 128, 4]⟩
abbrev S128x4x6x128 : Shape := ⟨4, ![128, 4, 6, 128]⟩
abbrev S128x4x768 : Shape := ⟨3, ![128, 4, 768]⟩
abbrev S128x4 : Shape := ⟨2, ![128, 4]⟩
abbrev S128x4x1 : Shape := ⟨3, ![128, 4, 1]⟩

abbrev nBuf : Space → Nat
  | .hbm => 150
  | .vmem => 0
  | .smem => 0
  | _ => 0

abbrev hbmTy0_0 (i : Nat) : BufTy := match i % 128 with
  | 0 => ⟨S8704x2048, .f32⟩
  | 1 => ⟨S8192x1536, .bf16⟩
  | 2 => ⟨S512x1536, .bf16⟩
  | 3 => ⟨S8192x768, .f32⟩
  | 4 => ⟨S512x768, .f32⟩
  | 5 => ⟨S8192x512, .f32⟩
  | 6 => ⟨S512x512, .f32⟩
  | 7 => ⟨S4x256x6x128, .f32⟩
  | 8 => ⟨S4x2048, .f32⟩
  | 9 => ⟨S4x2048x2048, .f32⟩
  | 10 => ⟨S8192x2048, .f32⟩
  | 11 => ⟨S4x2048x2048, .f32⟩
  | 12 => ⟨S512x2048, .f32⟩
  | 13 => ⟨S128x4x2048, .f32⟩
  | 14 => ⟨S8192x1536, .f32⟩
  | 15 => ⟨S4x2048x6x256, .f32⟩
  | 16 => ⟨S512x1536, .f32⟩
  | 17 => ⟨S128x4x6x256, .f32⟩
  | 18 => ⟨S4x2048x12x64, .f32⟩
  | 19 => ⟨S128x4x12x64, .f32⟩
  | 20 => ⟨S4x2048x512, .f32⟩
  | 21 => ⟨S128x4x512, .f32⟩
  | 22 => ⟨S1x256x6x128, .f32⟩
  | 23 => ⟨S256x6x128, .f32⟩
  | 24 => ⟨S1x2048, .f32⟩
  | 25 => ⟨S2048, .f32⟩
  | 26 => ⟨S1x2048x2048, .f32⟩
  | 27 => ⟨S2048x2048, .f32⟩
  | 28 => ⟨S6x128x4x2048, .f32⟩
  | 29 => ⟨S4x2048x6x128, .f32⟩
  | 30 => ⟨S4x2048x768, .f32⟩
  | 31 => ⟨S768, .f32⟩
  | 32 => ⟨S4x2048x768, .f32⟩
  | 33 => ⟨S_, .f32⟩
  | 34 => ⟨S4x2048, .f32⟩
  | 35 => ⟨S4x2048x1, .f32⟩
  | 36 => ⟨S_, .f32⟩
  | 37 => ⟨S4x2048x1, .f32⟩
  | 38 => ⟨S4x2048x1, .f32⟩
  | 39 => ⟨S_, .f32⟩
  | 40 => ⟨S4x2048x1, .f32⟩
  | 41 => ⟨S4x2048x1, .f32⟩
  | 42 => ⟨S4x2048x1, .f32⟩
  | 43 => ⟨S4x2048x768, .f32⟩
  | 44 => ⟨S4x2048x768, .f32⟩
  | 45 => ⟨S1x1x768, .f32⟩
  | 46 => ⟨S4x2048x768, .f32⟩
  | 47 => ⟨S4x2048x768, .f32⟩
  | 48 => ⟨S4x2048x768, .f32⟩
  | 49 => ⟨S768, .f32⟩
  | 50 => ⟨S4x2048x768, .f32⟩
  | 51 => ⟨S_, .f32⟩
  | 52 => ⟨S4x2048, .f32⟩
  | 53 => ⟨S4x2048x1, .f32⟩
  | 54 => ⟨S_, .f32⟩
  | 55 => ⟨S4x2048x1, .f32⟩
  | 56 => ⟨S4x2048x1, .f32⟩
  | 57 => ⟨S_, .f32⟩
  | 58 => ⟨S4x2048x1, .f32⟩
  | 59 => ⟨S4x2048x1, .f32⟩
  | 60 => ⟨S4x2048x1, .f32⟩
  | 61 => ⟨S4x2048x768, .f32⟩
  | 62 => ⟨S4x2048x768, .f32⟩
  | 63 => ⟨S1x1x768, .f32⟩
  | 64 => ⟨S4x2048x768, .f32⟩
  | 65 => ⟨S4x2048x768, .f32⟩
  | 66 => ⟨S512, .f32⟩
  | 67 => ⟨S4x2048x512, .f32⟩
  | 68 => ⟨S_, .f32⟩
  | 69 => ⟨S4x2048, .f32⟩
  | 70 => ⟨S4x2048x1, .f32⟩
  | 71 => ⟨S_, .f32⟩
  | 72 => ⟨S4x2048x1, .f32⟩
  | 73 => ⟨S4x2048x1, .f32⟩
  | 74 => ⟨S_, .f32⟩
  | 75 => ⟨S4x2048x1, .f32⟩
  | 76 => ⟨S4x2048x1, .f32⟩
  | 77 => ⟨S4x2048x1, .f32⟩
  | 78 => ⟨S4x2048x512, .f32⟩
  | 79 => ⟨S4x2048x512, .f32⟩
  | 80 => ⟨S1x1x512, .f32⟩
  | 81 => ⟨S4x2048x512, .f32⟩
  | 82 => ⟨S4x2048x512, .f32⟩
  | 83 => ⟨S4x2048x2048, .f32⟩
  | 84 => ⟨S4x2048x2048, .f32⟩
  | 85 => ⟨S4x2048x2048, .f32⟩
  | 86 => ⟨S1x256x6x128, .f32⟩
  | 87 => ⟨S256x6x128, .f32⟩
  | 88 => ⟨S1x2048, .f32⟩
  | 89 => ⟨S2048, .f32⟩
  | 90 => ⟨S1x2048x2048, .f32⟩
  | 91 => ⟨S2048x2048, .f32⟩
  | 92 => ⟨S6x128x128x4, .f32⟩
  | 93 => ⟨S128x4x6x128, .f32⟩
  | 94 => ⟨S128x4x768, .f32⟩
  | 95 => ⟨S768, .f32⟩
  | 96 => ⟨S128x4x768, .f32⟩
  | 97 => ⟨S_, .f32⟩
  | 98 => ⟨S128x4, .f32⟩
  | 99 => ⟨S128x4x1, .f32⟩
  | 100 => ⟨S_, .f32⟩
  | 101 => ⟨S128x4x1, .f32⟩
  | 102 => ⟨S128x4x1, .f32⟩
  | 103 => ⟨S_, .f32⟩
  | 104 => ⟨S128x4x1, .f32⟩
  | 105 => ⟨S128x4x1, .f32⟩
  | 106 => ⟨S128x4x1, .f32⟩
  | 107 => ⟨S128x4x768, .f32⟩
  | 108 => ⟨S128x4x768, .f32⟩
  | 109 => ⟨S1x1x768, .f32⟩
  | 110 => ⟨S128x4x768, .f32⟩
  | 111 => ⟨S128x4x768, .f32⟩
  | 112 => ⟨S128x4x768, .f32⟩
  | 113 => ⟨S768, .f32⟩
  | 114 => ⟨S128x4x768, .f32⟩
  | 115 => ⟨S_, .f32⟩
  | 116 => ⟨S128x4, .f32⟩
  | 117 => ⟨S128x4x1, .f32⟩
  | 118 => ⟨S_, .f32⟩
  | 119 => ⟨S128x4x1, .f32⟩
  | 120 => ⟨S128x4x1, .f32⟩
  | 121 => ⟨S_, .f32⟩
  | 122 => ⟨S128x4x1, .f32⟩
  | 123 => ⟨S128x4x1, .f32⟩
  | 124 => ⟨S128x4x1, .f32⟩
  | 125 => ⟨S128x4x768, .f32⟩
  | 126 => ⟨S128x4x768, .f32⟩
  | 127 => ⟨S1x1x768, .f32⟩
  | _ => ⟨S8704x2048, .f32⟩

abbrev hbmTy0_1 (i : Nat) : BufTy := match i % 128 with
  | 0 => ⟨S128x4x768, .f32⟩
  | 1 => ⟨S128x4x768, .f32⟩
  | 2 => ⟨S512, .f32⟩
  | 3 => ⟨S128x4x512, .f32⟩
  | 4 => ⟨S_, .f32⟩
  | 5 => ⟨S128x4, .f32⟩
  | 6 => ⟨S128x4x1, .f32⟩
  | 7 => ⟨S_, .f32⟩
  | 8 => ⟨S128x4x1, .f32⟩
  | 9 => ⟨S128x4x1, .f32⟩
  | 10 => ⟨S_, .f32⟩
  | 11 => ⟨S128x4x1, .f32⟩
  | 12 => ⟨S128x4x1, .f32⟩
  | 13 => ⟨S128x4x1, .f32⟩
  | 14 => ⟨S128x4x512, .f32⟩
  | 15 => ⟨S128x4x512, .f32⟩
  | 16 => ⟨S1x1x512, .f32⟩
  | 17 => ⟨S128x4x512, .f32⟩
  | 18 => ⟨S128x4x512, .f32⟩
  | 19 => ⟨S128x4x2048, .f32⟩
  | 20 => ⟨S128x4x2048, .f32⟩
  | 21 => ⟨S128x4x2048, .f32⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_cst_9 : Ref sig .tc := ⟨.hbm, 100, rfl⟩
abbrev main_v80 : Ref sig .tc := ⟨.hbm, 101, rfl⟩
abbrev main_v81 : Ref sig .tc := ⟨.hbm, 102, rfl⟩
abbrev main_cst_10 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_11 : Ref sig .tc := ⟨.hbm, 115, rfl⟩
abbrev main_v93 : Ref sig .tc := ⟨.hbm, 116, rfl⟩
abbrev main_v94 : Ref sig .tc := ⟨.hbm, 117, rfl⟩
abbrev main_cst_12 : Ref sig .tc := ⟨.hbm, 118, rfl⟩
abbrev main_v95 : Ref sig .tc := ⟨.hbm, 119, rfl⟩
abbrev main_v96 : Ref sig .tc := ⟨.hbm, 120, rfl⟩
abbrev main_cst_13 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_14 : Ref sig .tc := ⟨.hbm, 132, rfl⟩
abbrev main_v107 : Ref sig .tc := ⟨.hbm, 133, rfl⟩
abbrev main_v108 : Ref sig .tc := ⟨.hbm, 134, rfl⟩
abbrev main_cst_15 : Ref sig .tc := ⟨.hbm, 135, rfl⟩
abbrev main_v109 : Ref sig .tc := ⟨.hbm, 136, rfl⟩
abbrev main_v110 : Ref sig .tc := ⟨.hbm, 137, rfl⟩
abbrev main_cst_16 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩

abbrev nD : Nat := 1
abbrev τ : Topo := Topo.v7x

variable {F : FTy → Type} [FloatOps F]
-- ==== Kernel6.lean ====
abbrev S8704x3200 : Shape := ⟨2, ![8704, 3200]⟩
abbrev S4x128x512x2x1x64 : Shape := ⟨6, ![4, 128, 512, 2, 1, 64]⟩
abbrev S4x128x30x512 : Shape := ⟨4, ![4, 128, 30, 512]⟩
abbrev S4x512 : Shape := ⟨2, ![4, 512]⟩
abbrev S4x256 : Shape := ⟨2, ![4, 256]⟩
abbrev S4x512x1152 : Shape := ⟨3, ![4, 512, 1152]⟩
abbrev S4x256x6x128 : Shape := ⟨4, ![4, 256, 6, 128]⟩
abbrev S32 : Shape := ⟨1, ![32]⟩
abbrev S_ : Shape := ⟨0, ![]⟩
abbrev S2048 : Shape := ⟨1, ![2048]⟩
abbrev S256 : Shape := ⟨1, ![256]⟩
abbrev S2304 : Shape := ⟨1, ![2304]⟩
abbrev S2304x1 : Shape := ⟨2, ![2304, 1]⟩
abbrev S1x32 : Shape := ⟨2, ![1, 32]⟩
abbrev S2304x32 : Shape := ⟨2, ![2304, 32]⟩
abbrev S1x2304x1x32 : Shape := ⟨4, ![1, 2304, 1, 32]⟩
abbrev S1x2304x4x32 : Shape := ⟨4, ![1, 2304, 4, 32]⟩
abbrev S2304x128 : Shape := ⟨2, ![2304, 128]⟩
abbrev S1x512x1152 : Shape := ⟨3, ![1, 512, 1152]⟩
abbrev S512x1152 : Shape := ⟨2, ![512, 1152]⟩
abbrev S512x6x192 : Shape := ⟨3, ![512, 6, 192]⟩
abbrev S512x6x128 : Shape := ⟨3, ![512, 6, 128]⟩
abbrev S512x768 : Shape := ⟨2, ![512, 768]⟩
abbrev S512x6x64 : Shape := ⟨3, ![512, 6, 64]⟩
abbrev S512x384 : Shape := ⟨2, ![512, 384]⟩
abbrev S1x256x6x128 : Shape := ⟨4, ![1, 256, 6, 128]⟩
abbrev S256x6x128 : Shape := ⟨3, ![256, 6, 128]⟩
abbrev S6x128x256 : Shape := ⟨3, ![6, 128, 256]⟩
abbrev S1x512 : Shape := ⟨2, ![1, 512]⟩
abbrev S512 : Shape := ⟨1, ![512]⟩
abbrev S1x256 : Shape := ⟨2, ![1, 256]⟩
abbrev S6x8704x384 : Shape := ⟨3, ![6, 8704, 384]⟩
abbrev S8704x384 : Shape := ⟨2, ![8704, 384]⟩
abbrev S12x8704x128 : Shape := ⟨3, ![12, 8704, 128]⟩
abbrev S8704x128 : Shape := ⟨2, ![8704, 128]⟩
abbrev S8704x512 : Shape := ⟨2, ![8704, 512]⟩
abbrev S256x3200 : Shape := ⟨2, ![256, 3200]⟩
abbrev S256x128 : Shape := ⟨2, ![256, 128]⟩
abbrev S6x256x384 : Shape := ⟨3, ![6, 256, 384]⟩
abbrev S256x384 : Shape := ⟨2, ![256, 384]⟩
abbrev S12x256x128 : Shape := ⟨3, ![12, 256, 128]⟩
abbrev S256x512 : Shape := ⟨2, ![256, 512]⟩
abbrev S256x1 : Shape := ⟨2, ![256, 1]⟩
abbrev S256x1152 : Shape := ⟨2, ![256, 1152]⟩
abbrev S1x128x256 : Shape := ⟨3, ![1, 128, 256]⟩
abbrev S128x256 : Shape := ⟨2, ![128, 256]⟩
abbrev S256x256 : Shape := ⟨2, ![256, 256]⟩
abbrev S1x256x256 : Shape := ⟨3, ![1, 256, 256]⟩
abbrev S1x256x128 : Shape := ⟨3, ![1, 256, 128]⟩
abbrev S8192x128 : Shape := ⟨2, ![8192, 128]⟩
abbrev S4x2048x2x1x64 : Shape := ⟨5, ![4, 2048, 2, 1, 64]⟩
abbrev S512x128 : Shape := ⟨2, ![512, 128]⟩
abbrev S128x4x2x1x64 : Shape := ⟨5, ![128, 4, 2, 1, 64]⟩
abbrev S8192x512 : Shape := ⟨2, ![8192, 512]⟩
abbrev S4x2048x512 : Shape := ⟨3, ![4, 2048, 512]⟩
abbrev S512x512 : Shape := ⟨2, ![512, 512]⟩
abbrev S128x4x512 : Shape := ⟨3, ![128, 4, 512]⟩
abbrev S1x128x30x512 : Shape := ⟨4, ![1, 128, 30, 512]⟩
abbrev S128x30x512 : Shape := ⟨3, ![128, 30, 512]⟩
abbrev S128x34x512 : Shape := ⟨3, ![128, 34, 512]⟩
abbrev S8192x320 : Shape := ⟨2, ![8192, 320]⟩
abbrev S4x2048x320 : Shape := ⟨3, ![4, 2048, 320]⟩
abbrev S512x320 : Shape := ⟨2, ![512, 320]⟩
abbrev S128x4x320 : Shape := ⟨3, ![128, 4, 320]⟩
abbrev S8192x256 : Shape := ⟨2, ![8192, 256]⟩
abbrev S4x2048x4x1x64 : Shape := ⟨5, ![4, 2048, 4, 1, 64]⟩
abbrev S512x256 : Shape := ⟨2, ![512, 256]⟩
abbrev S128x4x4x1x64 : Shape := ⟨5, ![128, 4, 4, 1, 64]⟩
abbrev S4x512x2x1x64 : Shape := ⟨5, ![4, 512, 2, 1, 64]⟩
abbrev S1x128x512x2x1x64 : Shape := ⟨6, ![1, 128, 512, 2, 1, 64]⟩
abbrev S128x512x2x1x64 : Shape := ⟨5, ![128, 512, 2, 1, 64]⟩
abbrev S128x508x2x1x64 : Shape := ⟨5, ![128, 508, 2, 1, 64]⟩
abbrev S4x30x512 : Shape := ⟨3, ![4, 30, 512]⟩
abbrev S6x8704x320 : Shape := ⟨3, ![6, 8704, 320]⟩
abbrev S12x8704x64 : Shape := ⟨3, ![12, 8704, 64]⟩
abbrev S8704x36 : Shape := ⟨2, ![8704, 36]⟩

abbrev nBuf : Space → Nat
  | .hbm => 113
  | .vmem => 26
  | .smem => 0
  | _ => 0

abbrev bufTy : (tb : Table) → Fin (tcTables nBuf tb) → BufTy
  | .hbm, ⟨0, _⟩ => ⟨S8704x3200, .f32⟩
  | .hbm, ⟨1, _⟩ => ⟨S4x128x512x2x1x64, .f32⟩
  | .hbm, ⟨2, _⟩ => ⟨S4x128x30x512, .f32⟩
  | .hbm, ⟨3, _⟩ => ⟨S4x512, .f32⟩
  | .hbm, ⟨4, _⟩ => ⟨S4x256, .f32⟩
  | .hbm, ⟨5, _⟩ => ⟨S4x512x1152, .f32⟩
  | .hbm, ⟨6, _⟩ => ⟨S4x256x6x128, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2048, .i32⟩
  | .hbm, ⟨16, _⟩ => ⟨S256, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S_, .i1⟩
  | .hbm, ⟨33, _⟩ => ⟨S256, .i1⟩
  | .hbm, ⟨34, _⟩ => ⟨S256, .i1⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S2304, .i32⟩
  | .hbm, ⟨43, _⟩ => ⟨S2304, .f32⟩
  | .hbm, ⟨44, _⟩ => ⟨S2304x1, .f32⟩
  | .hbm, ⟨45, _⟩ => ⟨S1x32, .f32⟩
  | .hbm, ⟨46, _⟩ => ⟨S2304x32, .f32⟩
  | .hbm, ⟨47, _⟩ => ⟨S2304x32, .f32⟩
  | .hbm, ⟨48, _⟩ => ⟨S2304x32, .f32⟩
  | .hbm, ⟨49, _⟩ => ⟨S2304x32, .f32⟩
  | .hbm, ⟨50, _⟩ => ⟨S1x2304x1x32, .f32⟩
  | .hbm, ⟨51, _⟩ => ⟨S1x2304x4x32, .f32⟩
  | .hbm, ⟨52, _⟩ => ⟨S2304x128, .f32⟩
  | .hbm, ⟨53, _⟩ => ⟨S2304x32, .f32⟩
  | .hbm, ⟨54, _⟩ => ⟨S1x2304x1x32, .f32⟩
  | .hbm, ⟨55, _⟩ => ⟨S1x2304x4x32, .f32⟩
  | .hbm, ⟨56, _⟩ => ⟨S2304x128, .f32⟩
  | .hbm, ⟨57, _⟩ => ⟨S1x512x1152, .f32⟩
  | .hbm, ⟨58, _⟩ => ⟨S512x1152, .f32⟩
  | .hbm, ⟨59, _⟩ => ⟨S512x6x192, .f32⟩
  | .hbm, ⟨60, _⟩ => ⟨S512x6x128, .f32⟩
  | .hbm, ⟨61, _⟩ => ⟨S512x768, .f32⟩
  | .hbm, ⟨62, _⟩ => ⟨S512x6x64, .f32⟩
  | .hbm, ⟨63, _⟩ => ⟨S512x384, .f32⟩
  | .hbm, ⟨64, _⟩ => ⟨S512x1152, .f32⟩
  | .hbm, ⟨65, _⟩ => ⟨S512x1152, .bf16⟩
  | .hbm, ⟨66, _⟩ => ⟨S1x256x6x128, .f32⟩
  | .hbm, ⟨67, _⟩ => ⟨S256x6x128, .f32⟩
  | .hbm, ⟨68, _⟩ => ⟨S6x128x256, .f32⟩
  | .hbm, ⟨69, _⟩ => ⟨S6x128x256, .bf16⟩
  | .hbm, ⟨70, _⟩ => ⟨S1x512, .f32⟩
  | .hbm, ⟨71, _⟩ => ⟨S512, .f32⟩
  | .hbm, ⟨72, _⟩ => ⟨S1x512, .f32⟩
  | .hbm, ⟨73, _⟩ => ⟨S1x256, .f32⟩
  | .hbm, ⟨74, _⟩ => ⟨S256, .f32⟩
  | .hbm, ⟨75, _⟩ => ⟨S1x256, .f32⟩
  | .hbm, ⟨76, _⟩ => ⟨S6x8704x384, .bf16⟩
  | .hbm, ⟨77, _⟩ => ⟨S8704x384, .bf16⟩
  | .hbm, ⟨78, _⟩ => ⟨S8704x384, .f32⟩
  | .hbm, ⟨79, _⟩ => ⟨S12x8704x128, .bf16⟩
  | .hbm, ⟨80, _⟩ => ⟨S8704x384, .f32⟩
  | .hbm, ⟨81, _⟩ => ⟨S8704x384, .bf16⟩
  | .hbm, ⟨82, _⟩ => ⟨S8704x128, .f32⟩
  | .hbm, ⟨83, _⟩ => ⟨S8704x512, .f32⟩
  | .hbm, ⟨84, _⟩ => ⟨S8192x128, .f32⟩
  | .hbm, ⟨85, _⟩ => ⟨S4x2048x2x1x64, .f32⟩
  | .hbm, ⟨86, _⟩ => ⟨S512x128, .f32⟩
  | .hbm, ⟨87, _⟩ => ⟨S128x4x2x1x64, .f32⟩
  | .hbm, ⟨88, _⟩ => ⟨S8192x512, .f32⟩
  | .hbm, ⟨89, _⟩ => ⟨S4x2048x512, .f32⟩
  | .hbm, ⟨90, _⟩ => ⟨S512x512, .f32⟩
  | .hbm, ⟨91, _⟩ => ⟨S128x4x512, .f32⟩
  | .hbm, ⟨92, _⟩ => ⟨S1x128x30x512, .f32⟩
  | .hbm, ⟨93, _⟩ => ⟨S128x30x512, .f32⟩
  | .hbm, ⟨94, _⟩ => ⟨S128x34x512, .f32⟩
  | .hbm, ⟨95, _⟩ => ⟨S8192x320, .f32⟩
  | .hbm, ⟨96, _⟩ => ⟨S4x2048x320, .f32⟩
  | .hbm, ⟨97, _⟩ => ⟨S512x320, .f32⟩
  | .hbm, ⟨98, _⟩ => ⟨S128x4x320, .f32⟩
  | .hbm, ⟨99, _⟩ => ⟨S8192x256, .f32⟩
  | .hbm, ⟨100, _⟩ => ⟨S4x2048x4x1x64, .f32⟩
  | .hbm, ⟨101, _⟩ => ⟨S512x256, .f32⟩
  | .hbm, ⟨102, _⟩ => ⟨S128x4x4x1x64, .f32⟩
  | .hbm, ⟨103, _⟩ => ⟨S4x512x2x1x64, .f32⟩
  | .hbm, ⟨104, _⟩ => ⟨S1x128x512x2x1x64, .f32⟩
  | .hbm, ⟨105, _⟩ => ⟨S128x512x2x1x64, .f32⟩
  | .hbm, ⟨106, _⟩ => ⟨S128x508x2x1x64, .f32⟩
  | .hbm, ⟨107, _⟩ => ⟨S128x512x2x1x64, .f32⟩
  | .hbm, ⟨108, _⟩ => ⟨S4x30x512, .f32⟩
  | .hbm, ⟨109, _⟩ => ⟨S128x30x512, .f32⟩
  | .hbm, ⟨110, _⟩ => ⟨S6x8704x320, .bf16⟩
  | .hbm, ⟨111, _⟩ => ⟨S12x8704x64, .bf16⟩
  | .hbm, ⟨112, _⟩ => ⟨S8704x36, .f32⟩
  | .local _ .vmem, ⟨0, _⟩ => ⟨S256x3200, .f32⟩
  | .local _ .vmem, ⟨1, _⟩ => ⟨S256x3200, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x512, .f32⟩
  | .local _ .vmem, ⟨7, _⟩ => ⟨S1x256, .f32⟩
  | .local _ .vmem, ⟨8, _⟩ => ⟨S512x1152, .bf16⟩
  | .local _ .vmem, ⟨9, _⟩ => ⟨S6x128x256, .bf16⟩
  | .local _ .vmem, ⟨10, _⟩ => ⟨S6x256x384, .bf16⟩
  | .local _ .vmem, ⟨11, _⟩ => ⟨S6x256x384, .bf16⟩
  | .local _ .vmem, ⟨12, _⟩ => ⟨S256x384, .bf16⟩
  | .local _ .vmem, ⟨13, _⟩ => ⟨S256x384, .bf16⟩
  | .local _ .vmem, ⟨14, _⟩ => ⟨S256x384, .f32⟩
  | .local _ .vmem, ⟨15, _⟩ => ⟨S256x384, .f32⟩
  | .local _ .vmem, ⟨16, _⟩ => ⟨S12x256x128, .bf16⟩
  | .local _ .vmem, ⟨17, _⟩ => ⟨S12x256x128, .bf16⟩
  | .local _ .vmem, ⟨18, _⟩ => ⟨S256x384, .f32⟩
  | .local _ .vmem, ⟨19, _⟩ => ⟨S256x384, .f32⟩
  | .local _ .vmem, ⟨20, _⟩ => ⟨S256x384, .bf16⟩
  | .local _ .vmem, ⟨21, _⟩ => ⟨S256x384, .bf16⟩
  | .local _ .vmem, ⟨22, _⟩ => ⟨S256x128, .f32⟩
  | .local _ .vmem, ⟨23, _⟩ => ⟨S256x128, .f32⟩
  | .local _ .vmem, ⟨24, _⟩ => ⟨S256x512, .f32⟩
  | .local _ .vmem, ⟨25, _⟩ => ⟨S256x512, .f32⟩
  | _, _ => ⟨S8704x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v8 : Ref sig .tc := ⟨.hbm, 38, rfl⟩
abbrev main_c_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_v45_2 : Ref sig .tc := ⟨.hbm, 78, rfl⟩
abbrev main_v45_3 : Ref sig .tc := ⟨.hbm, 79, rfl⟩
abbrev main_v45_4 : Ref sig .tc := ⟨.hbm, 80, rfl⟩
abbrev main_v45_5 : Ref sig .tc := ⟨.hbm, 81, rfl⟩
abbrev main_v45_6 : Ref sig .tc := ⟨.hbm, 82, rfl⟩
abbrev main_v45_7 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_2 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6x256x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S12x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S8704x3200 : Shape := ⟨2, ![8704, 3200]⟩
abbrev S4x128x512x2x1x64 : Shape := ⟨6, ![4, 128, 512, 2, 1, 64]⟩
abbrev S4x128x30x512 : Shape := ⟨4, ![4, 128, 30, 512]⟩
abbrev S4x512 : Shape := ⟨2, ![4, 512]⟩
abbrev S4x256 : Shape := ⟨2, ![4, 256]⟩
abbrev S4x512x1152 : Shape := ⟨3, ![4, 512, 1152]⟩
abbrev S4x256x6x128 : Shape := ⟨4, ![4, 256, 6, 128]⟩
abbrev S8704x832 : Shape := ⟨2, ![8704, 832]⟩
abbrev S8704x1188 : Shape := ⟨2, ![8704, 1188]⟩
abbrev S8704x1024 : Shape := ⟨2, ![8704, 1024]⟩
abbrev S8704x3044 : Shape := ⟨2, ![8704, 3044]⟩
abbrev S8192x3044 : Shape := ⟨2, ![8192, 3044]⟩
abbrev S4x2048x3044 : Shape := ⟨3, ![4, 2048, 3044]⟩
abbrev S512x3044 : Shape := ⟨2, ![512, 3044]⟩
abbrev S128x4x3044 : Shape := ⟨3, ![128, 4, 3044]⟩
abbrev S2048 : Shape := ⟨1, ![2048]⟩
abbrev S4 : Shape := ⟨1, ![4]⟩
abbrev S_ : Shape := ⟨0, ![]⟩
abbrev S1x512 : Shape := ⟨2, ![1, 512]⟩
abbrev S512 : Shape := ⟨1, ![512]⟩
abbrev S1x256 : Shape := ⟨2, ![1, 256]⟩
abbrev S256 : Shape := ⟨1, ![256]⟩
abbrev S1x512x1152 : Shape := ⟨3, ![1, 512, 1152]⟩
abbrev S512x1152 : Shape := ⟨2, ![512, 1152]⟩
abbrev S1x256x6x128 : Shape := ⟨4, ![1, 256, 6, 128]⟩
abbrev S256x6x128 : Shape := ⟨3, ![256, 6, 128]⟩
abbrev S4x2048x512 : Shape := ⟨3, ![4, 2048, 512]⟩
abbrev S4x2048 : Shape := ⟨2, ![4, 2048]⟩
abbrev S4x2048x1 : Shape := ⟨3, ![4, 2048, 1]⟩
abbrev S1x1x512 : Shape := ⟨3, ![1, 1, 512]⟩
abbrev S4x2048x1152 : Shape := ⟨3, ![4, 2048, 1152]⟩
abbrev S4x2048x6x192 : Shape := ⟨4, ![4, 2048, 6, 192]⟩
abbrev S4x2048x6x64 : Shape := ⟨4, ![4, 2048, 6, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S4x2048x6x32 : Shape := ⟨4, ![4, 2048, 6, 32]⟩
abbrev S1x2048x1x32 : Shape := ⟨4, ![1, 2048, 1, 32]⟩
abbrev S4x2048x6x128 : Shape := ⟨4, ![4, 2048, 6, 128]⟩
abbrev S6x256x4x2048 : Shape := ⟨4, ![6, 256, 4, 2048]⟩
abbrev S4x2048x6x256 : Shape := ⟨4, ![4, 2048, 6, 256]⟩
abbrev S4x2048x256 : Shape := ⟨3, ![4, 2048, 256]⟩
abbrev S1x1x256 : Shape := ⟨3, ![1, 1, 256]⟩
abbrev S4x2048x64 : Shape := ⟨3, ![4, 2048, 64]⟩
abbrev S4x2048x1x64 : Shape := ⟨4, ![4, 2048, 1, 64]⟩
abbrev S4x2048x1x32 : Shape := ⟨4, ![4, 2048, 1, 32]⟩
abbrev S4x2048x320 : Shape := ⟨3, ![4, 2048, 320]⟩
abbrev S4x2048x768 : Shape := ⟨3, ![4, 2048, 768]⟩
abbrev S4x2048x12x64 : Shape := ⟨4, ![4, 2048, 12, 64]⟩
abbrev S4x2048x12x32 : Shape := ⟨4, ![4, 2048, 12, 32]⟩
abbrev S4x2048x384 : Shape := ⟨3, ![4, 2048, 384]⟩
abbrev S4x2048x3x2x1x64 : Shape := ⟨6, ![4, 2048, 3, 2, 1, 64]⟩
abbrev S4x2048x3x1x1x64 : Shape := ⟨6, ![4, 2048, 3, 1, 1, 64]⟩
abbrev S4x2048x3x1x64 : Shape := ⟨5, ![4, 2048, 3, 1, 64]⟩
abbrev S4x2048x3x64 : Shape := ⟨4, ![4, 2048, 3, 64]⟩
abbrev S4x2048x3x32 : Shape := ⟨4, ![4, 2048, 3, 32]⟩
abbrev S4x2048x6x1x64 : Shape := ⟨5, ![4, 2048, 6, 1, 64]⟩
abbrev S4x2048x36 : Shape := ⟨3, ![4, 2048, 36]⟩
abbrev S128x4x512 : Shape := ⟨3, ![128, 4, 512]⟩
abbrev S128x4 : Shape := ⟨2, ![128, 4]⟩
abbrev S128x4x1 : Shape := ⟨3, ![128, 4, 1]⟩
abbrev S128x4x1152 : Shape := ⟨3, ![128, 4, 1152]⟩
abbrev S128x4x6x192 : Shape := ⟨4, ![128, 4, 6, 192]⟩
abbrev S128x4x6x64 : Shape := ⟨4, ![128, 4, 6, 64]⟩
abbrev S4x1 : Shape := ⟨2, ![4, 1]⟩
abbrev S4x32 : Shape := ⟨2, ![4, 32]⟩
abbrev S4x1x32 : Shape := ⟨3, ![4, 1, 32]⟩
abbrev S128x4x6x32 : Shape := ⟨4, ![128, 4, 6, 32]⟩
abbrev S1x4x1x32 : Shape := ⟨4, ![1, 4, 1, 32]⟩
abbrev S128x4x6x128 : Shape := ⟨4, ![128, 4, 6, 128]⟩
abbrev S6x256x128x4 : Shape := ⟨4, ![6, 256, 128, 4]⟩
abbrev S128x4x6x256 : Shape := ⟨4, ![128, 4, 6, 256]⟩
abbrev S128x4x256 : Shape := ⟨3, ![128, 4, 256]⟩
abbrev S128x4x64 : Shape := ⟨3, ![128, 4, 64]⟩
abbrev S128x4x1x64 : Shape := ⟨4, ![128, 4, 1, 64]⟩
abbrev S128x4x1x32 : Shape := ⟨4, ![128, 4, 1, 32]⟩
abbrev S128x4x320 : Shape := ⟨3, ![128, 4, 320]⟩
abbrev S128x4x768 : Shape := ⟨3, ![128, 4, 768]⟩
abbrev S128x4x12x64 : Shape := ⟨4, ![128, 4, 12, 64]⟩
abbrev S128x4x12x32 : Shape := ⟨4, ![128, 4, 12, 32]⟩
abbrev S128x4x384 : Shape := ⟨3, ![128, 4, 384]⟩
abbrev S128x4x3x2x1x64 : Shape := ⟨6, ![128, 4, 3, 2, 1, 64]⟩
abbrev S128x4x3x1x1x64 : Shape := ⟨6, ![128, 4, 3, 1, 1, 64]⟩
abbrev S128x4x3x1x64 : Shape := ⟨5, ![128, 4, 3, 1, 64]⟩
abbrev S128x4x3x64 : Shape := ⟨4, ![128, 4, 3, 64]⟩
abbrev S128x4x3x32 : Shape := ⟨4, ![128, 4, 3, 32]⟩
abbrev S128x4x6x1x64 : Shape := ⟨5, ![128, 4, 6, 1, 64]⟩
abbrev S128x4x36 : Shape := ⟨3, ![128, 4, 36]⟩
abbrev S4x2048x2x1x64 : Shape := ⟨5, ![4, 2048, 2, 1, 64]⟩
abbrev S4x2560x2x1x64 : Shape := ⟨5, ![4, 2560, 2, 1, 64]⟩
abbrev S1x128x512x2x1x64 : Shape := ⟨6, ![1, 128, 512, 2, 1, 64]⟩
abbrev S128x512x2x1x64 : Shape := ⟨5, ![128, 512, 2, 1, 64]⟩
abbrev S128x4x2x1x64 : Shape := ⟨5, ![128, 4, 2, 1, 64]⟩
abbrev S128x516x2x1x64 : Shape := ⟨5, ![128, 516, 2, 1, 64]⟩
abbrev S4x2078x512 : Shape := ⟨3, ![4, 2078, 512]⟩
abbrev S1x128x30x512 : Shape := ⟨4, ![1, 128, 30, 512]⟩
abbrev S128x30x512 : Shape := ⟨3, ![128, 30, 512]⟩
abbrev S128x34x512 : Shape := ⟨3, ![128, 34, 512]⟩
abbrev S8192x6x256 : Shape := ⟨3, ![8192, 6, 256]⟩
abbrev S512x6x256 : Shape := ⟨3, ![512, 6, 256]⟩
abbrev S8704x6x256 : Shape := ⟨3, ![8704, 6, 256]⟩
abbrev S8192x6x64 : Shape := ⟨3, ![8192, 6, 64]⟩
abbrev S512x6x64 : Shape := ⟨3, ![512, 6, 64]⟩
abbrev S8704x6x64 : Shape := ⟨3, ![8704, 6, 64]⟩
abbrev S8704x6x320 : Shape := ⟨3, ![8704, 6, 320]⟩
abbrev S4x2048x4x1x64 : Shape := ⟨5, ![4, 2048, 4, 1, 64]⟩
abbrev S128x4x4x1x64 : Shape := ⟨5, ![128, 4, 4, 1, 64]⟩
abbrev S4x512x2x1x64 : Shape := ⟨5, ![4, 512, 2, 1, 64]⟩
abbrev S4x30x512 : Shape := ⟨3, ![4, 30, 512]⟩
abbrev S6x8704x320 : Shape := ⟨3, ![6, 8704, 320]⟩
abbrev S8192x12x64 : Shape := ⟨3, ![8192, 12, 64]⟩
abbrev S512x12x64 : Shape := ⟨3, ![512, 12, 64]⟩
abbrev S8704x12x64 : Shape := ⟨3, ![8704, 12, 64]⟩
abbrev S12x8704x64 : Shape := ⟨3, ![12, 8704, 64]⟩
abbrev S8192x36 : Shape := ⟨2, ![8192, 36]⟩
abbrev S512x36 : Shape := ⟨2, ![512, 36]⟩
abbrev S8704x36 : Shape := ⟨2, ![8704, 36]⟩

abbrev nBuf : Space → Nat
  | .hbm => 515
  | .vmem => 0
  | .smem => 0
  | _ => 0

abbrev hbmTy0_0 (i : Nat) : BufTy := match i % 128 with
  | 0 => ⟨S8704x3200, .f32⟩
  | 1 => ⟨S4x128x512x2x1x64, .f32⟩
  | 2 => ⟨S4x128x30x512, .f32⟩
  | 3 => ⟨S4x512, .f32⟩
  | 4 => ⟨S4x256, .f32⟩
  | 5 => ⟨S4x512x1152, .f32⟩
  | 6 => ⟨S4x256x6x128, .f32⟩
  | 7 => ⟨S8704x832, .f32⟩
  | 8 => ⟨S8704x1188, .f32⟩
  | 9 => ⟨S8704x1024, .f32⟩
  | 10 => ⟨S8704x3044, .f32⟩
  | 11 => ⟨S8192x3044, .f32⟩
  | 12 => ⟨S4x2048x3044, .f32⟩
  | 13 => ⟨S512x3044, .f32⟩
  | 14 => ⟨S128x4x3044, .f32⟩
  | 15 => ⟨S2048, .i32⟩
  | 16 => ⟨S4, .i32⟩
  | 17 => ⟨S_, .i32⟩
  | 18 => ⟨S4, .i32⟩
  | 19 => ⟨S4, .i32⟩
  | 20 => ⟨S1x512, .f32⟩
  | 21 => ⟨S512, .f32⟩
  | 22 => ⟨S1x256, .f32⟩
  | 23 => ⟨S256, .f32⟩
  | 24 => ⟨S1x512x1152, .f32⟩
  | 25 => ⟨S512x1152, .f32⟩
  | 26 => ⟨S1x256x6x128, .f32⟩
  | 27 => ⟨S256x6x128, .f32⟩
  | 28 => ⟨S4x2048x512, .f32⟩
  | 29 => ⟨S4x2048x512, .f32⟩
  | 30 => ⟨S_, .f32⟩
  | 31 => ⟨S4x2048, .f32⟩
  | 32 => ⟨S4x2048x1, .f32⟩
  | 33 => ⟨S_, .f32⟩
  | 34 => ⟨S4x2048x1, .f32⟩
  | 35 => ⟨S4x2048x1, .f32⟩
  | 36 => ⟨S_, .f32⟩
  | 37 => ⟨S4x2048x1, .f32⟩
  | 38 => ⟨S4x2048x1, .f32⟩
  | 39 => ⟨S4x2048x1, .f32⟩
  | 40 => ⟨S4x2048x512, .f32⟩
  | 41 => ⟨S4x2048x512, .f32⟩
  | 42 => ⟨S1x1x512, .f32⟩
  | 43 => ⟨S4x2048x512, .f32⟩
  | 44 => ⟨S4x2048x512, .f32⟩
  | 45 => ⟨S4x2048x1152, .f32⟩
  | 46 => ⟨S4x2048x6x192, .f32⟩
  | 47 => ⟨S4x2048x6x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S2048, .f32⟩
  | 57 => ⟨S2048x1, .f32⟩
  | 58 => ⟨S1x32, .f32⟩
  | 59 => ⟨S2048x32, .f32⟩
  | 60 => ⟨S2048x32, .f32⟩
  | 61 => ⟨S2048x32, .f32⟩
  | 62 => ⟨S2048x32, .f32⟩
  | 63 => ⟨S2048x1x32, .f32⟩
  | 64 => ⟨S2048x32, .f32⟩
  | 65 => ⟨S2048x1x32, .f32⟩
  | 66 => ⟨S4x2048x6x32, .f32⟩
  | 67 => ⟨S4x2048x6x32, .f32⟩
  | 68 => ⟨S1x2048x1x32, .f32⟩
  | 69 => ⟨S4x2048x6x32, .f32⟩
  | 70 => ⟨S4x2048x6x32, .f32⟩
  | 71 => ⟨S1x2048x1x32, .f32⟩
  | 72 => ⟨S4x2048x6x32, .f32⟩
  | 73 => ⟨S4x2048x6x32, .f32⟩
  | 74 => ⟨S4x2048x6x32, .f32⟩
  | 75 => ⟨S1x2048x1x32, .f32⟩
  | 76 => ⟨S4x2048x6x32, .f32⟩
  | 77 => ⟨S4x2048x6x32, .f32⟩
  | 78 => ⟨S1x2048x1x32, .f32⟩
  | 79 => ⟨S4x2048x6x32, .f32⟩
  | 80 => ⟨S4x2048x6x32, .f32⟩
  | 81 => ⟨S4x2048x6x32, .f32⟩
  | 82 => ⟨S4x2048x6x64, .f32⟩
  | 83 => ⟨S4x2048x6x128, .f32⟩
  | 84 => ⟨S6x256x4x2048, .f32⟩
  | 85 => ⟨S4x2048x6x256, .f32⟩
  | 86 => ⟨S4x2048x256, .f32⟩
  | 87 => ⟨S4x2048x256, .f32⟩
  | 88 => ⟨S_, .f32⟩
  | 89 => ⟨S4x2048, .f32⟩
  | 90 => ⟨S4x2048x1, .f32⟩
  | 91 => ⟨S_, .f32⟩
  | 92 => ⟨S4x2048x1, .f32⟩
  | 93 => ⟨S4x2048x1, .f32⟩
  | 94 => ⟨S_, .f32⟩
  | 95 => ⟨S4x2048x1, .f32⟩
  | 96 => ⟨S4x2048x1, .f32⟩
  | 97 => ⟨S4x2048x1, .f32⟩
  | 98 => ⟨S4x2048x256, .f32⟩
  | 99 => ⟨S4x2048x256, .f32⟩
  | 100 => ⟨S1x1x256, .f32⟩
  | 101 => ⟨S4x2048x256, .f32⟩
  | 102 => ⟨S4x2048x256, .f32⟩
  | 103 => ⟨S4x2048x64, .f32⟩
  | 104 => ⟨S4x2048x1x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S2048, .f32⟩
  | 114 => ⟨S2048x1, .f32⟩
  | 115 => ⟨S1x32, .f32⟩
  | 116 => ⟨S2048x32, .f32⟩
  | 117 => ⟨S2048x32, .f32⟩
  | 118 => ⟨S2048x32, .f32⟩
  | 119 => ⟨S2048x32, .f32⟩
  | 120 => ⟨S2048x1x32, .f32⟩
  | 121 => ⟨S2048x32, .f32⟩
  | 122 => ⟨S2048x1x32, .f32⟩
  | 123 => ⟨S4x2048x1x32, .f32⟩
  | 124 => ⟨S4x2048x1x32, .f32⟩
  | 125 => ⟨S1x2048x1x32, .f32⟩
  | 126 => ⟨S4x2048x1x32, .f32⟩
  | 127 => ⟨S4x2048x1x32, .f32⟩
  | _ => ⟨S8704x3200, .f32⟩

abbrev hbmTy0_1 (i : Nat) : BufTy := match i % 128 with
  | 0 => ⟨S1x2048x1x32, .f32⟩
  | 1 => ⟨S4x2048x1x32, .f32⟩
  | 2 => ⟨S4x2048x1x32, .f32⟩
  | 3 => ⟨S4x2048x1x32, .f32⟩
  | 4 => ⟨S1x2048x1x32, .f32⟩
  | 5 => ⟨S4x2048x1x32, .f32⟩
  | 6 => ⟨S4x2048x1x32, .f32⟩
  | 7 => ⟨S1x2048x1x32, .f32⟩
  | 8 => ⟨S4x2048x1x32, .f32⟩
  | 9 => ⟨S4x2048x1x32, .f32⟩
  | 10 => ⟨S4x2048x1x32, .f32⟩
  | 11 => ⟨S4x2048x1x64, .f32⟩
  | 12 => ⟨S4x2048x64, .f32⟩
  | 13 => ⟨S4x2048x320, .f32⟩
  | 14 => ⟨S4x2048x768, .f32⟩
  | 15 => ⟨S4x2048x12x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S2048, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S2048x32, .f32⟩
  | 31 => ⟨S2048x1x32, .f32⟩
  | 32 => ⟨S2048x32, .f32⟩
  | 33 => ⟨S2048x1x32, .f32⟩
  | 34 => ⟨S4x2048x12x32, .f32⟩
  | 35 => ⟨S4x2048x12x32, .f32⟩
  | 36 => ⟨S1x2048x1x32, .f32⟩
  | 37 => ⟨S4x2048x12x32, .f32⟩
  | 38 => ⟨S4x2048x12x32, .f32⟩
  | 39 => ⟨S1x2048x1x32, .f32⟩
  | 40 => ⟨S4x2048x12x32, .f32⟩
  | 41 => ⟨S4x2048x12x32, .f32⟩
  | 42 => ⟨S4x2048x12x32, .f32⟩
  | 43 => ⟨S1x2048x1x32, .f32⟩
  | 44 => ⟨S4x2048x12x32, .f32⟩
  | 45 => ⟨S4x2048x12x32, .f32⟩
  | 46 => ⟨S1x2048x1x32, .f32⟩
  | 47 => ⟨S4x2048x12x32, .f32⟩
  | 48 => ⟨S4x2048x12x32, .f32⟩
  | 49 => ⟨S4x2048x12x32, .f32⟩
  | 50 => ⟨S4x2048x12x64, .f32⟩
  | 51 => ⟨S4x2048x384, .f32⟩
  | 52 => ⟨S4x2048x3x2x1x64, .f32⟩
  | 53 => ⟨S4x2048x3x1x1x64, .f32⟩
  | 54 => ⟨S4x2048x3x1x64, .f32⟩
  | 55 => ⟨S4x2048x3x64, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S2048, .f32⟩
  | 65 => ⟨S2048x1, .f32⟩
  | 66 => ⟨S1x32, .f32⟩
  | 67 => ⟨S2048x32, .f32⟩
  | 68 => ⟨S2048x32, .f32⟩
  | 69 => ⟨S2048x32, .f32⟩
  | 70 => ⟨S2048x32, .f32⟩
  | 71 => ⟨S2048x1x32, .f32⟩
  | 72 => ⟨S2048x32, .f32⟩
  | 73 => ⟨S2048x1x32, .f32⟩
  | 74 => ⟨S4x2048x3x32, .f32⟩
  | 75 => ⟨S4x2048x3x32, .f32⟩
  | 76 => ⟨S1x2048x1x32, .f32⟩
  | 77 => ⟨S4x2048x3x32, .f32⟩
  | 78 => ⟨S4x2048x3x32, .f32⟩
  | 79 => ⟨S1x2048x1x32, .f32⟩
  | 80 => ⟨S4x2048x3x32, .f32⟩
  | 81 => ⟨S4x2048x3x32, .f32⟩
  | 82 => ⟨S4x2048x3x32, .f32⟩
  | 83 => ⟨S1x2048x1x32, .f32⟩
  | 84 => ⟨S4x2048x3x32, .f32⟩
  | 85 => ⟨S4x2048x3x32, .f32⟩
  | 86 => ⟨S1x2048x1x32, .f32⟩
  | 87 => ⟨S4x2048x3x32, .f32⟩
  | 88 => ⟨S4x2048x3x32, .f32⟩
  | 89 => ⟨S4x2048x3x32, .f32⟩
  | 90 => ⟨S4x2048x3x64, .f32⟩
  | 91 => ⟨S4x2048x3x1x64, .f32⟩
  | 92 => ⟨S4x2048x3x1x1x64, .f32⟩
  | 93 => ⟨S4x2048x3x1x64, .f32⟩
  | 94 => ⟨S4x2048x3x1x1x64, .f32⟩
  | 95 => ⟨S4x2048x3x1x1x64, .f32⟩
  | 96 => ⟨S4x2048x3x2x1x64, .f32⟩
  | 97 => ⟨S4x2048x6x1x64, .f32⟩
  | 98 => ⟨S4x2048x36, .f32⟩
  | 99 => ⟨S4x2048x36, .f32⟩
  | 100 => ⟨S4x2048x36, .f32⟩
  | 101 => ⟨S_, .f32⟩
  | 102 => ⟨S4x2048x36, .f32⟩
  | 103 => ⟨S4x2048x36, .f32⟩
  | 104 => ⟨S_, .f32⟩
  | 105 => ⟨S4x2048x36, .f32⟩
  | 106 => ⟨S4x2048x36, .f32⟩
  | 107 => ⟨S4x2048x512, .f32⟩
  | 108 => ⟨S4x2048x512, .f32⟩
  | 109 => ⟨S4x2048x512, .f32⟩
  | 110 => ⟨S4x2048x512, .f32⟩
  | 111 => ⟨S_, .f32⟩
  | 112 => ⟨S4x2048x512, .f32⟩
  | 113 => ⟨S4x2048x512, .f32⟩
  | 114 => ⟨S_, .f32⟩
  | 115 => ⟨S4x2048x512, .f32⟩
  | 116 => ⟨S4x2048x512, .f32⟩
  | 117 => ⟨S4x2048x512, .f32⟩
  | 118 => ⟨S1x512, .f32⟩
  | 119 => ⟨S512, .f32⟩
  | 120 => ⟨S1x256, .f32⟩
  | 121 => ⟨S256, .f32⟩
  | 122 => ⟨S1x512x1152, .f32⟩
  | 123 => ⟨S512x1152, .f32⟩
  | 124 => ⟨S1x256x6x128, .f32⟩
  | 125 => ⟨S256x6x128, .f32⟩
  | 126 => ⟨S128x4x512, .f32⟩
  | 127 => ⟨S128x4x512, .f32⟩
  | _ => ⟨S8704x3200, .f32⟩

abbrev hbmTy0_2 (i : Nat) : BufTy := match i % 128 with
  | 0 => ⟨S_, .f32⟩
  | 1 => ⟨S128x4, .f32⟩
  | 2 => ⟨S128x4x1, .f32⟩
  | 3 => ⟨S_, .f32⟩
  | 4 => ⟨S128x4x1, .f32⟩
  | 5 => ⟨S128x4x1, .f32⟩
  | 6 => ⟨S_, .f32⟩
  | 7 => ⟨S128x4x1, .f32⟩
  | 8 => ⟨S128x4x1, .f32⟩
  | 9 => ⟨S128x4x1, .f32⟩
  | 10 => ⟨S128x4x512, .f32⟩
  | 11 => ⟨S128x4x512, .f32⟩
  | 12 => ⟨S1x1x512, .f32⟩
  | 13 => ⟨S128x4x512, .f32⟩
  | 14 => ⟨S128x4x512, .f32⟩
  | 15 => ⟨S128x4x1152, .f32⟩
  | 16 => ⟨S128x4x6x192, .f32⟩
  | 17 => ⟨S128x4x6x64, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S4, .f32⟩
  | 27 => ⟨S4x1, .f32⟩
  | 28 => ⟨S1x32, .f32⟩
  | 29 => ⟨S4x32, .f32⟩
  | 30 => ⟨S4x32, .f32⟩
  | 31 => ⟨S4x32, .f32⟩
  | 32 => ⟨S4x32, .f32⟩
  | 33 => ⟨S4x1x32, .f32⟩
  | 34 => ⟨S4x32, .f32⟩
  | 35 => ⟨S4x1x32, .f32⟩
  | 36 => ⟨S128x4x6x32, .f32⟩
  | 37 => ⟨S128x4x6x32, .f32⟩
  | 38 => ⟨S1x4x1x32, .f32⟩
  | 39 => ⟨S128x4x6x32, .f32⟩
  | 40 => ⟨S128x4x6x32, .f32⟩
  | 41 => ⟨S1x4x1x32, .f32⟩
  | 42 => ⟨S128x4x6x32, .f32⟩
  | 43 => ⟨S128x4x6x32, .f32⟩
  | 44 => ⟨S128x4x6x32, .f32⟩
  | 45 => ⟨S1x4x1x32, .f32⟩
  | 46 => ⟨S128x4x6x32, .f32⟩
  | 47 => ⟨S128x4x6x32, .f32⟩
  | 48 => ⟨S1x4x1x32, .f32⟩
  | 49 => ⟨S128x4x6x32, .f32⟩
  | 50 => ⟨S128x4x6x32, .f32⟩
  | 51 => ⟨S128x4x6x32, .f32⟩
  | 52 => ⟨S128x4x6x64, .f32⟩
  | 53 => ⟨S128x4x6x128, .f32⟩
  | 54 => ⟨S6x256x128x4, .f32⟩
  | 55 => ⟨S128x4x6x256, .f32⟩
  | 56 => ⟨S128x4x256, .f32⟩
  | 57 => ⟨S128x4x256, .f32⟩
  | 58 => ⟨S_, .f32⟩
  | 59 => ⟨S128x4, .f32⟩
  | 60 => ⟨S128x4x1, .f32⟩
  | 61 => ⟨S_, .f32⟩
  | 62 => ⟨S128x4x1, .f32⟩
  | 63 => ⟨S128x4x1, .f32⟩
  | 64 => ⟨S_, .f32⟩
  | 65 => ⟨S128x4x1, .f32⟩
  | 66 => ⟨S128x4x1, .f32⟩
  | 67 => ⟨S128x4x1, .f32⟩
  | 68 => ⟨S128x4x256, .f32⟩
  | 69 => ⟨S128x4x256, .f32⟩
  | 70 => ⟨S1x1x256, .f32⟩
  | 71 => ⟨S128x4x256, .f32⟩
  | 72 => ⟨S128x4x256, .f32⟩
  | 73 => ⟨S128x4x64, .f32⟩
  | 74 => ⟨S128x4x1x64, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4, .f32⟩
  | 84 => ⟨S4x1, .f32⟩
  | 85 => ⟨S1x32, .f32⟩
  | 86 => ⟨S4x32, .f32⟩
  | 87 => ⟨S4x32, .f32⟩
  | 88 => ⟨S4x32, .f32⟩
  | 89 => ⟨S4x32, .f32⟩
  | 90 => ⟨S4x1x32, .f32⟩
  | 91 => ⟨S4x32, .f32⟩
  | 92 => ⟨S4x1x32, .f32⟩
  | 93 => ⟨S128x4x1x32, .f32⟩
  | 94 => ⟨S128x4x1x32, .f32⟩
  | 95 => ⟨S1x4x1x32, .f32⟩
  | 96 => ⟨S128x4x1x32, .f32⟩
  | 97 => ⟨S128x4x1x32, .f32⟩
  | 98 => ⟨S1x4x1x32, .f32⟩
  | 99 => ⟨S128x4x1x32, .f32⟩
  | 100 => ⟨S128x4x1x32, .f32⟩
  | 101 => ⟨S128x4x1x32, .f32⟩
  | 102 => ⟨S1x4x1x32, .f32⟩
  | 103 => ⟨S128x4x1x32, .f32⟩
  | 104 => ⟨S128x4x1x32, .f32⟩
  | 105 => ⟨S1x4x1x32, .f32⟩
  | 106 => ⟨S128x4x1x32, .f32⟩
  | 107 => ⟨S128x4x1x32, .f32⟩
  | 108 => ⟨S128x4x1x32, .f32⟩
  | 109 => ⟨S128x4x1x64, .f32⟩
  | 110 => ⟨S128x4x64, .f32⟩
  | 111 => ⟨S128x4x320, .f32⟩
  | 112 => ⟨S128x4x768, .f32⟩
  | 113 => ⟨S128x4x12x64, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S4, .f32⟩
  | 123 => ⟨S4x1, .f32⟩
  | 124 => ⟨S1x32, .f32⟩
  | 125 => ⟨S4x32, .f32⟩
  | 126 => ⟨S4x32, .f32⟩
  | 127 => ⟨S4x32, .f32⟩
  | _ => ⟨S8704x3200, .f32⟩

abbrev hbmTy0_3 (i : Nat) : BufTy := match i % 128 with
  | 0 => ⟨S4x32, .f32⟩
  | 1 => ⟨S4x1x32, .f32⟩
  | 2 => ⟨S4x32, .f32⟩
  | 3 => ⟨S4x1x32, .f32⟩
  | 4 => ⟨S128x4x12x32, .f32⟩
  | 5 => ⟨S128x4x12x32, .f32⟩
  | 6 => ⟨S1x4x1x32, .f32⟩
  | 7 => ⟨S128x4x12x32, .f32⟩
  | 8 => ⟨S128x4x12x32, .f32⟩
  | 9 => ⟨S1x4x1x32, .f32⟩
  | 10 => ⟨S128x4x12x32, .f32⟩
  | 11 => ⟨S128x4x12x32, .f32⟩
  | 12 => ⟨S128x4x12x32, .f32⟩
  | 13 => ⟨S1x4x1x32, .f32⟩
  | 14 => ⟨S128x4x12x32, .f32⟩
  | 15 => ⟨S128x4x12x32, .f32⟩
  | 16 => ⟨S1x4x1x32, .f32⟩
  | 17 => ⟨S128x4x12x32, .f32⟩
  | 18 => ⟨S128x4x12x32, .f32⟩
  | 19 => ⟨S128x4x12x32, .f32⟩
  | 20 => ⟨S128x4x12x64, .f32⟩
  | 21 => ⟨S128x4x384, .f32⟩
  | 22 => ⟨S128x4x3x2x1x64, .f32⟩
  | 23 => ⟨S128x4x3x1x1x64, .f32⟩
  | 24 => ⟨S128x4x3x1x64, .f32⟩
  | 25 => ⟨S128x4x3x64, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S4, .f32⟩
  | 35 => ⟨S4x1, .f32⟩
  | 36 => ⟨S1x32, .f32⟩
  | 37 => ⟨S4x32, .f32⟩
  | 38 => ⟨S4x32, .f32⟩
  | 39 => ⟨S4x32, .f32⟩
  | 40 => ⟨S4x32, .f32⟩
  | 41 => ⟨S4x1x32, .f32⟩
  | 42 => ⟨S4x32, .f32⟩
  | 43 => ⟨S4x1x32, .f32⟩
  | 44 => ⟨S128x4x3x32, .f32⟩
  | 45 => ⟨S128x4x3x32, .f32⟩
  | 46 => ⟨S1x4x1x32, .f32⟩
  | 47 => ⟨S128x4x3x32, .f32⟩
  | 48 => ⟨S128x4x3x32, .f32⟩
  | 49 => ⟨S1x4x1x32, .f32⟩
  | 50 => ⟨S128x4x3x32, .f32⟩
  | 51 => ⟨S128x4x3x32, .f32⟩
  | 52 => ⟨S128x4x3x32, .f32⟩
  | 53 => ⟨S1x4x1x32, .f32⟩
  | 54 => ⟨S128x4x3x32, .f32⟩
  | 55 => ⟨S128x4x3x32, .f32⟩
  | 56 => ⟨S1x4x1x32, .f32⟩
  | 57 => ⟨S128x4x3x32, .f32⟩
  | 58 => ⟨S128x4x3x32, .f32⟩
  | 59 => ⟨S128x4x3x32, .f32⟩
  | 60 => ⟨S128x4x3x64, .f32⟩
  | 61 => ⟨S128x4x3x1x64, .f32⟩
  | 62 => ⟨S128x4x3x1x1x64, .f32⟩
  | 63 => ⟨S128x4x3x1x64, .f32⟩
  | 64 => ⟨S128x4x3x1x1x64, .f32⟩
  | 65 => ⟨S128x4x3x1x1x64, .f32⟩
  | 66 => ⟨S128x4x3x2x1x64, .f32⟩
  | 67 => ⟨S128x4x6x1x64, .f32⟩
  | 68 => ⟨S128x4x36, .f32⟩
  | 69 => ⟨S128x4x36, .f32⟩
  | 70 => ⟨S128x4x36, .f32⟩
  | 71 => ⟨S_, .f32⟩
  | 72 => ⟨S128x4x36, .f32⟩
  | 73 => ⟨S128x4x36, .f32⟩
  | 74 => ⟨S_, .f32⟩
  | 75 => ⟨S128x4x36, .f32⟩
  | 76 => ⟨S128x4x36, .f32⟩
  | 77 => ⟨S128x4x512, .f32⟩
  | 78 => ⟨S128x4x512, .f32⟩
  | 79 => ⟨S128x4x512, .f32⟩
  | 80 => ⟨S128x4x512, .f32⟩
  | 81 => ⟨S_, .f32⟩
  | 82 => ⟨S128x4x512, .f32⟩
  | 83 => ⟨S128x4x512, .f32⟩
  | 84 => ⟨S_, .f32⟩
  | 85 => ⟨S128x4x512, .f32⟩
  | 86 => ⟨S128x4x512, .f32⟩
  | 87 => ⟨S128x4x512, .f32⟩
  | 88 => ⟨S4x2048x2x1x64, .f32⟩
  | 89 => ⟨S_, .i32⟩
  | 90 => ⟨S_, .f32⟩
  | 91 => ⟨S4x2560x2x1x64, .f32⟩
  | 92 => ⟨S1x128x512x2x1x64, .f32⟩
  | 93 => ⟨S128x512x2x1x64, .f32⟩
  | 94 => ⟨S128x4x2x1x64, .f32⟩
  | 95 => ⟨S128x516x2x1x64, .f32⟩
  | 96 => ⟨S_, .i32⟩
  | 97 => ⟨S_, .f32⟩
  | 98 => ⟨S4x2078x512, .f32⟩
  | 99 => ⟨S1x128x30x512, .f32⟩
  | 100 => ⟨S128x30x512, .f32⟩
  | 101 => ⟨S128x34x512, .f32⟩
  | 102 => ⟨S8192x6x256, .f32⟩
  | 103 => ⟨S512x6x256, .f32⟩
  | 104 => ⟨S8704x6x256, .f32⟩
  | 105 => ⟨S8192x6x64, .f32⟩
  | 106 => ⟨S512x6x64, .f32⟩
  | 107 => ⟨S8704x6x64, .f32⟩
  | 108 => ⟨S8704x6x320, .f32⟩
  | 109 => ⟨S4x2048x4x1x64, .f32⟩
  | 110 => ⟨S128x4x4x1x64, .f32⟩
  | 111 => ⟨S4x512x2x1x64, .f32⟩
  | 112 => ⟨S128x512x2x1x64, .f32⟩
  | 113 => ⟨S4x30x512, .f32⟩
  | 114 => ⟨S128x30x512, .f32⟩
  | 115 => ⟨S6x8704x320, .f32⟩
  | 116 => ⟨S_, .f32⟩
  | 117 => ⟨S6x8704x320, .f32⟩
  | 118 => ⟨S6x8704x320, .f32⟩
  | 119 => ⟨S6x8704x320, .bf16⟩
  | 120 => ⟨S8192x12x64, .f32⟩
  | 121 => ⟨S512x12x64, .f32⟩
  | 122 => ⟨S8704x12x64, .f32⟩
  | 123 => ⟨S12x8704x64, .f32⟩
  | 124 => ⟨S_, .f32⟩
  | 125 => ⟨S12x8704x64, .f32⟩
  | 126 => ⟨S12x8704x64, .f32⟩
  | 127 => ⟨S12x8704x64, .bf16⟩
  | _ => ⟨S8704x3200, .f32⟩

abbrev hbmTy0_4 (i : Nat) : BufTy := match i % 128 with
  | 0 => ⟨S8192x36, .f32⟩
  | 1 => ⟨S512x36, .f32⟩
  | 2 => ⟨S8704x36, .f32⟩
  | _ => ⟨S8704x3200, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8704x3200, .f32⟩

abbrev bufTy : (tb : Table) → Fin (tcTables nBuf tb) → BufTy
  | .hbm, ⟨i, _⟩ => hbmTy i
  | _, _ => ⟨S8704x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_4 : Ref sig .tc := ⟨.hbm, 88, rfl⟩
abbrev main_v75 : Ref sig .tc := ⟨.hbm, 89, rfl⟩
abbrev main_v76 : Ref sig .tc := ⟨.hbm, 90, rfl⟩
abbrev main_cst_5 : Ref sig .tc := ⟨.hbm, 91, rfl⟩
abbrev main_v77 : Ref sig .tc := ⟨.hbm, 92, rfl⟩
abbrev main_v78 : Ref sig .tc := ⟨.hbm, 93, rfl⟩
abbrev main_cst_6 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_7 : Ref sig .tc := ⟨.hbm, 107, rfl⟩
abbrev main_v91 : Ref sig .tc := ⟨.hbm, 108, rfl⟩
abbrev main_v92 : Ref sig .tc := ⟨.hbm, 109, rfl⟩
abbrev main_cst_8 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_cst_9 : Ref sig .tc := ⟨.hbm, 146, rfl⟩
abbrev main_v128 : Ref sig .tc := ⟨.hbm, 147, rfl⟩
abbrev main_v129 : Ref sig .tc := ⟨.hbm, 148, rfl⟩
abbrev main_cst_10 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_cst_11 : Ref sig .tc := ⟨.hbm, 186, rfl⟩
abbrev main_v166 : Ref sig .tc := ⟨.hbm, 187, rfl⟩
abbrev main_v167 : Ref sig .tc := ⟨.hbm, 188, rfl⟩
abbrev main_cst_12 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_cst_13 : Ref sig .tc := ⟨.hbm, 229, rfl⟩
abbrev main_v207 : Ref sig .tc := ⟨.hbm, 230, rfl⟩
abbrev main_v208 : Ref sig .tc := ⟨.hbm, 231, rfl⟩
abbrev main_cst_14 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_cst_15 : Ref sig .tc := ⟨.hbm, 239, rfl⟩
abbrev main_v215 : Ref sig .tc := ⟨.hbm, 240, rfl⟩
abbrev main_v216 : Ref sig .tc := ⟨.hbm, 241, rfl⟩
abbrev main_cst_16 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_cst_17 : Ref sig .tc := ⟨.hbm, 256, rfl⟩
abbrev main_v230 : Ref sig .tc := ⟨.hbm, 257, rfl⟩
abbrev main_v231 : Ref sig .tc := ⟨.hbm, 258, rfl⟩
abbrev main_cst_18 : Ref sig .tc := ⟨.hbm, 259, rfl⟩
abbrev main_v232 : Ref sig .tc := ⟨.hbm, 260, rfl⟩
abbrev main_v233 : Ref sig .tc := ⟨.hbm, 261, rfl⟩
abbrev main_cst_19 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_cst_20 : Ref sig .tc := ⟨.hbm, 276, rfl⟩
abbrev main_v247 : Ref sig .tc := ⟨.hbm, 277, rfl⟩
abbrev main_v248 : Ref sig .tc := ⟨.hbm, 278, rfl⟩
abbrev main_cst_21 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_cst_22 : Ref sig .tc := ⟨.hbm, 314, rfl⟩
abbrev main_v283 : Ref sig .tc := ⟨.hbm, 315, rfl⟩
abbrev main_v284 : Ref sig .tc := ⟨.hbm, 316, rfl⟩
abbrev main_cst_23 : Ref sig .tc := ⟨.hbm, 317, rfl⟩
abbrev main_v285 : Ref sig .tc := ⟨.hbm, 318, rfl⟩
abbrev main_v286 : Ref sig .tc := ⟨.hbm, 319, rfl⟩
abbrev main_cst_24 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_cst_25 : Ref sig .tc := ⟨.hbm, 333, rfl⟩
abbrev main_v299 : Ref sig .tc := ⟨.hbm, 334, rfl⟩
abbrev main_v300 : Ref sig .tc := ⟨.hbm, 335, rfl⟩
abbrev main_cst_26 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_v331 : Ref sig .tc := ⟨.hbm, 367, rfl⟩
abbrev main_v332 : Ref sig .tc := ⟨.hbm, 368, rfl⟩
abbrev main_v333 : Ref sig .tc := ⟨.hbm, 369, rfl⟩
abbrev main_v334 : Ref sig .tc := ⟨.hbm, 370, rfl⟩
abbrev main_v335 : Ref sig .tc := ⟨.hbm, 371, rfl⟩
abbrev main_cst_27 : Ref sig .tc := ⟨.hbm, 372, rfl⟩
abbrev main_v336 : Ref sig .tc := ⟨.hbm, 373, rfl⟩
abbrev main_v337 : Ref sig .tc := ⟨.hbm, 374, rfl⟩
abbrev main_cst_28 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_v341 : Ref sig .tc := ⟨.hbm, 379, rfl⟩
abbrev main_v342 : Ref sig .tc := ⟨.hbm, 380, rfl⟩
abbrev main_v343 : Ref sig .tc := ⟨.hbm, 381, rfl⟩
abbrev main_v344 : Ref sig .tc := ⟨.hbm, 382, rfl⟩
abbrev main_v345 : Ref sig .tc := ⟨.hbm, 383, rfl⟩
abbrev main_v346 : Ref sig .tc := ⟨.hbm, 384, rfl⟩
abbrev main_v347 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_v352 : Ref sig .tc := ⟨.hbm, 390, rfl⟩
abbrev main_v353 : Ref sig .tc := ⟨.hbm, 391, rfl⟩
abbrev main_v354 : Ref sig .tc := ⟨.hbm, 392, rfl⟩
abbrev main_v355 : Ref sig .tc := ⟨.hbm, 393, rfl⟩
abbrev main_v356 : Ref sig .tc := ⟨.hbm, 394, rfl⟩
abbrev main_v357 : Ref sig .tc := ⟨.hbm, 395, rfl⟩
abbrev main_v358 : Ref sig .tc := ⟨.hbm, 396, rfl⟩
abbrev main_v359 : Ref sig .tc := ⟨.hbm, 397, rfl⟩
abbrev main_v360 : Ref sig .tc := ⟨.hbm, 398, rfl⟩
abbrev main_v361 : Ref sig .tc := ⟨.hbm, 399, rfl⟩
abbrev main_v362 : Ref sig .tc := ⟨.hbm, 400, rfl⟩
abbrev main_v363 : Ref sig .tc := ⟨.hbm, 401, rfl⟩
abbrev main_v364 : Ref sig .tc := ⟨.hbm, 402, rfl⟩
abbrev main_v365 : Ref sig .tc := ⟨.hbm, 403, rfl⟩
abbrev main_v366 : Ref sig .tc := ⟨.hbm, 404, rfl⟩
abbrev main_v367 : Ref sig .tc := ⟨.hbm, 405, rfl⟩
abbrev main_v368 : Ref sig .tc := ⟨.hbm, 406, rfl⟩
abbrev main_v369 : Ref sig .tc := ⟨.hbm, 407, rfl⟩
abbrev main_v370 : Ref sig .tc := ⟨.hbm, 408, rfl⟩
abbrev main_v371 : Ref sig .tc := ⟨.hbm, 409, rfl⟩
abbrev main_v372 : Ref sig .tc := ⟨.hbm, 410, rfl⟩
abbrev main_v373 : Ref sig .tc := ⟨.hbm, 411, rfl⟩
abbrev main_cst_29 : Ref sig .tc := ⟨.hbm, 412, rfl⟩
abbrev main_v374 : Ref sig .tc := ⟨.hbm, 413, rfl⟩
abbrev main_v375 : Ref sig .tc := ⟨.hbm, 414, rfl⟩
abbrev main_cst_30 : Ref sig .tc := ⟨.hbm, 415, rfl⟩
abbrev main_v376 : Ref sig .tc := ⟨.hbm, 416, rfl⟩
abbrev main_v377 : Ref sig .tc := ⟨.hbm, 417, rfl⟩
abbrev main_v378 : Ref sig .tc := ⟨.hbm, 418, rfl⟩
abbrev main_v379 : Ref sig .tc := ⟨.hbm, 419, rfl⟩
abbrev main_v380 : Ref sig .tc := ⟨.hbm, 420, rfl⟩
abbrev main_v381 : Ref sig .tc := ⟨.hbm, 421, rfl⟩
abbrev main_v382 : Ref sig .tc := ⟨.hbm, 422, rfl⟩
abbrev main_v383 : Ref sig .tc := ⟨.hbm, 423, rfl⟩
abbrev main_v384 : Ref sig .tc := ⟨.hbm, 424, rfl⟩
abbrev main_v385 : Ref sig .tc := ⟨.hbm, 425, rfl⟩
abbrev main_v386 : Ref sig .tc := ⟨.hbm, 426, rfl⟩
abbrev main_v387 : Ref sig .tc := ⟨.hbm, 427, rfl⟩
abbrev main_v388 : Ref sig .tc := ⟨.hbm, 428, rfl⟩
abbrev main_v389 : Ref sig .tc := ⟨.hbm, 429, rfl⟩
abbrev main_v390 : Ref sig .tc := ⟨.hbm, 430, rfl⟩
abbrev main_v391 : Ref sig .tc := ⟨.hbm, 431, rfl⟩
abbrev main_v392 : Ref sig .tc := ⟨.hbm, 432, rfl⟩
abbrev main_v393 : Ref sig .tc := ⟨.hbm, 433, rfl⟩
abbrev main_v394 : Ref sig .tc := ⟨.hbm, 434, rfl⟩
abbrev main_v395 : Ref sig .tc := ⟨.hbm, 435, rfl⟩
abbrev main_v396 : Ref sig .tc := ⟨.hbm, 436, rfl⟩
abbrev main_v397 : Ref sig .tc := ⟨.hbm, 437, rfl⟩
abbrev main_v398 : Ref sig .tc := ⟨.hbm, 438, rfl⟩
abbrev main_v399 : Ref sig .tc := ⟨.hbm, 439, rfl⟩
abbrev main_v400 : Ref sig .tc := ⟨.hbm, 440, rfl⟩
abbrev main_v401 : Ref sig .tc := ⟨.hbm, 441, rfl⟩
abbrev main_v402 : Ref sig .tc := ⟨.hbm, 442, rfl⟩
abbrev main_v403 : Ref sig .tc := ⟨.hbm, 443, rfl⟩
abbrev main_v404 : Ref sig .tc := ⟨.hbm, 444, rfl⟩
abbrev main_v405 : Ref sig .tc := ⟨.hbm, 445, rfl⟩
abbrev main_v406 : Ref sig .tc := ⟨.hbm, 446, rfl⟩
abbrev main_v407 : Ref sig .tc := ⟨.hbm, 447, rfl⟩
abbrev main_v408 : Ref sig .tc := ⟨.hbm, 448, rfl⟩
abbrev main_v409 : Ref sig .tc := ⟨.hbm, 449, rfl⟩
abbrev main_v410 : Ref sig .tc := ⟨.hbm, 450, rfl⟩
abbrev main_v411 : Ref sig .tc := ⟨.hbm, 451, rfl⟩
abbrev main_v412 : Ref sig .tc := ⟨.hbm, 452, rfl⟩
abbrev main_v413 : Ref sig .tc := ⟨.hbm, 453, rfl⟩
abbrev main_v414 : Ref sig .tc := ⟨.hbm, 454, rfl⟩
abbrev main_cst_31 : Ref sig .tc := ⟨.hbm, 455, rfl⟩
abbrev main_v415 : Ref sig .tc := ⟨.hbm, 456, rfl⟩
abbrev main_v416 : Ref sig .tc := ⟨.hbm, 457, rfl⟩
abbrev main_cst_32 : Ref sig .tc := ⟨.hbm, 458, rfl⟩
abbrev main_v417 : Ref sig .tc := ⟨.hbm, 459, rfl⟩
abbrev main_v418 : Ref sig .tc := ⟨.hbm, 460, rfl⟩
abbrev main_v419 : Ref sig .tc := ⟨.hbm, 461, rfl⟩
abbrev main_v420 : Ref sig .tc := ⟨.hbm, 462, rfl⟩
abbrev main_v421 : Ref sig .tc := ⟨.hbm, 463, rfl⟩
abbrev main_v422 : Ref sig .tc := ⟨.hbm, 464, rfl⟩
abbrev main_cst_33 : Ref sig .tc := ⟨.hbm, 465, rfl⟩
abbrev main_v423 : Ref sig .tc := ⟨.hbm, 466, rfl⟩
abbrev main_v424 : Ref sig .tc := ⟨.hbm, 467, rfl⟩
abbrev main_cst_34 : Ref sig .tc := ⟨.hbm, 468, rfl⟩
abbrev main_v425 : Ref sig .tc := ⟨.hbm, 469, rfl⟩
abbrev main_v426 : Ref sig .tc := ⟨.hbm, 470, rfl⟩
abbrev main_v427 : Ref sig .tc := ⟨.hbm, 471, rfl⟩
abbrev main_v428 : Ref sig .tc := ⟨.hbm, 472, rfl⟩
abbrev main_c_35 : Ref sig .tc := ⟨.hbm, 473, rfl⟩
abbrev main_call0_v0 : Ref sig .tc := ⟨.hbm, 474, rfl⟩
abbrev main_v429 : Ref sig .tc := ⟨.hbm, 475, rfl⟩
abbrev main_v430 : Ref sig .tc := ⟨.hbm, 476, rfl⟩
abbrev main_v431 : Ref sig .tc := ⟨.hbm, 477, rfl⟩
abbrev main_v432 : Ref sig .tc := ⟨.hbm, 478, rfl⟩
abbrev main_v433 : Ref sig .tc := ⟨.hbm, 479, rfl⟩
abbrev main_c_36 : Ref sig .tc := ⟨.hbm, 480, rfl⟩
abbrev main_call1_v0 : Ref sig .tc := ⟨.hbm, 481, rfl⟩
abbrev main_v434 : Ref sig .tc := ⟨.hbm, 482, rfl⟩
abbrev main_v435 : Ref sig .tc := ⟨.hbm, 483, rfl⟩
abbrev main_v436 : Ref sig .tc := ⟨.hbm, 484, rfl⟩
abbrev main_v437 : Ref sig .tc := ⟨.hbm, 485, rfl⟩
abbrev main_v438 : Ref sig .tc := ⟨.hbm, 486, rfl⟩
abbrev main_v439 : Ref sig .tc := ⟨.hbm, 487, rfl⟩
abbrev main_v440 : Ref sig .tc := ⟨.hbm, 488, rfl⟩
abbrev main_v441 : Ref sig .tc := ⟨.hbm, 489, rfl⟩
abbrev main_v442 : Ref sig .tc := ⟨.hbm, 490, rfl⟩
abbrev main_v443 : Ref sig .tc := ⟨.hbm, 491, rfl⟩
abbrev main_v444 : Ref sig .tc := ⟨.hbm, 492, rfl⟩
abbrev main_v445 : Ref sig .tc := ⟨.hbm, 493, rfl⟩
abbrev main_v446 : Ref sig .tc := ⟨.hbm, 494, rfl⟩
abbrev main_v447 : Ref sig .tc := ⟨.hbm, 495, rfl⟩
abbrev main_v448 : Ref sig .tc := ⟨.hbm, 496, rfl⟩
abbrev main_v449 : Ref sig .tc := ⟨.hbm, 497, rfl⟩
abbrev main_v450 : Ref sig .tc := ⟨.hbm, 498, rfl⟩
abbrev main_v451 : Ref sig .tc := ⟨.hbm, 499, rfl⟩
abbrev main_cst_37 : Ref sig .tc := ⟨.hbm, 500, rfl⟩
abbrev main_v452 : Ref sig .tc := ⟨.hbm, 501, rfl⟩
abbrev main_v453 : Ref sig .tc := ⟨.hbm, 502, rfl⟩
abbrev main_v454 : Ref sig .tc := ⟨.hbm, 503, rfl⟩
abbrev main_v455 : Ref sig .tc := ⟨.hbm, 504, rfl⟩
abbrev main_v456 : Ref sig .tc := ⟨.hbm, 505, rfl⟩
abbrev main_v457 : Ref sig .tc := ⟨.hbm, 506, rfl⟩
abbrev main_v458 : Ref sig .tc := ⟨.hbm, 507, rfl⟩
abbrev main_cst_38 : Ref sig .tc := ⟨.hbm, 508, rfl⟩
abbrev main_v459 : Ref sig .tc := ⟨.hbm, 509, rfl⟩
abbrev main_v460 : Ref sig .tc := ⟨.hbm, 510, rfl⟩
abbrev main_v461 : Ref sig .tc := ⟨.hbm, 511, rfl⟩
abbrev main_v462 : Ref sig .tc := ⟨.hbm, 512, rfl⟩
abbrev main_v463 : Ref sig .tc := ⟨.hbm, 513, rfl⟩
abbrev main_v464 : Ref sig .tc := ⟨.hbm, 514, rfl⟩

abbrev nD : Nat := 1
abbrev τ : Topo := Topo.v7x

variable {F : FTy → Type} [FloatOps F]
-- ==== Kernel7.lean ====
abbrev S8704x512 : Shape := ⟨2, ![8704, 512]⟩
abbrev S4x31x512 : Shape := ⟨3, ![4, 31, 512]⟩
abbrev S4x512 : Shape := ⟨2, ![4, 512]⟩
abbrev S1x31x512 : Shape := ⟨3, ![1, 31, 512]⟩
abbrev S31x512 : Shape := ⟨2, ![31, 512]⟩
abbrev S_ : Shape := ⟨0, ![]⟩
abbrev S32x512 : Shape := ⟨2, ![32, 512]⟩
abbrev S8192x512 : Shape := ⟨2, ![8192, 512]⟩
abbrev S4x2048x512 : Shape := ⟨3, ![4, 2048, 512]⟩
abbrev S4x2080x512 : Shape := ⟨3, ![4, 2080, 512]⟩
abbrev S1x512 : Shape := ⟨2, ![1, 512]⟩
abbrev S512 : Shape := ⟨1, ![512]⟩
abbrev S1x256x512 : Shape := ⟨3, ![1, 256, 512]⟩
abbrev S1x32x512 : Shape := ⟨3, ![1, 32, 512]⟩
abbrev S256x512 : Shape := ⟨2, ![256, 512]⟩
abbrev S288x512 : Shape := ⟨2, ![288, 512]⟩
abbrev S256 : Shape := ⟨1, ![256]⟩
abbrev S256x1 : Shape := ⟨2, ![256, 1]⟩

abbrev nBuf : Space → Nat
  | .hbm => 26
  | .vmem => 10
  | .smem => 0
  | _ => 0

abbrev bufTy : (tb : Table) → Fin (tcTables nBuf tb) → BufTy
  | .hbm, ⟨0, _⟩ => ⟨S8704x512, .f32⟩
  | .hbm, ⟨1, _⟩ => ⟨S4x31x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S1x31x512, .f32⟩
  | .hbm, ⟨6, _⟩ => ⟨S31x512, .f32⟩
  | .hbm, ⟨7, _⟩ => ⟨S_, .i32⟩
  | .hbm, ⟨8, _⟩ => ⟨S_, .f32⟩
  | .hbm, ⟨9, _⟩ => ⟨S32x512, .f32⟩
  | .hbm, ⟨10, _⟩ => ⟨S8192x512, .f32⟩
  | .hbm, ⟨11, _⟩ => ⟨S4x2048x512, .f32⟩
  | .hbm, ⟨12, _⟩ => ⟨S_, .i32⟩
  | .hbm, ⟨13, _⟩ => ⟨S_, .f32⟩
  | .hbm, ⟨14, _⟩ => ⟨S4x2080x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S4x2048x512, .f32⟩
  | .hbm, ⟨25, _⟩ => ⟨S8192x512, .f32⟩
  | .local _ .vmem, ⟨0, _⟩ => ⟨S1x256x512, .f32⟩
  | .local _ .vmem, ⟨1, _⟩ => ⟨S1x256x512, .f32⟩
  | .local _ .vmem, ⟨2, _⟩ => ⟨S1x32x512, .f32⟩
  | .local _ .vmem, ⟨3, _⟩ => ⟨S1x32x512, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x256x512, .f32⟩
  | .local _ .vmem, ⟨9, _⟩ => ⟨S1x256x512, .f32⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8704x512 : Shape := ⟨2, ![8704, 512]⟩
abbrev S4x31x512 : Shape := ⟨3, ![4, 31, 512]⟩
abbrev S4x512 : Shape := ⟨2, ![4, 512]⟩
abbrev S8192x512 : Shape := ⟨2, ![8192, 512]⟩
abbrev S4x2048x512 : Shape := ⟨3, ![4, 2048, 512]⟩
abbrev S_ : Shape := ⟨0, ![]⟩
abbrev S4x2078x512 : Shape := ⟨3, ![4, 2078, 512]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S1x1x512 : Shape := ⟨3, ![1, 1, 512]⟩
abbrev S4x2048 : Shape := ⟨2, ![4, 2048]⟩
abbrev S4x2048x1 : Shape := ⟨3, ![4, 2048, 1]⟩

abbrev nBuf : Space → Nat
  | .hbm => 279
  | .vmem => 0
  | .smem => 0
  | _ => 0

abbrev hbmTy0_0 (i : Nat) : BufTy := match i % 128 with
  | 0 => ⟨S8704x512, .f32⟩
  | 1 => ⟨S4x31x512, .f32⟩
  | 2 => ⟨S4x512, .f32⟩
  | 3 => ⟨S4x512, .f32⟩
  | 4 => ⟨S4x512, .f32⟩
  | 5 => ⟨S8192x512, .f32⟩
  | 6 => ⟨S4x2048x512, .f32⟩
  | 7 => ⟨S_, .i32⟩
  | 8 => ⟨S_, .f32⟩
  | 9 => ⟨S4x2078x512, .f32⟩
  | 10 => ⟨S1x31x512, .f32⟩
  | 11 => ⟨S31x512, .f32⟩
  | 12 => ⟨S1x512, .f32⟩
  | 13 => ⟨S512, .f32⟩
  | 14 => ⟨S1x512, .f32⟩
  | 15 => ⟨S512, .f32⟩
  | 16 => ⟨S1x512, .f32⟩
  | 17 => ⟨S512, .f32⟩
  | 18 => ⟨S4x2048x512, .f32⟩
  | 19 => ⟨S1x512, .f32⟩
  | 20 => ⟨S512, .f32⟩
  | 21 => ⟨S1x1x512, .f32⟩
  | 22 => ⟨S4x2048x512, .f32⟩
  | 23 => ⟨S4x2048x512, .f32⟩
  | 24 => ⟨S_, .f32⟩
  | 25 => ⟨S4x2048x512, .f32⟩
  | 26 => ⟨S4x2048x512, .f32⟩
  | 27 => ⟨S4x2048x512, .f32⟩
  | 28 => ⟨S1x512, .f32⟩
  | 29 => ⟨S512, .f32⟩
  | 30 => ⟨S1x1x512, .f32⟩
  | 31 => ⟨S4x2048x512, .f32⟩
  | 32 => ⟨S4x2048x512, .f32⟩
  | 33 => ⟨S4x2048x512, .f32⟩
  | 34 => ⟨S4x2048x512, .f32⟩
  | 35 => ⟨S1x512, .f32⟩
  | 36 => ⟨S512, .f32⟩
  | 37 => ⟨S1x1x512, .f32⟩
  | 38 => ⟨S4x2048x512, .f32⟩
  | 39 => ⟨S4x2048x512, .f32⟩
  | 40 => ⟨S4x2048x512, .f32⟩
  | 41 => ⟨S4x2048x512, .f32⟩
  | 42 => ⟨S1x512, .f32⟩
  | 43 => ⟨S512, .f32⟩
  | 44 => ⟨S1x1x512, .f32⟩
  | 45 => ⟨S4x2048x512, .f32⟩
  | 46 => ⟨S4x2048x512, .f32⟩
  | 47 => ⟨S4x2048x512, .f32⟩
  | 48 => ⟨S4x2048x512, .f32⟩
  | 49 => ⟨S1x512, .f32⟩
  | 50 => ⟨S512, .f32⟩
  | 51 => ⟨S1x1x512, .f32⟩
  | 52 => ⟨S4x2048x512, .f32⟩
  | 53 => ⟨S4x2048x512, .f32⟩
  | 54 => ⟨S4x2048x512, .f32⟩
  | 55 => ⟨S4x2048x512, .f32⟩
  | 56 => ⟨S1x512, .f32⟩
  | 57 => ⟨S512, .f32⟩
  | 58 => ⟨S1x1x512, .f32⟩
  | 59 => ⟨S4x2048x512, .f32⟩
  | 60 => ⟨S4x2048x512, .f32⟩
  | 61 => ⟨S4x2048x512, .f32⟩
  | 62 => ⟨S4x2048x512, .f32⟩
  | 63 => ⟨S1x512, .f32⟩
  | 64 => ⟨S512, .f32⟩
  | 65 => ⟨S1x1x512, .f32⟩
  | 66 => ⟨S4x2048x512, .f32⟩
  | 67 => ⟨S4x2048x512, .f32⟩
  | 68 => ⟨S4x2048x512, .f32⟩
  | 69 => ⟨S4x2048x512, .f32⟩
  | 70 => ⟨S1x512, .f32⟩
  | 71 => ⟨S512, .f32⟩
  | 72 => ⟨S1x1x512, .f32⟩
  | 73 => ⟨S4x2048x512, .f32⟩
  | 74 => ⟨S4x2048x512, .f32⟩
  | 75 => ⟨S4x2048x512, .f32⟩
  | 76 => ⟨S4x2048x512, .f32⟩
  | 77 => ⟨S1x512, .f32⟩
  | 78 => ⟨S512, .f32⟩
  | 79 => ⟨S1x1x512, .f32⟩
  | 80 => ⟨S4x2048x512, .f32⟩
  | 81 => ⟨S4x2048x512, .f32⟩
  | 82 => ⟨S4x2048x512, .f32⟩
  | 83 => ⟨S4x2048x512, .f32⟩
  | 84 => ⟨S1x512, .f32⟩
  | 85 => ⟨S512, .f32⟩
  | 86 => ⟨S1x1x512, .f32⟩
  | 87 => ⟨S4x2048x512, .f32⟩
  | 88 => ⟨S4x2048x512, .f32⟩
  | 89 => ⟨S4x2048x512, .f32⟩
  | 90 => ⟨S4x2048x512, .f32⟩
  | 91 => ⟨S1x512, .f32⟩
  | 92 => ⟨S512, .f32⟩
  | 93 => ⟨S1x1x512, .f32⟩
  | 94 => ⟨S4x2048x512, .f32⟩
  | 95 => ⟨S4x2048x512, .f32⟩
  | 96 => ⟨S4x2048x512, .f32⟩
  | 97 => ⟨S4x2048x512, .f32⟩
  | 98 => ⟨S1x512, .f32⟩
  | 99 => ⟨S512, .f32⟩
  | 100 => ⟨S1x1x512, .f32⟩
  | 101 => ⟨S4x2048x512, .f32⟩
  | 102 => ⟨S4x2048x512, .f32⟩
  | 103 => ⟨S4x2048x512, .f32⟩
  | 104 => ⟨S4x2048x512, .f32⟩
  | 105 => ⟨S1x512, .f32⟩
  | 106 => ⟨S512, .f32⟩
  | 107 => ⟨S1x1x512, .f32⟩
  | 108 => ⟨S4x2048x512, .f32⟩
  | 109 => ⟨S4x2048x512, .f32⟩
  | 110 => ⟨S4x2048x512, .f32⟩
  | 111 => ⟨S4x2048x512, .f32⟩
  | 112 => ⟨S1x512, .f32⟩
  | 113 => ⟨S512, .f32⟩
  | 114 => ⟨S1x1x512, .f32⟩
  | 115 => ⟨S4x2048x512, .f32⟩
  | 116 => ⟨S4x2048x512, .f32⟩
  | 117 => ⟨S4x2048x512, .f32⟩
  | 118 => ⟨S4x2048x512, .f32⟩
  | 119 => ⟨S1x512, .f32⟩
  | 120 => ⟨S512, .f32⟩
  | 121 => ⟨S1x1x512, .f32⟩
  | 122 => ⟨S4x2048x512, .f32⟩
  | 123 => ⟨S4x2048x512, .f32⟩
  | 124 => ⟨S4x2048x512, .f32⟩
  | 125 => ⟨S4x2048x512, .f32⟩
  | 126 => ⟨S1x512, .f32⟩
  | 127 => ⟨S512, .f32⟩
  | _ => ⟨S8704x512, .f32⟩

abbrev hbmTy0_1 (i : Nat) : BufTy := match i % 128 with
  | 0 => ⟨S1x1x512, .f32⟩
  | 1 => ⟨S4x2048x512, .f32⟩
  | 2 => ⟨S4x2048x512, .f32⟩
  | 3 => ⟨S4x2048x512, .f32⟩
  | 4 => ⟨S4x2048x512, .f32⟩
  | 5 => ⟨S1x512, .f32⟩
  | 6 => ⟨S512, .f32⟩
  | 7 => ⟨S1x1x512, .f32⟩
  | 8 => ⟨S4x2048x512, .f32⟩
  | 9 => ⟨S4x2048x512, .f32⟩
  | 10 => ⟨S4x2048x512, .f32⟩
  | 11 => ⟨S4x2048x512, .f32⟩
  | 12 => ⟨S1x512, .f32⟩
  | 13 => ⟨S512, .f32⟩
  | 14 => ⟨S1x1x512, .f32⟩
  | 15 => ⟨S4x2048x512, .f32⟩
  | 16 => ⟨S4x2048x512, .f32⟩
  | 17 => ⟨S4x2048x512, .f32⟩
  | 18 => ⟨S4x2048x512, .f32⟩
  | 19 => ⟨S1x512, .f32⟩
  | 20 => ⟨S512, .f32⟩
  | 21 => ⟨S1x1x512, .f32⟩
  | 22 => ⟨S4x2048x512, .f32⟩
  | 23 => ⟨S4x2048x512, .f32⟩
  | 24 => ⟨S4x2048x512, .f32⟩
  | 25 => ⟨S4x2048x512, .f32⟩
  | 26 => ⟨S1x512, .f32⟩
  | 27 => ⟨S512, .f32⟩
  | 28 => ⟨S1x1x512, .f32⟩
  | 29 => ⟨S4x2048x512, .f32⟩
  | 30 => ⟨S4x2048x512, .f32⟩
  | 31 => ⟨S4x2048x512, .f32⟩
  | 32 => ⟨S4x2048x512, .f32⟩
  | 33 => ⟨S1x512, .f32⟩
  | 34 => ⟨S512, .f32⟩
  | 35 => ⟨S1x1x512, .f32⟩
  | 36 => ⟨S4x2048x512, .f32⟩
  | 37 => ⟨S4x2048x512, .f32⟩
  | 38 => ⟨S4x2048x512, .f32⟩
  | 39 => ⟨S4x2048x512, .f32⟩
  | 40 => ⟨S1x512, .f32⟩
  | 41 => ⟨S512, .f32⟩
  | 42 => ⟨S1x1x512, .f32⟩
  | 43 => ⟨S4x2048x512, .f32⟩
  | 44 => ⟨S4x2048x512, .f32⟩
  | 45 => ⟨S4x2048x512, .f32⟩
  | 46 => ⟨S4x2048x512, .f32⟩
  | 47 => ⟨S1x512, .f32⟩
  | 48 => ⟨S512, .f32⟩
  | 49 => ⟨S1x1x512, .f32⟩
  | 50 => ⟨S4x2048x512, .f32⟩
  | 51 => ⟨S4x2048x512, .f32⟩
  | 52 => ⟨S4x2048x512, .f32⟩
  | 53 => ⟨S4x2048x512, .f32⟩
  | 54 => ⟨S1x512, .f32⟩
  | 55 => ⟨S512, .f32⟩
  | 56 => ⟨S1x1x512, .f32⟩
  | 57 => ⟨S4x2048x512, .f32⟩
  | 58 => ⟨S4x2048x512, .f32⟩
  | 59 => ⟨S4x2048x512, .f32⟩
  | 60 => ⟨S4x2048x512, .f32⟩
  | 61 => ⟨S1x512, .f32⟩
  | 62 => ⟨S512, .f32⟩
  | 63 => ⟨S1x1x512, .f32⟩
  | 64 => ⟨S4x2048x512, .f32⟩
  | 65 => ⟨S4x2048x512, .f32⟩
  | 66 => ⟨S4x2048x512, .f32⟩
  | 67 => ⟨S4x2048x512, .f32⟩
  | 68 => ⟨S1x512, .f32⟩
  | 69 => ⟨S512, .f32⟩
  | 70 => ⟨S1x1x512, .f32⟩
  | 71 => ⟨S4x2048x512, .f32⟩
  | 72 => ⟨S4x2048x512, .f32⟩
  | 73 => ⟨S4x2048x512, .f32⟩
  | 74 => ⟨S4x2048x512, .f32⟩
  | 75 => ⟨S1x512, .f32⟩
  | 76 => ⟨S512, .f32⟩
  | 77 => ⟨S1x1x512, .f32⟩
  | 78 => ⟨S4x2048x512, .f32⟩
  | 79 => ⟨S4x2048x512, .f32⟩
  | 80 => ⟨S4x2048x512, .f32⟩
  | 81 => ⟨S4x2048x512, .f32⟩
  | 82 => ⟨S1x512, .f32⟩
  | 83 => ⟨S512, .f32⟩
  | 84 => ⟨S1x1x512, .f32⟩
  | 85 => ⟨S4x2048x512, .f32⟩
  | 86 => ⟨S4x2048x512, .f32⟩
  | 87 => ⟨S4x2048x512, .f32⟩
  | 88 => ⟨S4x2048x512, .f32⟩
  | 89 => ⟨S1x512, .f32⟩
  | 90 => ⟨S512, .f32⟩
  | 91 => ⟨S1x1x512, .f32⟩
  | 92 => ⟨S4x2048x512, .f32⟩
  | 93 => ⟨S4x2048x512, .f32⟩
  | 94 => ⟨S4x2048x512, .f32⟩
  | 95 => ⟨S4x2048x512, .f32⟩
  | 96 => ⟨S1x512, .f32⟩
  | 97 => ⟨S512, .f32⟩
  | 98 => ⟨S1x1x512, .f32⟩
  | 99 => ⟨S4x2048x512, .f32⟩
  | 100 => ⟨S4x2048x512, .f32⟩
  | 101 => ⟨S4x2048x512, .f32⟩
  | 102 => ⟨S4x2048x512, .f32⟩
  | 103 => ⟨S1x512, .f32⟩
  | 104 => ⟨S512, .f32⟩
  | 105 => ⟨S1x1x512, .f32⟩
  | 106 => ⟨S4x2048x512, .f32⟩
  | 107 => ⟨S4x2048x512, .f32⟩
  | 108 => ⟨S4x2048x512, .f32⟩
  | 109 => ⟨S1x1x512, .f32⟩
  | 110 => ⟨S4x2048x512, .f32⟩
  | 111 => ⟨S4x2048x512, .f32⟩
  | 112 => ⟨S_, .f32⟩
  | 113 => ⟨S4x2048, .f32⟩
  | 114 => ⟨S4x2048x1, .f32⟩
  | 115 => ⟨S_, .f32⟩
  | 116 => ⟨S4x2048x1, .f32⟩
  | 117 => ⟨S4x2048x1, .f32⟩
  | 118 => ⟨S4x2048x512, .f32⟩
  | 119 => ⟨S4x2048x512, .f32⟩
  | 120 => ⟨S4x2048x512, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S4x2048x512, .f32⟩
  | _ => ⟨S8704x512, .f32⟩

abbrev hbmTy0_2 (i : Nat) : BufTy := match i % 128 with
  | 0 => ⟨S4x2048x512, .f32⟩
  | 1 => ⟨S_, .f32⟩
  | 2 => ⟨S4x2048x1, .f32⟩
  | 3 => ⟨S4x2048x1, .f32⟩
  | 4 => ⟨S4x2048x1, .f32⟩
  | 5 => ⟨S4x2048x512, .f32⟩
  | 6 => ⟨S4x2048x512, .f32⟩
  | 7 => ⟨S1x1x512, .f32⟩
  | 8 => ⟨S4x2048x512, .f32⟩
  | 9 => ⟨S4x2048x512, .f32⟩
  | 10 => ⟨S1x1x512, .f32⟩
  | 11 => ⟨S4x2048x512, .f32⟩
  | 12 => ⟨S4x2048x512, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S_, .f32⟩
  | 19 => ⟨S4x2048x512, .f32⟩
  | 20 => ⟨S4x2048x512, .f32⟩
  | 21 => ⟨S4x2048x512, .f32⟩
  | 22 => ⟨S8192x512, .f32⟩
  | _ => ⟨S8704x512, .f32⟩

abbrev hbmTy (i : Nat) : BufTy := match i / 128 with
  | 0 => hbmTy0_0 i
  | 1 => hbmTy0_1 i
  | 2 => hbmTy0_2 i
  | _ => ⟨S8704x512, .f32⟩

abbrev bufTy : (tb : Table) → Fin (tcTables nBuf tb) → BufTy
  | .hbm, ⟨i, _⟩ => hbmTy i
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_cst_0 : Ref sig .tc := ⟨.hbm, 240, rfl⟩
abbrev main_v232 : Ref sig .tc := ⟨.hbm, 241, rfl⟩
abbrev main_v233 : Ref sig .tc := ⟨.hbm, 242, rfl⟩
abbrev main_cst_1 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_cst_2 : Ref sig .tc := ⟨.hbm, 249, rfl⟩
abbrev main_v239 : Ref sig .tc := ⟨.hbm, 250, rfl⟩
abbrev main_v240 : Ref sig .tc := ⟨.hbm, 251, rfl⟩
abbrev main_cst_3 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_cst_4 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_call1_v0 : Ref sig .tc := ⟨.hbm, 269, rfl⟩
abbrev main_call1_v1 : Ref sig .tc := ⟨.hbm, 270, rfl⟩
abbrev main_call1_cst : Ref sig .tc := ⟨.hbm, 271, rfl⟩
abbrev main_call1_v2 : Ref sig .tc := ⟨.hbm, 272, rfl⟩
abbrev main_call1_v3 : Ref sig .tc := ⟨.hbm, 273, rfl⟩
abbrev main_call1_cst_0 : Ref sig .tc := ⟨.hbm, 274, rfl⟩
abbrev main_call1_v4 : Ref sig .tc := ⟨.hbm, 275, rfl⟩
abbrev main_call1_v5 : Ref sig .tc := ⟨.hbm, 276, rfl⟩
abbrev main_v256 : Ref sig .tc := ⟨.hbm, 277, rfl⟩
abbrev main_v257 : Ref sig .tc := ⟨.hbm, 278, rfl⟩

abbrev nD : Nat := 1
abbrev τ : Topo := Topo.v7x

variable {F : FTy → Type} [FloatOps F]
-- ==== Proof.Conv.lean ====
/- The prompts' convolution: 31 taps over each row and the rows before it, a normalisation of the sums, and
   their product with their own sigmoids. The kernel's value. -/
module
public import proofs.«01_k».proof.Proof.Gen.Kernel7Ideal.Frame
public import Idealize.ShloMosaic.Lib.Pipeline.ValueKit
public import Idealize.ShloMosaic.Lib.Claim
@[expose] public section
set_option maxRecDepth 16384
noncomputable section
namespace Cert.Conv
open Idealize.ShloMosaic

/-- A row with its mean taken off, divided by its deviation, scaled and shifted. -/
def lnorm (x g b : Fin 512 → EReal) (k : Fin 512) : EReal :=
  (x k - Ideal.div (∑ l, x l) (Ideal.ofBits FTy.f32 0x44000000#32))
    * Ideal.rsqrt (Ideal.div (∑ l, (x l - Ideal.div (∑ i, x i) (Ideal.ofBits FTy.f32 0x44000000#32)) * (x l - Ideal.div (∑ i, x i) (Ideal.ofBits FTy.f32 0x44000000#32))) (Ideal.ofBits FTy.f32 0x44000000#32) + Ideal.ofBits FTy.f32 0x358637BD#32)
    * g k + b k
/-- The normalised row times its own sigmoid. -/
def lsilu (x g b : Fin 512 → EReal) (k : Fin 512) : EReal := lnorm x g b k * Ideal.logistic (lnorm x g b k)

/-- A start and 31 terms, added one after another. -/
def acc31 (a : EReal) (f : Fin 31 → EReal) : EReal :=
  a + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30
theorem acc31_start (a : EReal) (f : Fin 31 → EReal) : acc31 (0 + a) f = acc31 0 f + a := by
  unfold acc31
  abel
end Cert.Conv

namespace Cert.Kernel7Ideal.Conv
open Cert.Kernel7Ideal Cert.Kernel7Ideal.Gen Idealize.ShloMosaic Idealize.ShloMosaic.TcCoe Idealize.SL.Sem Cert.Conv
open Idealize.ShloMosaic.Pipeline (Dat)
variable (m : (ℓ : Loc nD τ sig) → Buf (Elt Ideal) ℓ)

/-- Tap `j` at row `r` of a block: the block's row two and `j` further on, times the tap's weight. -/
def tap (v4 : FVec Ideal S288x512 .f32) (v6 : FVec Ideal S32x512 .f32) (r : Fin 256) (k : Fin 512) (j : Fin 31) : EReal :=
  v4 (ix2 (⟨(2 + j.val) + r.val, by omega⟩ : Fin 288) k) * v6 (ix2 (⟨j.val, by omega⟩ : Fin 32) k)

theorem pay1_at (v4 : FVec Ideal S288x512 .f32) (v6 : FVec Ideal S32x512 .f32) (v10 v12 : FVec Ideal S1x512 .f32) (v160 v161 : FVec Ideal S256x512 .f32) (v162 : FVec Ideal S1x512 .f32) (r : Fin 256) (k : Fin 512) :
    k0_pay1 v4 v6 v10 v12 v160 v161 v162 (ix3 0 r k) = lsilu (fun k => v160 (ix2 r k) + v161 (ix2 r k) * v162 (ix2 0 k) + tap v4 v6 r k 30) (fun l => v10 (ix2 0 l)) (fun l => v12 (ix2 0 l)) k := by
  pointwise [k0_pay1]
  rfl
theorem pay6_at (v0 : Vec Ideal S1x256x512 .f32) (v2 : Vec Ideal S1x32x512 .f32) (v5 : Vec Ideal S32x512 .f32) (v7 : Vec Ideal S1x512 .f32) (r : Fin 256) (k : Fin 512) :
    k0_pay6 v0 v2 v5 v7 (ix2 r k) = 0 + v7 (ix2 0 k) + tap (k0_pay2 v0 v2) (k0_pay3 v5) r k 0 + tap (k0_pay2 v0 v2) (k0_pay3 v5) r k 1 + tap (k0_pay2 v0 v2) (k0_pay3 v5) r k 2 + tap (k0_pay2 v0 v2) (k0_pay3 v5) r k 3 + tap (k0_pay2 v0 v2) (k0_pay3 v5) r k 4 := by
  unfold k0_pay6
  generalize k0_pay2 v0 v2 = v4
  generalize k0_pay3 v5 = v6
  pointwise
  rfl
theorem pay9_at (v4 : FVec Ideal S288x512 .f32) (v6 : FVec Ideal S32x512 .f32) (v40 v41 : FVec Ideal S256x512 .f32) (v42 : FVec Ideal S1x512 .f32) (r : Fin 256) (k : Fin 512) :
    k0_pay9 v4 v6 v40 v41 v42 (ix2 r k) = v40 (ix2 r k) + v41 (ix2 r k) * v42 (ix2 0 k) + tap v4 v6 r k 6 + tap v4 v6 r k 7 + tap v4 v6 r k 8 + tap v4 v6 r k 9 + tap v4 v6 r k 10 + tap v4 v6 r k 11 + tap v4 v6 r k 12 + tap v4 v6 r k 13 + tap v4 v6 r k 14 + tap v4 v6 r k 15 + tap v4 v6 r k 16 := by
  pointwise [k0_pay9]
  rfl
theorem pay12_at (v4 : FVec Ideal S288x512 .f32) (v6 : FVec Ideal S32x512 .f32) (v40 v41 : FVec Ideal S256x512 .f32) (v42 : FVec Ideal S1x512 .f32) (r : Fin 256) (k : Fin 512) :
    k0_pay12 v4 v6 v40 v41 v42 (ix2 r k) = v40 (ix2 r k) + v41 (ix2 r k) * v42 (ix2 0 k) + tap v4 v6 r k 18 + tap v4 v6 r k 19 + tap v4 v6 r k 20 + tap v4 v6 r k 21 + tap v4 v6 r k 22 + tap v4 v6 r k 23 + tap v4 v6 r k 24 + tap v4 v6 r k 25 + tap v4 v6 r k 26 + tap v4 v6 r k 27 + tap v4 v6 r k 28 := by
  pointwise [k0_pay12]
  rfl
theorem pay7_at (v0 : Vec Ideal S1x256x512 .f32) (v2 : Vec Ideal S1x32x512 .f32) (r : Fin 256) (k : Fin 512) : k0_pay7 v0 v2 (ix2 r k) = k0_pay2 v0 v2 (ix2 (⟨7 + r.val, by omega⟩ : Fin 288) k) := by
  pointwise [k0_pay7]
theorem pay8_at (v5 : Vec Ideal S32x512 .f32) (k : Fin 512) : k0_pay8 v5 (ix2 0 k) = k0_pay3 v5 (ix2 5 k) := by
  pointwise [k0_pay8]
theorem pay10_at (v4 : FVec Ideal S288x512 .f32) (r : Fin 256) (k : Fin 512) : k0_pay10 v4 (ix2 r k) = v4 (ix2 (⟨19 + r.val, by omega⟩ : Fin 288) k) := by
  pointwise [k0_pay10]
theorem pay11_at (v6 : FVec Ideal S32x512 .f32) (k : Fin 512) : k0_pay11 v6 (ix2 0 k) = v6 (ix2 17 k) := by
  pointwise [k0_pay11]
theorem pay13_at (v4 : FVec Ideal S288x512 .f32) (r : Fin 256) (k : Fin 512) : k0_pay13 v4 (ix2 r k) = v4 (ix2 (⟨31 + r.val, by omega⟩ : Fin 288) k) := by
  pointwise [k0_pay13]
theorem pay14_at (v6 : FVec Ideal S32x512 .f32) (k : Fin 512) : k0_pay14 v6 (ix2 0 k) = v6 (ix2 29 k) := by
  pointwise [k0_pay14]
theorem pay2_at (v0 : Vec Ideal S1x256x512 .f32) (v2 : Vec Ideal S1x32x512 .f32) (r : Fin 288) (k : Fin 512) :
    k0_pay2 v0 v2 (ix2 r k) = if h : r.val < 256 then v0 (ix3 0 ⟨r.val, h⟩ k) else v2 (ix3 0 ⟨r.val - 256, by omega⟩ k) := by
  pointwise [k0_pay2]
theorem pay3_at (v5 : Vec Ideal S32x512 .f32) (r : Fin 32) (k : Fin 512) : k0_pay3 v5 (ix2 r k) = v5 (ix2 r k) := by
  pointwise [k0_pay3]
theorem pay4_at (v5 : Vec Ideal S1x512 .f32) (k : Fin 512) : k0_pay4 v5 (ix2 0 k) = v5 (ix2 0 k) := by
  pointwise [k0_pay4]
theorem pay5_at (v5 : Vec Ideal S1x512 .f32) (k : Fin 512) : k0_pay5 v5 (ix2 0 k) = v5 (ix2 0 k) := by
  pointwise [k0_pay5]

/-- A block's result. -/
def blockOut (x0 : Vec Ideal S1x256x512 .f32) (x1 : Vec Ideal S1x32x512 .f32) (x2 : Vec Ideal S32x512 .f32) (x3 x4 x5 : Vec Ideal S1x512 .f32) : Vec Ideal S1x256x512 .f32 :=
  k0_pay1 (k0_pay2 x0 x1) (k0_pay3 x2) (k0_pay4 x4) (k0_pay5 x5)
    (k0_pay12 (k0_pay2 x0 x1) (k0_pay3 x2) (k0_pay9 (k0_pay2 x0 x1) (k0_pay3 x2) (k0_pay6 x0 x1 x2 x3) (k0_pay7 x0 x1) (k0_pay8 x2)) (k0_pay10 (k0_pay2 x0 x1)) (k0_pay11 (k0_pay3 x2)))
    (k0_pay13 (k0_pay2 x0 x1)) (k0_pay14 (k0_pay3 x2))
theorem blockOut_at (x0 : Vec Ideal S1x256x512 .f32) (x1 : Vec Ideal S1x32x512 .f32) (x2 : Vec Ideal S32x512 .f32) (x3 x4 x5 : Vec Ideal S1x512 .f32) (r : Fin 256) (k : Fin 512) :
    blockOut x0 x1 x2 x3 x4 x5 (ix3 0 r k) = lsilu (fun l => acc31 (0 + x3 (ix2 0 l)) (tap (k0_pay2 x0 x1) (k0_pay3 x2) r l)) (fun l => x4 (ix2 0 l)) (fun l => x5 (ix2 0 l)) k := by
  unfold blockOut
  rw [pay1_at]
  simp only [pay12_at, pay9_at, pay6_at, pay7_at, pay8_at, pay10_at, pay11_at, pay13_at, pay14_at, pay4_at, pay5_at]
  rfl
theorem out_eq (c : Dev nD) (t : Fin cfg0.N) : outsAt0 m c t = blockOut (X0_0 m c t) (iblk m c 1 t) (iblk m c 2 t) (iblk m c 3 t) (iblk m c 4 t) (iblk m c 5 t) := by
  unfold outsAt0 out0_A_6 blockOut
  frame_out

/-- Row `q` of a prompt's rows with 32 rows of zeros before them. -/
def before (U : FVec Ideal S8704x512 .f32) (b : Fin 4) (q : Fin 2080) (l : Fin 512) : EReal :=
  if h : 32 ≤ q.val then U (ix2 (⟨b.val * 2048 + (q.val - 32), by omega⟩ : Fin 8704) l) else 0
/-- Tap `j` of row `p` of prompt `b`. -/
def tapU (U : FVec Ideal S8704x512 .f32) (W : FVec Ideal S4x31x512 .f32) (b : Fin 4) (p : Fin 2048) (l : Fin 512) (j : Fin 31) : EReal :=
  before U b ⟨(2 + j.val) + p.val, by omega⟩ l * W (ix3 0 j l)
/-- The prompts' rows convolved, by prompt. -/
def convA (U : FVec Ideal S8704x512 .f32) (W : FVec Ideal S4x31x512 .f32) (Bi G Be : FVec Ideal S4x512 .f32) : FVec Ideal S4x2048x512 .f32 := fun y =>
  lsilu (fun l => acc31 (0 + Bi (ix2 0 l)) (tapU U W (y 0) (y 1) l)) (fun l => G (ix2 0 l)) (fun l => Be (ix2 0 l)) (y 2)
/-- The rows one below the other. -/
def flat (Z : FVec Ideal S4x2048x512 .f32) : FVec Ideal S8192x512 .f32 := shapeCast S8192x512 Z shapeCasts_S4x2048x512_S8192x512

theorem idx : ∀ t : Fin cfg0.N, win0_0.index t = ![t.val / 8, t.val % 8, 0] ∧ win0_1.index t = ![t.val / 8, (t.val % 8 + 1) * 8, 0] ∧ win0_2.index t = ![0, 0] ∧ win0_3.index t = ![0, 0] ∧ win0_4.index t = ![0, 0] ∧ win0_5.index t = ![0, 0] ∧ win0_6.index t = ![t.val / 8, t.val % 8, 0] :=
  (by decide +kernel : ∀ t : Fin grid0.N, _)
theorem t_lt (t : Fin cfg0.N) : t.val < 32 := t.isLt

/-- The prompts' rows, by prompt, with 32 rows of zeros before them. -/
def rowsOf (U : FVec Ideal S8704x512 .f32) : FVec Ideal S4x2080x512 .f32 :=
  pad S4x2080x512 ![0, 32, 0] ![0, 0, 0] ![0, 0, 0] (shapeCast S4x2048x512 (extractStridedSlice S8192x512 ![0, 0] U slices_S8704x512_S8192x512_0_0) shapeCasts_S8192x512_S4x2048x512) (sitofp .f32 (constantI S_ 32 0#32)) pads_S4x2048x512_S4x2080x512_000_3200_000 h_S_
/-- The taps' weights, with one row of zeros after them. -/
def wOf (W : FVec Ideal S4x31x512 .f32) : FVec Ideal S32x512 .f32 :=
  pad S32x512 ![0, 0] ![1, 0] ![0, 0] (shapeCast S31x512 (extractStridedSlice S1x31x512 ![0, 0, 0] W slices_S4x31x512_S1x31x512_0_0_0) shapeCasts_S1x31x512_S31x512) (sitofp .f32 (constantI S_ 32 0#32)) pads_S31x512_S32x512_010_000 h_S_
theorem rowsOf_at (U : FVec Ideal S8704x512 .f32) (b : Fin 4) (q : Fin 2080) (l : Fin 512) : rowsOf U (ix3 b q l) = before U b q l := by
  unfold before
  have e0 : (FloatOps.sitofp (F := Ideal) FTy.f32 0#32 : EReal) = 0 := by
    show ((((0#32 : BitVec 32).toInt : ℤ) : ℝ) : EReal) = 0
    simp
  pointwise [rowsOf]
  by_cases h : 32 ≤ q.val
  · rw [dif_pos h, dif_pos ⟨h, by omega⟩]
  · rw [dif_neg h, dif_neg fun h' => h h'.1]
    exact e0
theorem wOf_at (W : FVec Ideal S4x31x512 .f32) (j : Fin 31) (l : Fin 512) : wOf W (ix2 (⟨j.val, by omega⟩ : Fin 32) l) = W (ix3 0 j l) := by
  pointwise [wOf]
theorem rows_entry (c : Dev nD) : V m c main_v5 = rowsOf (m ((c : Thread nD τ).loc main_arg0)) := by
  entry_read
  rfl
theorem rows_at (c : Dev nD) (b : Fin 4) (q : Fin 2080) (l : Fin 512) : V m c main_v5 (ix3 b q l) = before (m ((c : Thread nD τ).loc main_arg0)) b q l := by
  rw [rows_entry]
  exact rowsOf_at _ b q l
theorem w_entry (c : Dev nD) : V m c main_v2 = wOf (m ((c : Thread nD τ).loc main_arg1)) := by
  entry_read
  rfl
theorem w_at (c : Dev nD) (t : Fin cfg0.N) (j : Fin 31) (l : Fin 512) : iblk m c 2 t (ix2 (⟨j.val, by omega⟩ : Fin 32) l) = m ((c : Thread nD τ).loc main_arg1) (ix3 0 j l) := by
  have e' : iblk m c 2 t (ix2 (⟨j.val, by omega⟩ : Fin 32) l) = V m c main_v2 (ix2 (⟨j.val, by omega⟩ : Fin 32) l) := by
    blk_ext [iblk, idx t]
  rw [e', w_entry]
  exact wOf_at _ j l
theorem b_at (c : Dev nD) (t : Fin cfg0.N) (l : Fin 512) : iblk m c 3 t (ix2 0 l) = m ((c : Thread nD τ).loc main_arg2) (ix2 0 l) := by
  have e : V m c main_v8 = broadcastInDim S1x512 ![1] bcast_S512_S1x512_1 (shapeCast S512 (extractStridedSlice S1x512 ![0, 0] (m ((c : Thread nD τ).loc main_arg2)) slices_S4x512_S1x512_0_0) shapeCasts_S1x512_S512) := by
    entry_read
    rfl
  have e' : iblk m c 3 t (ix2 0 l) = V m c main_v8 (ix2 0 l) := by
    blk_ext [iblk, idx t]
  rw [e', e]
  pointwise
theorem g_at (c : Dev nD) (t : Fin cfg0.N) (l : Fin 512) : iblk m c 4 t (ix2 0 l) = m ((c : Thread nD τ).loc main_arg3) (ix2 0 l) := by
  have e : V m c main_v11 = broadcastInDim S1x512 ![1] bcast_S512_S1x512_1 (shapeCast S512 (extractStridedSlice S1x512 ![0, 0] (m ((c : Thread nD τ).loc main_arg3)) slices_S4x512_S1x512_0_0) shapeCasts_S1x512_S512) := by
    entry_read
    rfl
  have e' : iblk m c 4 t (ix2 0 l) = V m c main_v11 (ix2 0 l) := by
    blk_ext [iblk, idx t]
  rw [e', e]
  pointwise
theorem e_at (c : Dev nD) (t : Fin cfg0.N) (l : Fin 512) : iblk m c 5 t (ix2 0 l) = m ((c : Thread nD τ).loc main_arg4) (ix2 0 l) := by
  have e : V m c main_v14 = broadcastInDim S1x512 ![1] bcast_S512_S1x512_1 (shapeCast S512 (extractStridedSlice S1x512 ![0, 0] (m ((c : Thread nD τ).loc main_arg4)) slices_S4x512_S1x512_0_0) shapeCasts_S1x512_S512) := by
    entry_read
    rfl
  have e' : iblk m c 5 t (ix2 0 l) = V m c main_v14 (ix2 0 l) := by
    blk_ext [iblk, idx t]
  rw [e', e]
  pointwise

theorem main_at (c : Dev nD) (t : Fin cfg0.N) (r : Fin 256) (l : Fin 512) :
    X0_0 m c t (ix3 0 r l) = V m c main_v5 (ix3 (⟨t.val / 8, by have := t_lt t; omega⟩ : Fin 4) (⟨t.val % 8 * 256 + r.val, by have := t_lt t; omega⟩ : Fin 2080) l) := by
  unfold X0_0 Pipeline.Window.fill
  rw [dif_pos (moved0_0 t _)]
  blk_ext [iblk, idx t]
theorem halo_at (c : Dev nD) (t : Fin cfg0.N) (r : Fin 32) (l : Fin 512) :
    iblk m c 1 t (ix3 0 r l) = V m c main_v5 (ix3 (⟨t.val / 8, by have := t_lt t; omega⟩ : Fin 4) (⟨(t.val % 8 + 1) * 256 + r.val, by have := t_lt t; omega⟩ : Fin 2080) l) := by
  blk_ext [iblk, idx t]

theorem tap_eq (c : Dev nD) (t : Fin cfg0.N) (r : Fin 256) (l : Fin 512) (j : Fin 31) :
    tap (k0_pay2 (X0_0 m c t) (iblk m c 1 t)) (k0_pay3 (iblk m c 2 t)) r l j
      = tapU (m ((c : Thread nD τ).loc main_arg0)) (m ((c : Thread nD τ).loc main_arg1)) (⟨t.val / 8, by have := t_lt t; omega⟩ : Fin 4) (⟨t.val % 8 * 256 + r.val, by omega⟩ : Fin 2048) l j := by
  unfold tap tapU
  rw [pay3_at, pay2_at]
  refine congrArg₂ (fun a b : EReal => a * b) ?_ (w_at m c t j l)
  by_cases h : (2 + j.val) + r.val < 256
  · rw [dif_pos h, main_at, rows_at]
    exact congrArg (fun q => before _ _ q l) (Fin.ext (by simp only; omega))
  · rw [dif_neg h, halo_at, rows_at]
    exact congrArg (fun q => before _ _ q l) (Fin.ext (by simp only; omega))
theorem point (c : Dev nD) (t : Fin cfg0.N) (a : Fin 1) (r : Fin 256) (k : Fin 512) (z : S4x2048x512.Idx) (hz0 : (z 0).val = t.val / 8) (hz1 : (z 1).val = t.val % 8 * 256 + r.val) (hz2 : (z 2).val = k.val) :
    outsAt0 m c t (ix3 a r k) = convA (m ((c : Thread nD τ).loc main_arg0)) (m ((c : Thread nD τ).loc main_arg1)) (m ((c : Thread nD τ).loc main_arg2)) (m ((c : Thread nD τ).loc main_arg3)) (m ((c : Thread nD τ).loc main_arg4)) z := by
  obtain rfl : a = 0 := Subsingleton.elim _ _
  rw [out_eq, blockOut_at]
  have e0 : z 0 = (⟨t.val / 8, by have := t_lt t; omega⟩ : Fin 4) := Fin.ext hz0
  have e1 : z 1 = (⟨t.val % 8 * 256 + r.val, by omega⟩ : Fin 2048) := Fin.ext hz1
  have e2 : z 2 = k := Fin.ext hz2
  unfold convA
  rw [e0, e1, e2]
  rw [show (fun l => acc31 (0 + iblk m c 3 t (ix2 0 l)) (tap (k0_pay2 (X0_0 m c t) (iblk m c 1 t)) (k0_pay3 (iblk m c 2 t)) r l)) = _ from
    funext fun l => congrArg₂ (fun a b => acc31 (0 + a) b) (b_at m c t l) (funext fun j => tap_eq m c t r l j)]
  rw [show (fun l => iblk m c 4 t (ix2 0 l)) = _ from funext fun l => g_at m c t l, show (fun l => iblk m c 5 t (ix2 0 l)) = _ from funext fun l => e_at m c t l]
theorem region (c : Dev nD) : (dats m 0 c).arrAt 6 cfg0.N = convA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  idx_vars y
  refine point m c t _ _ _ _ ?_ ?_ ?_
  all_goals blk_simp [idx t]
theorem shared_in : ∀ w w' : Fin cfg0.W, w ≠ w' → Pipeline.arrRef spec0 w = Pipeline.arrRef spec0 w' → (cfg0.win w).isOut = false := by
  decide
theorem tail_out (c : Dev nD) : Pipeline.afterTail₀ cfgs (dats m) 0 (V0 m) [hostOps1] c main_v16 = flat ((dats m 0 c).arrAt 6 cfg0.N) := by
  unfold Pipeline.afterTail₀
  have e : Pipeline.withArrays (cfgs 0).spec c (V0 m c) (fun w => (dats m 0 c).arrAt w (cfgs 0).N) (Proc.tc.devRef main_v15) = (dats m 0 c).arrAt 6 cfg0.N :=
    Pipeline.withArrays_arr_shared spec0 c (V0 m c) (fun w => (dats m 0 c).arrAt w (cfgs 0).N) (fun w w' hne e => ((dats m 0 c).arrAt_in w (shared_in w w' hne e) _).trans (A_eq m c w)) 6
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl
theorem run_final (g : Dev nD → PrngReg) : θ_run (defs (F := Ideal)) (onTc (τ := τ) (main (F := Ideal))) ⟨m, fun _ => 0, g⟩ (fun r => ∀ c : Dev nD,
      r.2.mem ((c.tc : Thread nD τ).loc main_v16) = flat (convA (m ((c : Thread nD τ).loc main_arg0)) (m ((c : Thread nD τ).loc main_arg1)) (m ((c : Thread nD τ).loc main_arg2)) (m ((c : Thread nD τ).loc main_arg3)) (m ((c : Thread nD τ).loc main_arg4)))) := by
  run_from Gen.run_main m g
  rw [tail_out, region]
end Cert.Kernel7Ideal.Conv
end
-- ==== Proof.ConvRef.lean ====
module
public import proofs.«01_k».proof.Proof.Gen.Reference7Ideal.Run
public import proofs.«01_k».proof.Proof.Conv
@[expose] public section
set_option maxRecDepth 16384
noncomputable section
namespace Cert.Reference7Ideal.Conv
open Cert.Reference7Ideal Cert.Reference7Ideal.Gen Idealize.ShloMosaic Idealize.ShloMosaic.TcCoe Idealize.SL.Sem Cert.Conv

/-- The prompts' rows with 30 rows of zeros before them. -/
def buf (U : FVec Ideal S8704x512 .f32) : FVec Ideal S4x2078x512 .f32 :=
  pad S4x2078x512 ![0, 30, 0] ![0, 0, 0] ![0, 0, 0] (shapeCast _ (extractStridedSlice S8192x512 ![0, 0] U slices_S8704x512_S8192x512_0_0) shapeCasts_S8192x512_S4x2048x512) (sitofp .f32 (constantI S_ 32 0#32)) pads_S4x2048x512_S4x2078x512_000_3000_000 h_S_
/-- The taps' weights. -/
def wts (W : FVec Ideal S4x31x512 .f32) : FVec Ideal S31x512 .f32 :=
  shapeCast _ (extractStridedSlice S1x31x512 ![0, 0, 0] W slices_S4x31x512_S1x31x512_0_0_0) shapeCasts_S1x31x512_S31x512
/-- The first taps. -/
def sumA (B : FVec Ideal S4x2078x512 .f32) (w : FVec Ideal S31x512 .f32) : FVec Ideal S4x2048x512 .f32 :=
  addf (addf (addf (addf (addf (addf (addf (addf (addf (addf (addf (broadcastInDim S4x2048x512 ![] bcast_S_S4x2048x512 (constant S_ .f32 0x00000000#32)) (mulf (extractStridedSlice S4x2048x512 ![0, 0, 0] B slices_S4x2078x512_S4x2048x512_0_0_0) (broadcastInDim S4x2048x512 ![0, 1, 2] bcast_S1x1x512_S4x2048x512_0_1_2 (broadcastInDim S1x1x512 ![2] bcast_S512_S1x1x512_2 (shapeCast _ (extractStridedSlice S1x512 ![0, 0] w slices_S31x512_S1x512_0_0) shapeCasts_S1x512_S512))))) (mulf (extractStridedSlice S4x2048x512 ![0, 1, 0] B slices_S4x2078x512_S4x2048x512_0_1_0) (broadcastInDim S4x2048x512 ![0, 1, 2] bcast_S1x1x512_S4x2048x512_0_1_2 (broadcastInDim S1x1x512 ![2] bcast_S512_S1x1x512_2 (shapeCast _ (extractStridedSlice S1x512 ![1, 0] w slices_S31x512_S1x512_1_0) shapeCasts_S1x512_S512))))) (mulf (extractStridedSlice S4x2048x512 ![0, 2, 0] B slices_S4x2078x512_S4x2048x512_0_2_0) (broadcastInDim S4x2048x512 ![0, 1, 2] bcast_S1x1x512_S4x2048x512_0_1_2 (broadcastInDim S1x1x512 ![2] bcast_S512_S1x1x512_2 (shapeCast _ (extractStridedSlice S1x512 ![2, 0] w slices_S31x512_S1x512_2_0) shapeCasts_S1x512_S512))))) (mulf (extractStridedSlice S4x2048x512 ![0, 3, 0] B slices_S4x2078x512_S4x2048x512_0_3_0) (broadcastInDim S4x2048x512 ![0, 1, 2] bcast_S1x1x512_S4x2048x512_0_1_2 (broadcastInDim S1x1x512 ![2] bcast_S512_S1x1x512_2 (shapeCast _ (extractStridedSlice S1x512 ![3, 0] w slices_S31x512_S1x512_3_0) shapeCasts_S1x512_S512))))) (mulf (extractStridedSlice S4x2048x512 ![0, 4, 0] B slices_S4x2078x512_S4x2048x512_0_4_0) (broadcastInDim S4x2048x512 ![0, 1, 2] bcast_S1x1x512_S4x2048x512_0_1_2 (broadcastInDim S1x1x512 ![2] bcast_S512_S1x1x512_2 (shapeCast _ (extractStridedSlice S1x512 ![4, 0] w slices_S31x512_S1x512_4_0) shapeCasts_S1x512_S512))))) (mulf (extractStridedSlice S4x2048x512 ![0, 5, 0] B slices_S4x2078x512_S4x2048x512_0_5_0) (broadcastInDim S4x2048x512 ![0, 1, 2] bcast_S1x1x512_S4x2048x512_0_1_2 (broadcastInDim S1x1x512 ![2] bcast_S512_S1x1x512_2 (shapeCast _ (extractStridedSlice S1x512 ![5, 0] w slices_S31x512_S1x512_5_0) shapeCasts_S1x512_S512))))) (mulf (extractStridedSlice S4x2048x512 ![0, 6, 0] B slices_S4x2078x512_S4x2048x512_0_6_0) (broadcastInDim S4x2048x512 ![0, 1, 2] bcast_S1x1x512_S4x2048x512_0_1_2 (broadcastInDim S1x1x512 ![2] bcast_S512_S1x1x512_2 (shapeCast _ (extractStridedSlice S1x512 ![6, 0] w slices_S31x512_S1x512_6_0) shapeCasts_S1x512_S512))))) (mulf (extractStridedSlice S4x2048x512 ![0, 7, 0] B slices_S4x2078x512_S4x2048x512_0_7_0) (broadcastInDim S4x2048x512 ![0, 1, 2] bcast_S1x1x512_S4x2048x512_0_1_2 (broadcastInDim S1x1x512 ![2] bcast_S512_S1x1x512_2 (shapeCast _ (extractStridedSlice S1x512 ![7, 0] w slices_S31x512_S1x512_7_0) shapeCasts_S1x512_S512))))) (mulf (extractStridedSlice S4x2048x512 ![0, 8, 0] B slices_S4x2078x512_S4x2048x512_0_8_0) (broadcastInDim S4x2048x512 ![0, 1, 2] bcast_S1x1x512_S4x2048x512_0_1_2 (broadcastInDim S1x1x512 ![2] bcast_S512_S1x1x512_2 (shapeCast _ (extractStridedSlice S1x512 ![8, 0] w slices_S31x512_S1x512_8_0) shapeCasts_S1x512_S512))))) (mulf (extractStridedSlice S4x2048x512 ![0, 9, 0] B slices_S4x2078x512_S4x2048x512_0_9_0) (broadcastInDim S4x2048x512 ![0, 1, 2] bcast_S1x1x512_S4x2048x512_0_1_2 (broadcastInDim S1x1x512 ![2] bcast_S512_S1x1x512_2 (shapeCast _ (extractStridedSlice S1x512 ![9, 0] w slices_S31x512_S1x512_9_0) shapeCasts_S1x512_S512))))) (mulf (extractStridedSlice S4x2048x512 ![0, 10, 0] B slices_S4x2078x512_S4x2048x512_0_10_0) (broadcastInDim S4x2048x512 ![0, 1, 2] bcast_S1x1x512_S4x2048x512_0_1_2 (broadcastInDim S1x1x512 ![2] bcast_S512_S1x1x512_2 (shapeCast _ (extractStridedSlice S1x512 ![10, 0] w slices_S31x512_S1x512_10_0) shapeCasts_S1x512_S512))))
/-- The taps in the middle added. -/
def sumB (s : FVec Ideal S4x2048x512 .f32) (B : FVec Ideal S4x2078x512 .f32) (w : FVec Ideal S31x512 .f32) : FVec Ideal S4x2048x512 .f32 :=
  addf (addf (addf (addf (addf (addf (addf (addf (addf (addf (addf (addf s (mulf (extractStridedSlice S4x2048x512 ![0, 11, 0] B slices_S4x2078x512_S4x2048x512_0_11_0) (broadcastInDim S4x2048x512 ![0, 1, 2] bcast_S1x1x512_S4x2048x512_0_1_2 (broadcastInDim S1x1x512 ![2] bcast_S512_S1x1x512_2 (shapeCast _ (extractStridedSlice S1x512 ![11, 0] w slices_S31x512_S1x512_11_0) shapeCasts_S1x512_S512))))) (mulf (extractStridedSlice S4x2048x512 ![0, 12, 0] B slices_S4x2078x512_S4x2048x512_0_12_0) (broadcastInDim S4x2048x512 ![0, 1, 2] bcast_S1x1x512_S4x2048x512_0_1_2 (broadcastInDim S1x1x512 ![2] bcast_S512_S1x1x512_2 (shapeCast _ (extractStridedSlice S1x512 ![12, 0] w slices_S31x512_S1x512_12_0) shapeCasts_S1x512_S512))))) (mulf (extractStridedSlice S4x2048x512 ![0, 13, 0] B slices_S4x2078x512_S4x2048x512_0_13_0) (broadcastInDim S4x2048x512 ![0, 1, 2] bcast_S1x1x512_S4x2048x512_0_1_2 (broadcastInDim S1x1x512 ![2] bcast_S512_S1x1x512_2 (shapeCast _ (extractStridedSlice S1x512 ![13, 0] w slices_S31x512_S1x512_13_0) shapeCasts_S1x512_S512))))) (mulf (extractStridedSlice S4x2048x512 ![0, 14, 0] B slices_S4x2078x512_S4x2048x512_0_14_0) (broadcastInDim S4x2048x512 ![0, 1, 2] bcast_S1x1x512_S4x2048x512_0_1_2 (broadcastInDim S1x1x512 ![2] bcast_S512_S1x1x512_2 (shapeCast _ (extractStridedSlice S1x512 ![14, 0] w slices_S31x512_S1x512_14_0) shapeCasts_S1x512_S512))))) (mulf (extractStridedSlice S4x2048x512 ![0, 15, 0] B slices_S4x2078x512_S4x2048x512_0_15_0) (broadcastInDim S4x2048x512 ![0, 1, 2] bcast_S1x1x512_S4x2048x512_0_1_2 (broadcastInDim S1x1x512 ![2] bcast_S512_S1x1x512_2 (shapeCast _ (extractStridedSlice S1x512 ![15, 0] w slices_S31x512_S1x512_15_0) shapeCasts_S1x512_S512))))) (mulf (extractStridedSlice S4x2048x512 ![0, 16, 0] B slices_S4x2078x512_S4x2048x512_0_16_0) (broadcastInDim S4x2048x512 ![0, 1, 2] bcast_S1x1x512_S4x2048x512_0_1_2 (broadcastInDim S1x1x512 ![2] bcast_S512_S1x1x512_2 (shapeCast _ (extractStridedSlice S1x512 ![16, 0] w slices_S31x512_S1x512_16_0) shapeCasts_S1x512_S512))))) (mulf (extractStridedSlice S4x2048x512 ![0, 17, 0] B slices_S4x2078x512_S4x2048x512_0_17_0) (broadcastInDim S4x2048x512 ![0, 1, 2] bcast_S1x1x512_S4x2048x512_0_1_2 (broadcastInDim S1x1x512 ![2] bcast_S512_S1x1x512_2 (shapeCast _ (extractStridedSlice S1x512 ![17, 0] w slices_S31x512_S1x512_17_0) shapeCasts_S1x512_S512))))) (mulf (extractStridedSlice S4x2048x512 ![0, 18, 0] B slices_S4x2078x512_S4x2048x512_0_18_0) (broadcastInDim S4x2048x512 ![0, 1, 2] bcast_S1x1x512_S4x2048x512_0_1_2 (broadcastInDim S1x1x512 ![2] bcast_S512_S1x1x512_2 (shapeCast _ (extractStridedSlice S1x512 ![18, 0] w slices_S31x512_S1x512_18_0) shapeCasts_S1x512_S512))))) (mulf (extractStridedSlice S4x2048x512 ![0, 19, 0] B slices_S4x2078x512_S4x2048x512_0_19_0) (broadcastInDim S4x2048x512 ![0, 1, 2] bcast_S1x1x512_S4x2048x512_0_1_2 (broadcastInDim S1x1x512 ![2] bcast_S512_S1x1x512_2 (shapeCast _ (extractStridedSlice S1x512 ![19, 0] w slices_S31x512_S1x512_19_0) shapeCasts_S1x512_S512))))) (mulf (extractStridedSlice S4x2048x512 ![0, 20, 0] B slices_S4x2078x512_S4x2048x512_0_20_0) (broadcastInDim S4x2048x512 ![0, 1, 2] bcast_S1x1x512_S4x2048x512_0_1_2 (broadcastInDim S1x1x512 ![2] bcast_S512_S1x1x512_2 (shapeCast _ (extractStridedSlice S1x512 ![20, 0] w slices_S31x512_S1x512_20_0) shapeCasts_S1x512_S512))))) (mulf (extractStridedSlice S4x2048x512 ![0, 21, 0] B slices_S4x2078x512_S4x2048x512_0_21_0) (broadcastInDim S4x2048x512 ![0, 1, 2] bcast_S1x1x512_S4x2048x512_0_1_2 (broadcastInDim S1x1x512 ![2] bcast_S512_S1x1x512_2 (shapeCast _ (extractStridedSlice S1x512 ![21, 0] w slices_S31x512_S1x512_21_0) shapeCasts_S1x512_S512))))) (mulf (extractStridedSlice S4x2048x512 ![0, 22, 0] B slices_S4x2078x512_S4x2048x512_0_22_0) (broadcastInDim S4x2048x512 ![0, 1, 2] bcast_S1x1x512_S4x2048x512_0_1_2 (broadcastInDim S1x1x512 ![2] bcast_S512_S1x1x512_2 (shapeCast _ (extractStridedSlice S1x512 ![22, 0] w slices_S31x512_S1x512_22_0) shapeCasts_S1x512_S512))))
/-- The last taps and the bias added. -/
def sumC (s : FVec Ideal S4x2048x512 .f32) (B : FVec Ideal S4x2078x512 .f32) (w : FVec Ideal S31x512 .f32) (Bi : FVec Ideal S4x512 .f32) : FVec Ideal S4x2048x512 .f32 :=
  addf (addf (addf (addf (addf (addf (addf (addf (addf s (mulf (extractStridedSlice S4x2048x512 ![0, 23, 0] B slices_S4x2078x512_S4x2048x512_0_23_0) (broadcastInDim S4x2048x512 ![0, 1, 2] bcast_S1x1x512_S4x2048x512_0_1_2 (broadcastInDim S1x1x512 ![2] bcast_S512_S1x1x512_2 (shapeCast _ (extractStridedSlice S1x512 ![23, 0] w slices_S31x512_S1x512_23_0) shapeCasts_S1x512_S512))))) (mulf (extractStridedSlice S4x2048x512 ![0, 24, 0] B slices_S4x2078x512_S4x2048x512_0_24_0) (broadcastInDim S4x2048x512 ![0, 1, 2] bcast_S1x1x512_S4x2048x512_0_1_2 (broadcastInDim S1x1x512 ![2] bcast_S512_S1x1x512_2 (shapeCast _ (extractStridedSlice S1x512 ![24, 0] w slices_S31x512_S1x512_24_0) shapeCasts_S1x512_S512))))) (mulf (extractStridedSlice S4x2048x512 ![0, 25, 0] B slices_S4x2078x512_S4x2048x512_0_25_0) (broadcastInDim S4x2048x512 ![0, 1, 2] bcast_S1x1x512_S4x2048x512_0_1_2 (broadcastInDim S1x1x512 ![2] bcast_S512_S1x1x512_2 (shapeCast _ (extractStridedSlice S1x512 ![25, 0] w slices_S31x512_S1x512_25_0) shapeCasts_S1x512_S512))))) (mulf (extractStridedSlice S4x2048x512 ![0, 26, 0] B slices_S4x2078x512_S4x2048x512_0_26_0) (broadcastInDim S4x2048x512 ![0, 1, 2] bcast_S1x1x512_S4x2048x512_0_1_2 (broadcastInDim S1x1x512 ![2] bcast_S512_S1x1x512_2 (shapeCast _ (extractStridedSlice S1x512 ![26, 0] w slices_S31x512_S1x512_26_0) shapeCasts_S1x512_S512))))) (mulf (extractStridedSlice S4x2048x512 ![0, 27, 0] B slices_S4x2078x512_S4x2048x512_0_27_0) (broadcastInDim S4x2048x512 ![0, 1, 2] bcast_S1x1x512_S4x2048x512_0_1_2 (broadcastInDim S1x1x512 ![2] bcast_S512_S1x1x512_2 (shapeCast _ (extractStridedSlice S1x512 ![27, 0] w slices_S31x512_S1x512_27_0) shapeCasts_S1x512_S512))))) (mulf (extractStridedSlice S4x2048x512 ![0, 28, 0] B slices_S4x2078x512_S4x2048x512_0_28_0) (broadcastInDim S4x2048x512 ![0, 1, 2] bcast_S1x1x512_S4x2048x512_0_1_2 (broadcastInDim S1x1x512 ![2] bcast_S512_S1x1x512_2 (shapeCast _ (extractStridedSlice S1x512 ![28, 0] w slices_S31x512_S1x512_28_0) shapeCasts_S1x512_S512))))) (mulf (extractStridedSlice S4x2048x512 ![0, 29, 0] B slices_S4x2078x512_S4x2048x512_0_29_0) (broadcastInDim S4x2048x512 ![0, 1, 2] bcast_S1x1x512_S4x2048x512_0_1_2 (broadcastInDim S1x1x512 ![2] bcast_S512_S1x1x512_2 (shapeCast _ (extractStridedSlice S1x512 ![29, 0] w slices_S31x512_S1x512_29_0) shapeCasts_S1x512_S512))))) (mulf (extractStridedSlice S4x2048x512 ![0, 30, 0] B slices_S4x2078x512_S4x2048x512_0_30_0) (broadcastInDim S4x2048x512 ![0, 1, 2] bcast_S1x1x512_S4x2048x512_0_1_2 (broadcastInDim S1x1x512 ![2] bcast_S512_S1x1x512_2 (shapeCast _ (extractStridedSlice S1x512 ![30, 0] w slices_S31x512_S1x512_30_0) shapeCasts_S1x512_S512))))) (broadcastInDim S4x2048x512 ![0, 1, 2] bcast_S1x1x512_S4x2048x512_0_1_2 (broadcastInDim S1x1x512 ![2] bcast_S512_S1x1x512_2 (shapeCast _ (extractStridedSlice S1x512 ![0, 0] Bi slices_S4x512_S1x512_0_0) shapeCasts_S1x512_S512)))
/-- Each row's mean. -/
def mean (x : FVec Ideal S4x2048x512 .f32) : FVec Ideal S4x2048x1 .f32 :=
  Host.divf (broadcastInDim S4x2048x1 ![0, 1] bcast_S4x2048_S4x2048x1_0_1 (Host.reduceAdd x (constant S_ .f32 0x00000000#32) reducesTo_S4x2048x512_S4x2048_d2 h_S_)) (broadcastInDim S4x2048x1 ![] bcast_S_S4x2048x1 (constant S_ .f32 0x44000000#32))
/-- Each row with its mean taken off. -/
def cen (x : FVec Ideal S4x2048x512 .f32) : FVec Ideal S4x2048x512 .f32 :=
  subf x (broadcastInDim S4x2048x512 ![0, 1, 2] bcast_S4x2048x1_S4x2048x512_0_1_2 (mean x))
/-- Each row normalised. -/
def norm (x : FVec Ideal S4x2048x512 .f32) (G Be : FVec Ideal S4x512 .f32) : FVec Ideal S4x2048x512 .f32 :=
  addf (mulf (mulf (subf x (broadcastInDim S4x2048x512 ![0, 1, 2] bcast_S4x2048x1_S4x2048x512_0_1_2 (mean x))) (broadcastInDim S4x2048x512 ![0, 1, 2] bcast_S4x2048x1_S4x2048x512_0_1_2 (Host.rsqrt (addf (Host.divf (broadcastInDim S4x2048x1 ![0, 1] bcast_S4x2048_S4x2048x1_0_1 (Host.reduceAdd (mulf (cen x) (cen x)) (constant S_ .f32 0x00000000#32) reducesTo_S4x2048x512_S4x2048_d2 h_S_)) (broadcastInDim S4x2048x1 ![] bcast_S_S4x2048x1 (constant S_ .f32 0x44000000#32))) (broadcastInDim S4x2048x1 ![] bcast_S_S4x2048x1 (constant S_ .f32 0x358637BD#32)))))) (broadcastInDim S4x2048x512 ![0, 1, 2] bcast_S1x1x512_S4x2048x512_0_1_2 (broadcastInDim S1x1x512 ![2] bcast_S512_S1x1x512_2 (shapeCast _ (extractStridedSlice S1x512 ![0, 0] G slices_S4x512_S1x512_0_0) shapeCasts_S1x512_S512)))) (broadcastInDim S4x2048x512 ![0, 1, 2] bcast_S1x1x512_S4x2048x512_0_1_2 (broadcastInDim S1x1x512 ![2] bcast_S512_S1x1x512_2 (shapeCast _ (extractStridedSlice S1x512 ![0, 0] Be slices_S4x512_S1x512_0_0) shapeCasts_S1x512_S512)))
/-- Each value times its sigmoid, the rows one below the other. -/
def out (x : FVec Ideal S4x2048x512 .f32) : FVec Ideal S8192x512 .f32 :=
  shapeCast _ (mulf x (Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf x))))) shapeCasts_S4x2048x512_S8192x512

variable (U : FVec Ideal S8704x512 .f32) (W : FVec Ideal S4x31x512 .f32) (Bi G Be : FVec Ideal S4x512 .f32) (s x : FVec Ideal S4x2048x512 .f32) (B : FVec Ideal S4x2078x512 .f32) (w : FVec Ideal S31x512 .f32)
  (b : Fin 4) (p : Fin 2048) (l : Fin 512)

/-- Tap `j` of row `p` of prompt `b`. -/
def tapR (j : Fin 31) : EReal := B (ix3 b (⟨j.val + p.val, by omega⟩ : Fin 2078) l) * w (ix2 j l)

theorem buf_at (q : Fin 2078) : buf U (ix3 b q l) = if h : 30 ≤ q.val then U (ix2 (⟨b.val * 2048 + (q.val - 30), by omega⟩ : Fin 8704) l) else 0 := by
  have e0 : (FloatOps.sitofp (F := Ideal) FTy.f32 0#32 : EReal) = 0 := by
    show ((((0#32 : BitVec 32).toInt : ℤ) : ℝ) : EReal) = 0
    simp
  pointwise [buf]
  by_cases h : 30 ≤ q.val
  · rw [dif_pos h, dif_pos ⟨h, by omega⟩]
  · rw [dif_neg h, dif_neg fun h' => h h'.1]
    exact e0
theorem wts_at (j : Fin 31) : wts W (ix2 j l) = W (ix3 0 j l) := by
  pointwise [wts]
theorem sumA_at : sumA B w (ix3 b p l) = 0 + tapR B w b p l 0 + tapR B w b p l 1 + tapR B w b p l 2 + tapR B w b p l 3 + tapR B w b p l 4 + tapR B w b p l 5 + tapR B w b p l 6 + tapR B w b p l 7 + tapR B w b p l 8 + tapR B w b p l 9 + tapR B w b p l 10 := by
  have e : tapR B w b p l 0 = B (ix3 b (⟨p.val, by omega⟩ : Fin 2078) l) * w (ix2 0 l) :=
    congrArg (fun q : Fin 2078 => B (ix3 b q l) * w (ix2 0 l)) (Fin.ext (Nat.zero_add p.val))
  rw [e]
  pointwise [sumA]
  rfl
theorem sumB_at : sumB s B w (ix3 b p l) = s (ix3 b p l) + tapR B w b p l 11 + tapR B w b p l 12 + tapR B w b p l 13 + tapR B w b p l 14 + tapR B w b p l 15 + tapR B w b p l 16 + tapR B w b p l 17 + tapR B w b p l 18 + tapR B w b p l 19 + tapR B w b p l 20 + tapR B w b p l 21 + tapR B w b p l 22 := by
  pointwise [sumB]
  rfl
theorem sumC_at : sumC s B w Bi (ix3 b p l) = s (ix3 b p l) + tapR B w b p l 23 + tapR B w b p l 24 + tapR B w b p l 25 + tapR B w b p l 26 + tapR B w b p l 27 + tapR B w b p l 28 + tapR B w b p l 29 + tapR B w b p l 30 + Bi (ix2 0 l) := by
  pointwise [sumC]
  rfl
theorem mean_at : mean x (ix3 b p 0) = Ideal.div (∑ l, x (ix3 b p l)) (Ideal.ofBits FTy.f32 0x44000000#32) := by
  pointwise [mean]
theorem cen_at : cen x (ix3 b p l) = x (ix3 b p l) - mean x (ix3 b p 0) := by
  pointwise [cen]
theorem norm_at : norm x G Be (ix3 b p l) = lnorm (fun l => x (ix3 b p l)) (fun l => G (ix2 0 l)) (fun l => Be (ix2 0 l)) l := by
  unfold norm
  generalize hm : mean x = mn
  generalize hc : cen x = cn
  pointwise
  subst hm hc
  simp only [cen_at, mean_at]
  rfl
theorem out_at (i : Fin 8192) : out x (ix2 i l) = x (ix3 (⟨i.val / 2048, by omega⟩ : Fin 4) (⟨i.val % 2048, by omega⟩ : Fin 2048) l) * Ideal.logistic (x (ix3 (⟨i.val / 2048, by omega⟩ : Fin 4) (⟨i.val % 2048, by omega⟩ : Fin 2048) l)) := by
  pointwise [out]
  rfl
theorem flat_at (i : Fin 8192) : Cert.Kernel7Ideal.Conv.flat x (ix2 i l) = x (ix3 (⟨i.val / 2048, by omega⟩ : Fin 4) (⟨i.val % 2048, by omega⟩ : Fin 2048) l) := by
  pointwise [Cert.Kernel7Ideal.Conv.flat]

theorem tap_eq (j : Fin 31) : tapR (buf U) (wts W) b p l j = Cert.Kernel7Ideal.Conv.tapU U W b p l j := by
  unfold tapR Cert.Kernel7Ideal.Conv.tapU Cert.Kernel7Ideal.Conv.before
  rw [buf_at, wts_at]
  refine congrArg (fun a : EReal => a * W (ix3 0 j l)) ?_
  by_cases h : 30 ≤ j.val + p.val
  · rw [dif_pos h, dif_pos (by simp only; omega)]
    exact congrArg (fun i => U (ix2 i l)) (Fin.ext (by simp only; omega))
  · rw [dif_neg h, dif_neg (by simp only; omega)]
theorem sum_eq : sumC (sumB (sumA (buf U) (wts W)) (buf U) (wts W)) (buf U) (wts W) Bi (ix3 b p l) = acc31 (0 + Bi (ix2 0 l)) (Cert.Kernel7Ideal.Conv.tapU U W b p l) := by
  rw [acc31_start, sumC_at, sumB_at, sumA_at]
  simp only [tap_eq]
  rfl

/-- The reference's stages compute the convolution. -/
theorem full_eq : out (norm (sumC (sumB (sumA (buf U) (wts W)) (buf U) (wts W)) (buf U) (wts W) Bi) G Be) = Cert.Kernel7Ideal.Conv.flat (Cert.Kernel7Ideal.Conv.convA U W Bi G Be) := by
  funext y
  idx_vars y
  rw [out_at, flat_at, norm_at]
  simp only [sum_eq]
  rfl
end Cert.Reference7Ideal.Conv
end
-- ==== Proof.Soft.lean ====
module
public import Idealize.ShloMosaic.PureOps.Ideal.Laws
@[expose] public section
noncomputable section
namespace Cert.Soft
open Idealize.ShloMosaic

/-- The largest of the first `n` scores (`⊥` for none). -/
def top (s : ℕ → EReal) (n : ℕ) : EReal := (Finset.range n).sup s
/-- The sum of the first `n` weights, each shifted by the largest score. -/
def den (s : ℕ → EReal) (n : ℕ) : EReal := ∑ j ∈ Finset.range n, Ideal.exp (s j - top s n)
/-- The weighted sum of the first `n` values. -/
def num (s v : ℕ → EReal) (n : ℕ) : EReal := ∑ j ∈ Finset.range n, Ideal.exp (s j - top s n) * v j

/-- A score row: no score is `⊤`, the first one is a number. -/
structure Row (s : ℕ → EReal) : Prop where
  ne_top : ∀ j, s j ≠ ⊤
  zero : s 0 ≠ ⊥
/-- A sequence of numbers. -/
def Num (v : ℕ → EReal) : Prop := ∀ j, ∃ r : ℝ, v j = r

variable {s v : ℕ → EReal}

@[simp] theorem top_zero : top s 0 = ⊥ := rfl
@[simp] theorem den_zero : den s 0 = 0 := rfl
@[simp] theorem num_zero : num s v 0 = 0 := rfl

theorem top_coe (h : Row s) {n : ℕ} (hn : 0 < n) : ∃ a : ℝ, top s n = a := by
  have h1 : top s n ≠ ⊥ := fun e => h.zero (by
    have : s 0 ≤ top s n := Finset.le_sup (f := s) (Finset.mem_range.2 hn)
    rw [e] at this; exact le_bot_iff.1 this)
  have h2 : top s n ≠ ⊤ := by
    have : top s n < ⊤ := (Finset.sup_lt_iff (by simp)).2 fun j _ => lt_top_iff_ne_top.2 (h.ne_top j)
    exact this.ne
  exact ⟨(top s n).toReal, (EReal.coe_toReal h2 h1).symm⟩

/-- One weight as a real. -/
def ew (x : EReal) (a : ℝ) : ℝ := if x = ⊥ then 0 else Real.exp (x.toReal - a)

theorem ew_nonneg (x : EReal) (a : ℝ) : 0 ≤ ew x a := by
  unfold ew; split
  · exact le_rfl
  · exact (Real.exp_pos _).le

theorem exp_eq {x : EReal} (hx : x ≠ ⊤) (a : ℝ) : Ideal.exp (x - a) = (ew x a : ℝ) := by
  unfold ew
  split
  · rename_i h; subst h; simp
  · rename_i h
    obtain ⟨r, rfl⟩ : ∃ r : ℝ, x = r := ⟨x.toReal, (EReal.coe_toReal hx h).symm⟩
    rw [← EReal.coe_sub, Ideal.exp_coe, EReal.toReal_coe]

theorem ew_shift (x : EReal) (a b : ℝ) : Real.exp (a - b) * ew x a = ew x b := by
  unfold ew
  split
  · simp
  · rw [← Real.exp_add]; congr 1; ring

theorem coe_sum {ι : Type*} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

theorem den_coe (h : Row s) {n : ℕ} {a : ℝ} (ha : top s n = a) :
    den s n = ((∑ j ∈ Finset.range n, ew (s j) a : ℝ) : EReal) := by
  unfold den
  rw [ha, coe_sum]
  exact Finset.sum_congr rfl fun j _ => exp_eq (h.ne_top j) a

theorem num_coe (h : Row s) {w : ℕ → ℝ} (hw : ∀ j, v j = w j) {n : ℕ} {a : ℝ} (ha : top s n = a) :
    num s v n = ((∑ j ∈ Finset.range n, ew (s j) a * w j : ℝ) : EReal) := by
  unfold num
  rw [ha, coe_sum]
  refine Finset.sum_congr rfl fun j _ => ?_
  rw [exp_eq (h.ne_top j) a, hw, EReal.coe_mul]

theorem sum_range_split {M : Type*} [AddCommMonoid M] (f : ℕ → M) (n : ℕ) (T : ℕ) :
    ∑ j ∈ Finset.range (n + T), f j = ∑ j ∈ Finset.range n, f j + ∑ x : Fin T, f (n + x) := by
  rw [Finset.sum_range_add, Finset.sum_range (f := fun x => f (n + x))]

/-- The largest score after a block of `T` more. -/
theorem top_step (n T : ℕ) : max (top s n) (Finset.univ.fold max ⊥ fun x : Fin T => s (n + x)) = top s (n + T) := by
  have e : (Finset.univ.fold max ⊥ fun x : Fin T => s (n + x)) = Finset.univ.sup fun x : Fin T => s (n + x) := rfl
  rw [e]
  apply le_antisymm
  · refine max_le (Finset.sup_mono (Finset.range_subset_range.2 (Nat.le_add_right _ _))) (Finset.sup_le fun x _ => ?_)
    exact Finset.le_sup (f := s) (Finset.mem_range.2 (Nat.add_lt_add_left x.isLt n))
  · refine Finset.sup_le fun j hj => ?_
    rcases lt_or_ge j n with h | h
    · exact le_max_of_le_left (Finset.le_sup (f := s) (Finset.mem_range.2 h))
    · refine le_max_of_le_right ?_
      have hj' := Finset.mem_range.1 hj
      have := Finset.le_sup (f := fun x : Fin T => s (n + x)) (Finset.mem_univ (⟨j - n, by omega⟩ : Fin T))
      simpa [Nat.add_sub_cancel' h] using this

/-- The rescaling of the sums of a prefix to a longer prefix's largest score. -/
theorem scale_den (h : Row s) (n T : ℕ) (hT : 0 < T) :
    Ideal.exp (top s n - top s (n + T)) * den s n + ∑ x : Fin T, Ideal.exp (s (n + x) - top s (n + T)) = den s (n + T) := by
  obtain ⟨b, hb⟩ := top_coe h (n := n + T) (by omega)
  rw [den_coe h hb]
  have e2 : ∑ x : Fin T, Ideal.exp (s (n + x) - top s (n + T)) = ((∑ x : Fin T, ew (s (n + x)) b : ℝ) : EReal) := by
    rw [hb, coe_sum]; exact Finset.sum_congr rfl fun x _ => exp_eq (h.ne_top _) b
  rw [e2, sum_range_split]
  rcases Nat.eq_zero_or_pos n with rfl | hn
  · simp
  · obtain ⟨a, ha⟩ := top_coe h hn
    rw [den_coe h ha, ha, hb, ← EReal.coe_sub, Ideal.exp_coe, ← EReal.coe_mul, ← EReal.coe_add, Finset.mul_sum]
    simp only [ew_shift]

theorem scale_num (h : Row s) (hv : Num v) (n T : ℕ) (hT : 0 < T) :
    Ideal.exp (top s n - top s (n + T)) * num s v n + ∑ x : Fin T, Ideal.exp (s (n + x) - top s (n + T)) * v (n + x) = num s v (n + T) := by
  choose w hw using (show ∀ j, ∃ r : ℝ, v j = r from hv)
  obtain ⟨b, hb⟩ := top_coe h (n := n + T) (by omega)
  rw [num_coe h hw hb]
  have e2 : ∑ x : Fin T, Ideal.exp (s (n + x) - top s (n + T)) * v (n + x) = ((∑ x : Fin T, ew (s (n + x)) b * w (n + x) : ℝ) : EReal) := by
    rw [hb, coe_sum]; exact Finset.sum_congr rfl fun x _ => by rw [exp_eq (h.ne_top _) b, hw, EReal.coe_mul]
  rw [e2, sum_range_split (fun j => ew (s j) b * w j)]
  rcases Nat.eq_zero_or_pos n with rfl | hn
  · simp
  · obtain ⟨a, ha⟩ := top_coe h hn
    rw [num_coe h hw ha, ha, hb, ← EReal.coe_sub, Ideal.exp_coe, ← EReal.coe_mul, ← EReal.coe_add, Finset.mul_sum]
    simp only [← mul_assoc, ew_shift]

/-- Scores `⊥` past `n` leave the largest score alone. -/
theorem top_ext {n N : ℕ} (hN : n ≤ N) (hb : ∀ j, n ≤ j → j < N → s j = ⊥) : top s N = top s n := by
  obtain ⟨T, rfl⟩ := Nat.exists_eq_add_of_le hN
  rw [← top_step]
  refine max_eq_left ?_
  have e : (Finset.univ.fold max ⊥ fun x : Fin T => s (n + x)) = Finset.univ.sup fun x : Fin T => s (n + x) := rfl
  rw [e]
  exact Finset.sup_le fun x _ => by rw [hb _ (Nat.le_add_right _ _) (Nat.add_lt_add_left x.isLt n)]; exact bot_le

theorem den_ext {n N : ℕ} (hN : n ≤ N) (hb : ∀ j, n ≤ j → j < N → s j = ⊥) : den s N = den s n := by
  unfold den
  rw [top_ext hN hb]
  refine (Finset.sum_subset (Finset.range_subset_range.2 hN) fun j h1 h2 => ?_).symm
  simp only [Finset.mem_range, not_lt] at h1 h2
  rw [hb j h2 h1]; simp

theorem num_ext {n N : ℕ} (hN : n ≤ N) (hb : ∀ j, n ≤ j → j < N → s j = ⊥) : num s v N = num s v n := by
  unfold num
  rw [top_ext hN hb]
  refine (Finset.sum_subset (Finset.range_subset_range.2 hN) fun j h1 h2 => ?_).symm
  simp only [Finset.mem_range, not_lt] at h1 h2
  rw [hb j h2 h1]; simp

theorem den_pos (h : Row s) {n : ℕ} (hn : 0 < n) : ∃ d : ℝ, 0 < d ∧ den s n = d := by
  obtain ⟨a, ha⟩ := top_coe h hn
  refine ⟨_, ?_, den_coe h ha⟩
  refine Finset.sum_pos' (fun j _ => ew_nonneg _ _) ⟨0, Finset.mem_range.2 hn, ?_⟩
  unfold ew; rw [if_neg h.zero]; exact Real.exp_pos _

/-- Dividing each weight by the sum, then weighing, is weighing, then dividing by the sum. -/
theorem div_num (h : Row s) (hv : Num v) {n : ℕ} (hn : 0 < n) :
    ∑ j ∈ Finset.range n, v j * Ideal.div (Ideal.exp (s j - top s n)) (den s n) = Ideal.div (num s v n) (den s n) := by
  choose w hw using (show ∀ j, ∃ r : ℝ, v j = r from hv)
  obtain ⟨a, ha⟩ := top_coe h hn
  obtain ⟨d, hd, e⟩ := den_pos h hn
  have hd0 : (d : EReal) ≠ 0 := by simpa using hd.ne'
  have hdiv : ∀ x : ℝ, Ideal.div x d = ((x * d⁻¹ : ℝ) : EReal) := fun x => by
    unfold Ideal.div; rw [if_neg hd0, EReal.coe_mul, EReal.coe_inv]
  rw [num_coe h hw ha, e, hdiv, Finset.sum_mul, coe_sum]
  refine Finset.sum_congr rfl fun j _ => ?_
  rw [hw, ha, exp_eq (h.ne_top j) a, hdiv, ← EReal.coe_mul]
  congr 1; ring

end Cert.Soft
end
-- ==== Proof.Score.lean ====
module
public import proofs.«01_k».proof.Proof.Gen.KernelIdeal.Value
public import proofs.«01_k».proof.Proof.Soft
public import Idealize.ShloMosaic.Lib.Pipeline.ValueKit
@[expose] public section
set_option maxRecDepth 16384
noncomputable section
namespace Cert.KernelIdeal.Mla
open Cert.KernelIdeal Cert.KernelIdeal.Gen Idealize.ShloMosaic Idealize.ShloMosaic.TcCoe Idealize.SL.Sem Cert.Soft

/-- The masked score of query row `r` (head `r / 256`, position `q * 256 + r % 256`) with key `j`. -/
def sc (v1 : FVec Ideal S1536x384 .bf16) (K : FVec Ideal S2048x384 .bf16) (q : ℕ) (r : Fin 1536) (j : ℕ) : EReal :=
  if h : j < 2048 then
    if j ≤ q * 256 + r.val % 256 then ∑ x : Fin 384, v1 (ix2 r x) * K (ix2 (⟨j, h⟩ : Fin 2048) x) else ⊥
  else ⊥
/-- Column `c` of the values: the keys' first 256 columns. -/
def vl (K : FVec Ideal S2048x384 .bf16) (c : Fin 256) (j : ℕ) : EReal :=
  if h : j < 2048 then K (ix2 (⟨j, h⟩ : Fin 2048) (⟨c.val, by omega⟩ : Fin 384)) else 0

variable {i : grid0.Coords} {v1 : FVec Ideal S1536x384 .bf16} {v19 v20 : IVec S768x512 32} {k : Fin (k0_t1_loop i).trips}
  {v72 : Vec Ideal S512x384 .bf16} {v81 : Vec Ideal S768x128 .f32} {v91 : Vec Ideal S768x128 .f32} {v101 : Vec Ideal S768x256 .f32}
  {K : FVec Ideal S2048x384 .bf16} {q : ℕ}

theorem iv_eq (k : ℕ) : Scf.iv 0#32 1#32 k = BitVec.ofNat 32 k := by
  simp [Scf.iv]

/-- The keys of one trip are rows of the prompt's keys. -/
def Rows (K : FVec Ideal S2048x384 .bf16) (k : ℕ) (v72 : Vec Ideal S512x384 .bf16) : Prop :=
  ∀ (j : Fin 512) (x : Fin 384), ∃ h : 512 * k + j.val < 2048, v72 (ix2 j x) = K (ix2 (⟨512 * k + j.val, h⟩ : Fin 2048) x)
/-- The query's position, at each row of a group. -/
def QPos (q : ℕ) (v19 : IVec S768x512 32) : Prop := ∀ (p : Fin 768) (j : Fin 512), v19 (ix2 p j) = BitVec.ofNat 32 (q * 256 + p.val % 256)
/-- The key's position within a trip. -/
def KPos (v20 : IVec S768x512 32) : Prop := ∀ (p : Fin 768) (j : Fin 512), v20 (ix2 p j) = BitVec.ofNat 32 j.val

theorem mask_bit {q k : ℕ} (hq : q < 8) (hk : k < 4) (p : Fin 768) (j : Fin 512) :
    IntOp.cmpi CmpIPredicate.sle (IntOp.addi (Scalar.muli (BitVec.ofNat 32 k) 512#32) (BitVec.ofNat 32 j.val)) (BitVec.ofNat 32 (q * 256 + p.val % 256))
      = BitVec.ofBool (decide (512 * k + j.val ≤ q * 256 + p.val % 256)) := by
  have e : IntOp.addi (Scalar.muli (BitVec.ofNat 32 k) 512#32) (BitVec.ofNat 32 j.val) = BitVec.ofNat 32 (512 * k + j.val) := by
    apply BitVec.eq_of_toNat_eq
    simp [IntOp.addi, Scalar.muli, IntOp.muli]
    omega
  rw [e, WordCmp.cmpi_sle_ofNat (by have := p.isLt; omega) (by omega)]

theorem sc_at {c : BitVec 1} {k : ℕ} {r : Fin 1536} {j : Fin 512} (h72 : Rows K k v72) (p : Fin 768) (hr : r.val % 256 = p.val % 256)
    (hc : c = BitVec.ofBool (decide (512 * k + j.val ≤ q * 256 + p.val % 256))) :
    Scalar.select c (∑ x : Fin 384, v1 (ix2 r x) * v72 (ix2 j x)) (⊥ : EReal) = sc v1 K q r (512 * k + j.val) := by
  obtain ⟨h, -⟩ := h72 j 0
  have e : ∑ x : Fin 384, v1 (ix2 r x) * v72 (ix2 j x) = ∑ x : Fin 384, v1 (ix2 r x) * K (ix2 (⟨512 * k + j.val, h⟩ : Fin 2048) x) :=
    Finset.sum_congr rfl fun x _ => by rw [(h72 j x).2]
  unfold sc
  rw [dif_pos h, hr, e, hc]
  by_cases h' : 512 * k + j.val ≤ q * 256 + p.val % 256
  · rw [if_pos h']; simp [Scalar.select, h']
  · rw [if_neg h']; simp [Scalar.select, h']

theorem pay2_at (hq : q < 8) (hk : k.val < 4) (h19 : QPos q v19) (h20 : KPos v20) (h72 : Rows K k.val v72) (p : Fin 768) (j : Fin 512) :
    k0_pay2 i v1 v19 v20 0#32 1#32 k v72 (ix2 p j) = sc v1 K q ⟨p.val, by omega⟩ (512 * k.val + j.val) := by
  pointwise [k0_pay2]
  rw [h19, h20, iv_eq]
  exact sc_at h72 p rfl (mask_bit hq hk p j)

theorem pay10_at {kk : BitVec 32} {n : ℕ} (hkk : kk = BitVec.ofNat 32 n) (hq : q < 8) (hk : n < 4) (h19 : QPos q v19) (h20 : KPos v20) (h72 : Rows K n v72) (p : Fin 768) (j : Fin 512) :
    k0_pay10 v1 v19 v20 kk v72 (ix2 p j) = sc v1 K q ⟨768 + p.val, by omega⟩ (512 * n + j.val) := by
  subst hkk
  pointwise [k0_pay10]
  rw [h19, h20]
  exact sc_at h72 p (by show (768 + p.val) % 256 = _; omega) (mask_bit hq hk p j)

theorem fold_ninf {n : ℕ} (f : Fin n → EReal) : Finset.fold max (Ideal.ofBits FTy.f32 4286578688#32) f Finset.univ = Finset.fold max ⊥ f Finset.univ := by
  have : Ideal.ofBits FTy.f32 4286578688#32 = (⊥ : EReal) := by simp [Ideal.ofBits, Ideal.ieee]
  rw [this]

section
variable (hq : q < 8) (hk : k.val < 4) (h19 : QPos q v19) (h20 : KPos v20) (h72 : Rows K k.val v72) (p : Fin 768)
  (h81 : ∀ l : Fin 128, v81 (ix2 p l) = top (sc v1 K q ⟨p.val, by omega⟩) (512 * k.val))
  (hrow : Row (sc v1 K q ⟨p.val, by omega⟩))
include hq hk h19 h20 h72 h81

theorem pay3_at (l : Fin 128) :
    k0_pay3 i v1 v19 v20 0#32 1#32 k v72 v81 (ix2 p l) = top (sc v1 K q ⟨p.val, by omega⟩) (512 * (k.val + 1)) := by
  pointwise [k0_pay3]
  rw [h81, fold_ninf, Nat.mul_succ, ← top_step]
  exact congrArg _ (Finset.fold_congr fun x _ => pay2_at hq hk h19 h20 h72 p x)

theorem pay5_at (j : Fin 512) :
    k0_pay5 i v1 v19 v20 0#32 1#32 k v72 v81 (ix2 p j)
      = Ideal.exp (sc v1 K q ⟨p.val, by omega⟩ (512 * k.val + j.val) - top (sc v1 K q ⟨p.val, by omega⟩) (512 * (k.val + 1))) := by
  pointwise [k0_pay5]
  simp only [pay2_at hq hk h19 h20 h72, pay3_at hq hk h19 h20 h72 p h81, dite_eq_ite, ite_self]

include hrow
theorem pay6_at (l : Fin 128) (h91 : v91 (ix2 p l) = den (sc v1 K q ⟨p.val, by omega⟩) (512 * k.val)) :
    k0_pay6 i v1 v19 v20 0#32 1#32 k v72 v81 v91 (ix2 p l) = den (sc v1 K q ⟨p.val, by omega⟩) (512 * (k.val + 1)) := by
  pointwise [k0_pay6, k0_pay4]
  simp only [pay5_at hq hk h19 h20 h72 p h81, pay3_at hq hk h19 h20 h72 p h81, h81, h91]
  rw [Nat.mul_succ]
  exact scale_den hrow (512 * k.val) 512 (by norm_num)

theorem pay7_at (c : Fin 256) (hv : Num (vl K c)) (h101 : v101 (ix2 p c) = num (sc v1 K q ⟨p.val, by omega⟩) (vl K c) (512 * k.val)) :
    k0_pay7 i v1 v19 v20 0#32 1#32 k v72 v81 v101 (ix2 p c) = num (sc v1 K q ⟨p.val, by omega⟩) (vl K c) (512 * (k.val + 1)) := by
  pointwise [k0_pay7, k0_pay4]
  simp only [pay5_at hq hk h19 h20 h72 p h81, pay3_at hq hk h19 h20 h72 p h81, h81, h101, dite_eq_ite, ite_self]
  rw [Nat.mul_succ, ← scale_num hrow hv (512 * k.val) 512 (by norm_num)]
  refine congrArg _ (Finset.sum_congr rfl fun x _ => ?_)
  obtain ⟨h, e⟩ := h72 x ⟨c.val, by omega⟩
  unfold vl
  rw [dif_pos h]
  exact congrArg _ e
end

section
variable {kk : BitVec 32} {n : ℕ} (hkk : kk = BitVec.ofNat 32 n)
  (hq : q < 8) (hk : n < 4) (h19 : QPos q v19) (h20 : KPos v20) (h72 : Rows K n v72) (p : Fin 768)
  (h81 : ∀ l : Fin 128, v81 (ix2 p l) = top (sc v1 K q ⟨768 + p.val, by omega⟩) (512 * n))
  (hrow : Row (sc v1 K q ⟨768 + p.val, by omega⟩))
include hkk hq hk h19 h20 h72 h81

theorem pay11_at (l : Fin 128) :
    k0_pay11 v1 v19 v20 kk v72 v81 (ix2 p l) = top (sc v1 K q ⟨768 + p.val, by omega⟩) (512 * (n + 1)) := by
  pointwise [k0_pay11]
  rw [h81, fold_ninf, Nat.mul_succ, ← top_step]
  exact congrArg _ (Finset.fold_congr fun x _ => pay10_at hkk hq hk h19 h20 h72 p x)

theorem pay13_at (j : Fin 512) :
    k0_pay13 v1 v19 v20 kk v72 v81 (ix2 p j)
      = Ideal.exp (sc v1 K q ⟨768 + p.val, by omega⟩ (512 * n + j.val) - top (sc v1 K q ⟨768 + p.val, by omega⟩) (512 * (n + 1))) := by
  pointwise [k0_pay13]
  simp only [pay10_at hkk hq hk h19 h20 h72, pay11_at hkk hq hk h19 h20 h72 p h81, dite_eq_ite, ite_self]

include hrow
theorem pay14_at (l : Fin 128) (h91 : v91 (ix2 p l) = den (sc v1 K q ⟨768 + p.val, by omega⟩) (512 * n)) :
    k0_pay14 v1 v19 v20 kk v72 v81 v91 (ix2 p l) = den (sc v1 K q ⟨768 + p.val, by omega⟩) (512 * (n + 1)) := by
  pointwise [k0_pay14, k0_pay12]
  simp only [pay13_at hkk hq hk h19 h20 h72 p h81, pay11_at hkk hq hk h19 h20 h72 p h81, h81, h91]
  rw [Nat.mul_succ]
  exact scale_den hrow (512 * n) 512 (by norm_num)

theorem pay15_at (c : Fin 256) (hv : Num (vl K c)) (h101 : v101 (ix2 p c) = num (sc v1 K q ⟨768 + p.val, by omega⟩) (vl K c) (512 * n)) :
    k0_pay15 v1 v19 v20 kk v72 v81 v101 (ix2 p c) = num (sc v1 K q ⟨768 + p.val, by omega⟩) (vl K c) (512 * (n + 1)) := by
  pointwise [k0_pay15, k0_pay12]
  simp only [pay13_at hkk hq hk h19 h20 h72 p h81, pay11_at hkk hq hk h19 h20 h72 p h81, h81, h101, dite_eq_ite, ite_self]
  rw [Nat.mul_succ, ← scale_num hrow hv (512 * n) 512 (by norm_num)]
  refine congrArg _ (Finset.sum_congr rfl fun x _ => ?_)
  obtain ⟨h, e⟩ := h72 x ⟨c.val, by omega⟩
  unfold vl
  rw [dif_pos h]
  exact congrArg _ e
end
end Cert.KernelIdeal.Mla
end
-- ==== Proof.Trip.lean ====
module
public import proofs.«01_k».proof.Proof.Score
public import Idealize.ShloMosaic.Lib.WritesUnit
@[expose] public section
set_option maxRecDepth 16384
noncomputable section
namespace Cert.KernelIdeal.Mla
open Cert.KernelIdeal Cert.KernelIdeal.Gen Idealize.ShloMosaic Idealize.ShloMosaic.TcCoe Idealize.SL.Sem Cert.Soft

/-- What the three scratch arrays hold after the first `512 n` keys: the largest score, the sum of weights, the weighted values. -/
structure St (arg5 : Memref sig .tc .vmem S1536x128 .f32) (arg6 : Memref sig .tc .vmem S1536x128 .f32) (arg7 : Memref sig .tc .vmem S1536x256 .f32)
    (v1 : FVec Ideal S1536x384 .bf16) (K : FVec Ideal S2048x384 .bf16) (q n : ℕ)
    (f5 : BufTy.Contents (Elt Ideal) arg5.view.ty) (f6 : BufTy.Contents (Elt Ideal) arg6.view.ty) (f7 : BufTy.Contents (Elt Ideal) arg7.view.ty) : Prop where
  t : ∀ (r : Fin 1536) (l : Fin 128), arg5.view.read (Elt Ideal) f5 (ix2 r l) = top (sc v1 K q r) (512 * n)
  d : ∀ (r : Fin 1536) (l : Fin 128), arg6.view.read (Elt Ideal) f6 (ix2 r l) = den (sc v1 K q r) (512 * n)
  a : ∀ (r : Fin 1536) (c : Fin 256), arg7.view.read (Elt Ideal) f7 (ix2 r c) = num (sc v1 K q r) (vl K c) (512 * n)

theorem start_eq {k : ℕ} (hk : k < 4) : BitVec.toNat (Scalar.indexCast (Scalar.muli (Scf.iv 0#32 1#32 k) 512#32)) = 512 * k := by
  interval_cases k <;> decide

theorem rows_ld {K : FVec Ideal S2048x384 .bf16} {k : ℕ} {off : Fin 2 → ℕ} (hk : k < 4) (ho : off = ![512 * k, 0]) (inb) :
    Rows K k (View.ld (Val := Elt Ideal) (e' := .bf16) K (Rect.unit (s := S2048x384) off ![512, 384] inb)) := by
  subst ho
  intro j x
  refine ⟨by omega, ?_⟩
  unfold View.ld
  refine congrArg K (funext fun a => Fin.ext ?_)
  match a with
  | ⟨0, _⟩ => show 512 * k + 1 * j.val = 512 * k + j.val; omega
  | ⟨1, _⟩ => show 0 + 1 * x.val = x.val; omega

theorem ld_at {s : Shape} {e : EltTy} (K : s.Idx → Elt Ideal e) (off size) (inb) (x) (y : s.Idx)
    (hy : ∀ a, (y a).val = off a + (x a).val) : View.ld (Val := Elt Ideal) (e' := e) K (Rect.unit (s := s) off size inb) x = K y := by
  unfold View.ld
  refine congrArg K (funext fun a => Fin.ext ?_)
  rw [hy]
  show off a + 1 * (x a).val = _
  omega

section
variable {𝒱 : Variants} {c : Dev nD} {bd : Option 𝒱.V} {i : grid0.Coords} {arg2 : Memref sig .tc .vmem S6x256x384 .bf16} {harg2 : arg2.IsWhole} {arg3 : Memref sig .tc .vmem S2048x384 .bf16} {harg3 : arg3.IsWhole} {arg4 : Memref sig .tc .vmem S256x1536 .bf16} {harg4 : arg4.IsWhole} {arg5 : Memref sig .tc .vmem S1536x128 .f32} {harg5 : arg5.IsWhole} {arg6 : Memref sig .tc .vmem S1536x128 .f32} {harg6 : arg6.IsWhole} {arg7 : Memref sig .tc .vmem S1536x256 .f32} {harg7 : arg7.IsWhole} {v1 : FVec Ideal S1536x384 .bf16} {v19 : IVec S768x512 32} {v20 : IVec S768x512 32} {v24 : BitVec 32} {c512_i32_12 : BitVec 32} {v25 : BitVec 32} {v30 : BitVec 32} {v32 : BitVec 32} {X : BufTy.Contents (Elt Ideal) arg3.view.ty}
  {f5 : BufTy.Contents (Elt Ideal) arg5.view.ty} {f6 : BufTy.Contents (Elt Ideal) arg6.view.ty} {f7 : BufTy.Contents (Elt Ideal) arg7.view.ty}
  {K : FVec Ideal S2048x384 .bf16} {q : ℕ}

/-- One trip takes the state of `512 k` keys to that of `512 (k + 1)`. -/
theorem trip_st (hK : arg3.view.read (Elt Ideal) X = K) (hq : q < 8) (k : Fin (k0_t1_loop i).trips) (hk : k.val < 4) (h19 : QPos q v19) (h20 : KPos v20)
    (hrow : ∀ r, Row (sc v1 K q r)) (hv : ∀ c, Num (vl K c)) (h : St arg5 arg6 arg7 v1 K q k.val f5 f6 f7) :
    St arg5 arg6 arg7 v1 K q (k.val + 1)
      (arg5.view.writes (Elt Ideal) f5 (tripL_k0_t1 𝒱 c bd i arg2 harg2 arg3 harg3 arg4 harg4 arg5 harg5 arg6 harg6 arg7 harg7 v1 v19 v20 v24 c512_i32_12 v25 v30 v32 X k f5 f6 f7).1)
      (arg6.view.writes (Elt Ideal) f6 (tripL_k0_t1 𝒱 c bd i arg2 harg2 arg3 harg3 arg4 harg4 arg5 harg5 arg6 harg6 arg7 harg7 v1 v19 v20 v24 c512_i32_12 v25 v30 v32 X k f5 f6 f7).2.1)
      (arg7.view.writes (Elt Ideal) f7 (tripL_k0_t1 𝒱 c bd i arg2 harg2 arg3 harg3 arg4 harg4 arg5 harg5 arg6 harg6 arg7 harg7 v1 v19 v20 v24 c512_i32_12 v25 v30 v32 X k f5 f6 f7).2.2) := by
  have h72 : ∀ inb, Rows K k.val (View.ld (Val := Elt Ideal) (e' := .bf16) K
      (Rect.unit (s := S2048x384) ![BitVec.toNat (Scalar.indexCast (Scalar.muli (Scf.iv 0#32 1#32 k.val) 512#32)), 0] ![512, 384] inb)) :=
    fun inb => rows_ld hk (by rw [start_eq hk]) inb
  unfold tripL_k0_t1 trip_k0_t1; dsimp only
  sl_unfold_words
  simp only [View.readAt_eq_ld, hK]
  have g5 : ∀ (p : Fin 768) (l : Fin 128), View.ld (arg5.view.read (Elt Ideal) f5) (Rect.unit ![0, 0] ![768, 128] inb_S1536x128_S768x128_0_0) (ix2 p l) = top (sc v1 K q ⟨p.val, by omega⟩) (512 * k.val) := fun p l => by
    rw [ld_at _ _ _ _ _ (ix2 (⟨p.val, by omega⟩ : Fin 1536) l) (Fin.forall_fin_two.2 ⟨(Nat.zero_add _).symm, (Nat.zero_add _).symm⟩)]; exact h.t _ _
  have g5' : ∀ (p : Fin 768) (l : Fin 128), View.ld (arg5.view.read (Elt Ideal) f5) (Rect.unit ![768, 0] ![768, 128] inb_S1536x128_S768x128_768_0) (ix2 p l) = top (sc v1 K q ⟨768 + p.val, by omega⟩) (512 * k.val) := fun p l => by
    rw [ld_at _ _ _ _ _ (ix2 (⟨768 + p.val, by omega⟩ : Fin 1536) l) (Fin.forall_fin_two.2 ⟨rfl, (Nat.zero_add _).symm⟩)]; exact h.t _ _
  have g6 : ∀ (p : Fin 768) (l : Fin 128), View.ld (arg6.view.read (Elt Ideal) f6) (Rect.unit ![0, 0] ![768, 128] inb_S1536x128_S768x128_0_0) (ix2 p l) = den (sc v1 K q ⟨p.val, by omega⟩) (512 * k.val) := fun p l => by
    rw [ld_at _ _ _ _ _ (ix2 (⟨p.val, by omega⟩ : Fin 1536) l) (Fin.forall_fin_two.2 ⟨(Nat.zero_add _).symm, (Nat.zero_add _).symm⟩)]; exact h.d _ _
  have g6' : ∀ (p : Fin 768) (l : Fin 128), View.ld (arg6.view.read (Elt Ideal) f6) (Rect.unit ![768, 0] ![768, 128] inb_S1536x128_S768x128_768_0) (ix2 p l) = den (sc v1 K q ⟨768 + p.val, by omega⟩) (512 * k.val) := fun p l => by
    rw [ld_at _ _ _ _ _ (ix2 (⟨768 + p.val, by omega⟩ : Fin 1536) l) (Fin.forall_fin_two.2 ⟨rfl, (Nat.zero_add _).symm⟩)]; exact h.d _ _
  have g7 : ∀ (p : Fin 768) (l : Fin 256), View.ld (arg7.view.read (Elt Ideal) f7) (Rect.unit ![0, 0] ![768, 256] inb_S1536x256_S768x256_0_0) (ix2 p l) = num (sc v1 K q ⟨p.val, by omega⟩) (vl K l) (512 * k.val) := fun p l => by
    rw [ld_at _ _ _ _ _ (ix2 (⟨p.val, by omega⟩ : Fin 1536) l) (Fin.forall_fin_two.2 ⟨(Nat.zero_add _).symm, (Nat.zero_add _).symm⟩)]; exact h.a _ _
  have g7' : ∀ (p : Fin 768) (l : Fin 256), View.ld (arg7.view.read (Elt Ideal) f7) (Rect.unit ![768, 0] ![768, 256] inb_S1536x256_S768x256_768_0) (ix2 p l) = num (sc v1 K q ⟨768 + p.val, by omega⟩) (vl K l) (512 * k.val) := fun p l => by
    rw [ld_at _ _ _ _ _ (ix2 (⟨768 + p.val, by omega⟩ : Fin 1536) l) (Fin.forall_fin_two.2 ⟨rfl, (Nat.zero_add _).symm⟩)]; exact h.a _ _
  have hi : ∀ r : Fin 1536, ¬ r.val < 768 → ∃ p : Fin 768, r = ⟨768 + p.val, by omega⟩ := fun r hr =>
    ⟨⟨r.val - 768, by omega⟩, Fin.ext (by show r.val = 768 + (r.val - 768); omega)⟩
  refine ⟨fun r l => ?_, fun r l => ?_, fun r l => ?_⟩
  · by_cases hr : r.val < 768
    · refine (View.read_writes_cons_rows_of_not_mem (o := 768) (W := 768) _ _ _ _ _ (ix2 r l) rfl rfl (Or.inl hr)).trans ?_
      refine (View.read_writes_cons_rows_of_mem (o := 0) _ _ _ _ _ (ix2 r l) (ix2 (⟨r.val, hr⟩ : Fin 768) l) rfl (Nat.zero_add _).symm rfl).trans ?_
      exact (congrFun (shapeCast_self _ _) _).trans (pay3_at hq hk h19 h20 (h72 _) ⟨r.val, hr⟩ (g5 ⟨r.val, hr⟩) l)
    · obtain ⟨p, rfl⟩ := hi r hr
      refine (View.read_writes_cons_rows_of_mem (o := 768) _ _ _ _ _ (ix2 (⟨768 + p.val, by omega⟩ : Fin 1536) l) (ix2 p l) rfl rfl rfl).trans ?_
      exact (congrFun (shapeCast_self _ _) _).trans (pay11_at (iv_eq _) hq hk h19 h20 (h72 _) p (g5' p) l)
  · by_cases hr : r.val < 768
    · refine (View.read_writes_cons_rows_of_not_mem (o := 768) (W := 768) _ _ _ _ _ (ix2 r l) rfl rfl (Or.inl hr)).trans ?_
      refine (View.read_writes_cons_rows_of_mem (o := 0) _ _ _ _ _ (ix2 r l) (ix2 (⟨r.val, hr⟩ : Fin 768) l) rfl (Nat.zero_add _).symm rfl).trans ?_
      exact pay6_at hq hk h19 h20 (h72 _) ⟨r.val, hr⟩ (g5 ⟨r.val, hr⟩) (hrow _) l (g6 ⟨r.val, hr⟩ l)
    · obtain ⟨p, rfl⟩ := hi r hr
      refine (View.read_writes_cons_rows_of_mem (o := 768) _ _ _ _ _ (ix2 (⟨768 + p.val, by omega⟩ : Fin 1536) l) (ix2 p l) rfl rfl rfl).trans ?_
      exact pay14_at (iv_eq _) hq hk h19 h20 (h72 _) p (g5' p) (hrow _) l (g6' p l)
  · by_cases hr : r.val < 768
    · refine (View.read_writes_cons_rows_of_not_mem (o := 768) (W := 768) _ _ _ _ _ (ix2 r l) rfl rfl (Or.inl hr)).trans ?_
      refine (View.read_writes_cons_rows_of_mem (o := 0) _ _ _ _ _ (ix2 r l) (ix2 (⟨r.val, hr⟩ : Fin 768) l) rfl (Nat.zero_add _).symm rfl).trans ?_
      exact (congrFun (shapeCast_self _ _) _).trans (pay7_at hq hk h19 h20 (h72 _) ⟨r.val, hr⟩ (g5 ⟨r.val, hr⟩) (hrow _) l (hv l) (g7 ⟨r.val, hr⟩ l))
    · obtain ⟨p, rfl⟩ := hi r hr
      refine (View.read_writes_cons_rows_of_mem (o := 768) _ _ _ _ _ (ix2 (⟨768 + p.val, by omega⟩ : Fin 1536) l) (ix2 p l) rfl rfl rfl).trans ?_
      exact (congrFun (shapeCast_self _ _) _).trans (pay15_at (iv_eq _) hq hk h19 h20 (h72 _) p (g5' p) (hrow _) l (hv l) (g7' p l))

/-- The state after the first `n` trips. -/
theorem loop_st (hK : arg3.view.read (Elt Ideal) X = K) (hq : q < 8) (hT : (k0_t1_loop i).trips ≤ 4) (h19 : QPos q v19) (h20 : KPos v20)
    (hrow : ∀ r, Row (sc v1 K q r)) (hv : ∀ c, Num (vl K c)) (h : St arg5 arg6 arg7 v1 K q 0 f5 f6 f7) (n : ℕ) (hn : n ≤ (k0_t1_loop i).trips) :
    St arg5 arg6 arg7 v1 K q n
      (arg5.view.writes (Elt Ideal) f5 (pb_k0_t1 𝒱 c bd i arg2 harg2 arg3 harg3 arg4 harg4 arg5 harg5 arg6 harg6 arg7 harg7 v1 v19 v20 v24 c512_i32_12 v25 v30 v32 X f5 f6 f7 n).1)
      (arg6.view.writes (Elt Ideal) f6 (pb_k0_t1 𝒱 c bd i arg2 harg2 arg3 harg3 arg4 harg4 arg5 harg5 arg6 harg6 arg7 harg7 v1 v19 v20 v24 c512_i32_12 v25 v30 v32 X f5 f6 f7 n).2.1)
      (arg7.view.writes (Elt Ideal) f7 (pb_k0_t1 𝒱 c bd i arg2 harg2 arg3 harg3 arg4 harg4 arg5 harg5 arg6 harg6 arg7 harg7 v1 v19 v20 v24 c512_i32_12 v25 v30 v32 X f5 f6 f7 n).2.2) := by
  induction n with
  | zero => exact h
  | succ n ih =>
    have e := pb_k0_t1_succ (F := Ideal) 𝒱 c bd i arg2 harg2 arg3 harg3 arg4 harg4 arg5 harg5 arg6 harg6 arg7 harg7 v1 v19 v20 v24 c512_i32_12 v25 v30 v32 X f5 f6 f7 ⟨n, hn⟩
    dsimp only at e
    rw [e]
    simp only [View.writes_append]
    exact trip_st hK hq ⟨n, hn⟩ (by show n < 4; omega) h19 h20 hrow hv (ih (by omega))
end
end Cert.KernelIdeal.Mla
end
-- ==== Proof.Out.lean ====
module
public import proofs.«01_k».proof.Proof.Trip
@[expose] public section
set_option maxRecDepth 16384
noncomputable section
namespace Cert.KernelIdeal.Mla
open Cert.KernelIdeal Cert.KernelIdeal.Gen Idealize.ShloMosaic Idealize.ShloMosaic.TcCoe Idealize.SL.Sem Cert.Soft

theorem qpos (i : grid0.Coords) : QPos (i 1).val (k0_pay34 i) := by
  intro p j
  pointwise [k0_pay34]
  apply BitVec.eq_of_toNat_eq
  have hi : (i 1).val < 8 := (i 1).isLt
  have hm : p.val &&& 255 = p.val % 256 := Nat.and_two_pow_sub_one_eq_mod p.val 8
  simp [IntOp.addi, IntOp.andi, Scalar.muli, IntOp.muli]
  rw [show p.val % 4294967296 = p.val by omega, hm]

theorem kpos : KPos kernelRun0_A.sl.v20 := by
  intro p j
  unfold kernelRun0_A.sl.v20
  pointwise []

/-- The result block from the weighted values `A` and the sums of weights `L`. -/
theorem quot_at (A : Vec Ideal S1536x256 .f32) (L : Vec Ideal S1536x128 .f32) (r : Fin 1536) (c : Fin 256) :
    k0_pay39 A L (ix2 r c) = Ideal.div (A (ix2 r c)) (L (ix2 r (⟨c.val % 128, by omega⟩ : Fin 128))) := by
  pointwise [k0_pay39]
  split
  · congr 3; simp; omega
  · congr 3; simp; omega

/-- The block as one function of its index: head `y 1 / 256`, position `y 0`. -/
def blockOf (Q : FVec Ideal S1536x256 .f32) (y : S256x1536.Idx) : Elt Ideal .bf16 :=
  Q (ix2 (⟨(y 1).val / 256 * 256 + (y 0).val, by have h0 : (y 0).val < 256 := (y 0).isLt; have h1 : (y 1).val < 1536 := (y 1).isLt; omega⟩ : Fin 1536)
    (⟨(y 1).val % 256, Nat.mod_lt _ (by norm_num)⟩ : Fin 256))

theorem piece_at (Q : FVec Ideal S1536x256 .f32) (o : ℕ) (ho : o < 6) (hs : S1536x256.Slices ![o * 256, 0] S256x256)
    (inb : ∀ a : Fin 2, (![0, o * 256] : Fin 2 → ℕ) a + (![256, 256] : Fin 2 → ℕ) a ≤ S256x1536.size a) (x : S256x256.Idx) :
    truncf .bf16 (extractStridedSlice S256x256 ![o * 256, 0] Q hs) bitsLt_bf16_f32 x
      = blockOf Q ((Rect.unit (s := S256x1536) ![0, o * 256] ![256, 256] inb).emb x) := by
  have h0 : (x 0).val < 256 := (x 0).isLt
  have h1 : (x 1).val < 256 := (x 1).isLt
  have e0 : ((Rect.unit (s := S256x1536) ![0, o * 256] ![256, 256] inb).emb x 0).val = 0 + 1 * (x 0).val := rfl
  have e1 : ((Rect.unit (s := S256x1536) ![0, o * 256] ![256, 256] inb).emb x 1).val = o * 256 + 1 * (x 1).val := rfl
  refine (extractStridedSlice_apply _ Q hs x (ix2 (⟨o * 256 + (x 0).val, by omega⟩ : Fin 1536) (⟨(x 1).val, h1⟩ : Fin 256)) ?_).trans ?_
  · exact Fin.forall_fin_two.2 ⟨rfl, (Nat.zero_add _).symm⟩
  · unfold blockOf
    refine congrArg Q (funext fun a => Fin.ext ?_)
    match a with
    | ⟨0, _⟩ => show o * 256 + (x 0).val = _ / 256 * 256 + _; rw [e0, e1]; omega
    | ⟨1, _⟩ => show (x 1).val = _ % 256; rw [e1]; omega

theorem out_at (A : Vec Ideal S1536x256 .f32) (L : Vec Ideal S1536x128 .f32) (y : S256x1536.Idx)
    (hc : ∃ p ∈ ([⟨Rect.unit ![0, 1280] ![256, 256] inb_S256x1536_S256x256_0_1280, k0_pay1 (k0_pay39 A L)⟩,
          ⟨Rect.unit ![0, 1024] ![256, 256] inb_S256x1536_S256x256_0_1024, k0_pay44 A L⟩,
          ⟨Rect.unit ![0, 768] ![256, 256] inb_S256x1536_S256x256_0_768, k0_pay43 A L⟩,
          ⟨Rect.unit ![0, 512] ![256, 256] inb_S256x1536_S256x256_0_512, k0_pay42 A L⟩,
          ⟨Rect.unit ![0, 256] ![256, 256] inb_S256x1536_S256x256_0_256, k0_pay41 A L⟩,
          ⟨Rect.unit ![0, 0] ![256, 256] inb_S256x1536_S256x256_0_0, k0_pay40 A L⟩] : List (View.Piece (Elt Ideal) S256x1536 .bf16)), y ∈ p.1.set) :
    VO0_2.read (Elt Ideal) (VO0_2.writes (Elt Ideal) VO0_2.junk
        [⟨Rect.unit ![0, 1280] ![256, 256] inb_S256x1536_S256x256_0_1280, k0_pay1 (k0_pay39 A L)⟩,
          ⟨Rect.unit ![0, 1024] ![256, 256] inb_S256x1536_S256x256_0_1024, k0_pay44 A L⟩,
          ⟨Rect.unit ![0, 768] ![256, 256] inb_S256x1536_S256x256_0_768, k0_pay43 A L⟩,
          ⟨Rect.unit ![0, 512] ![256, 256] inb_S256x1536_S256x256_0_512, k0_pay42 A L⟩,
          ⟨Rect.unit ![0, 256] ![256, 256] inb_S256x1536_S256x256_0_256, k0_pay41 A L⟩,
          ⟨Rect.unit ![0, 0] ![256, 256] inb_S256x1536_S256x256_0_0, k0_pay40 A L⟩]) y
      = blockOf (k0_pay39 A L) y := by
  rw [View.read_writes_junk_eq_canon]
  refine View.canon_apply_of_pieces (blockOf (k0_pay39 A L)) _ ?_ y hc
  simp only [List.forall_mem_cons, List.not_mem_nil, false_imp_iff, implies_true, and_true]
  exact ⟨fun x => piece_at _ 5 (by norm_num) _ _ x, fun x => piece_at _ 4 (by norm_num) _ _ x, fun x => piece_at _ 3 (by norm_num) _ _ x,
    fun x => piece_at _ 2 (by norm_num) _ _ x, fun x => piece_at _ 1 (by norm_num) _ _ x, fun x => piece_at _ 0 (by norm_num) _ _ x⟩

theorem ld_full {s : Shape} {e : EltTy} (K : s.Idx → Elt Ideal e) (off : Fin s.rank → ℕ) (ho : ∀ a, off a = 0) (inb) :
    View.ld (Val := Elt Ideal) (e' := e) K (Rect.unit (s := s) off s.size inb) = K :=
  funext fun x => ld_at K off s.size inb x x fun a => by rw [ho]; exact (Nat.zero_add _).symm

/-- The second loop of the kernel takes no trip: both loops' ends and the first loop's trips, at each grid point. -/
theorem trips_at : ∀ t : Fin grid0.N, (k0_t1_loop (grid0.coords t)).trips = (grid0.coords t 1).val / 2 + 1 ∧ (k0_t2_loop (grid0.coords t)).trips = 0 := by
  decide +kernel

/-- The block one grid point writes. -/
theorem out_eq (c : Dev nD) (i : grid0.Coords) (arg2 : Memref sig .tc .vmem S6x256x384 .bf16) (harg2 : arg2.IsWhole) (arg3 : Memref sig .tc .vmem S2048x384 .bf16) (harg3 : arg3.IsWhole) (arg4 : Memref sig .tc .vmem S256x1536 .bf16) (harg4 : arg4.IsWhole) (arg5 : Memref sig .tc .vmem S1536x128 .f32) (harg5 : arg5.IsWhole) (arg6 : Memref sig .tc .vmem S1536x128 .f32) (harg6 : arg6.IsWhole) (arg7 : Memref sig .tc .vmem S1536x256 .f32) (harg7 : arg7.IsWhole)
    (x0 : Vec Ideal S6x256x384 .bf16) (x1 : Vec Ideal S2048x384 .bf16) (h1 : (k0_t1_loop i).trips = (i 1).val / 2 + 1) (h2 : (k0_t2_loop i).trips = 0)
    (hrow : ∀ r, Row (sc (k0_pay30 x0) x1 (i 1).val r)) (hv : ∀ c, Num (vl x1 c)) (y : S256x1536.Idx) :
    out0_A_2 c i arg2 harg2 arg3 harg3 arg4 harg4 arg5 harg5 arg6 harg6 arg7 harg7 x0 x1 y
      = blockOf (fun z => Ideal.div (num (sc (k0_pay30 x0) x1 (i 1).val (z 0)) (vl x1 (z 1)) (512 * ((i 1).val / 2 + 1)))
          (den (sc (k0_pay30 x0) x1 (i 1).val (z 0)) (512 * ((i 1).val / 2 + 1)))) y := by
  have hi : (i 1).val < 8 := (i 1).isLt
  have hc := cover0_A_2 c i arg2 harg2 arg3 harg3 arg4 harg4 arg5 harg5 arg6 harg6 arg7 harg7 x0 x1 y
  unfold out0_A_2
  unfold kernelRun0_A at hc ⊢
  dsimp only at hc ⊢
  refine (out_at _ _ y hc).trans ?_
  have er : kernelRun0_A.sl.r c arg2 harg2 x0 = k0_pay30 x0 := by
    unfold kernelRun0_A.sl.r
    rw [View.readAt_eq_ld, harg2.read_unread, ld_full _ _ (by decide)]
  have hst := loop_st (𝒱 := Variants.none) (c := c) (bd := none) (i := i) (arg2 := arg2) (harg2 := harg2) (arg3 := arg3) (harg3 := harg3) (arg4 := arg4) (harg4 := harg4)
    (arg5 := arg5) (harg5 := harg5) (arg6 := arg6) (harg6 := harg6) (arg7 := arg7) (harg7 := harg7) (v24 := kernelRun0_A.sl.v24 i) (c512_i32_12 := 512#32) (v25 := kernelRun0_A.sl.v25 i)
    (v30 := kernelRun0_A.sl.v30 i) (v32 := 1#32) (X := harg3.unread x1)
    (f5 := arg5.view.writes (Elt Ideal) arg5.view.junk kernelRun0_A.sl.HS0_1) (f6 := arg6.view.writes (Elt Ideal) arg6.view.junk kernelRun0_A.sl.HS1_1)
    (f7 := arg7.view.writes (Elt Ideal) arg7.view.junk kernelRun0_A.sl.HS2_1)
    (K := x1) (q := (i 1).val) (harg3.read_unread x1) hi (by omega) (qpos i) kpos hrow hv ?_ _ le_rfl
  · have e2 : Scf.trips (k0_t2_loop i).lb (k0_t2_loop i).ub (k0_t2_loop i).st = 0 := h2
    have hA : ∀ (r : Fin 1536) (l : Fin 256), kernelRun0_A.sl.v47 (F := Ideal) c i arg2 harg2 arg3 harg3 arg4 harg4 arg5 harg5 arg6 harg6 arg7 harg7 x0 x1 (ix2 r l)
        = num (sc (k0_pay30 x0) x1 (i 1).val r) (vl x1 l) (512 * ((i 1).val / 2 + 1)) := fun r l => by
      have h := hst.a r l
      rw [h1] at h
      rw [← h]
      unfold kernelRun0_A.sl.v47
      rw [e2, er, pb_k0_t2.eq_1, View.readCov, View.readAt_eq_ld]
      refine (ld_at _ _ _ _ _ (ix2 r l) (Fin.forall_fin_two.2 ⟨(Nat.zero_add _).symm, (Nat.zero_add _).symm⟩)).trans ?_
      rw [List.nil_append, View.writes_append]
      rw [← h1]
    have hL : ∀ (r : Fin 1536) (l : Fin 128), kernelRun0_A.sl.v48 (F := Ideal) c i arg2 harg2 arg3 harg3 arg4 harg4 arg5 harg5 arg6 harg6 arg7 harg7 x0 x1 (ix2 r l)
        = den (sc (k0_pay30 x0) x1 (i 1).val r) (512 * ((i 1).val / 2 + 1)) := fun r l => by
      have h := hst.d r l
      rw [h1] at h
      rw [← h]
      unfold kernelRun0_A.sl.v48
      rw [e2, er, pb_k0_t2.eq_1, View.readCov, View.readAt_eq_ld]
      refine (ld_at _ _ _ _ _ (ix2 r l) (Fin.forall_fin_two.2 ⟨(Nat.zero_add _).symm, (Nat.zero_add _).symm⟩)).trans ?_
      rw [List.nil_append, View.writes_append]
      rw [← h1]
    unfold blockOf
    rw [quot_at, hA, hL]
    rfl
  · refine ⟨fun r l => ?_, fun r l => ?_, fun r l => ?_⟩
    · refine (View.read_writes_cons_rows_of_mem (o := 0) _ _ _ _ _ (ix2 r l) (ix2 r l) rfl (Nat.zero_add _).symm rfl).trans ?_
      pointwise [k0_pay31]
      rfl
    · refine (View.read_writes_cons_rows_of_mem (o := 0) _ _ _ _ _ (ix2 r l) (ix2 r l) rfl (Nat.zero_add _).symm rfl).trans ?_
      pointwise [k0_pay32]
      exact den_zero.symm
    · refine (View.read_writes_cons_rows_of_mem (o := 0) _ _ _ _ _ (ix2 r l) (ix2 r l) rfl (Nat.zero_add _).symm rfl).trans ?_
      pointwise [k0_pay33]
      exact num_zero.symm
end Cert.KernelIdeal.Mla
end
-- ==== Proof.Model.lean ====
module
public import proofs.«01_k».proof.Proof.Soft
public import Idealize.ShloMosaic.Lib.Pipeline.ValueKit
@[expose] public section
noncomputable section
namespace Cert.Model
open Idealize.ShloMosaic Cert.Soft

/-- The masked scores of head `h` at position `p` of prompt `b`. -/
def rs (Q : FVec Ideal ⟨3, ![6, 8704, 384]⟩ .bf16) (KV : FVec Ideal ⟨2, ![8704, 384]⟩ .bf16) (b : Fin 4) (h : Fin 6) (p : Fin 2048) (j : ℕ) : EReal :=
  if hj : j < 2048 then
    if j ≤ p.val then ∑ x : Fin 384, Q (ix3 h (⟨b.val * 2048 + p.val, by omega⟩ : Fin 8704) x) * KV (ix2 (⟨b.val * 2048 + j, by omega⟩ : Fin 8704) x) else ⊥
  else ⊥
/-- Column `c` of prompt `b`'s values. -/
def rv (KV : FVec Ideal ⟨2, ![8704, 384]⟩ .bf16) (b : Fin 4) (c : Fin 256) (j : ℕ) : EReal :=
  if hj : j < 2048 then KV (ix2 (⟨b.val * 2048 + j, by omega⟩ : Fin 8704) (⟨c.val, by omega⟩ : Fin 384)) else 0
/-- The attention's result. -/
def att (Q : FVec Ideal ⟨3, ![6, 8704, 384]⟩ .bf16) (KV : FVec Ideal ⟨2, ![8704, 384]⟩ .bf16) (b : Fin 4) (h : Fin 6) (p : Fin 2048) (c : Fin 256) : EReal :=
  Ideal.div (num (rs Q KV b h p) (rv KV b c) 2048) (den (rs Q KV b h p) 2048)

/-- Every entry of the prompt's queries and keys is a number. -/
structure Finite (Q : FVec Ideal ⟨3, ![6, 8704, 384]⟩ .bf16) (KV : FVec Ideal ⟨2, ![8704, 384]⟩ .bf16) : Prop where
  q : ∀ (h : Fin 6) (n : Fin 8704) (x : Fin 384), n.val < 8192 → ∃ r : ℝ, Q (ix3 h n x) = (r : EReal)
  k : ∀ (n : Fin 8704) (x : Fin 384), n.val < 8192 → ∃ r : ℝ, KV (ix2 n x) = (r : EReal)

variable {Q : FVec Ideal ⟨3, ![6, 8704, 384]⟩ .bf16} {KV : FVec Ideal ⟨2, ![8704, 384]⟩ .bf16}

theorem sum_real {n : ℕ} (f g : Fin n → EReal) (hf : ∀ x, ∃ r : ℝ, f x = r) (hg : ∀ x, ∃ r : ℝ, g x = r) : ∃ r : ℝ, ∑ x, f x * g x = (r : EReal) := by
  choose a ha using hf
  choose b hb using hg
  refine ⟨∑ x, a x * b x, ?_⟩
  rw [coe_sum]
  exact Finset.sum_congr rfl fun x _ => by rw [ha, hb, EReal.coe_mul]

theorem rs_row (hf : Finite Q KV) (b : Fin 4) (h : Fin 6) (p : Fin 2048) : Row (rs Q KV b h p) := by
  have hs : ∀ (j : ℕ) (hj : j < 2048), ∃ r : ℝ, ∑ x : Fin 384, Q (ix3 h (⟨b.val * 2048 + p.val, by omega⟩ : Fin 8704) x) * KV (ix2 (⟨b.val * 2048 + j, by omega⟩ : Fin 8704) x) = (r : EReal) :=
    fun j hj => sum_real _ _ (fun x => hf.q _ _ _ (by show b.val * 2048 + p.val < 8192; omega)) (fun x => hf.k _ _ (by show b.val * 2048 + j < 8192; omega))
  constructor
  · intro j
    unfold rs
    split
    · rename_i hj
      split
      · obtain ⟨r, e⟩ := hs j hj
        rw [e]; exact EReal.coe_ne_top _
      · exact bot_ne_top
    · exact bot_ne_top
  · unfold rs
    rw [dif_pos (by norm_num), if_pos (Nat.zero_le _)]
    obtain ⟨r, e⟩ := hs 0 (by norm_num)
    rw [e]; exact EReal.coe_ne_bot _

theorem rv_num (hf : Finite Q KV) (b : Fin 4) (c : Fin 256) : Num (rv KV b c) := by
  intro j
  unfold rv
  split
  · exact hf.k _ _ (by show b.val * 2048 + j < 8192; omega)
  · exact ⟨0, rfl⟩

/-- The keys past the query's position carry no weight. -/
theorem att_short (b : Fin 4) (h : Fin 6) (p : Fin 2048) (c : Fin 256) (n : ℕ) (hn : n ≤ 2048) (hp : p.val < n) :
    Ideal.div (num (rs Q KV b h p) (rv KV b c) n) (den (rs Q KV b h p) n) = att Q KV b h p c := by
  have hb : ∀ j, n ≤ j → j < 2048 → rs Q KV b h p j = ⊥ := fun j h1 h2 => by
    unfold rs; rw [dif_pos h2, if_neg (by omega)]
  unfold att
  rw [num_ext hn hb, den_ext hn hb]

end Cert.Model
end
-- ==== Proof.Final.lean ====
module
public import proofs.«01_k».proof.Proof.Out
public import proofs.«01_k».proof.Proof.Model
@[expose] public section
set_option maxRecDepth 16384
noncomputable section
namespace Cert.KernelIdeal.Mla
open Cert.KernelIdeal Cert.KernelIdeal.Gen Idealize.ShloMosaic Idealize.ShloMosaic.TcCoe Idealize.SL.Sem Cert.Soft Cert.Model
open Idealize.ShloMosaic.Pipeline (Dat)
variable (m : (ℓ : Loc nD τ sig) → Buf (Elt Ideal) ℓ)

theorem idx : ∀ t : Fin cfg0.N, win0_0.index t = ![0, t.val, 0] ∧ win0_1.index t = ![t.val / 8, 0] ∧ win0_2.index t = ![t.val, 0] ∧ (grid0.coords t 1).val = t.val % 8 :=
  (by decide +kernel : ∀ t : Fin grid0.N, _)

/-- A block of queries is rows of the queries. -/
theorem q_at (c : Dev nD) (t : Fin cfg0.N) (h : Fin 6) (p : Fin 256) (x : Fin 384) :
    iblk m c 0 t (ix3 h p x) = m ((c : Thread nD τ).loc main_arg0) (ix3 h (⟨t.val * 256 + p.val, by have : t.val < 32 := t.isLt; omega⟩ : Fin 8704) x) := by
  blk_ext [iblk, V, idx t]

/-- A block of keys is rows of the keys. -/
theorem k_at (c : Dev nD) (t : Fin cfg0.N) (j : Fin 2048) (x : Fin 384) :
    X0_1 m c t (ix2 j x) = m ((c : Thread nD τ).loc main_arg1) (ix2 (⟨t.val / 8 * 2048 + j.val, by have : t.val < 32 := t.isLt; omega⟩ : Fin 8704) x) := by
  unfold X0_1 Pipeline.Window.fill
  rw [dif_pos (moved0_1 t _)]
  blk_ext [iblk, V, idx t]

theorem row_at (x0 : Vec Ideal S6x256x384 .bf16) (r : Fin 1536) (x : Fin 384) :
    k0_pay30 x0 (ix2 r x) = x0 (ix3 (⟨r.val / 256, by omega⟩ : Fin 6) (⟨r.val % 256, Nat.mod_lt _ (by norm_num)⟩ : Fin 256) x) := by
  pointwise [k0_pay30]

theorem sc_eq (c : Dev nD) (t : Fin cfg0.N) (ht : t.val < 32) (h : Fin 6) (p : Fin 256) (r : Fin 1536) (hr : r.val = h.val * 256 + p.val) :
    sc (k0_pay30 (iblk m c 0 t)) (X0_1 m c t) (t.val % 8) r
      = rs (m ((c : Thread nD τ).loc main_arg0)) (m ((c : Thread nD τ).loc main_arg1)) (⟨t.val / 8, by omega⟩ : Fin 4) h (⟨t.val % 8 * 256 + p.val, by omega⟩ : Fin 2048) := by
  funext j
  unfold sc rs
  have e : r.val % 256 = p.val := by omega
  by_cases hj : j < 2048
  · rw [dif_pos hj, dif_pos hj]
    dsimp only
    rw [e]
    refine if_congr Iff.rfl ?_ rfl
    refine Finset.sum_congr rfl fun x _ => ?_
    rw [k_at]
    refine congrArg (· * _) ?_
    rw [row_at, q_at]
    refine congrArg (m ((c : Thread nD τ).loc main_arg0)) (funext fun a => Fin.ext ?_)
    match a with
    | ⟨0, _⟩ => show r.val / 256 = h.val; omega
    | ⟨1, _⟩ => show t.val * 256 + r.val % 256 = t.val / 8 * 2048 + (t.val % 8 * 256 + p.val); omega
    | ⟨2, _⟩ => rfl
  · rw [dif_neg hj, dif_neg hj]

theorem vl_eq (c : Dev nD) (t : Fin cfg0.N) (ht : t.val < 32) (d : Fin 256) :
    vl (X0_1 m c t) d = rv (m ((c : Thread nD τ).loc main_arg1)) (⟨t.val / 8, by omega⟩ : Fin 4) d := by
  funext j
  unfold vl rv
  by_cases hj : j < 2048
  · rw [dif_pos hj, dif_pos hj, k_at]
  · rw [dif_neg hj, dif_neg hj]

/-- The attention's result as one array. -/
def full (Q : FVec Ideal S6x8704x384 .bf16) (KV : FVec Ideal S8704x384 .bf16) : FVec Ideal S8192x1536 .bf16 := fun y =>
  att Q KV (⟨(y 0).val / 2048, by have h0 : (y 0).val < 8192 := (y 0).isLt; omega⟩ : Fin 4) (⟨(y 1).val / 256, by have h1 : (y 1).val < 1536 := (y 1).isLt; omega⟩ : Fin 6)
    (⟨(y 0).val % 2048, Nat.mod_lt _ (by norm_num)⟩ : Fin 2048) (⟨(y 1).val % 256, Nat.mod_lt _ (by norm_num)⟩ : Fin 256)

theorem point (c : Dev nD) (hf : Finite (m ((c : Thread nD τ).loc main_arg0)) (m ((c : Thread nD τ).loc main_arg1))) (t : Fin cfg0.N) (y : S256x1536.Idx) (z : S8192x1536.Idx)
    (h0 : (z 0).val = t.val * 256 + (y 0).val) (h1 : (z 1).val = (y 1).val) :
    outsAt0 m c t y = full (m ((c : Thread nD τ).loc main_arg0)) (m ((c : Thread nD τ).loc main_arg1)) z := by
  have ht : t.val < 32 := t.isLt
  have hy0 : (y 0).val < 256 := (y 0).isLt
  have hy1 : (y 1).val < 1536 := (y 1).isLt
  have hc := (idx t).2.2.2
  unfold outsAt0
  rw [out_eq c (grid0.coords t) _ _ _ _ _ _ _ _ _ _ _ _ _ _ (trips_at t).1 (trips_at t).2]
  · unfold blockOf full
    dsimp only
    rw [hc]
    have hr := sc_eq m c t ht ⟨(y 1).val / 256, by omega⟩ ⟨(y 0).val, hy0⟩ ⟨(y 1).val / 256 * 256 + (y 0).val, by omega⟩ rfl
    have hv := vl_eq m c t ht ⟨(y 1).val % 256, by omega⟩
    refine Eq.trans ?_ ((att_short (Q := m ((c : Thread nD τ).loc main_arg0)) (KV := m ((c : Thread nD τ).loc main_arg1)) (⟨t.val / 8, by omega⟩ : Fin 4) (⟨(y 1).val / 256, by omega⟩ : Fin 6) (⟨t.val % 8 * 256 + (y 0).val, by omega⟩ : Fin 2048)
      (⟨(y 1).val % 256, by omega⟩ : Fin 256) (512 * (t.val % 8 / 2 + 1)) (by omega) (by show t.val % 8 * 256 + (y 0).val < _; omega)).trans ?_)
    · rw [← hr, ← hv]; rfl
    · have a0 : t.val / 8 = (z 0).val / 2048 := by omega
      have a1 : t.val % 8 * 256 + (y 0).val = (z 0).val % 2048 := by omega
      congr 1
      · exact Fin.ext a0
      · exact Fin.ext (by show (y 1).val / 256 = (z 1).val / 256; rw [h1])
      · exact Fin.ext a1
      · exact Fin.ext (by show (y 1).val % 256 = (z 1).val % 256; rw [h1])
  · intro r
    rw [hc, sc_eq m c t ht ⟨r.val / 256, by omega⟩ ⟨r.val % 256, by omega⟩ r (by show r.val = r.val / 256 * 256 + r.val % 256; omega)]
    exact rs_row hf _ _ _
  · intro d
    rw [vl_eq m c t ht d]
    exact rv_num hf _ _

/-- The result array after the run. -/
theorem final (c : Dev nD) (hf : Finite (m ((c : Thread nD τ).loc main_arg0)) (m ((c : Thread nD τ).loc main_arg1))) :
    (dats m 0 c).arrAt 2 (cfgs 0).N = full (m ((c : Thread nD τ).loc main_arg0)) (m ((c : Thread nD τ).loc main_arg1)) := by
  refine (dats m 0 c).arrAt_eq_of_covers 2 _ (by decide +kernel) fun t _ y => ?_
  blk_simp
  rw [after0_2]
  refine point m c hf t _ _ ?_ ?_
  all_goals blk_simp [idx t]
end Cert.KernelIdeal.Mla
end
-- ==== Proof.Ref.lean ====
module
public import proofs.«01_k».proof.Proof.Gen.ReferenceIdeal.Run
public import proofs.«01_k».proof.Proof.Model
public import Idealize.ShloMosaic.Lib.WordCmp
@[expose] public section
set_option maxRecDepth 16384
noncomputable section
namespace Cert.ReferenceIdeal.Att
open Cert.ReferenceIdeal Cert.ReferenceIdeal.Gen Idealize.ShloMosaic Idealize.ShloMosaic.TcCoe Idealize.SL.Sem Cert.Soft Cert.Model

/-- The prompt's keys, by prompt. -/
def kv3 (KV : FVec Ideal S8704x384 .bf16) : FVec Ideal S4x2048x384 .f32 :=
  shapeCast _ (extractStridedSlice S8192x384 ![0, 0] (extf .f32 KV bitsLt_bf16_f32) slices_S8704x384_S8192x384_0_0) shapeCasts_S8192x384_S4x2048x384
/-- The prompt's queries, by head and prompt. -/
def q4 (Q : FVec Ideal S6x8704x384 .bf16) : FVec Ideal S6x4x2048x384 .f32 :=
  shapeCast _ (extractStridedSlice S6x8192x384 ![0, 0, 0] (extf .f32 Q bitsLt_bf16_f32) slices_S6x8704x384_S6x8192x384_0_0_0) shapeCasts_S6x8192x384_S6x4x2048x384
/-- The scores before the mask. -/
def raw (q : FVec Ideal S6x4x2048x384 .f32) (kv : FVec Ideal S4x2048x384 .f32) : FVec Ideal S4x6x2048x2048 .f32 :=
  addf (Host.dotGeneral dot_S6x4x2048x256_S4x2048x256_S4x6x2048x2048_3_2_02_1_1_0 none (extractStridedSlice S6x4x2048x256 ![0, 0, 0, 0] q slices_S6x4x2048x384_S6x4x2048x256_0_0_0_0) (extractStridedSlice S4x2048x256 ![0, 0, 0] kv slices_S4x2048x384_S4x2048x256_0_0_0))
    (Host.dotGeneral dot_S6x4x2048x128_S4x2048x128_S4x6x2048x2048_3_2_02_1_1_0 none (extractStridedSlice S6x4x2048x128 ![0, 0, 0, 256] q slices_S6x4x2048x384_S6x4x2048x128_0_0_0_256) (extractStridedSlice S4x2048x128 ![0, 0, 256] kv slices_S4x2048x384_S4x2048x128_0_0_256))
/-- The masked scores. -/
def masked (r : FVec Ideal S4x6x2048x2048 .f32) : FVec Ideal S4x6x2048x2048 .f32 :=
  select (broadcastInDim S4x6x2048x2048 ![0, 1, 2, 3] bcast_S1x1x2048x2048_S4x6x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) r
    (broadcastInDim S4x6x2048x2048 ![] bcast_S_S4x6x2048x2048 (id (constant S_ .f32 0xFF800000#32)))
/-- Each row's largest score. -/
def big (s : FVec Ideal S4x6x2048x2048 .f32) : FVec Ideal S4x6x2048x1 .f32 :=
  broadcastInDim S4x6x2048x1 ![0, 1, 2] bcast_S4x6x2048_S4x6x2048x1_0_1_2 (Host.reduce FloatOps.maximumf s (constant S_ .f32 0xFF800000#32) reducesTo_S4x6x2048x2048_S4x6x2048_d3 h_S_)
/-- … `0` where it is no number. -/
def shift (b : FVec Ideal S4x6x2048x1 .f32) : FVec Ideal S4x6x2048x1 .f32 :=
  select (cmpf .olt (Host.absf b) (broadcastInDim S4x6x2048x1 ![] bcast_S_S4x6x2048x1 (constant S_ .f32 0x7F800000#32))) b (broadcastInDim S4x6x2048x1 ![] bcast_S_S4x6x2048x1 (id (constant S_ .f32 0x00000000#32)))
/-- The weights. -/
def wt (s : FVec Ideal S4x6x2048x2048 .f32) (b : FVec Ideal S4x6x2048x1 .f32) : FVec Ideal S4x6x2048x2048 .f32 :=
  Host.exp (subf s (broadcastInDim S4x6x2048x2048 ![0, 1, 2, 3] bcast_S4x6x2048x1_S4x6x2048x2048_0_1_2_3 b))
/-- The sums of weights. -/
def tot (w : FVec Ideal S4x6x2048x2048 .f32) : FVec Ideal S4x6x2048x1 .f32 :=
  broadcastInDim S4x6x2048x1 ![0, 1, 2] bcast_S4x6x2048_S4x6x2048x1_0_1_2 (Host.reduceAdd w (constant S_ .f32 0x00000000#32) reducesTo_S4x6x2048x2048_S4x6x2048_d3 h_S_)
/-- … `1` where not positive. -/
def safe (d : FVec Ideal S4x6x2048x1 .f32) : FVec Ideal S4x6x2048x1 .f32 :=
  select (cmpf .ogt d (broadcastInDim S4x6x2048x1 ![] bcast_S_S4x6x2048x1 (constant S_ .f32 0x00000000#32))) d (broadcastInDim S4x6x2048x1 ![] bcast_S_S4x6x2048x1 (id (constant S_ .f32 0x3F800000#32)))
/-- The weights over their sums. -/
def prob (w : FVec Ideal S4x6x2048x2048 .f32) (d : FVec Ideal S4x6x2048x1 .f32) : FVec Ideal S4x6x2048x2048 .f32 :=
  Host.divf w (broadcastInDim S4x6x2048x2048 ![0, 1, 2, 3] bcast_S4x6x2048x1_S4x6x2048x2048_0_1_2_3 d)
/-- The weighted values, by token and head. -/
def mix (kv : FVec Ideal S4x2048x384 .f32) (p : FVec Ideal S4x6x2048x2048 .f32) : FVec Ideal S8192x1536 .bf16 :=
  truncf .bf16 (shapeCast _ (transpose S4x2048x6x256 [0, 3, 2, 1] (Host.dotGeneral dot_S4x2048x256_S4x6x2048x2048_S4x256x6x2048_1_3_2_12_0_0 none (extractStridedSlice S4x2048x256 ![0, 0, 0] kv slices_S4x2048x384_S4x2048x256_0_0_0) (extf .f32 (truncf .bf16 p bitsLt_bf16_f32) bitsLt_bf16_f32)) transposes_S4x256x6x2048_S4x2048x6x256_0_3_2_1) shapeCasts_S4x2048x6x256_S8192x1536) bitsLt_bf16_f32

variable (m : (ℓ : Loc nD τ sig) → Buf (Elt Ideal) ℓ) (c : Dev nD)

/-- The scores of the arguments. -/
def sco (Q : FVec Ideal S6x8704x384 .bf16) (KV : FVec Ideal S8704x384 .bf16) : FVec Ideal S4x6x2048x2048 .f32 := masked (raw (q4 Q) (kv3 KV))

theorem res_eq : Value.res_main_v42 m c = mix (kv3 (m ((c.tc : Thread nD τ).loc main_arg1)))
    (prob (wt (sco (m ((c.tc : Thread nD τ).loc main_arg0)) (m ((c.tc : Thread nD τ).loc main_arg1))) (shift (big (sco (m ((c.tc : Thread nD τ).loc main_arg0)) (m ((c.tc : Thread nD τ).loc main_arg1))))))
      (safe (tot (wt (sco (m ((c.tc : Thread nD τ).loc main_arg0)) (m ((c.tc : Thread nD τ).loc main_arg1))) (shift (big (sco (m ((c.tc : Thread nD τ).loc main_arg0)) (m ((c.tc : Thread nD τ).loc main_arg1))))))))) := by
  unfold Value.res_main_v42
  rfl

section
variable (Q : FVec Ideal S6x8704x384 .bf16) (KV : FVec Ideal S8704x384 .bf16) (q : FVec Ideal S6x4x2048x384 .f32) (kv : FVec Ideal S4x2048x384 .f32) (r s w : FVec Ideal S4x6x2048x2048 .f32) (d : FVec Ideal S4x6x2048x1 .f32)
  (b : Fin 4) (h : Fin 6) (p j : Fin 2048) (x : Fin 384) (z : Fin 1)

theorem kv3_at : kv3 KV (ix3 b p x) = KV (ix2 (⟨b.val * 2048 + p.val, by omega⟩ : Fin 8704) x) := by
  pointwise [kv3]
theorem q4_at : q4 Q (ix4 h b p x) = Q (ix3 h (⟨b.val * 2048 + p.val, by omega⟩ : Fin 8704) x) := by
  pointwise [q4]
theorem raw_at : raw q kv (ix4 b h p j) = ∑ x : Fin 256, q (ix4 h b p (⟨x.val, by omega⟩ : Fin 384)) * kv (ix3 b j (⟨x.val, by omega⟩ : Fin 384))
    + ∑ x : Fin 128, q (ix4 h b p (⟨256 + x.val, by omega⟩ : Fin 384)) * kv (ix3 b j (⟨256 + x.val, by omega⟩ : Fin 384)) := by
  pointwise [raw]
theorem neg_inf : (Ideal.ofBits FTy.f32 0xFF800000#32 : EReal) = ⊥ := by simp [Ideal.ofBits, Ideal.ieee]
theorem pos_inf : (Ideal.ofBits FTy.f32 0x7F800000#32 : EReal) = ⊤ := by simp [Ideal.ofBits, Ideal.ieee]
theorem zero_bits : (Ideal.ofBits FTy.f32 0#32 : EReal) = 0 := by simp [Ideal.ofBits, Ideal.ieee]
theorem one_bits : (Ideal.ofBits FTy.f32 0x3F800000#32 : EReal) = 1 := by
  simp [Ideal.ofBits, Ideal.ieee, -EReal.coe_mul]; norm_num

theorem masked_at : masked r (ix4 b h p j) = if j.val ≤ p.val then r (ix4 b h p j) else ⊥ := by
  have e : masked r (ix4 b h p j) = Scalar.select (IntOp.cmpi CmpIPredicate.sle (BitVec.ofNat 32 j.val) (BitVec.ofNat 32 p.val)) (r (ix4 b h p j))
      (Ideal.ofBits FTy.f32 0xFF800000#32 : EReal) := by
    pointwise [masked]
    rfl
  rw [e, WordCmp.cmpi_sle_ofNat (by have := j.isLt; omega) (by have := p.isLt; omega), neg_inf]
  by_cases hj : j.val ≤ p.val <;> simp [Scalar.select, hj]
theorem big_at : big s (ix4 b h p z) = Finset.univ.fold max ⊥ fun j : Fin 2048 => s (ix4 b h p j) := by
  pointwise [big]
  rw [neg_inf]
theorem shift_at (t : ℝ) (ht : d (ix4 b h p z) = (t : EReal)) : shift d (ix4 b h p z) = d (ix4 b h p z) := by
  pointwise [shift]
  rw [if_pos]
  rw [pos_inf, ht]
  show max (t : EReal) (-(t : EReal)) < ⊤
  exact max_lt (EReal.coe_lt_top t) (by rw [← EReal.coe_neg]; exact EReal.coe_lt_top _)
theorem wt_at : wt s d (ix4 b h p j) = Ideal.exp (s (ix4 b h p j) - d (ix4 b h p 0)) := by
  pointwise [wt]
theorem tot_at : tot w (ix4 b h p z) = ∑ j : Fin 2048, w (ix4 b h p j) := by
  pointwise [tot]
theorem safe_at (hd : 0 < d (ix4 b h p z)) : safe d (ix4 b h p z) = d (ix4 b h p z) := by
  pointwise [safe]
  exact if_pos hd
theorem prob_at : prob w d (ix4 b h p j) = Ideal.div (w (ix4 b h p j)) (d (ix4 b h p 0)) := by
  pointwise [prob]
theorem mix_at (y : Fin 8192) (e : Fin 1536) : mix kv w (ix2 y e) = ∑ j : Fin 2048, kv (ix3 (⟨y.val / 2048, by omega⟩ : Fin 4) j (⟨e.val % 256, by omega⟩ : Fin 384))
      * w (ix4 (⟨y.val / 2048, by omega⟩ : Fin 4) (⟨e.val / 256, by omega⟩ : Fin 6) (⟨y.val % 2048, by omega⟩ : Fin 2048) j) := by
  pointwise [mix]

theorem sco_at : sco Q KV (ix4 b h p j) = rs Q KV b h p j.val := by
  unfold sco rs
  rw [masked_at, dif_pos j.isLt, raw_at]
  congr 1
  simp only [q4_at, kv3_at]
  exact (Fin.sum_univ_add (a := 256) (b := 128) fun x : Fin 384 => Q (ix3 h (⟨b.val * 2048 + p.val, by omega⟩ : Fin 8704) x) * KV (ix2 (⟨b.val * 2048 + j.val, by omega⟩ : Fin 8704) x)).symm

variable {Q KV} (hf : Finite Q KV)
include hf

theorem big_eq : big (sco Q KV) (ix4 b h p z) = top (rs Q KV b h p) 2048 := by
  rw [big_at]
  simp only [sco_at]
  have e := top_step (s := rs Q KV b h p) 0 2048
  rw [top_zero] at e
  simp only [Nat.zero_add] at e
  rw [← e]
  exact (max_eq_right bot_le).symm
theorem wt_eq : wt (sco Q KV) (shift (big (sco Q KV))) (ix4 b h p j) = Ideal.exp (rs Q KV b h p j.val - top (rs Q KV b h p) 2048) := by
  obtain ⟨t, ht⟩ := top_coe (rs_row hf b h p) (n := 2048) (by norm_num)
  rw [wt_at, shift_at _ _ _ _ _ t ((big_eq b h p 0 hf).trans ht), big_eq b h p 0 hf, sco_at]
theorem tot_eq : tot (wt (sco Q KV) (shift (big (sco Q KV)))) (ix4 b h p z) = den (rs Q KV b h p) 2048 := by
  rw [tot_at]
  simp only [wt_eq b h p _ hf]
  exact (Finset.sum_range fun j => Ideal.exp (rs Q KV b h p j - top (rs Q KV b h p) 2048)).symm
theorem prob_eq : prob (wt (sco Q KV) (shift (big (sco Q KV)))) (safe (tot (wt (sco Q KV) (shift (big (sco Q KV)))))) (ix4 b h p j)
    = Ideal.div (Ideal.exp (rs Q KV b h p j.val - top (rs Q KV b h p) 2048)) (den (rs Q KV b h p) 2048) := by
  obtain ⟨t, h0, ht⟩ := den_pos (rs_row hf b h p) (n := 2048) (by norm_num)
  rw [prob_at, safe_at, tot_eq b h p 0 hf, wt_eq b h p j hf]
  rw [tot_eq b h p 0 hf, ht]
  exact EReal.coe_pos.2 h0
theorem mix_eq (y : Fin 8192) (e : Fin 1536) : mix (kv3 KV) (prob (wt (sco Q KV) (shift (big (sco Q KV)))) (safe (tot (wt (sco Q KV) (shift (big (sco Q KV))))))) (ix2 y e)
    = att Q KV (⟨y.val / 2048, by omega⟩ : Fin 4) (⟨e.val / 256, by omega⟩ : Fin 6) (⟨y.val % 2048, by omega⟩ : Fin 2048) (⟨e.val % 256, by omega⟩ : Fin 256) := by
  rw [mix_at]
  simp only [prob_eq _ _ _ _ hf, kv3_at]
  unfold att
  rw [← div_num (rs_row hf _ _ _) (rv_num hf _ _) (by norm_num), Finset.sum_range]
  refine Finset.sum_congr rfl fun j _ => ?_
  congr 1
  unfold rv
  rw [dif_pos j.isLt]
end

end Cert.ReferenceIdeal.Att
end
-- ==== Proof.Pre.lean ====
module
public import proofs.«01_k».proof.Pre_finite
public import proofs.«01_k».proof.Proof.Model
public import Idealize.ShloMosaic.Lib.Affine
public import Idealize.ShloMosaic.Lib.ReduceAll
@[expose] public section
set_option maxRecDepth 16384
noncomputable section
namespace Cert.Pre_finite.Dec
open Cert.Pre_finite Idealize.ShloMosaic Cert.Model

theorem facts : Cert.Pre_finite.Facts where
  bitsLt_bf16_f32 := by decide
  slices_S6x8704x384_S6x8192x384_0_0_0 := by decide
  bcast_S_S6x8192x384 := by decide
  reducesTo_S6x8192x384_S_d0_1_2 := by decide
  h_S_ := by decide
  slices_S8704x384_S8192x384_0_0 := by decide
  bcast_S_S8192x384 := by decide
  reducesTo_S8192x384_S_d0_1 := by decide

theorem real_of_abs {x : EReal} (h : max x (-x) < ⊤) : ∃ r : ℝ, x = (r : EReal) := by
  induction x using EReal.rec with
  | bot => simp at h
  | top => simp at h
  | coe r => exact ⟨r, rfl⟩

theorem real_of_cmp {x : EReal} (h : FloatOps.cmpf (F := Ideal) (φ := .f32) .olt (FloatOps.hostAbsf (F := Ideal) (φ := .f32) x) (Ideal.ofBits .f32 0x7F800000#32) = 1#1) : ∃ r : ℝ, x = (r : EReal) := by
  refine real_of_abs ?_
  have e : (Ideal.ofBits .f32 0x7F800000#32 : EReal) = ⊤ := by simp [Ideal.ofBits, Ideal.ieee]
  by_contra hn
  rw [e] at h
  revert h
  show ¬ (BitVec.ofBool (decide (max x (-x) < ⊤)) = 1#1)
  simp [hn]

theorem finite_of [Cert.Pre_finite.Facts] {Q : FVec Ideal S6x8704x384 .bf16} {KV : FVec Ideal S8704x384 .bf16}
    (h : Cert.Pre_finite.fn (F := Ideal) Q KV = fun _ => 1#1) : Finite Q KV := by
  have h0 := congrFun h ix0
  have h1 := IntOp.andi_eq_one.1 h0
  constructor
  · intro a n x hn
    have := Host.reduce_andi_all _ _ _ _ ix0 h1.1 (ix3 a (⟨n.val, hn⟩ : Fin 8192) x)
    have e := real_of_cmp this
    revert e
    pointwise
    exact id
  · intro n x hn
    have := Host.reduce_andi_all _ _ _ _ ix0 h1.2 (ix2 (⟨n.val, hn⟩ : Fin 8192) x)
    have e := real_of_cmp this
    revert e
    pointwise
    exact id
end Cert.Pre_finite.Dec
end
-- ==== Proof.Rms.lean ====
/- The layer's dense parts on rows of extended reals: a root-mean-square scaling, and a feed-forward part
   that squares the positive parts of its hidden values; sums taken block by block. -/
module
public import Idealize.ShloMosaic.PureOps.Ideal
@[expose] public section
noncomputable section
namespace Cert.Rms
open Idealize.ShloMosaic

/-- A row divided by the root of its mean square, times a gain. -/
def nrm (x g : Fin 2048 → EReal) (k : Fin 2048) : EReal :=
  x k * Ideal.rsqrt (Ideal.div (∑ l, x l * x l) (Ideal.ofBits FTy.f32 1157627904#32) + Ideal.ofBits FTy.f32 897988541#32) * g k

/-- The squared positive part of hidden value `f`. -/
def hid (a : Fin 2048 → EReal) (w : Fin 2048 → Fin 8192 → EReal) (f : Fin 8192) : EReal :=
  max (∑ k, a k * w k f) 0 * max (∑ k, a k * w k f) 0

/-- Column `d` of the feed-forward part of a row, with the row added back. -/
def mlp (x g : Fin 2048 → EReal) (w : Fin 2048 → Fin 8192 → EReal) (v : Fin 8192 → Fin 2048 → EReal) (d : Fin 2048) : EReal :=
  x d + ∑ f, hid (nrm x g) w f * v f d

/-- A sum of 8192 terms, its first `n` blocks of 1024. -/
def part (T : Fin 8192 → EReal) (n : ℕ) : EReal := ∑ f ∈ Finset.range (n * 1024), if h : f < 8192 then T ⟨f, h⟩ else 0

theorem part_zero (T : Fin 8192 → EReal) : part T 0 = 0 := by
  unfold part
  rw [Nat.zero_mul, Finset.sum_range_zero]

theorem part_succ (T : Fin 8192 → EReal) (n : ℕ) (hn : n < 8) :
    part T (n + 1) = part T n + ∑ f : Fin 1024, T ⟨n * 1024 + f.val, by omega⟩ := by
  unfold part
  rw [Nat.succ_mul, Finset.sum_range_add]
  refine congrArg (_ + ·) ?_
  rw [Finset.sum_range]
  exact Finset.sum_congr rfl fun f _ => dif_pos (by omega)

theorem part_all (T : Fin 8192 → EReal) : part T 8 = ∑ f, T f := by
  unfold part
  rw [show 8 * 1024 = 8192 from rfl, Finset.sum_range]
  exact Finset.sum_congr rfl fun f _ => dif_pos f.isLt

end Cert.Rms
end
-- ==== Proof.Mlp.lean ====
module
public import proofs.«01_k».proof.Proof.Gen.Kernel2Ideal.Value
public import proofs.«01_k».proof.Proof.Rms
public import Idealize.ShloMosaic.Lib.Pipeline.ValueKit
public import Idealize.ShloMosaic.Lib.Claim
public import Idealize.ShloMosaic.Lib.Pipeline.ReadBack
@[expose] public section
set_option maxRecDepth 16384
noncomputable section
namespace Cert.Kernel2Ideal.Mlp
open Cert.Kernel2Ideal Cert.Kernel2Ideal.Gen Idealize.ShloMosaic Idealize.ShloMosaic.TcCoe Idealize.SL.Sem Cert.Rms
open Idealize.ShloMosaic.Pipeline (Dat)
variable (m : (ℓ : Loc nD τ sig) → Buf (Elt Ideal) ℓ)

theorem idx : ∀ t : Fin cfg0.N, win0_0.index t = ![t.val / 8, 0] ∧ win0_1.index t = ![0, 0] ∧ win0_2.index t = ![0, 0, t.val % 8] ∧ win0_3.index t = ![0, t.val % 8, 0] ∧ win0_4.index t = ![t.val / 8, 0] :=
  (by decide +kernel : ∀ t : Fin grid0.N, _)

theorem x_at (c : Dev nD) (t : Fin cfg0.N) (r : Fin 512) (k : Fin 2048) :
    iblk m c 0 t (ix2 r k) = m ((c : Thread nD τ).loc main_arg0) (ix2 (⟨t.val / 8 * 512 + r.val, by have : t.val < 136 := t.isLt; omega⟩ : Fin 8704) k) := by
  blk_ext [iblk, V, idx t]

theorem w1_at (c : Dev nD) (t : Fin cfg0.N) (k : Fin 2048) (f : Fin 1024) :
    iblk m c 2 t (ix3 0 k f) = m ((c : Thread nD τ).loc main_arg2) (ix3 0 k (⟨t.val % 8 * 1024 + f.val, by omega⟩ : Fin 8192)) := by
  blk_ext [iblk, V, idx t]

theorem g_at (c : Dev nD) (t : Fin cfg0.N) (k : Fin 2048) :
    iblk m c 1 t (ix2 0 k) = m ((c : Thread nD τ).loc main_arg1) (ix2 0 k) := by
  have e : V m c (main_v2) = broadcastInDim S1x2048 ![1] bcast_S2048_S1x2048_1 (shapeCast S2048 (extractStridedSlice S1x2048 ![0, 0] (m ((c : Thread nD τ).loc main_arg1)) slices_S4x2048_S1x2048_0_0) shapeCasts_S1x2048_S2048) := by
    entry_read
    rfl
  have e' : iblk m c 1 t (ix2 0 k) = V m c (main_v2) (ix2 0 k) := by
    blk_ext [iblk, idx t]
  rw [e', e]
  pointwise

theorem w2_at (c : Dev nD) (t : Fin cfg0.N) (f : Fin 1024) (d : Fin 2048) :
    iblk m c 3 t (ix3 0 f d) = m ((c : Thread nD τ).loc main_arg3) (ix3 0 (⟨t.val % 8 * 1024 + f.val, by omega⟩ : Fin 8192) d) := by
  blk_ext [iblk, V, idx t]

theorem pay1_at (x : Vec Ideal S512x2048 .f32) (g : Vec Ideal S1x2048 .f32) (r : Fin 512) (k : Fin 2048) :
    k0_pay1 x g (ix2 r k) = nrm (fun l => x (ix2 r l)) (fun l => g (ix2 0 l)) k := by
  pointwise [k0_pay1]
  rfl

theorem pay2_at (r : Fin 512) (d : Fin 2048) : k0_pay2 (F := Ideal) (ix2 r d) = 0 := by
  pointwise [k0_pay2]

theorem pay3_at (xn : Vec Ideal S512x2048 .bf16) (w1 : Vec Ideal S1x2048x1024 .bf16) (a : Vec Ideal S512x2048 .f32) (w2 : Vec Ideal S1x1024x2048 .bf16) (r : Fin 512) (d : Fin 2048) :
    k0_pay3 xn w1 a w2 (ix2 r d) = a (ix2 r d) + ∑ f : Fin 1024, max (∑ k : Fin 2048, xn (ix2 r k) * w1 (ix3 0 k f)) 0 * max (∑ k : Fin 2048, xn (ix2 r k) * w1 (ix3 0 k f)) 0 * w2 (ix3 0 f d) := by
  pointwise [k0_pay3]

theorem pay4_at (x a : Vec Ideal S512x2048 .f32) (r : Fin 512) (d : Fin 2048) :
    k0_pay4 x a (ix2 r d) = x (ix2 r d) + a (ix2 r d) := by
  pointwise [k0_pay4]

theorem xn_A (c : Dev nD) (t : Fin cfg0.N) (h0 : t.val % 8 = 0) (h1 : ¬t.val % 8 = 7) :
    (outsAt0 m c t.val t.isLt).2.1 = k0_pay1 (iblk m c 0 t) (iblk m c 1 t) := by
  rw [outsAt0_A m c t h0 h1]
  frame_out

theorem acc_A (c : Dev nD) (t : Fin cfg0.N) (h0 : t.val % 8 = 0) (h1 : ¬t.val % 8 = 7) :
    (outsAt0 m c t.val t.isLt).2.2 = k0_pay3 (k0_pay1 (iblk m c 0 t) (iblk m c 1 t)) (iblk m c 2 t) (k0_pay2 (F := Ideal)) (iblk m c 3 t) := by
  rw [outsAt0_A m c t h0 h1]
  frame_out

theorem xn_B (c : Dev nD) (t : Fin cfg0.N) (h0 : ¬t.val % 8 = 0) (h1 : ¬t.val % 8 = 7) :
    (outsAt0 m c t.val t.isLt).2.1 = (outsAt0 m c (t.val - 1) (Nat.lt_of_le_of_lt (Nat.sub_le _ _) t.isLt)).2.1 := by
  rw [outsAt0_B m c t h0 h1]
  rfl

theorem acc_B (c : Dev nD) (t : Fin cfg0.N) (h0 : ¬t.val % 8 = 0) (h1 : ¬t.val % 8 = 7) :
    (outsAt0 m c t.val t.isLt).2.2 = k0_pay3 (outsAt0 m c (t.val - 1) (Nat.lt_of_le_of_lt (Nat.sub_le _ _) t.isLt)).2.1 (iblk m c 2 t) (outsAt0 m c (t.val - 1) (Nat.lt_of_le_of_lt (Nat.sub_le _ _) t.isLt)).2.2 (iblk m c 3 t) := by
  rw [outsAt0_B m c t h0 h1]
  frame_out
  rw [read_unread_whole, read_unread_whole]

theorem xn_C (c : Dev nD) (t : Fin cfg0.N) (h0 : ¬t.val % 8 = 0) (h1 : t.val % 8 = 7) :
    (outsAt0 m c t.val t.isLt).2.1 = (outsAt0 m c (t.val - 1) (Nat.lt_of_le_of_lt (Nat.sub_le _ _) t.isLt)).2.1 := by
  rw [outsAt0_C m c t h0 h1]
  rfl

theorem acc_C (c : Dev nD) (t : Fin cfg0.N) (h0 : ¬t.val % 8 = 0) (h1 : t.val % 8 = 7) :
    (outsAt0 m c t.val t.isLt).2.2 = k0_pay3 (outsAt0 m c (t.val - 1) (Nat.lt_of_le_of_lt (Nat.sub_le _ _) t.isLt)).2.1 (iblk m c 2 t) (outsAt0 m c (t.val - 1) (Nat.lt_of_le_of_lt (Nat.sub_le _ _) t.isLt)).2.2 (iblk m c 3 t) := by
  rw [outsAt0_C m c t h0 h1]
  frame_out
  rw [read_unread_whole, read_unread_whole]

theorem out_C (c : Dev nD) (t : Fin cfg0.N) (h0 : ¬t.val % 8 = 0) (h1 : t.val % 8 = 7) :
    (outsAt0 m c t.val t.isLt).1 = k0_pay4 (iblk m c 0 t) (outsAt0 m c t.val t.isLt).2.2 := by
  rw [acc_C m c t h0 h1, outsAt0_C m c t h0 h1]
  frame_out
  rw [read_unread_whole, read_unread_whole]

/-- Row `i` of the tokens, the gain, and the two weight matrices of layer 0. -/
def xr (c : Dev nD) (i : ℕ) (hi : i < 8704) : Fin 2048 → EReal := fun k => m ((c : Thread nD τ).loc main_arg0) (ix2 (⟨i, hi⟩ : Fin 8704) k)
def gr (c : Dev nD) : Fin 2048 → EReal := fun k => m ((c : Thread nD τ).loc main_arg1) (ix2 0 k)
def wr (c : Dev nD) : Fin 2048 → Fin 8192 → EReal := fun k f => m ((c : Thread nD τ).loc main_arg2) (ix3 0 k f)
def vr (c : Dev nD) : Fin 8192 → Fin 2048 → EReal := fun f d => m ((c : Thread nD τ).loc main_arg3) (ix3 0 f d)

theorem row_lt {n : ℕ} (hn : n < cfg0.N) (r : Fin 512) : n / 8 * 512 + r.val < 8704 := by
  have : n < 136 := hn
  omega

/-- One step of the hidden sum. -/
theorem step (c : Dev nD) (t : Fin cfg0.N) (xn : Vec Ideal S512x2048 .bf16) (a : Vec Ideal S512x2048 .f32) (r : Fin 512) (d : Fin 2048)
    (hx : ∀ k, xn (ix2 r k) = nrm (xr m c _ (row_lt t.isLt r)) (gr m c) k)
    (ha : a (ix2 r d) = part (fun f => hid (nrm (xr m c _ (row_lt t.isLt r)) (gr m c)) (wr m c) f * vr m c f d) (t.val % 8)) :
    k0_pay3 xn (iblk m c 2 t) a (iblk m c 3 t) (ix2 r d)
      = part (fun f => hid (nrm (xr m c _ (row_lt t.isLt r)) (gr m c)) (wr m c) f * vr m c f d) (t.val % 8 + 1) := by
  rw [pay3_at, ha, part_succ _ _ (Nat.mod_lt _ (by norm_num))]
  refine congrArg (_ + ·) (Finset.sum_congr rfl fun f _ => ?_)
  have e : ∑ k : Fin 2048, xn (ix2 r k) * iblk m c 2 t (ix3 0 k f) = ∑ k : Fin 2048, nrm (xr m c _ (row_lt t.isLt r)) (gr m c) k * wr m c k ⟨t.val % 8 * 1024 + f.val, by omega⟩ :=
    Finset.sum_congr rfl fun k _ => by rw [hx, w1_at]; rfl
  rw [e, w2_at]
  rfl

theorem nrm_at (c : Dev nD) (t : Fin cfg0.N) (r : Fin 512) (k : Fin 2048) :
    k0_pay1 (iblk m c 0 t) (iblk m c 1 t) (ix2 r k) = nrm (xr m c _ (row_lt t.isLt r)) (gr m c) k := by
  rw [pay1_at]
  refine congrArg₂ (fun a b => nrm a b k) (funext fun l => ?_) (funext fun l => ?_)
  · exact x_at m c t r l
  · exact g_at m c t l

/-- What the two carried buffers hold after each point. -/
theorem inv (c : Dev nD) : ∀ (n : ℕ) (hn : n < cfg0.N) (r : Fin 512),
    (∀ k, (outsAt0 m c n hn).2.1 (ix2 r k) = nrm (xr m c _ (row_lt hn r)) (gr m c) k)
    ∧ ∀ d, (outsAt0 m c n hn).2.2 (ix2 r d) = part (fun f => hid (nrm (xr m c _ (row_lt hn r)) (gr m c)) (wr m c) f * vr m c f d) (n % 8 + 1) := by
  intro n
  induction n with
  | zero =>
    intro hn r
    have hx := xn_A m c ⟨0, hn⟩ rfl (by norm_num)
    have ha := acc_A m c ⟨0, hn⟩ rfl (by norm_num)
    dsimp only at hx ha
    rw [hx, ha]
    exact ⟨fun k => nrm_at m c ⟨0, hn⟩ r k, fun d => step m c ⟨0, hn⟩ _ _ r d (nrm_at m c ⟨0, hn⟩ r) (by rw [pay2_at]; exact (part_zero _).symm)⟩
  | succ n ih =>
    intro hn r
    by_cases h0 : (n + 1) % 8 = 0
    · have hx := xn_A m c ⟨n + 1, hn⟩ h0 (by dsimp only; omega)
      have ha := acc_A m c ⟨n + 1, hn⟩ h0 (by dsimp only; omega)
      dsimp only at hx ha
      rw [hx, ha]
      exact ⟨fun k => nrm_at m c ⟨n + 1, hn⟩ r k, fun d => step m c ⟨n + 1, hn⟩ _ _ r d (nrm_at m c ⟨n + 1, hn⟩ r)
        (by rw [pay2_at]; dsimp only; rw [h0]; exact (part_zero _).symm)⟩
    · have hx : (outsAt0 m c (n + 1) hn).2.1 = (outsAt0 m c n (Nat.lt_of_succ_lt hn)).2.1 := by
        by_cases h1 : (n + 1) % 8 = 7
        · exact xn_C m c ⟨n + 1, hn⟩ h0 h1
        · exact xn_B m c ⟨n + 1, hn⟩ h0 h1
      have ha : (outsAt0 m c (n + 1) hn).2.2 = k0_pay3 (outsAt0 m c n (Nat.lt_of_succ_lt hn)).2.1 (iblk m c 2 ⟨n + 1, hn⟩) (outsAt0 m c n (Nat.lt_of_succ_lt hn)).2.2 (iblk m c 3 ⟨n + 1, hn⟩) := by
        by_cases h1 : (n + 1) % 8 = 7
        · exact acc_C m c ⟨n + 1, hn⟩ h0 h1
        · exact acc_B m c ⟨n + 1, hn⟩ h0 h1
      obtain ⟨ix, ia⟩ := ih (Nat.lt_of_succ_lt hn) r
      have e8 : n / 8 = (n + 1) / 8 := by omega
      have em : n % 8 + 1 = (n + 1) % 8 := by omega
      have er : xr m c _ (row_lt (Nat.lt_of_succ_lt hn) r) = xr m c _ (row_lt hn r) := by
        unfold xr
        simp only [e8]
      rw [er] at ix ia
      rw [em] at ia
      rw [hx, ha]
      exact ⟨ix, fun d => step m c ⟨n + 1, hn⟩ _ _ r d ix (ia d)⟩

/-- The feed-forward part as one array. -/
def full (X : FVec Ideal S8704x2048 .f32) (G : FVec Ideal S4x2048 .f32) (W : FVec Ideal S4x2048x8192 .f32) (U : FVec Ideal S4x8192x2048 .f32) : FVec Ideal S8704x2048 .f32 := fun y =>
  mlp (fun k => X (ix2 (y 0) k)) (fun k => G (ix2 0 k)) (fun k f => W (ix3 0 k f)) (fun f d => U (ix3 0 f d)) (y 1)

theorem out_at (c : Dev nD) (t : Fin cfg0.N) (h1 : t.val % 8 = 7) (r : Fin 512) (d : Fin 2048) :
    (outsAt0 m c t.val t.isLt).1 (ix2 r d) = mlp (xr m c _ (row_lt t.isLt r)) (gr m c) (wr m c) (vr m c) d := by
  rw [out_C m c t (by omega) h1, pay4_at, x_at, (inv m c t.val t.isLt r).2 d, h1, part_all]
  rfl

theorem point (c : Dev nD) (t : Fin cfg0.N) (h1 : t.val % 8 = 7) (r : Fin 512) (d : Fin 2048) (z : S8704x2048.Idx) (hz0 : (z 0).val = t.val / 8 * 512 + r.val) (hz1 : (z 1).val = d.val) :
    (outsAt0 m c t.val t.isLt).1 (ix2 r d) = full (m ((c : Thread nD τ).loc main_arg0)) (m ((c : Thread nD τ).loc main_arg1)) (m ((c : Thread nD τ).loc main_arg2)) (m ((c : Thread nD τ).loc main_arg3)) z := by
  rw [out_at m c t h1]
  unfold full xr gr wr vr
  have e0 : z 0 = (⟨t.val / 8 * 512 + r.val, row_lt t.isLt r⟩ : Fin 8704) := Fin.ext hz0
  have e1 : z 1 = d := Fin.ext hz1
  rw [e0, e1]

/-- The result array after the run. -/
theorem final (c : Dev nD) : (dats m 0 c).arrAt 4 cfg0.N = full (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h1 : t.val % 8 = 7 := (flush0_4 t).mp hf
  blk_simp
  rw [after0_4]
  idx_vars y
  refine point m c t h1 _ _ _ ?_ ?_
  all_goals blk_simp [idx t]
end Cert.Kernel2Ideal.Mlp
end
-- ==== Proof.MlpRef.lean ====
module
public import proofs.«01_k».proof.Proof.Gen.Reference2Ideal.Run
public import proofs.«01_k».proof.Proof.Mlp
@[expose] public section
set_option maxRecDepth 16384
noncomputable section
namespace Cert.Reference2Ideal.Mlp
open Cert.Reference2Ideal Cert.Reference2Ideal.Gen Idealize.ShloMosaic Idealize.ShloMosaic.TcCoe Idealize.SL.Sem Cert.Rms

/-- The scaled rows. -/
def xn (X : FVec Ideal S8704x2048 .f32) (G : FVec Ideal S4x2048 .f32) : FVec Ideal S8704x2048 .f32 :=
  mulf (mulf X (broadcastInDim S8704x2048 ![0, 1] bcast_S8704x1_S8704x2048_0_1 (Host.rsqrt (addf (Host.divf (broadcastInDim S8704x1 ![0] bcast_S8704_S8704x1_0 (Host.reduceAdd (mulf X X) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ (extractStridedSlice S1x2048 ![0, 0] G slices_S4x2048_S1x2048_0_0) shapeCasts_S1x2048_S2048)))
/-- The hidden values, positive parts. -/
def pos (a : FVec Ideal S8704x2048 .f32) (W : FVec Ideal S4x2048x8192 .f32) : FVec Ideal S8704x8192 .f32 :=
  maximumf (Host.dotGeneral dot_S8704x2048_S2048x8192_S8704x8192_1_0_0_1_n_n none a (shapeCast _ (extractStridedSlice S1x2048x8192 ![0, 0, 0] W slices_S4x2048x8192_S1x2048x8192_0_0_0) shapeCasts_S1x2048x8192_S2048x8192)) (broadcastInDim S8704x8192 ![] bcast_S_S8704x8192 (constant S_ .f32 0x00000000#32))
/-- The result from the hidden values. -/
def out (X : FVec Ideal S8704x2048 .f32) (h : FVec Ideal S8704x8192 .f32) (U : FVec Ideal S4x8192x2048 .f32) : FVec Ideal S8704x2048 .f32 :=
  addf X (Host.dotGeneral dot_S8704x8192_S8192x2048_S8704x2048_1_0_0_1_n_n none (mulf h h) (shapeCast _ (extractStridedSlice S1x8192x2048 ![0, 0, 0] U slices_S4x8192x2048_S1x8192x2048_0_0_0) shapeCasts_S1x8192x2048_S8192x2048))

variable (X : FVec Ideal S8704x2048 .f32) (G : FVec Ideal S4x2048 .f32) (a : FVec Ideal S8704x2048 .f32) (W : FVec Ideal S4x2048x8192 .f32) (h : FVec Ideal S8704x8192 .f32) (U : FVec Ideal S4x8192x2048 .f32)
  (i : Fin 8704) (k : Fin 2048) (f : Fin 8192)

theorem xn_at : xn X G (ix2 i k) = nrm (fun l => X (ix2 i l)) (fun l => G (ix2 0 l)) k := by
  pointwise [xn]
  rfl
theorem pos_at : pos a W (ix2 i f) = max (∑ k : Fin 2048, a (ix2 i k) * W (ix3 0 k f)) 0 := by
  pointwise [pos]
theorem out_at : out X h U (ix2 i k) = X (ix2 i k) + ∑ f : Fin 8192, h (ix2 i f) * h (ix2 i f) * U (ix3 0 f k) := by
  pointwise [out]

/-- The reference's stages compute the feed-forward part. -/
theorem full_eq : out X (pos (xn X G) W) U = Cert.Kernel2Ideal.Mlp.full X G W U := by
  funext y
  idx_vars y
  rw [out_at]
  show _ = mlp _ _ _ _ _
  refine congrArg (_ + ·) (Finset.sum_congr rfl fun f _ => ?_)
  rw [pos_at]
  simp only [xn_at]
  rfl
end Cert.Reference2Ideal.Mlp
end
-- ==== Proof.Inproj.lean ====
module
public import proofs.«01_k».proof.Proof.Gen.Kernel3Ideal.Frame
public import proofs.«01_k».proof.Proof.Rms
public import Idealize.ShloMosaic.Lib.Pipeline.ValueKit
public import Idealize.ShloMosaic.Lib.Claim
@[expose] public section
set_option maxRecDepth 16384
noncomputable section
namespace Cert.Kernel3Ideal.Inproj
open Cert.Kernel3Ideal Cert.Kernel3Ideal.Gen Idealize.ShloMosaic Idealize.ShloMosaic.TcCoe Idealize.SL.Sem Cert.Rms
open Idealize.ShloMosaic.Pipeline (Dat)
variable (m : (ℓ : Loc nD τ sig) → Buf (Elt Ideal) ℓ)

/-- The weight's rows: layer 0, transposed. -/
def rows (W : FVec Ideal S4x2048x3044 .f32) : FVec Ideal S3044x2048 .f32 :=
  shapeCast S3044x2048 (extractStridedSlice S3044x1x2048 ![0, 0, 0] (transpose S3044x4x2048 [2, 0, 1] W transposes_S4x2048x3044_S3044x4x2048_2_0_1) slices_S3044x4x2048_S3044x1x2048_0_0_0) shapeCasts_S3044x1x2048_S3044x2048
/-- … in the places the projection reads them from. -/
def packed (R : FVec Ideal S3044x2048 .f32) (z : FVec Ideal S_ .f32) : FVec Ideal S3200x2048 .bf16 :=
  truncf .bf16 (concatenate S3200x2048 0 [⟨S512x2048, extractStridedSlice S512x2048 ![0, 0] R slices_S3044x2048_S512x2048_0_0⟩,
    ⟨S256x2048, extractStridedSlice S256x2048 ![512, 0] R slices_S3044x2048_S256x2048_512_0⟩,
    ⟨S128x2048, pad S128x2048 ![0, 0] ![64, 0] ![0, 0] (extractStridedSlice S64x2048 ![768, 0] R slices_S3044x2048_S64x2048_768_0) z pads_S64x2048_S128x2048_0640_000 h_S_⟩,
    ⟨S768x2048, extractStridedSlice S768x2048 ![832, 0] R slices_S3044x2048_S768x2048_832_0⟩,
    ⟨S384x2048, extractStridedSlice S384x2048 ![1600, 0] R slices_S3044x2048_S384x2048_1600_0⟩,
    ⟨S128x2048, pad S128x2048 ![0, 0] ![92, 0] ![0, 0] (extractStridedSlice S36x2048 ![1984, 0] R slices_S3044x2048_S36x2048_1984_0) z pads_S36x2048_S128x2048_0920_000 h_S_⟩,
    ⟨S1024x2048, extractStridedSlice S1024x2048 ![2020, 0] R slices_S3044x2048_S1024x2048_2020_0⟩] (concatenates_S512x2048_S256x2048_S128x2048_S768x2048_S384x2048_S128x2048_S1024x2048_S3200x2048_d0)) bitsLt_bf16_f32

theorem rows_at (W : FVec Ideal S4x2048x3044 .f32) (j : Fin 3044) (k : Fin 2048) : rows W (ix2 j k) = W (ix3 0 k j) := by
  pointwise [rows]

/-- The packed row that holds weight column `j`. -/
def place (j : Fin 3044) : Fin 3200 := ⟨if j.val < 832 then j.val else if j.val < 2020 then j.val + 64 else j.val + 156, by split_ifs <;> omega⟩

theorem packed_at (R : FVec Ideal S3044x2048 .f32) (z : FVec Ideal S_ .f32) (j : Fin 3044) (k : Fin 2048) : packed R z (ix2 (place j) k) = R (ix2 j k) := by
  have hj := j.isLt
  have e : ∀ (n : ℕ) (hn : n < 3044), n = j.val → R (ix2 ⟨n, hn⟩ k) = R (ix2 j k) := by
    intro n hn h
    exact congrArg (fun q => R (ix2 q k)) (Fin.ext h)
  have hp : (place j).val = if j.val < 832 then j.val else if j.val < 2020 then j.val + 64 else j.val + 156 := rfl
  pointwise [packed]
  split_ifs at hp <;> split_ifs <;> first | (exfalso; omega) | (exact e _ _ (by omega))

/-- The projected rows, in the packed places. -/
def proj (X : FVec Ideal S8704x2048 .f32) (G : FVec Ideal S4x2048 .f32) (B : FVec Ideal S3200x2048 .bf16) : FVec Ideal S8704x3200 .f32 := fun y =>
  ∑ k : Fin 2048, nrm (fun l => X (ix2 (y 0) l)) (fun l => G (ix2 0 l)) k * B (ix2 (y 1) k)
/-- The columns of the result, taken out of the packed places. -/
def cols (Z : FVec Ideal S8704x3200 .f32) : FVec Ideal S8704x3044 .f32 :=
  concatenate S8704x3044 1 [⟨S8704x832, extractStridedSlice S8704x832 ![0, 0] Z slices_S8704x3200_S8704x832_0_0⟩, ⟨S8704x1188, extractStridedSlice S8704x1188 ![0, 896] Z slices_S8704x3200_S8704x1188_0_896⟩, ⟨S8704x1024, extractStridedSlice S8704x1024 ![0, 2176] Z slices_S8704x3200_S8704x1024_0_2176⟩] concatenates_S8704x832_S8704x1188_S8704x1024_S8704x3044_d1

theorem cols_at (Z : FVec Ideal S8704x3200 .f32) (i : Fin 8704) (j : Fin 3044) : cols Z (ix2 i j) = Z (ix2 i (place j)) := by
  have hj := j.isLt
  have e : ∀ (n : ℕ) (hn : n < 3200), n = (place j).val → Z (ix2 i ⟨n, hn⟩) = Z (ix2 i (place j)) := by
    intro n hn h
    exact congrArg (fun q => Z (ix2 i q)) (Fin.ext h)
  have hp : (place j).val = if j.val < 832 then j.val else if j.val < 2020 then j.val + 64 else j.val + 156 := rfl
  pointwise [cols]
  split_ifs at hp <;> split_ifs <;> first | (exfalso; omega) | (exact e _ _ (by omega))

/-- The projection as one array. -/
def full (X : FVec Ideal S8704x2048 .f32) (G : FVec Ideal S4x2048 .f32) (W : FVec Ideal S4x2048x3044 .f32) : FVec Ideal S8704x3044 .f32 := fun y =>
  ∑ k : Fin 2048, nrm (fun l => X (ix2 (y 0) l)) (fun l => G (ix2 0 l)) k * W (ix3 0 k (y 1))

theorem full_eq (X : FVec Ideal S8704x2048 .f32) (G : FVec Ideal S4x2048 .f32) (W : FVec Ideal S4x2048x3044 .f32) (z : FVec Ideal S_ .f32) : cols (proj X G (packed (rows W) z)) = full X G W := by
  funext y
  idx_vars y
  rw [cols_at]
  refine Finset.sum_congr rfl fun k _ => ?_
  exact congrArg (nrm (fun l => X (ix2 y0 l)) (fun l => G (ix2 0 l)) k * ·) ((packed_at _ _ _ _).trans (rows_at _ _ _))

theorem pay1_at (x : Vec Ideal S512x2048 .f32) (g : Vec Ideal S1x2048 .f32) (r : Fin 512) (k : Fin 2048) :
    k0_pay1 x g (ix2 r k) = nrm (fun l => x (ix2 r l)) (fun l => g (ix2 0 l)) k := by
  pointwise [k0_pay1]
  rfl
theorem pay2_at (x : Vec Ideal S512x2048 .bf16) (w : Vec Ideal S3200x2048 .bf16) (r : Fin 512) (p : Fin 3200) :
    k0_pay2 x w (ix2 r p) = ∑ k : Fin 2048, x (ix2 r k) * w (ix2 p k) := by
  pointwise [k0_pay2]

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem row_lt (t : Fin cfg0.N) (r : Fin 512) : t.val * 512 + r.val < 8704 := by
  have : t.val < 17 := t.isLt
  omega

theorem x_at (c : Dev nD) (t : Fin cfg0.N) (r : Fin 512) (k : Fin 2048) :
    iblk m c 0 t (ix2 r k) = m ((c : Thread nD τ).loc main_arg0) (ix2 (⟨t.val * 512 + r.val, row_lt t r⟩ : Fin 8704) k) := by
  have e' : iblk m c 0 t (ix2 r k) = V m c main_arg0 (ix2 (⟨t.val * 512 + r.val, row_lt t r⟩ : Fin 8704) k) := by
    blk_ext [iblk, idx t]
  rw [e', V_main_arg0]

theorem g_at (c : Dev nD) (t : Fin cfg0.N) (k : Fin 2048) :
    iblk m c 1 t (ix2 0 k) = m ((c : Thread nD τ).loc main_arg1) (ix2 0 k) := by
  have e : V m c main_v2 = broadcastInDim S1x2048 ![1] bcast_S2048_S1x2048_1 (shapeCast S2048 (extractStridedSlice S1x2048 ![0, 0] (m ((c : Thread nD τ).loc main_arg1)) slices_S4x2048_S1x2048_0_0) shapeCasts_S1x2048_S2048) := by
    entry_read
    rfl
  have e' : iblk m c 1 t (ix2 0 k) = V m c main_v2 (ix2 0 k) := by
    blk_ext [iblk, idx t]
  rw [e', e]
  pointwise

theorem w_entry (c : Dev nD) : V m c main_v16 = packed (rows (m ((c : Thread nD τ).loc main_arg2))) (sitofp .f32 (constantI S_ 32 0#32)) := by
  entry_read
  rfl

theorem w_at (c : Dev nD) (t : Fin cfg0.N) (p : Fin 3200) (k : Fin 2048) :
    iblk m c 2 t (ix2 p k) = packed (rows (m ((c : Thread nD τ).loc main_arg2))) (sitofp .f32 (constantI S_ 32 0#32)) (ix2 p k) := by
  have e' : iblk m c 2 t (ix2 p k) = V m c main_v16 (ix2 p k) := by
    blk_ext [iblk, idx t]
  rw [e', w_entry]

theorem out_eq (c : Dev nD) (t : Fin cfg0.N) : outsAt0 m c t = k0_pay2 (k0_pay1 (iblk m c 0 t) (iblk m c 1 t)) (iblk m c 2 t) := by
  unfold outsAt0
  frame_out

theorem point (c : Dev nD) (t : Fin cfg0.N) (r : Fin 512) (p : Fin 3200) (z : S8704x3200.Idx) (hz0 : (z 0).val = t.val * 512 + r.val) (hz1 : (z 1).val = p.val) :
    outsAt0 m c t (ix2 r p) = proj (m ((c : Thread nD τ).loc main_arg0)) (m ((c : Thread nD τ).loc main_arg1)) (packed (rows (m ((c : Thread nD τ).loc main_arg2))) (sitofp .f32 (constantI S_ 32 0#32))) z := by
  rw [out_eq, pay2_at]
  unfold proj
  have e0 : z 0 = (⟨t.val * 512 + r.val, row_lt t r⟩ : Fin 8704) := Fin.ext hz0
  have e1 : z 1 = p := Fin.ext hz1
  rw [e0, e1]
  refine Finset.sum_congr rfl fun k _ => ?_
  rw [pay1_at, w_at]
  refine congrArg (· * _) ?_
  refine congrArg₂ (fun a b => nrm a b k) (funext fun l => ?_) (funext fun l => ?_)
  · exact x_at m c t r l
  · exact g_at m c t l

theorem region (c : Dev nD) : (dats m 0 c).arrAt 3 cfg0.N = proj (m ((c : Thread nD τ).loc main_arg0)) (m ((c : Thread nD τ).loc main_arg1)) (packed (rows (m ((c : Thread nD τ).loc main_arg2))) (sitofp .f32 (constantI S_ 32 0#32))) := by
  refine (dats m 0 c).arrAt_eq_of_covers 3 _ (by decide +kernel) fun t hf y => ?_
  blk_simp
  rw [after0_3]
  idx_vars y
  refine point m c t _ _ _ ?_ ?_
  all_goals blk_simp [idx t]

theorem tail (c : Dev nD) : Pipeline.afterTail₀ cfgs (dats m) 0 (V0 m) [hostOps1] c main_v21 = cols ((dats m 0 c).arrAt 3 cfg0.N) := by
  unfold Pipeline.afterTail₀
  have e : Pipeline.withArrays (cfgs 0).spec c (V0 m c) (fun w => (dats m 0 c).arrAt w (cfgs 0).N) (Proc.tc.devRef main_v17) = (dats m 0 c).arrAt 3 cfg0.N :=
    Pipeline.withArrays_arr spec0 (by decide) c (V0 m c) (fun w => (dats m 0 c).arrAt w (cfgs 0).N) 3
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl

theorem run_final (g : Dev nD → PrngReg) : θ_run (defs (F := Ideal)) (onTc (τ := τ) (main (F := Ideal))) ⟨m, fun _ => 0, g⟩ (fun r => ∀ c : Dev nD,
      r.2.mem ((c.tc : Thread nD τ).loc main_v21) = full (m ((c : Thread nD τ).loc main_arg0)) (m ((c : Thread nD τ).loc main_arg1)) (m ((c : Thread nD τ).loc main_arg2))) := by
  run_from Gen.run_main m g
  rw [tail, region, full_eq]
end Cert.Kernel3Ideal.Inproj
end
-- ==== Proof.InprojRef.lean ====
module
public import proofs.«01_k».proof.Proof.Gen.Reference3Ideal.Run
public import proofs.«01_k».proof.Proof.Inproj
@[expose] public section
set_option maxRecDepth 16384
noncomputable section
namespace Cert.Reference3Ideal.Inproj
open Cert.Reference3Ideal Cert.Reference3Ideal.Gen Idealize.ShloMosaic Idealize.ShloMosaic.TcCoe Idealize.SL.Sem Cert.Rms

/-- The scaled rows. -/
def xn (X : FVec Ideal S8704x2048 .f32) (G : FVec Ideal S4x2048 .f32) : FVec Ideal S8704x2048 .f32 :=
  mulf (mulf X (broadcastInDim S8704x2048 ![0, 1] bcast_S8704x1_S8704x2048_0_1 (Host.rsqrt (addf (Host.divf (broadcastInDim S8704x1 ![0] bcast_S8704_S8704x1_0 (Host.reduceAdd (mulf X X) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ (extractStridedSlice S1x2048 ![0, 0] G slices_S4x2048_S1x2048_0_0) shapeCasts_S1x2048_S2048)))
/-- The projection of scaled rows. -/
def out (a : FVec Ideal S8704x2048 .f32) (W : FVec Ideal S4x2048x3044 .f32) : FVec Ideal S8704x3044 .f32 :=
  Host.dotGeneral dot_S8704x2048_S2048x3044_S8704x3044_1_0_0_1_n_n none a (shapeCast _ (extractStridedSlice S1x2048x3044 ![0, 0, 0] W slices_S4x2048x3044_S1x2048x3044_0_0_0) shapeCasts_S1x2048x3044_S2048x3044)

variable (X : FVec Ideal S8704x2048 .f32) (G : FVec Ideal S4x2048 .f32) (a : FVec Ideal S8704x2048 .f32) (W : FVec Ideal S4x2048x3044 .f32)
  (i : Fin 8704) (k : Fin 2048) (j : Fin 3044)

theorem xn_at : xn X G (ix2 i k) = nrm (fun l => X (ix2 i l)) (fun l => G (ix2 0 l)) k := by
  pointwise [xn]
  rfl
theorem out_at : out a W (ix2 i j) = ∑ k : Fin 2048, a (ix2 i k) * W (ix3 0 k j) := by
  pointwise [out]

/-- The reference's stages compute the projection. -/
theorem full_eq : out (xn X G) W = Cert.Kernel3Ideal.Inproj.full X G W := by
  funext y
  idx_vars y
  rw [out_at]
  simp only [xn_at]
  rfl
end Cert.Reference3Ideal.Inproj
end
-- ==== Proof.Norm.lean ====
module
public import proofs.«01_k».proof.Proof.Gen.Kernel4Ideal.Frame
public import proofs.«01_k».proof.Proof.Gen.Reference4Ideal.Run
public import proofs.«01_k».proof.Proof.Rms
public import Idealize.ShloMosaic.Lib.Pipeline.ValueKit
public import Idealize.ShloMosaic.Lib.Claim
@[expose] public section
set_option maxRecDepth 16384
noncomputable section
namespace Cert.Kernel4Ideal.Norm
open Cert.Kernel4Ideal Cert.Kernel4Ideal.Gen Idealize.ShloMosaic Idealize.ShloMosaic.TcCoe Idealize.SL.Sem Cert.Rms
open Idealize.ShloMosaic.Pipeline (Dat)
variable (m : (ℓ : Loc nD τ sig) → Buf (Elt Ideal) ℓ)

/-- Every row scaled. -/
def rowsN (X : FVec Ideal S8704x2048 .f32) (G : FVec Ideal S2048 .f32) : FVec Ideal S8704x2048 .f32 := fun y =>
  nrm (fun l => X (ix2 (y 0) l)) (fun l => G (ix1 l)) (y 1)
/-- The prompts' rows, by prompt. -/
def prompt (Z : FVec Ideal S8704x2048 .f32) : FVec Ideal S4x2048x2048 .f32 :=
  shapeCast S4x2048x2048 (extractStridedSlice S8192x2048 ![0, 0] Z slices_S8704x2048_S8192x2048_0_0) shapeCasts_S8192x2048_S4x2048x2048
/-- The samples' rows, by sample. -/
def sample (Z : FVec Ideal S8704x2048 .f32) : FVec Ideal S128x4x2048 .f32 :=
  shapeCast S128x4x2048 (extractStridedSlice S512x2048 ![8192, 0] Z slices_S8704x2048_S512x2048_8192_0) shapeCasts_S512x2048_S128x4x2048

theorem prompt_at (Z : FVec Ideal S8704x2048 .f32) (b : Fin 4) (p : Fin 2048) (k : Fin 2048) : prompt Z (ix3 b p k) = Z (ix2 (⟨b.val * 2048 + p.val, by omega⟩ : Fin 8704) k) := by
  pointwise [prompt]
theorem sample_at (Z : FVec Ideal S8704x2048 .f32) (b : Fin 128) (p : Fin 4) (k : Fin 2048) : sample Z (ix3 b p k) = Z (ix2 (⟨8192 + (b.val * 4 + p.val), by omega⟩ : Fin 8704) k) := by
  pointwise [sample]

theorem pay1_at (x : Vec Ideal S512x2048 .f32) (g : Vec Ideal S1x2048 .f32) (r : Fin 512) (k : Fin 2048) :
    k0_pay1 x g (ix2 r k) = nrm (fun l => x (ix2 r l)) (fun l => g (ix2 0 l)) k := by
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (r : Fin 512) : t.val * 512 + r.val < 8704 := by
  have : t.val < 17 := t.isLt
  omega

theorem x_at (c : Dev nD) (t : Fin cfg0.N) (r : Fin 512) (k : Fin 2048) :
    iblk m c 0 t (ix2 r k) = m ((c : Thread nD τ).loc main_arg0) (ix2 (⟨t.val * 512 + r.val, row_lt t r⟩ : Fin 8704) k) := by
  have e' : iblk m c 0 t (ix2 r k) = V m c main_arg0 (ix2 (⟨t.val * 512 + r.val, row_lt t r⟩ : Fin 8704) k) := by
    blk_ext [iblk, idx t]
  rw [e', V_main_arg0]

theorem g_at (c : Dev nD) (t : Fin cfg0.N) (k : Fin 2048) :
    iblk m c 1 t (ix2 0 k) = m ((c : Thread nD τ).loc main_arg1) (ix1 k) := by
  have e : V m c main_v0 = broadcastInDim S1x2048 ![1] bcast_S2048_S1x2048_1 (m ((c : Thread nD τ).loc main_arg1)) := by
    entry_read
    rfl
  have e' : iblk m c 1 t (ix2 0 k) = V m c main_v0 (ix2 0 k) := by
    blk_ext [iblk, idx t]
  rw [e', e]
  pointwise

theorem out_eq (c : Dev nD) (t : Fin cfg0.N) : out0_2 (iblk m c 0 t) (iblk m c 1 t) = k0_pay1 (iblk m c 0 t) (iblk m c 1 t) := by
  unfold out0_2
  frame_out

theorem point (c : Dev nD) (t : Fin cfg0.N) (r : Fin 512) (k : Fin 2048) (z : S8704x2048.Idx) (hz0 : (z 0).val = t.val * 512 + r.val) (hz1 : (z 1).val = k.val) :
    out0_2 (iblk m c 0 t) (iblk m c 1 t) (ix2 r k) = rowsN (m ((c : Thread nD τ).loc main_arg0)) (m ((c : Thread nD τ).loc main_arg1)) z := by
  rw [out_eq, pay1_at]
  unfold rowsN
  have e0 : z 0 = (⟨t.val * 512 + r.val, row_lt t r⟩ : Fin 8704) := Fin.ext hz0
  have e1 : z 1 = k := Fin.ext hz1
  rw [e0, e1]
  refine congrArg₂ (fun a b => nrm a b k) (funext fun l => ?_) (funext fun l => ?_)
  · exact x_at m c t r l
  · exact g_at m c t l

theorem region (c : Dev nD) : (dats m 0 c).arrAt 2 cfg0.N = rowsN (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine point m c t _ _ _ ?_ ?_
  all_goals blk_simp [idx t]

theorem tail_prompt (c : Dev nD) : Pipeline.afterTail₀ cfgs (dats m) 0 (V0 m) [hostOps1] c main_v3 = prompt ((dats m 0 c).arrAt 2 cfg0.N) := by
  unfold Pipeline.afterTail₀
  have e : Pipeline.withArrays (cfgs 0).spec c (V0 m c) (fun w => (dats m 0 c).arrAt w (cfgs 0).N) (Proc.tc.devRef main_v1) = (dats m 0 c).arrAt 2 cfg0.N :=
    Pipeline.withArrays_arr spec0 (by decide) c (V0 m c) (fun w => (dats m 0 c).arrAt w (cfgs 0).N) 2
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl

theorem tail_sample (c : Dev nD) : Pipeline.afterTail₀ cfgs (dats m) 0 (V0 m) [hostOps1] c main_v5 = sample ((dats m 0 c).arrAt 2 cfg0.N) := by
  unfold Pipeline.afterTail₀
  have e : Pipeline.withArrays (cfgs 0).spec c (V0 m c) (fun w => (dats m 0 c).arrAt w (cfgs 0).N) (Proc.tc.devRef main_v1) = (dats m 0 c).arrAt 2 cfg0.N :=
    Pipeline.withArrays_arr spec0 (by decide) c (V0 m c) (fun w => (dats m 0 c).arrAt w (cfgs 0).N) 2
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl

theorem run_final (g : Dev nD → PrngReg) : θ_run (defs (F := Ideal)) (onTc (τ := τ) (main (F := Ideal))) ⟨m, fun _ => 0, g⟩ (fun r => ∀ c : Dev nD,
      r.2.mem ((c.tc : Thread nD τ).loc main_v3) = prompt (rowsN (m ((c : Thread nD τ).loc main_arg0)) (m ((c : Thread nD τ).loc main_arg1)))
      ∧ r.2.mem ((c.tc : Thread nD τ).loc main_v5) = sample (rowsN (m ((c : Thread nD τ).loc main_arg0)) (m ((c : Thread nD τ).loc main_arg1)))) := by
  run_from Gen.run_main m g
  · rw [tail_prompt, region]
  · rw [tail_sample, region]
end Cert.Kernel4Ideal.Norm

namespace Cert.Reference4Ideal.Norm
open Cert.Reference4Ideal Cert.Reference4Ideal.Gen Idealize.ShloMosaic Idealize.ShloMosaic.TcCoe Idealize.SL.Sem Cert.Rms

/-- The prompts' rows, by prompt. -/
def xp (X : FVec Ideal S8704x2048 .f32) : FVec Ideal S4x2048x2048 .f32 :=
  shapeCast _ (extractStridedSlice S8192x2048 ![0, 0] X slices_S8704x2048_S8192x2048_0_0) shapeCasts_S8192x2048_S4x2048x2048
/-- The samples' rows, by sample. -/
def xs (X : FVec Ideal S8704x2048 .f32) : FVec Ideal S128x4x2048 .f32 :=
  shapeCast _ (extractStridedSlice S512x2048 ![8192, 0] X slices_S8704x2048_S512x2048_8192_0) shapeCasts_S512x2048_S128x4x2048
/-- Rows by prompt scaled. -/
def normp (x : FVec Ideal S4x2048x2048 .f32) (G : FVec Ideal S2048 .f32) : FVec Ideal S4x2048x2048 .f32 :=
  mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 G))
/-- Rows by sample scaled. -/
def norms (x : FVec Ideal S128x4x2048 .f32) (G : FVec Ideal S2048 .f32) : FVec Ideal S128x4x2048 .f32 :=
  mulf (mulf x (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 G))

theorem xp_at (X : FVec Ideal S8704x2048 .f32) (b : Fin 4) (p k : Fin 2048) : xp X (ix3 b p k) = X (ix2 (⟨b.val * 2048 + p.val, by omega⟩ : Fin 8704) k) := by
  pointwise [xp]
theorem xs_at (X : FVec Ideal S8704x2048 .f32) (b : Fin 128) (p : Fin 4) (k : Fin 2048) : xs X (ix3 b p k) = X (ix2 (⟨8192 + (b.val * 4 + p.val), by omega⟩ : Fin 8704) k) := by
  pointwise [xs]
theorem normp_at (x : FVec Ideal S4x2048x2048 .f32) (G : FVec Ideal S2048 .f32) (b : Fin 4) (p k : Fin 2048) : normp x G (ix3 b p k) = nrm (fun l => x (ix3 b p l)) (fun l => G (ix1 l)) k := by
  pointwise [normp]
  rfl
theorem norms_at (x : FVec Ideal S128x4x2048 .f32) (G : FVec Ideal S2048 .f32) (b : Fin 128) (p : Fin 4) (k : Fin 2048) : norms x G (ix3 b p k) = nrm (fun l => x (ix3 b p l)) (fun l => G (ix1 l)) k := by
  pointwise [norms]
  rfl

/-- The prompts' result is the same scaled rows. -/
theorem prompt_eq (X : FVec Ideal S8704x2048 .f32) (G : FVec Ideal S2048 .f32) : normp (xp X) G = Cert.Kernel4Ideal.Norm.prompt (Cert.Kernel4Ideal.Norm.rowsN X G) := by
  funext y
  idx_vars y
  rw [normp_at]
  simp only [xp_at]
  rw [Cert.Kernel4Ideal.Norm.prompt_at]
  rfl
/-- The samples' result is the same scaled rows. -/
theorem sample_eq (X : FVec Ideal S8704x2048 .f32) (G : FVec Ideal S2048 .f32) : norms (xs X) G = Cert.Kernel4Ideal.Norm.sample (Cert.Kernel4Ideal.Norm.rowsN X G) := by
  funext y
  idx_vars y
  rw [norms_at]
  simp only [xs_at]
  rw [Cert.Kernel4Ideal.Norm.sample_at]
  rfl
end Cert.Reference4Ideal.Norm
end
-- ==== Proof.MergeRow.lean ====
module
public import proofs.«01_k».proof.Proof.Rms
public import Idealize.ShloMosaic.Lib.Pipeline.ValueKit
@[expose] public section
set_option maxRecDepth 16384
noncomputable section
namespace Cert.Merge
open Idealize.ShloMosaic

/-- A row scaled by the root of its mean square, the row's length given by its constant `d`. -/
def scaled {n : ℕ} (d : BitVec 32) (x g : Fin n → EReal) (k : Fin n) : EReal :=
  x k * Ideal.rsqrt (Ideal.div (∑ l, x l * x l) (Ideal.ofBits FTy.f32 d) + Ideal.ofBits FTy.f32 897988541#32) * g k

/-- The attention's row out of the latent space: each of the six heads by its own matrix. -/
def up (a : Fin 1536 → EReal) (W : Fin 256 → Fin 6 → Fin 128 → EReal) (j : Fin 768) : EReal :=
  ∑ l : Fin 256, a ⟨256 * (j.val / 128) + l.val, by omega⟩ * W l ⟨j.val / 128, by omega⟩ ⟨j.val % 128, by omega⟩

/-- Three rows side by side. -/
def join (a b : Fin 768 → EReal) (c : Fin 512 → EReal) (k : Fin 2048) : EReal :=
  if h : k.val < 768 then a ⟨k.val, h⟩
  else if h' : k.val - 768 < 768 then b ⟨k.val - 768, h'⟩
  else c ⟨k.val - 768 - 768, by omega⟩

/-- The three mixers' rows scaled and side by side. -/
def parts (a : Fin 1536 → EReal) (b : Fin 768 → EReal) (c : Fin 512 → EReal) (W : Fin 256 → Fin 6 → Fin 128 → EReal) (g : Fin 2048 → EReal) : Fin 2048 → EReal :=
  join (scaled 0x44400000#32 (up a W) (fun l => g ⟨l.val, by omega⟩))
    (scaled 0x44400000#32 b (fun l => g ⟨768 + l.val, by omega⟩))
    (scaled 0x44000000#32 c (fun l => g ⟨1536 + l.val, by omega⟩))

/-- The layer's row with the mixers' rows added through the output matrix. -/
def merged (x : Fin 2048 → EReal) (a : Fin 1536 → EReal) (b : Fin 768 → EReal) (c : Fin 512 → EReal) (W : Fin 256 → Fin 6 → Fin 128 → EReal) (g : Fin 2048 → EReal) (U : Fin 2048 → Fin 2048 → EReal) (k : Fin 2048) : EReal :=
  x k + ∑ l, parts a b c W g l * U l k

/-- A row of the prompts' rows followed by the samples' rows. -/
def pick {α : Type} (P : Fin 8192 → α) (S : Fin 512 → α) (i : Fin 8704) : α :=
  if h : i.val < 8192 then P ⟨i.val, h⟩ else S ⟨i.val - 8192, by omega⟩
theorem pick_prompt {α : Type} (P : Fin 8192 → α) (S : Fin 512 → α) (i : Fin 8704) (h : i.val < 8192) : pick P S i = P ⟨i.val, h⟩ := dif_pos h
theorem pick_sample {α : Type} (P : Fin 8192 → α) (S : Fin 512 → α) (i : Fin 8704) (j : Fin 512) (h : i.val = 8192 + j.val) : pick P S i = S j := by
  unfold pick
  rw [dif_neg (by omega)]
  exact congrArg S (Fin.ext (by simp only; omega))

/-- A load's value at an index: the buffer's at the index moved by the offsets. -/
theorem ld_at {s : Shape} {e : EltTy} (K : s.Idx → Elt Ideal e) (off size) (inb) (x) (y : s.Idx)
    (hy : ∀ a, (y a).val = off a + (x a).val) : View.ld (Val := Elt Ideal) (e' := e) K (Rect.unit (s := s) off size inb) x = K y := by
  unfold View.ld
  refine congrArg K (funext fun a => Fin.ext ?_)
  rw [hy]
  show off a + 1 * (x a).val = _
  omega
end Cert.Merge
end
-- ==== Proof.Merge.lean ====
module
public import proofs.«01_k».proof.Proof.Gen.Kernel5Ideal.Frame
public import proofs.«01_k».proof.Proof.MergeRow
public import Idealize.ShloMosaic.Lib.Pipeline.ValueKit
public import Idealize.ShloMosaic.Lib.Claim
@[expose] public section
set_option maxRecDepth 16384
noncomputable section
namespace Cert.Kernel5Ideal.Merge
open Cert.Kernel5Ideal Cert.Kernel5Ideal.Gen Idealize.ShloMosaic Idealize.ShloMosaic.TcCoe Idealize.SL.Sem Cert.Merge
open Idealize.ShloMosaic.Pipeline (Dat)
variable (m : (ℓ : Loc nD τ sig) → Buf (Elt Ideal) ℓ)

theorem pay5_at (i : grid0.Coords) (v1 v2 : Vec Ideal S512x1536 .bf16) (w : Vec Ideal S1x256x128 .bf16) (r : Fin 512) (k : Fin 128) :
    k0_pay5 i v1 v2 w (ix2 r k) = ∑ l : Fin 256, k0_pay2 i v1 v2 (ix2 r ⟨l.val, by omega⟩) * w (ix3 0 l k) := by
  pointwise [k0_pay5]
theorem pay6_at (i : grid0.Coords) (v1 v2 : Vec Ideal S512x1536 .bf16) (w : Vec Ideal S1x256x128 .bf16) (r : Fin 512) (k : Fin 128) :
    k0_pay6 i v1 v2 w (ix2 r k) = ∑ l : Fin 256, k0_pay2 i v1 v2 (ix2 r ⟨256 + l.val, by omega⟩) * w (ix3 0 l k) := by
  pointwise [k0_pay6]
theorem pay7_at (i : grid0.Coords) (v1 v2 : Vec Ideal S512x1536 .bf16) (w : Vec Ideal S1x256x128 .bf16) (r : Fin 512) (k : Fin 128) :
    k0_pay7 i v1 v2 w (ix2 r k) = ∑ l : Fin 256, k0_pay2 i v1 v2 (ix2 r ⟨512 + l.val, by omega⟩) * w (ix3 0 l k) := by
  pointwise [k0_pay7]
theorem pay8_at (i : grid0.Coords) (v1 v2 : Vec Ideal S512x1536 .bf16) (w : Vec Ideal S1x256x128 .bf16) (r : Fin 512) (k : Fin 128) :
    k0_pay8 i v1 v2 w (ix2 r k) = ∑ l : Fin 256, k0_pay2 i v1 v2 (ix2 r ⟨768 + l.val, by omega⟩) * w (ix3 0 l k) := by
  pointwise [k0_pay8]
theorem pay9_at (i : grid0.Coords) (v1 v2 : Vec Ideal S512x1536 .bf16) (r : Fin 512) (k : Fin 256) :
    k0_pay9 i v1 v2 (ix2 r k) = k0_pay2 i v1 v2 (ix2 r ⟨1024 + k.val, by omega⟩) := by
  pointwise [k0_pay9]

/-- Six heads' rows side by side. -/
def six (a b c d e f : Fin 128 → EReal) (k : Fin 768) : EReal :=
  if h : k.val < 128 then a ⟨k.val, h⟩
  else if h : k.val - 128 < 128 then b ⟨k.val - 128, h⟩
  else if h : k.val - 128 - 128 < 128 then c ⟨k.val - 128 - 128, h⟩
  else if h : k.val - 128 - 128 - 128 < 128 then d ⟨k.val - 128 - 128 - 128, h⟩
  else if h : k.val - 128 - 128 - 128 - 128 < 128 then e ⟨k.val - 128 - 128 - 128 - 128, h⟩
  else f ⟨k.val - 128 - 128 - 128 - 128 - 128, by omega⟩

theorem pay10_at (o : Vec Ideal S512x1536 .bf16) (a b c d : FVec Ideal S512x128 .f32) (e : FVec Ideal S512x256 .bf16) (we wf : Vec Ideal S1x256x128 .bf16) (g : Vec Ideal S1x768 .f32) (r : Fin 512) (k : Fin 768) :
    k0_pay10 o a b c d e we wf g (ix2 r k) = scaled 0x44400000#32 (six (fun l => a (ix2 r l)) (fun l => b (ix2 r l)) (fun l => c (ix2 r l)) (fun l => d (ix2 r l))
      (fun l => ∑ j : Fin 256, e (ix2 r j) * we (ix3 0 j l)) (fun l => ∑ j : Fin 256, o (ix2 r ⟨1280 + j.val, by omega⟩) * wf (ix3 0 j l))) (fun l => g (ix2 0 l)) k := by
  pointwise [k0_pay10]
  rfl

theorem pay11_at (o : Vec Ideal S512x768 .f32) (g : Vec Ideal S1x768 .f32) (r : Fin 512) (k : Fin 768) :
    k0_pay11 o g (ix2 r k) = scaled 0x44400000#32 (fun l => o (ix2 r l)) (fun l => g (ix2 0 l)) k := by
  pointwise [k0_pay11]
  rfl

theorem pay1_at (o : Vec Ideal S512x512 .f32) (a b : FVec Ideal S512x768 .bf16) (g : Vec Ideal S1x512 .f32) (x : Vec Ideal S512x2048 .f32) (u : Vec Ideal S1x2048x2048 .bf16) (r : Fin 512) (k : Fin 2048) :
    k0_pay1 o a b (k0_pay12 g) (k0_pay13 o) x u (ix2 r k) = x (ix2 r k) + ∑ l, join (fun l => a (ix2 r l)) (fun l => b (ix2 r l)) (scaled 0x44000000#32 (fun l => o (ix2 r l)) (fun l => g (ix2 0 l))) l * u (ix3 0 l k) := by
  pointwise [k0_pay1, k0_pay12, k0_pay13]
  rfl

theorem idx : ∀ t : Fin cfg0.N, win0_0.index t = ![t.val, 0] ∧ win0_1.index t = ![min t.val 15, 0] ∧ win0_2.index t = ![0, 0] ∧ win0_3.index t = ![min t.val 15, 0] ∧ win0_4.index t = ![0, 0] ∧ win0_5.index t = ![min t.val 15, 0] ∧ win0_6.index t = ![0, 0] ∧ win0_7.index t = ![0, 0, 0] ∧ win0_8.index t = ![0, 0] ∧ win0_9.index t = ![0, 0, 0] ∧ win0_10.index t = ![t.val, 0] :=
  (by decide +kernel : ∀ t : Fin grid0.N, _)

theorem last : ∀ t : Fin cfg0.N, Scalar.cmpi .eq (BitVec.ofNat 32 ((grid0.coords t) 0).val) 16#32 = if t.val = 16 then 1#1 else 0#1 :=
  (by decide +kernel : ∀ t : Fin grid0.N, _)

theorem row_lt (t : Fin cfg0.N) (r : Fin 512) : t.val * 512 + r.val < 8704 := by
  have : t.val < 17 := t.isLt
  omega

theorem x_at (c : Dev nD) (t : Fin cfg0.N) (r : Fin 512) (k : Fin 2048) :
    iblk m c 0 t (ix2 r k) = m ((c : Thread nD τ).loc main_arg0) (ix2 (⟨t.val * 512 + r.val, row_lt t r⟩ : Fin 8704) k) := by
  have e' : iblk m c 0 t (ix2 r k) = V m c main_arg0 (ix2 (⟨t.val * 512 + r.val, row_lt t r⟩ : Fin 8704) k) := by
    blk_ext [iblk, idx t]
  rw [e', V_main_arg0]

theorem wuv_at (c : Dev nD) (h : Fin 6) (l : Fin 256) (k : Fin 128) : V m c main_v3 (ix3 h l k) = m ((c : Thread nD τ).loc main_arg7) (ix4 0 l h k) := by
  have e : V m c main_v3 = truncf (F := Ideal) .bf16 (transpose S6x256x128 [1, 0, 2] (shapeCast S256x6x128 (extractStridedSlice S1x256x6x128 ![0, 0, 0, 0] (m ((c : Thread nD τ).loc main_arg7) : FVec Ideal S4x256x6x128 .f32) slices_S4x256x6x128_S1x256x6x128_0_0_0_0) shapeCasts_S1x256x6x128_S256x6x128) transposes_S256x6x128_S6x256x128_1_0_2) bitsLt_bf16_f32 := by
    entry_read
    rfl
  rw [e]
  pointwise
theorem gn_at (c : Dev nD) (k : Fin 2048) : V m c main_v6 (ix2 0 k) = m ((c : Thread nD τ).loc main_arg8) (ix2 0 k) := by
  have e : V m c main_v6 = broadcastInDim S1x2048 ![1] bcast_S2048_S1x2048_1 (shapeCast S2048 (extractStridedSlice S1x2048 ![0, 0] (m ((c : Thread nD τ).loc main_arg8)) slices_S4x2048_S1x2048_0_0) shapeCasts_S1x2048_S2048) := by
    entry_read
    rfl
  rw [e]
  pointwise
theorem u_at (c : Dev nD) (t : Fin cfg0.N) (l k : Fin 2048) : iblk m c 9 t (ix3 0 l k) = m ((c : Thread nD τ).loc main_arg9) (ix3 0 l k) := by
  have e : V m c main_v7 = truncf (F := Ideal) .bf16 (m ((c : Thread nD τ).loc main_arg9) : FVec Ideal S4x2048x2048 .f32) bitsLt_bf16_f32 := by
    entry_read
    rfl
  have e' : iblk m c 9 t (ix3 0 l k) = V m c main_v7 (ix3 0 l k) := by
    blk_ext [iblk, idx t]
  rw [e', e]
  pointwise
theorem olp_at (c : Dev nD) (t : Fin cfg0.N) (ht : t.val < 16) (r : Fin 512) (k : Fin 1536) :
    iblk m c 1 t (ix2 r k) = m ((c : Thread nD τ).loc main_arg1) (ix2 (⟨t.val * 512 + r.val, by omega⟩ : Fin 8192) k) := by
  have e' : iblk m c 1 t (ix2 r k) = V m c main_arg1 (ix2 (⟨t.val * 512 + r.val, by omega⟩ : Fin 8192) k) := by
    have e : min t.val 15 = t.val := by omega
    have := idx t
    rw [e] at this
    blk_ext [iblk, this]
  rw [e', V_main_arg1]
theorem ols_at (c : Dev nD) (t : Fin cfg0.N) (r : Fin 512) (k : Fin 1536) :
    iblk m c 2 t (ix2 r k) = m ((c : Thread nD τ).loc main_arg2) (ix2 r k) := by
  have e' : iblk m c 2 t (ix2 r k) = V m c main_arg2 (ix2 r k) := by
    blk_ext [iblk, idx t]
  rw [e', V_main_arg2]
theorem onp_at (c : Dev nD) (t : Fin cfg0.N) (ht : t.val < 16) (r : Fin 512) (k : Fin 768) :
    iblk m c 3 t (ix2 r k) = m ((c : Thread nD τ).loc main_arg3) (ix2 (⟨t.val * 512 + r.val, by omega⟩ : Fin 8192) k) := by
  have e' : iblk m c 3 t (ix2 r k) = V m c main_arg3 (ix2 (⟨t.val * 512 + r.val, by omega⟩ : Fin 8192) k) := by
    have e : min t.val 15 = t.val := by omega
    have := idx t
    rw [e] at this
    blk_ext [iblk, this]
  rw [e', V_main_arg3]
theorem ons_at (c : Dev nD) (t : Fin cfg0.N) (r : Fin 512) (k : Fin 768) :
    iblk m c 4 t (ix2 r k) = m ((c : Thread nD τ).loc main_arg4) (ix2 r k) := by
  have e' : iblk m c 4 t (ix2 r k) = V m c main_arg4 (ix2 r k) := by
    blk_ext [iblk, idx t]
  rw [e', V_main_arg4]
theorem ocp_at (c : Dev nD) (t : Fin cfg0.N) (ht : t.val < 16) (r : Fin 512) (k : Fin 512) :
    iblk m c 5 t (ix2 r k) = m ((c : Thread nD τ).loc main_arg5) (ix2 (⟨t.val * 512 + r.val, by omega⟩ : Fin 8192) k) := by
  have e' : iblk m c 5 t (ix2 r k) = V m c main_arg5 (ix2 (⟨t.val * 512 + r.val, by omega⟩ : Fin 8192) k) := by
    have e : min t.val 15 = t.val := by omega
    have := idx t
    rw [e] at this
    blk_ext [iblk, this]
  rw [e', V_main_arg5]
theorem ocs_at (c : Dev nD) (t : Fin cfg0.N) (r : Fin 512) (k : Fin 512) :
    iblk m c 6 t (ix2 r k) = m ((c : Thread nD τ).loc main_arg6) (ix2 r k) := by
  have e' : iblk m c 6 t (ix2 r k) = V m c main_arg6 (ix2 r k) := by
    blk_ext [iblk, idx t]
  rw [e', V_main_arg6]
theorem ol_at (c : Dev nD) (t : Fin cfg0.N) (r : Fin 512) (k : Fin 1536) :
    k0_pay2 (grid0.coords t) (iblk m c 2 t) (iblk m c 1 t) (ix2 r k)
      = pick (fun i => m ((c : Thread nD τ).loc main_arg1) (ix2 i k)) (fun i => m ((c : Thread nD τ).loc main_arg2) (ix2 i k)) ⟨t.val * 512 + r.val, row_lt t r⟩ := by
  unfold k0_pay2
  simp only [last]
  have h17 : t.val < 17 := t.isLt
  by_cases h : t.val = 16
  · rw [if_pos h, pick_sample _ _ _ r (by simp only; omega)]
    exact ols_at m c t r k
  · rw [if_neg h, pick_prompt _ _ _ (by simp only; omega)]
    exact olp_at m c t (by omega) r k
theorem on_at (c : Dev nD) (t : Fin cfg0.N) (r : Fin 512) (k : Fin 768) :
    k0_pay3 (grid0.coords t) (iblk m c 4 t) (iblk m c 3 t) (ix2 r k)
      = pick (fun i => m ((c : Thread nD τ).loc main_arg3) (ix2 i k)) (fun i => m ((c : Thread nD τ).loc main_arg4) (ix2 i k)) ⟨t.val * 512 + r.val, row_lt t r⟩ := by
  unfold k0_pay3
  simp only [last]
  have h17 : t.val < 17 := t.isLt
  by_cases h : t.val = 16
  · rw [if_pos h, pick_sample _ _ _ r (by simp only; omega)]
    exact ons_at m c t r k
  · rw [if_neg h, pick_prompt _ _ _ (by simp only; omega)]
    exact onp_at m c t (by omega) r k
theorem oc_at (c : Dev nD) (t : Fin cfg0.N) (r : Fin 512) (k : Fin 512) :
    k0_pay4 (grid0.coords t) (iblk m c 6 t) (iblk m c 5 t) (ix2 r k)
      = pick (fun i => m ((c : Thread nD τ).loc main_arg5) (ix2 i k)) (fun i => m ((c : Thread nD τ).loc main_arg6) (ix2 i k)) ⟨t.val * 512 + r.val, row_lt t r⟩ := by
  unfold k0_pay4
  simp only [last]
  have h17 : t.val < 17 := t.isLt
  by_cases h : t.val = 16
  · rw [if_pos h, pick_sample _ _ _ r (by simp only; omega)]
    exact ocs_at m c t r k
  · rw [if_neg h, pick_prompt _ _ _ (by simp only; omega)]
    exact ocp_at m c t (by omega) r k
theorem w0_at (c : Dev nD) (t : Fin cfg0.N) (l : Fin 256) (k : Fin 128) :
    View.ld (iblk m c 7 t) r0_3 (ix3 0 l k) = m ((c : Thread nD τ).loc main_arg7) (ix4 0 l 0 k) := by
  rw [ld_at _ _ _ _ _ (ix3 0 l k) (by intro a; fin_cases a <;> simp [ix3])]
  have e' : iblk m c 7 t (ix3 0 l k) = V m c main_v3 (ix3 0 l k) := by
    blk_ext [iblk, idx t]
  rw [e', wuv_at]
theorem w1_at (c : Dev nD) (t : Fin cfg0.N) (l : Fin 256) (k : Fin 128) :
    View.ld (iblk m c 7 t) r0_4 (ix3 0 l k) = m ((c : Thread nD τ).loc main_arg7) (ix4 0 l 1 k) := by
  rw [ld_at _ _ _ _ _ (ix3 1 l k) (by intro a; fin_cases a <;> simp [ix3])]
  have e' : iblk m c 7 t (ix3 1 l k) = V m c main_v3 (ix3 1 l k) := by
    blk_ext [iblk, idx t]
  rw [e', wuv_at]
theorem w2_at (c : Dev nD) (t : Fin cfg0.N) (l : Fin 256) (k : Fin 128) :
    View.ld (iblk m c 7 t) r0_5 (ix3 0 l k) = m ((c : Thread nD τ).loc main_arg7) (ix4 0 l 2 k) := by
  rw [ld_at _ _ _ _ _ (ix3 2 l k) (by intro a; fin_cases a <;> simp [ix3])]
  have e' : iblk m c 7 t (ix3 2 l k) = V m c main_v3 (ix3 2 l k) := by
    blk_ext [iblk, idx t]
  rw [e', wuv_at]
theorem w3_at (c : Dev nD) (t : Fin cfg0.N) (l : Fin 256) (k : Fin 128) :
    View.ld (iblk m c 7 t) r0_6 (ix3 0 l k) = m ((c : Thread nD τ).loc main_arg7) (ix4 0 l 3 k) := by
  rw [ld_at _ _ _ _ _ (ix3 3 l k) (by intro a; fin_cases a <;> simp [ix3])]
  have e' : iblk m c 7 t (ix3 3 l k) = V m c main_v3 (ix3 3 l k) := by
    blk_ext [iblk, idx t]
  rw [e', wuv_at]
theorem w4_at (c : Dev nD) (t : Fin cfg0.N) (l : Fin 256) (k : Fin 128) :
    View.ld (iblk m c 7 t) r0_7 (ix3 0 l k) = m ((c : Thread nD τ).loc main_arg7) (ix4 0 l 4 k) := by
  rw [ld_at _ _ _ _ _ (ix3 4 l k) (by intro a; fin_cases a <;> simp [ix3])]
  have e' : iblk m c 7 t (ix3 4 l k) = V m c main_v3 (ix3 4 l k) := by
    blk_ext [iblk, idx t]
  rw [e', wuv_at]
theorem w5_at (c : Dev nD) (t : Fin cfg0.N) (l : Fin 256) (k : Fin 128) :
    View.ld (iblk m c 7 t) r0_8 (ix3 0 l k) = m ((c : Thread nD τ).loc main_arg7) (ix4 0 l 5 k) := by
  rw [ld_at _ _ _ _ _ (ix3 5 l k) (by intro a; fin_cases a <;> simp [ix3])]
  have e' : iblk m c 7 t (ix3 5 l k) = V m c main_v3 (ix3 5 l k) := by
    blk_ext [iblk, idx t]
  rw [e', wuv_at]
theorem g0_at (c : Dev nD) (t : Fin cfg0.N) (k : Fin 768) :
    View.ld (iblk m c 8 t) r0_9 (ix2 0 k) = m ((c : Thread nD τ).loc main_arg8) (ix2 0 ⟨k.val, by omega⟩) := by
  rw [ld_at _ _ _ _ _ (ix2 0 (⟨k.val, by omega⟩ : Fin 2048)) (by intro a; fin_cases a <;> simp [ix2])]
  have e' : iblk m c 8 t (ix2 0 (⟨k.val, by omega⟩ : Fin 2048)) = V m c main_v6 (ix2 0 (⟨k.val, by omega⟩ : Fin 2048)) := by
    blk_ext [iblk, idx t]
  rw [e', gn_at]
theorem g768_at (c : Dev nD) (t : Fin cfg0.N) (k : Fin 768) :
    View.ld (iblk m c 8 t) r0_10 (ix2 0 k) = m ((c : Thread nD τ).loc main_arg8) (ix2 0 ⟨768 + k.val, by omega⟩) := by
  rw [ld_at _ _ _ _ _ (ix2 0 (⟨768 + k.val, by omega⟩ : Fin 2048)) (by intro a; fin_cases a <;> simp [ix2])]
  have e' : iblk m c 8 t (ix2 0 (⟨768 + k.val, by omega⟩ : Fin 2048)) = V m c main_v6 (ix2 0 (⟨768 + k.val, by omega⟩ : Fin 2048)) := by
    blk_ext [iblk, idx t]
  rw [e', gn_at]
theorem g1536_at (c : Dev nD) (t : Fin cfg0.N) (k : Fin 512) :
    View.ld (iblk m c 8 t) r0_11 (ix2 0 k) = m ((c : Thread nD τ).loc main_arg8) (ix2 0 ⟨1536 + k.val, by omega⟩) := by
  rw [ld_at _ _ _ _ _ (ix2 0 (⟨1536 + k.val, by omega⟩ : Fin 2048)) (by intro a; fin_cases a <;> simp [ix2])]
  have e' : iblk m c 8 t (ix2 0 (⟨1536 + k.val, by omega⟩ : Fin 2048)) = V m c main_v6 (ix2 0 (⟨1536 + k.val, by omega⟩ : Fin 2048)) := by
    blk_ext [iblk, idx t]
  rw [e', gn_at]

/-- The six heads' rows, each by its own matrix, are the attention's row out of the latent space. -/
theorem six_up (a : Fin 1536 → EReal) (W : Fin 256 → Fin 6 → Fin 128 → EReal) :
    six (fun l => ∑ j : Fin 256, a ⟨j.val, by omega⟩ * W j 0 l) (fun l => ∑ j : Fin 256, a ⟨256 + j.val, by omega⟩ * W j 1 l)
      (fun l => ∑ j : Fin 256, a ⟨512 + j.val, by omega⟩ * W j 2 l) (fun l => ∑ j : Fin 256, a ⟨768 + j.val, by omega⟩ * W j 3 l)
      (fun l => ∑ j : Fin 256, a ⟨1024 + j.val, by omega⟩ * W j 4 l) (fun l => ∑ j : Fin 256, a ⟨1280 + j.val, by omega⟩ * W j 5 l) = up a W := by
  funext k
  have key : ∀ (p : Fin 256 → Fin 1536) (h : Fin 6) (q : Fin 128), (∀ j, (p j).val = 256 * h.val + j.val) → k.val = 128 * h.val + q.val →
      ∑ j : Fin 256, a (p j) * W j h q = up a W k := by
    intro p h q hp hk
    unfold up
    refine Finset.sum_congr rfl fun j _ => ?_
    have d : k.val / 128 = h.val := by omega
    have r : k.val % 128 = q.val := by omega
    refine congrArg₂ (· * ·) (congrArg a (Fin.ext ?_)) (congrArg₂ (W j) (Fin.ext d.symm) (Fin.ext r.symm))
    simp only [hp j, d]
  unfold six
  split
  · exact key _ 0 _ (fun j => by simp) (by simp)
  split
  · exact key _ 1 _ (fun j => by simp) (by simp only [Fin.val_one]; omega)
  split
  · exact key _ 2 _ (fun j => by simp) (by simp only [Fin.val_two]; omega)
  split
  · exact key _ 3 _ (fun j => by simp [show (3 : Fin 6).val = 3 from rfl]) (by simp only [show (3 : Fin 6).val = 3 from rfl]; omega)
  split
  · exact key _ 4 _ (fun j => by simp [show (4 : Fin 6).val = 4 from rfl]) (by simp only [show (4 : Fin 6).val = 4 from rfl]; omega)
  · exact key _ 5 _ (fun j => by simp [show (5 : Fin 6).val = 5 from rfl]) (by simp only [show (5 : Fin 6).val = 5 from rfl]; omega)

/-- The result's rows. -/
def full (X : FVec Ideal S8704x2048 .f32) (A : FVec Ideal S8192x1536 .bf16) (A' : FVec Ideal S512x1536 .bf16) (B : FVec Ideal S8192x768 .f32) (B' : FVec Ideal S512x768 .f32)
    (C : FVec Ideal S8192x512 .f32) (C' : FVec Ideal S512x512 .f32) (W : FVec Ideal S4x256x6x128 .f32) (G : FVec Ideal S4x2048 .f32) (U : FVec Ideal S4x2048x2048 .f32) : FVec Ideal S8704x2048 .f32 := fun y =>
  merged (fun l => X (ix2 (y 0) l)) (fun l => pick (fun i => A (ix2 i l)) (fun i => A' (ix2 i l)) (y 0)) (fun l => pick (fun i => B (ix2 i l)) (fun i => B' (ix2 i l)) (y 0))
    (fun l => pick (fun i => C (ix2 i l)) (fun i => C' (ix2 i l)) (y 0)) (fun l h k => W (ix4 0 l h k)) (fun l => G (ix2 0 l)) (fun l k => U (ix3 0 l k)) (y 1)

/-- The result's rows of the arguments. -/
abbrev fullOf (c : Dev nD) : FVec Ideal S8704x2048 .f32 :=
  full (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

theorem out_at (c : Dev nD) (t : Fin cfg0.N) (r : Fin 512) (k : Fin 2048) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r k)
      = fullOf m c (ix2 (⟨t.val * 512 + r.val, row_lt t r⟩ : Fin 8704) k) := by
  unfold_out out0_10
  frame_out
  rw [pay1_at]
  simp only [pay10_at, pay11_at, pay5_at, pay6_at, pay7_at, pay8_at, pay9_at, x_at, u_at, ol_at, on_at, oc_at, w0_at, w1_at, w2_at, w3_at, w4_at, w5_at, g0_at, g768_at, g1536_at]
  unfold fullOf full merged parts
  rw [← six_up]
  rfl

theorem point (c : Dev nD) (t : Fin cfg0.N) (r : Fin 512) (k : Fin 2048) (z : S8704x2048.Idx) (hz0 : (z 0).val = t.val * 512 + r.val) (hz1 : (z 1).val = k.val) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r k) = fullOf m c z := by
  rw [out_at]
  refine congrArg (fullOf m c) (funext fun d => ?_)
  fin_cases d
  · exact Fin.ext hz0.symm
  · exact Fin.ext hz1.symm

theorem region (c : Dev nD) : (dats m 0 c).arrAt 10 cfg0.N = fullOf m c := by
  refine (dats m 0 c).arrAt_eq_of_covers 10 _ (by decide +kernel) fun t hf y => ?_
  blk_simp
  rw [after0_10]
  idx_vars y
  refine point m c t _ _ _ ?_ ?_
  all_goals blk_simp [idx t]

/-- The prompts' rows, by prompt. -/
def prompt (Z : FVec Ideal S8704x2048 .f32) : FVec Ideal S4x2048x2048 .f32 :=
  shapeCast S4x2048x2048 (extractStridedSlice S8192x2048 ![0, 0] Z slices_S8704x2048_S8192x2048_0_0) shapeCasts_S8192x2048_S4x2048x2048
/-- The samples' rows, by sample. -/
def sample (Z : FVec Ideal S8704x2048 .f32) : FVec Ideal S128x4x2048 .f32 :=
  shapeCast S128x4x2048 (extractStridedSlice S512x2048 ![8192, 0] Z slices_S8704x2048_S512x2048_8192_0) shapeCasts_S512x2048_S128x4x2048

theorem prompt_at (Z : FVec Ideal S8704x2048 .f32) (b : Fin 4) (p : Fin 2048) (k : Fin 2048) : prompt Z (ix3 b p k) = Z (ix2 (⟨b.val * 2048 + p.val, by omega⟩ : Fin 8704) k) := by
  pointwise [prompt]
theorem sample_at (Z : FVec Ideal S8704x2048 .f32) (b : Fin 128) (p : Fin 4) (k : Fin 2048) : sample Z (ix3 b p k) = Z (ix2 (⟨8192 + (b.val * 4 + p.val), by omega⟩ : Fin 8704) k) := by
  pointwise [sample]

theorem tail (c : Dev nD) : Pipeline.afterTail₀ cfgs (dats m) 0 (V0 m) [hostOps1] c main_v10 = prompt ((dats m 0 c).arrAt 10 cfg0.N)
    ∧ Pipeline.afterTail₀ cfgs (dats m) 0 (V0 m) [hostOps1] c main_v12 = sample ((dats m 0 c).arrAt 10 cfg0.N) := by
  unfold Pipeline.afterTail₀
  have e : Pipeline.withArrays (cfgs 0).spec c (V0 m c) (fun w => (dats m 0 c).arrAt w (cfgs 0).N) (Proc.tc.devRef main_v8) = (dats m 0 c).arrAt 10 cfg0.N :=
    Pipeline.withArrays_arr spec0 (by decide) c (V0 m c) (fun w => (dats m 0 c).arrAt w (cfgs 0).N) 10
  generalize Pipeline.withArrays (cfgs 0).spec c (V0 m c) (fun w => (dats m 0 c).arrAt w (cfgs 0).N) = A at e ⊢
  simp only [hostOps1, List.flatten_cons, List.flatten_nil, List.append_nil, List.cons_append, List.nil_append]
  constructor
  · after_results
    rw [← e]
    rfl
  · after_results
    rw [← e]
    rfl

theorem run_final (g : Dev nD → PrngReg) : θ_run (defs (F := Ideal)) (onTc (τ := τ) (main (F := Ideal))) ⟨m, fun _ => 0, g⟩ (fun r => ∀ c : Dev nD,
      r.2.mem ((c.tc : Thread nD τ).loc main_v10) = prompt (fullOf m c) ∧ r.2.mem ((c.tc : Thread nD τ).loc main_v12) = sample (fullOf m c)) := by
  run_from Gen.run_main m g
  · rw [(tail m c).1, region]
  · rw [(tail m c).2, region]
end Cert.Kernel5Ideal.Merge
end
-- ==== Proof.MergeRef.lean ====
module
public import proofs.«01_k».proof.Proof.Gen.Reference5Ideal.Run
public import proofs.«01_k».proof.Proof.Merge
@[expose] public section
set_option maxRecDepth 16384
noncomputable section
namespace Cert.Reference5Ideal.Merge
open Cert.Reference5Ideal Cert.Reference5Ideal.Gen Idealize.ShloMosaic Idealize.ShloMosaic.TcCoe Idealize.SL.Sem Cert.Merge

/-- The scales of the three mixers. -/
def gains (G : FVec Ideal S4x2048 .f32) : FVec Ideal S2048 .f32 := shapeCast _ (extractStridedSlice S1x2048 ![0, 0] G slices_S4x2048_S1x2048_0_0) shapeCasts_S1x2048_S2048
/-- The heads' matrices. -/
def heads (W : FVec Ideal S4x256x6x128 .f32) : FVec Ideal S256x6x128 .f32 := shapeCast _ (extractStridedSlice S1x256x6x128 ![0, 0, 0, 0] W slices_S4x256x6x128_S1x256x6x128_0_0_0_0) shapeCasts_S1x256x6x128_S256x6x128
/-- The output matrix. -/
def outw (U : FVec Ideal S4x2048x2048 .f32) : FVec Ideal S2048x2048 .f32 := shapeCast _ (extractStridedSlice S1x2048x2048 ![0, 0, 0] U slices_S4x2048x2048_S1x2048x2048_0_0_0) shapeCasts_S1x2048x2048_S2048x2048
theorem gains_at (G : FVec Ideal S4x2048 .f32) (k : Fin 2048) : gains G (ix1 k) = G (ix2 0 k) := by
  pointwise [gains]
theorem heads_at (W : FVec Ideal S4x256x6x128 .f32) (l : Fin 256) (h : Fin 6) (k : Fin 128) : heads W (ix3 l h k) = W (ix4 0 l h k) := by
  pointwise [heads]
theorem outw_at (U : FVec Ideal S4x2048x2048 .f32) (l k : Fin 2048) : outw U (ix2 l k) = U (ix3 0 l k) := by
  pointwise [outw]

theorem cut_at (G : FVec Ideal S4x2048 .f32) (k : Fin 768) : extractStridedSlice S768 ![0] (gains G) slices_S2048_S768_0 (ix1 k) = G (ix2 0 ⟨k.val, by omega⟩) := by
  pointwise [gains]
theorem cut_at' (G : FVec Ideal S4x2048 .f32) (k : Fin 768) : extractStridedSlice S768 ![768] (gains G) slices_S2048_S768_768 (ix1 k) = G (ix2 0 ⟨768 + k.val, by omega⟩) := by
  pointwise [gains]
theorem cut_at'' (G : FVec Ideal S4x2048 .f32) (k : Fin 512) : extractStridedSlice S512 ![1536] (gains G) slices_S2048_S512_1536 (ix1 k) = G (ix2 0 ⟨1536 + k.val, by omega⟩) := by
  pointwise [gains]
section
variable (X : FVec Ideal S8704x2048 .f32) (A : FVec Ideal S8192x1536 .bf16) (B : FVec Ideal S8192x768 .f32) (C : FVec Ideal S8192x512 .f32) (W : FVec Ideal S4x256x6x128 .f32) (G : FVec Ideal S4x2048 .f32) (U : FVec Ideal S4x2048x2048 .f32) (b : Fin 4) (p : Fin 2048)
/-- The prompts' rows. -/
def xP : FVec Ideal S4x2048x2048 .f32 := shapeCast _ (extractStridedSlice S8192x2048 ![0, 0] X slices_S8704x2048_S8192x2048_0_0) shapeCasts_S8192x2048_S4x2048x2048
/-- The attention's rows out of the latent space, by head. -/
def dotP : FVec Ideal S6x128x4x2048 .f32 := Host.dotGeneral dot_S256x6x128_S4x2048x6x256_S6x128x4x2048_0_3_2_01_1_2 none (heads W) (shapeCast _ (extf .f32 A bitsLt_bf16_f32) shapeCasts_S8192x1536_S4x2048x6x256)
/-- The attention's rows out of the latent space. -/
def mlaP : FVec Ideal S4x2048x768 .f32 := shapeCast _ (transpose S4x2048x6x128 [2, 3, 0, 1] (dotP A W) transposes_S6x128x4x2048_S4x2048x6x128_2_3_0_1) shapeCasts_S4x2048x6x128_S4x2048x768
/-- The sparse attention's rows. -/
def nsaP : FVec Ideal S4x2048x768 .f32 := shapeCast _ (shapeCast _ B shapeCasts_S8192x768_S4x2048x12x64) shapeCasts_S4x2048x12x64_S4x2048x768
/-- The convolution's rows. -/
def cvP : FVec Ideal S4x2048x512 .f32 := shapeCast _ C shapeCasts_S8192x512_S4x2048x512
/-- Rows of 768 scaled. -/
def wideP (x : FVec Ideal S4x2048x768 .f32) (g : FVec Ideal S768 .f32) : FVec Ideal S4x2048x768 .f32 := mulf (mulf x (broadcastInDim S4x2048x768 ![0, 1, 2] bcast_S4x2048x1_S4x2048x768_0_1_2 (Host.rsqrt (addf (Host.divf (broadcastInDim S4x2048x1 ![0, 1] bcast_S4x2048_S4x2048x1_0_1 (Host.reduceAdd (mulf x x) (constant S_ .f32 0x00000000#32) reducesTo_S4x2048x768_S4x2048_d2 h_S_)) (broadcastInDim S4x2048x1 ![] bcast_S_S4x2048x1 (constant S_ .f32 0x44400000#32))) (broadcastInDim S4x2048x1 ![] bcast_S_S4x2048x1 (constant S_ .f32 0x358637BD#32)))))) (broadcastInDim S4x2048x768 ![0, 1, 2] bcast_S1x1x768_S4x2048x768_0_1_2 (broadcastInDim S1x1x768 ![2] bcast_S768_S1x1x768_2 g))
/-- Rows of 512 scaled. -/
def slimP (x : FVec Ideal S4x2048x512 .f32) (g : FVec Ideal S512 .f32) : FVec Ideal S4x2048x512 .f32 := mulf (mulf x (broadcastInDim S4x2048x512 ![0, 1, 2] bcast_S4x2048x1_S4x2048x512_0_1_2 (Host.rsqrt (addf (Host.divf (broadcastInDim S4x2048x1 ![0, 1] bcast_S4x2048_S4x2048x1_0_1 (Host.reduceAdd (mulf x x) (constant S_ .f32 0x00000000#32) reducesTo_S4x2048x512_S4x2048_d2 h_S_)) (broadcastInDim S4x2048x1 ![] bcast_S_S4x2048x1 (constant S_ .f32 0x44000000#32))) (broadcastInDim S4x2048x1 ![] bcast_S_S4x2048x1 (constant S_ .f32 0x358637BD#32)))))) (broadcastInDim S4x2048x512 ![0, 1, 2] bcast_S1x1x512_S4x2048x512_0_1_2 (broadcastInDim S1x1x512 ![2] bcast_S512_S1x1x512_2 g))
/-- The three mixers' rows side by side. -/
def sideP (a b : FVec Ideal S4x2048x768 .f32) (c : FVec Ideal S4x2048x512 .f32) : FVec Ideal S4x2048x2048 .f32 := concatenate S4x2048x2048 2 [⟨S4x2048x768, a⟩, ⟨S4x2048x768, b⟩, ⟨S4x2048x512, c⟩] concatenates_S4x2048x768_S4x2048x768_S4x2048x512_S4x2048x2048_d2
/-- The mixers' rows through the output matrix, added to the layer's. -/
def addP (x y : FVec Ideal S4x2048x2048 .f32) (u : FVec Ideal S2048x2048 .f32) : FVec Ideal S4x2048x2048 .f32 := addf x (Host.dotGeneral dot_S4x2048x2048_S2048x2048_S4x2048x2048_2_0_01_1_n_n none y u)
/-- The prompts' result. -/
def resP : FVec Ideal S4x2048x2048 .f32 := addP (xP X) (sideP (wideP (mlaP A W) (extractStridedSlice S768 ![0] (gains G) slices_S2048_S768_0)) (wideP (nsaP B) (extractStridedSlice S768 ![768] (gains G) slices_S2048_S768_768)) (slimP (cvP C) (extractStridedSlice S512 ![1536] (gains G) slices_S2048_S512_1536))) (outw U)

theorem xP_at (k : Fin 2048) : xP X (ix3 b p k) = X (ix2 (⟨b.val * 2048 + p.val, by omega⟩ : Fin 8704) k) := by
  pointwise [xP]
theorem dotP_at (h : Fin 6) (k : Fin 128) : dotP A W (ix4 h k b p) = ∑ l : Fin 256, heads W (ix3 l h k) * A (ix2 (⟨b.val * 2048 + p.val, by omega⟩ : Fin 8192) ⟨256 * h.val + l.val, by omega⟩) := by
  pointwise [dotP]
  refine Finset.sum_congr rfl fun l _ => ?_
  simp only [Nat.mul_comm h.val 256]
theorem mlaP_at (k : Fin 768) : mlaP A W (ix3 b p k) = up (fun l => A (ix2 (⟨b.val * 2048 + p.val, by omega⟩ : Fin 8192) l)) (fun l h k => W (ix4 0 l h k)) k := by
  have e : mlaP A W (ix3 b p k) = dotP A W (ix4 ⟨k.val / 128, by omega⟩ ⟨k.val % 128, by omega⟩ b p) := by
    pointwise [mlaP]
  rw [e, dotP_at]
  unfold up
  refine Finset.sum_congr rfl fun l _ => ?_
  rw [heads_at]
  exact mul_comm _ _
theorem nsaP_at (k : Fin 768) : nsaP B (ix3 b p k) = B (ix2 (⟨b.val * 2048 + p.val, by omega⟩ : Fin 8192) k) := by
  pointwise [nsaP]
theorem cvP_at (k : Fin 512) : cvP C (ix3 b p k) = C (ix2 (⟨b.val * 2048 + p.val, by omega⟩ : Fin 8192) k) := by
  pointwise [cvP]
theorem wideP_at (x : FVec Ideal S4x2048x768 .f32) (g : FVec Ideal S768 .f32) (k : Fin 768) : wideP x g (ix3 b p k) = scaled 0x44400000#32 (fun l => x (ix3 b p l)) (fun l => g (ix1 l)) k := by
  pointwise [wideP]
  rfl
theorem slimP_at (x : FVec Ideal S4x2048x512 .f32) (g : FVec Ideal S512 .f32) (k : Fin 512) : slimP x g (ix3 b p k) = scaled 0x44000000#32 (fun l => x (ix3 b p l)) (fun l => g (ix1 l)) k := by
  pointwise [slimP]
  rfl
theorem sideP_at (u v : FVec Ideal S4x2048x768 .f32) (w : FVec Ideal S4x2048x512 .f32) (k : Fin 2048) : sideP u v w (ix3 b p k) = join (fun l => u (ix3 b p l)) (fun l => v (ix3 b p l)) (fun l => w (ix3 b p l)) k := by
  pointwise [sideP]
  rfl
theorem addP_at (x y : FVec Ideal S4x2048x2048 .f32) (u : FVec Ideal S2048x2048 .f32) (k : Fin 2048) : addP x y u (ix3 b p k) = x (ix3 b p k) + ∑ l, y (ix3 b p l) * u (ix2 l k) := by
  pointwise [addP]
theorem resP_at (k : Fin 2048) : resP X A B C W G U (ix3 b p k) = merged (fun l => X (ix2 (⟨b.val * 2048 + p.val, by omega⟩ : Fin 8704) l)) (fun l => A (ix2 (⟨b.val * 2048 + p.val, by omega⟩ : Fin 8192) l)) (fun l => B (ix2 (⟨b.val * 2048 + p.val, by omega⟩ : Fin 8192) l)) (fun l => C (ix2 (⟨b.val * 2048 + p.val, by omega⟩ : Fin 8192) l)) (fun l h k => W (ix4 0 l h k)) (fun l => G (ix2 0 l)) (fun l k => U (ix3 0 l k)) k := by
  unfold resP merged parts
  simp only [addP_at, sideP_at, wideP_at, slimP_at, xP_at, mlaP_at, nsaP_at, cvP_at, outw_at, cut_at, cut_at', cut_at'']
end

section
variable (X : FVec Ideal S8704x2048 .f32) (A : FVec Ideal S512x1536 .bf16) (B : FVec Ideal S512x768 .f32) (C : FVec Ideal S512x512 .f32) (W : FVec Ideal S4x256x6x128 .f32) (G : FVec Ideal S4x2048 .f32) (U : FVec Ideal S4x2048x2048 .f32) (b : Fin 128) (p : Fin 4)
/-- The samples' rows. -/
def xS : FVec Ideal S128x4x2048 .f32 := shapeCast _ (extractStridedSlice S512x2048 ![8192, 0] X slices_S8704x2048_S512x2048_8192_0) shapeCasts_S512x2048_S128x4x2048
/-- The attention's rows out of the latent space, by head. -/
def dotS : FVec Ideal S6x128x128x4 .f32 := Host.dotGeneral dot_S256x6x128_S128x4x6x256_S6x128x128x4_0_3_2_01_1_2 none (heads W) (shapeCast _ (extf .f32 A bitsLt_bf16_f32) shapeCasts_S512x1536_S128x4x6x256)
/-- The attention's rows out of the latent space. -/
def mlaS : FVec Ideal S128x4x768 .f32 := shapeCast _ (transpose S128x4x6x128 [2, 3, 0, 1] (dotS A W) transposes_S6x128x128x4_S128x4x6x128_2_3_0_1) shapeCasts_S128x4x6x128_S128x4x768
/-- The sparse attention's rows. -/
def nsaS : FVec Ideal S128x4x768 .f32 := shapeCast _ (shapeCast _ B shapeCasts_S512x768_S128x4x12x64) shapeCasts_S128x4x12x64_S128x4x768
/-- The convolution's rows. -/
def cvS : FVec Ideal S128x4x512 .f32 := shapeCast _ C shapeCasts_S512x512_S128x4x512
/-- Rows of 768 scaled. -/
def wideS (x : FVec Ideal S128x4x768 .f32) (g : FVec Ideal S768 .f32) : FVec Ideal S128x4x768 .f32 := mulf (mulf x (broadcastInDim S128x4x768 ![0, 1, 2] bcast_S128x4x1_S128x4x768_0_1_2 (Host.rsqrt (addf (Host.divf (broadcastInDim S128x4x1 ![0, 1] bcast_S128x4_S128x4x1_0_1 (Host.reduceAdd (mulf x x) (constant S_ .f32 0x00000000#32) reducesTo_S128x4x768_S128x4_d2 h_S_)) (broadcastInDim S128x4x1 ![] bcast_S_S128x4x1 (constant S_ .f32 0x44400000#32))) (broadcastInDim S128x4x1 ![] bcast_S_S128x4x1 (constant S_ .f32 0x358637BD#32)))))) (broadcastInDim S128x4x768 ![0, 1, 2] bcast_S1x1x768_S128x4x768_0_1_2 (broadcastInDim S1x1x768 ![2] bcast_S768_S1x1x768_2 g))
/-- Rows of 512 scaled. -/
def slimS (x : FVec Ideal S128x4x512 .f32) (g : FVec Ideal S512 .f32) : FVec Ideal S128x4x512 .f32 := mulf (mulf x (broadcastInDim S128x4x512 ![0, 1, 2] bcast_S128x4x1_S128x4x512_0_1_2 (Host.rsqrt (addf (Host.divf (broadcastInDim S128x4x1 ![0, 1] bcast_S128x4_S128x4x1_0_1 (Host.reduceAdd (mulf x x) (constant S_ .f32 0x00000000#32) reducesTo_S128x4x512_S128x4_d2 h_S_)) (broadcastInDim S128x4x1 ![] bcast_S_S128x4x1 (constant S_ .f32 0x44000000#32))) (broadcastInDim S128x4x1 ![] bcast_S_S128x4x1 (constant S_ .f32 0x358637BD#32)))))) (broadcastInDim S128x4x512 ![0, 1, 2] bcast_S1x1x512_S128x4x512_0_1_2 (broadcastInDim S1x1x512 ![2] bcast_S512_S1x1x512_2 g))
/-- The three mixers' rows side by side. -/
def sideS (a b : FVec Ideal S128x4x768 .f32) (c : FVec Ideal S128x4x512 .f32) : FVec Ideal S128x4x2048 .f32 := concatenate S128x4x2048 2 [⟨S128x4x768, a⟩, ⟨S128x4x768, b⟩, ⟨S128x4x512, c⟩] concatenates_S128x4x768_S128x4x768_S128x4x512_S128x4x2048_d2
/-- The mixers' rows through the output matrix, added to the layer's. -/
def addS (x y : FVec Ideal S128x4x2048 .f32) (u : FVec Ideal S2048x2048 .f32) : FVec Ideal S128x4x2048 .f32 := addf x (Host.dotGeneral dot_S128x4x2048_S2048x2048_S128x4x2048_2_0_01_1_n_n none y u)
/-- The samples' result. -/
def resS : FVec Ideal S128x4x2048 .f32 := addS (xS X) (sideS (wideS (mlaS A W) (extractStridedSlice S768 ![0] (gains G) slices_S2048_S768_0)) (wideS (nsaS B) (extractStridedSlice S768 ![768] (gains G) slices_S2048_S768_768)) (slimS (cvS C) (extractStridedSlice S512 ![1536] (gains G) slices_S2048_S512_1536))) (outw U)

theorem xS_at (k : Fin 2048) : xS X (ix3 b p k) = X (ix2 (⟨8192 + (b.val * 4 + p.val), by omega⟩ : Fin 8704) k) := by
  pointwise [xS]
theorem dotS_at (h : Fin 6) (k : Fin 128) : dotS A W (ix4 h k b p) = ∑ l : Fin 256, heads W (ix3 l h k) * A (ix2 (⟨b.val * 4 + p.val, by omega⟩ : Fin 512) ⟨256 * h.val + l.val, by omega⟩) := by
  pointwise [dotS]
  refine Finset.sum_congr rfl fun l _ => ?_
  simp only [Nat.mul_comm h.val 256]
theorem mlaS_at (k : Fin 768) : mlaS A W (ix3 b p k) = up (fun l => A (ix2 (⟨b.val * 4 + p.val, by omega⟩ : Fin 512) l)) (fun l h k => W (ix4 0 l h k)) k := by
  have e : mlaS A W (ix3 b p k) = dotS A W (ix4 ⟨k.val / 128, by omega⟩ ⟨k.val % 128, by omega⟩ b p) := by
    pointwise [mlaS]
  rw [e, dotS_at]
  unfold up
  refine Finset.sum_congr rfl fun l _ => ?_
  rw [heads_at]
  exact mul_comm _ _
theorem nsaS_at (k : Fin 768) : nsaS B (ix3 b p k) = B (ix2 (⟨b.val * 4 + p.val, by omega⟩ : Fin 512) k) := by
  pointwise [nsaS]
theorem cvS_at (k : Fin 512) : cvS C (ix3 b p k) = C (ix2 (⟨b.val * 4 + p.val, by omega⟩ : Fin 512) k) := by
  pointwise [cvS]
theorem wideS_at (x : FVec Ideal S128x4x768 .f32) (g : FVec Ideal S768 .f32) (k : Fin 768) : wideS x g (ix3 b p k) = scaled 0x44400000#32 (fun l => x (ix3 b p l)) (fun l => g (ix1 l)) k := by
  pointwise [wideS]
  rfl
theorem slimS_at (x : FVec Ideal S128x4x512 .f32) (g : FVec Ideal S512 .f32) (k : Fin 512) : slimS x g (ix3 b p k) = scaled 0x44000000#32 (fun l => x (ix3 b p l)) (fun l => g (ix1 l)) k := by
  pointwise [slimS]
  rfl
theorem sideS_at (u v : FVec Ideal S128x4x768 .f32) (w : FVec Ideal S128x4x512 .f32) (k : Fin 2048) : sideS u v w (ix3 b p k) = join (fun l => u (ix3 b p l)) (fun l => v (ix3 b p l)) (fun l => w (ix3 b p l)) k := by
  pointwise [sideS]
  rfl
theorem addS_at (x y : FVec Ideal S128x4x2048 .f32) (u : FVec Ideal S2048x2048 .f32) (k : Fin 2048) : addS x y u (ix3 b p k) = x (ix3 b p k) + ∑ l, y (ix3 b p l) * u (ix2 l k) := by
  pointwise [addS]
theorem resS_at (k : Fin 2048) : resS X A B C W G U (ix3 b p k) = merged (fun l => X (ix2 (⟨8192 + (b.val * 4 + p.val), by omega⟩ : Fin 8704) l)) (fun l => A (ix2 (⟨b.val * 4 + p.val, by omega⟩ : Fin 512) l)) (fun l => B (ix2 (⟨b.val * 4 + p.val, by omega⟩ : Fin 512) l)) (fun l => C (ix2 (⟨b.val * 4 + p.val, by omega⟩ : Fin 512) l)) (fun l h k => W (ix4 0 l h k)) (fun l => G (ix2 0 l)) (fun l k => U (ix3 0 l k)) k := by
  unfold resS merged parts
  simp only [addS_at, sideS_at, wideS_at, slimS_at, xS_at, mlaS_at, nsaS_at, cvS_at, outw_at, cut_at, cut_at', cut_at'']
end

variable (X : FVec Ideal S8704x2048 .f32) (A : FVec Ideal S8192x1536 .bf16) (A' : FVec Ideal S512x1536 .bf16) (B : FVec Ideal S8192x768 .f32) (B' : FVec Ideal S512x768 .f32)
  (C : FVec Ideal S8192x512 .f32) (C' : FVec Ideal S512x512 .f32) (W : FVec Ideal S4x256x6x128 .f32) (G : FVec Ideal S4x2048 .f32) (U : FVec Ideal S4x2048x2048 .f32)
/-- The prompts' result is the kernel's. -/
theorem prompt_eq : resP X A B C W G U = Cert.Kernel5Ideal.Merge.prompt (Cert.Kernel5Ideal.Merge.full X A A' B B' C C' W G U) := by
  funext y
  idx_vars y
  rw [resP_at, Cert.Kernel5Ideal.Merge.prompt_at]
  have hp : ∀ {α : Type} (P : Fin 8192 → α) (S : Fin 512 → α), pick P S (⟨y0.val * 2048 + y1.val, by omega⟩ : Fin 8704) = P ⟨y0.val * 2048 + y1.val, by omega⟩ :=
    fun P S => pick_prompt P S _ (by simp only; omega)
  unfold Cert.Kernel5Ideal.Merge.full
  simp only [ix2_0, ix2_1, hp]
/-- The samples' result is the kernel's. -/
theorem sample_eq : resS X A' B' C' W G U = Cert.Kernel5Ideal.Merge.sample (Cert.Kernel5Ideal.Merge.full X A A' B B' C C' W G U) := by
  funext y
  idx_vars y
  rw [resS_at, Cert.Kernel5Ideal.Merge.sample_at]
  have hp : ∀ {α : Type} (P : Fin 8192 → α) (S : Fin 512 → α), pick P S (⟨8192 + (y0.val * 4 + y1.val), by omega⟩ : Fin 8704) = S ⟨y0.val * 4 + y1.val, by omega⟩ :=
    fun P S => pick_sample P S _ _ rfl
  unfold Cert.Kernel5Ideal.Merge.full
  simp only [ix2_0, ix2_1, hp]

/-- The run's prompts' result. -/
theorem run_prompt (m : (ℓ : Loc nD τ sig) → Buf (Elt Ideal) ℓ) (c : Dev nD) : Value.res_main_v66 (F := Ideal) m c = resP (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) := rfl
/-- The run's samples' result. -/
theorem run_sample (m : (ℓ : Loc nD τ sig) → Buf (Elt Ideal) ℓ) (c : Dev nD) : Value.res_main_v121 (F := Ideal) m c = resS (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) := rfl
end Cert.Reference5Ideal.Merge
end
-- ==== Proof.PostRow.lean ====
module
public import proofs.«01_k».proof.Proof.MergeRow
@[expose] public section
set_option maxRecDepth 16384
noncomputable section
namespace Cert.Post
open Idealize.ShloMosaic Cert.Merge

/-- A head of 64 turned by the angles whose cosines and sines are given: its first half and its second are a pair each. -/
def turn (x : Fin 64 → EReal) (c s : Fin 32 → EReal) (k : Fin 64) : EReal :=
  if h : k.val < 32 then x k * c ⟨k.val, h⟩ - x ⟨k.val + 32, by omega⟩ * s ⟨k.val, h⟩
  else x ⟨k.val - 32, by omega⟩ * s ⟨k.val - 32, by omega⟩ + x k * c ⟨k.val - 32, by omega⟩

theorem turn_congr {x x' : Fin 64 → EReal} (c s : Fin 32 → EReal) {k k' : Fin 64} (hx : ∀ l, x l = x' l) (hk : k.val = k'.val) : turn x c s k = turn x' c s k' := by
  rw [funext hx, Fin.ext hk]

/-- The position of a row: its place in its prompt, or its step after the samples' past. -/
def place (i : ℕ) : BitVec 32 := if i < 8192 then BitVec.ofNat 32 (i % 2048) else BitVec.ofNat 32 (8192 + i % 4)
/-- The angle of a pair at a position. -/
def angle (n : BitVec 32) (k : Fin 32) : EReal :=
  FloatOps.sitofp (F := Ideal) FTy.f32 n * Ideal.pow (Ideal.ofBits FTy.f32 1176256512#32)
    (Ideal.div (-FloatOps.sitofp (F := Ideal) FTy.f32 (BitVec.ofNat 32 k.val)) (Ideal.ofBits FTy.f32 1107296256#32))
/-- … its cosine and its sine. -/
def cosA (n : BitVec 32) (k : Fin 32) : EReal := Ideal.cos (angle n k)
def sinA (n : BitVec 32) (k : Fin 32) : EReal := Ideal.sin (angle n k)

/-- The turn as lanes: each lane by the cosine, the lanes half a head up and down by a sine or by zero. -/
theorem turned_full (x : Fin 128 → EReal) (c s : Fin 32 → EReal) (k : Fin 128) :
    x k * c ⟨k.val % 32, by omega⟩ + x ⟨(k.val + 128 - 96) % 128, by omega⟩ * (if k.val % 64 < 32 then 0 - s ⟨k.val % 32, by omega⟩ else 0)
      + x ⟨(k.val + 128 - 32) % 128, by omega⟩ * (if k.val % 64 < 32 then 0 else s ⟨k.val % 32, by omega⟩)
    = turn (fun l => x ⟨64 * (k.val / 64) + l.val, by omega⟩) c s ⟨k.val % 64, by omega⟩ := by
  have hk := k.isLt
  have e : ∀ (p q : ℕ) (hp : p < 128) (hq : q < 128), p = q → x ⟨p, hp⟩ = x ⟨q, hq⟩ := by
    intro p q hp hq h
    subst h
    rfl
  have ec : ∀ (f : Fin 32 → EReal) (p q : ℕ) (hp : p < 32) (hq : q < 32), p = q → f ⟨p, hp⟩ = f ⟨q, hq⟩ := by
    intro f p q hp hq h
    subst h
    rfl
  unfold turn
  by_cases h : k.val % 64 < 32
  · rw [if_pos h, if_pos h, dif_pos h, mul_zero, add_zero, zero_sub, mul_neg, sub_eq_add_neg]
    rw [e k.val (64 * (k.val / 64) + k.val % 64) _ _ (by omega), e ((k.val + 128 - 96) % 128) (64 * (k.val / 64) + (k.val % 64 + 32)) _ (by omega) (by omega),
      ec c _ (k.val % 64) _ h (by omega), ec s _ (k.val % 64) _ h (by omega)]
  · rw [if_neg h, if_neg h, dif_neg h, mul_zero, add_zero, add_comm]
    rw [e k.val (64 * (k.val / 64) + k.val % 64) _ _ (by omega), e ((k.val + 128 - 32) % 128) (64 * (k.val / 64) + (k.val % 64 - 32)) _ (by omega) (by omega),
      ec c _ (k.val % 64 - 32) _ (by omega) (by omega), ec s _ (k.val % 64 - 32) _ (by omega) (by omega)]

/-- The same with the upper 64 lanes left alone. -/
theorem turned_half (x : Fin 128 → EReal) (c s : Fin 32 → EReal) (k : Fin 128) :
    x k * (if k.val < 64 then c ⟨k.val % 32, by omega⟩ else 1) + x ⟨(k.val + 128 - 96) % 128, by omega⟩ * (if k.val < 64 then (if k.val % 64 < 32 then 0 - s ⟨k.val % 32, by omega⟩ else 0) else 0)
      + x ⟨(k.val + 128 - 32) % 128, by omega⟩ * (if k.val < 64 then (if k.val % 64 < 32 then 0 else s ⟨k.val % 32, by omega⟩) else 0)
    = if h : k.val < 64 then turn (fun l => x ⟨l.val, by omega⟩) c s ⟨k.val, h⟩ else x k := by
  by_cases h : k.val < 64
  · rw [if_pos h, if_pos h, if_pos h, dif_pos h, turned_full]
    refine turn_congr c s (fun l => congrArg x (Fin.ext ?_)) ?_
    · show 64 * (k.val / 64) + l.val = l.val
      omega
    · show k.val % 64 = k.val
      omega
  · rw [if_neg h, if_neg h, if_neg h, dif_neg h, mul_one, mul_zero, mul_zero, add_zero, add_zero]

section Rows
variable (z : Fin 3200 → EReal) (c s : Fin 32 → EReal)

/-- The row the latent attention keeps: the scaled latent, the turned key, and the columns after them. -/
def mlaRow (g : Fin 256 → EReal) (k : Fin 384) : EReal :=
  if h : k.val < 256 then scaled 0x43800000#32 (fun l : Fin 256 => z ⟨512 + l.val, by omega⟩) g ⟨k.val, h⟩
  else if h' : k.val - 256 < 64 then turn (fun l => z ⟨768 + l.val, by omega⟩) c s ⟨k.val - 256, h'⟩
  else z ⟨768 + (k.val - 256), by omega⟩

/-- The rows the sparse attention keeps: three pairs of a turned key and a value. -/
def keyRow (k : Fin 384) : EReal :=
  if h : k.val % 128 < 64 then turn (fun l => z ⟨1664 + 128 * (k.val / 128) + l.val, by omega⟩) c s ⟨k.val % 128, h⟩
  else z ⟨1664 + k.val, by omega⟩

/-- The convolution's input: one half gated by the other. -/
def convRow (k : Fin 512) : EReal := z ⟨2176 + k.val, by omega⟩ * Ideal.logistic (z ⟨2688 + k.val, by omega⟩)

/-- The sparse attention's gates. -/
def gateRow (k : Fin 128) : EReal := Ideal.logistic (z ⟨2048 + k.val, by omega⟩)

/-- The scaled query latent through the query matrix. -/
def upRow (g : Fin 512 → EReal) (W : Fin 512 → Fin 1152 → EReal) (j : Fin 1152) : EReal :=
  ∑ l : Fin 512, scaled 0x44000000#32 (fun l : Fin 512 => z ⟨l.val, by omega⟩) g l * W l j

/-- A head's query for the latent attention: through the key's matrix, then the turned part, both scaled. -/
def queryRow (u : Fin 1152 → EReal) (U : Fin 256 → Fin 6 → Fin 128 → EReal) (h : Fin 6) (k : Fin 384) : EReal :=
  if hk : k.val < 256 then (∑ x : Fin 128, u ⟨192 * h.val + x.val, by omega⟩ * U ⟨k.val, hk⟩ h x) * Ideal.ofBits FTy.f32 0x3D93CD3A#32
  else if hk' : k.val - 256 < 64 then turn (fun l => u ⟨192 * h.val + 128 + l.val, by omega⟩) c s ⟨k.val - 256, hk'⟩ * Ideal.ofBits FTy.f32 0x3D93CD3A#32
  else 0

/-- A head's query for the sparse attention: turned and scaled. -/
def sparseRow (h : Fin 12) (k : Fin 128) : EReal :=
  if hk : k.val < 64 then turn (fun l => z ⟨896 + 64 * h.val + l.val, by omega⟩) c s ⟨k.val, hk⟩ * Ideal.ofBits FTy.f32 0x3E000000#32 else 0
end Rows
end Cert.Post
end
-- ==== Proof.PostPay.lean ====
module
public import proofs.«01_k».proof.Proof.Gen.Kernel6Ideal.Frame
public import proofs.«01_k».proof.Proof.PostRow
public import Idealize.ShloMosaic.Lib.Pipeline.ValueKit
public import Idealize.ShloMosaic.Lib.Claim
@[expose] public section
set_option maxRecDepth 16384
noncomputable section
namespace Cert.Kernel6Ideal.Post
open Cert.Kernel6Ideal Cert.Kernel6Ideal.Gen Idealize.ShloMosaic Idealize.ShloMosaic.TcCoe Idealize.SL.Sem Cert.Merge Cert.Post
open Idealize.ShloMosaic.Pipeline (Dat)

theorem low_at (r : Fin 256) (k : Fin 128) : k0_pay5 (ix2 r k) = if k.val < 64 then 1#1 else 0#1 := by
  pointwise [k0_pay5]
  revert k; decide
theorem first_at (r : Fin 256) (k : Fin 128) : k0_pay4 (ix2 r k) = if k.val % 64 < 32 then 1#1 else 0#1 := by
  pointwise [k0_pay4]
  revert k; decide
theorem pick_at (p : Prop) [Decidable p] (a b : EReal) : Scalar.select (if p then 1#1 else 0#1) a b = if p then a else b := by
  by_cases h : p
  · rw [if_pos h, if_pos h]; rfl
  · rw [if_neg h, if_neg h]; rfl

/-- A row of a table repeats its 32 values over the lanes. -/
def Repeats (C : Vec Ideal S256x128 .f32) (r : Fin 256) (c : Fin 32 → EReal) : Prop := ∀ k : Fin 128, C (ix2 r k) = c ⟨k.val % 32, by omega⟩

section Tables
variable {C S : Vec Ideal S256x128 .f32} {r : Fin 256} {c s : Fin 32 → EReal} (hC : Repeats C r c) (hS : Repeats S r s)
include hC in
theorem cos_at (k : Fin 128) : k0_pay2 C (ix2 r k) = c ⟨k.val % 32, by omega⟩ := by
  pointwise [k0_pay2]
  exact hC k
include hS in
theorem up_at (k : Fin 128) : k0_pay6 S (ix2 r k) = if k.val % 64 < 32 then 0 - s ⟨k.val % 32, by omega⟩ else 0 := by
  pointwise [k0_pay6, k0_pay3]
  rw [first_at, pick_at, hS k]
include hS in
theorem down_at (k : Fin 128) : k0_pay7 S (ix2 r k) = if k.val % 64 < 32 then 0 else s ⟨k.val % 32, by omega⟩ := by
  pointwise [k0_pay7, k0_pay3]
  rw [first_at, pick_at, hS k]
include hC in
theorem cosl_at (k : Fin 128) : k0_pay8 C (ix2 r k) = if k.val < 64 then c ⟨k.val % 32, by omega⟩ else 1 := by
  pointwise [k0_pay8]
  rw [low_at, pick_at, cos_at hC]
include hS in
theorem upl_at (k : Fin 128) : k0_pay9 S (ix2 r k) = if k.val < 64 then (if k.val % 64 < 32 then 0 - s ⟨k.val % 32, by omega⟩ else 0) else 0 := by
  pointwise [k0_pay9]
  rw [low_at, pick_at, up_at hS]
include hS in
theorem downl_at (k : Fin 128) : k0_pay10 S (ix2 r k) = if k.val < 64 then (if k.val % 64 < 32 then 0 else s ⟨k.val % 32, by omega⟩) else 0 := by
  pointwise [k0_pay10]
  rw [low_at, pick_at, down_at hS]

include hC hS in
/-- A tile turned in its lower head only. -/
theorem half_at (X : Vec Ideal S256x128 .f32) (k : Fin 128) : k0_pay32 (k0_pay8 C) (k0_pay9 S) (k0_pay10 S) X (ix2 r k)
    = if h : k.val < 64 then turn (fun l => X (ix2 r ⟨l.val, by omega⟩)) c s ⟨k.val, h⟩ else X (ix2 r k) := by
  rw [← turned_half (fun l => X (ix2 r l))]
  pointwise [k0_pay32]
  rw [cosl_at hC, upl_at hS, downl_at hS]

/-- A tile turned in both heads. -/
def spun (C S X : Vec Ideal S256x128 .f32) : FVec Ideal S256x128 .f32 :=
  addf (addf (mulf X (k0_pay2 C)) (mulf (dynamicRotate 1 96#32 none X rotates_S256x128_d1) (k0_pay6 S))) (mulf (dynamicRotate 1 32#32 none X rotates_S256x128_d1) (k0_pay7 S))
/-- … its lower head, scaled, in the lower lanes. -/
def even (K : BitVec 32) (Y : FVec Ideal S256x128 .f32) : FVec Ideal S1x256x128 .bf16 :=
  shapeCast S1x256x128 (truncf .bf16 (select k0_pay5 (mulf Y (broadcast S256x128 (Scalar.ofBits (F := Ideal) .f32 K))) (broadcast S256x128 (Scalar.ofBits (F := Ideal) .f32 0x00000000#32))) bitsLt_bf16_f32) shapeCasts_S256x128_S1x256x128
/-- … its upper head. -/
def odd (K : BitVec 32) (Y : FVec Ideal S256x128 .f32) : FVec Ideal S1x256x128 .bf16 :=
  shapeCast S1x256x128 (truncf .bf16 (select k0_pay5 (dynamicRotate 1 64#32 none (mulf Y (broadcast S256x128 (Scalar.ofBits (F := Ideal) .f32 K))) rotates_S256x128_d1) (broadcast S256x128 (Scalar.ofBits (F := Ideal) .f32 0x00000000#32))) bitsLt_bf16_f32) shapeCasts_S256x128_S1x256x128

include hC hS in
theorem spun_at (X : Vec Ideal S256x128 .f32) (k : Fin 128) : spun C S X (ix2 r k) = turn (fun l => X (ix2 r ⟨64 * (k.val / 64) + l.val, by omega⟩)) c s ⟨k.val % 64, by omega⟩ := by
  rw [← turned_full (fun l => X (ix2 r l))]
  pointwise [spun]
  rw [cos_at hC, up_at hS, down_at hS]

theorem even_at (K : BitVec 32) (Y : FVec Ideal S256x128 .f32) (p : Fin 1) (k : Fin 128) : even K Y (ix3 p r k) = if k.val < 64 then Y (ix2 r k) * Ideal.ofBits FTy.f32 K else 0 := by
  pointwise [even]
  rw [low_at, pick_at]
theorem odd_at (K : BitVec 32) (Y : FVec Ideal S256x128 .f32) (p : Fin 1) (k : Fin 128) : odd K Y (ix3 p r k) = if k.val < 64 then Y (ix2 r ⟨(k.val + 128 - 64) % 128, by omega⟩) * Ideal.ofBits FTy.f32 K else 0 := by
  pointwise [odd]
  rw [low_at, pick_at]

include hC hS in
theorem even_spun (K : BitVec 32) (X : Vec Ideal S256x128 .f32) (p : Fin 1) (k : Fin 128) : even K (spun C S X) (ix3 p r k)
    = if h : k.val < 64 then turn (fun l => X (ix2 r ⟨l.val, by omega⟩)) c s ⟨k.val, h⟩ * Ideal.ofBits FTy.f32 K else 0 := by
  rw [even_at]
  by_cases h : k.val < 64
  · rw [if_pos h, dif_pos h, spun_at hC hS]
    refine congrArg (· * Ideal.ofBits FTy.f32 K) (turn_congr c s (fun l => congrArg (fun q => X (ix2 r q)) (Fin.ext ?_)) ?_)
    · show 64 * (k.val / 64) + l.val = l.val
      omega
    · show k.val % 64 = k.val
      omega
  · rw [if_neg h, dif_neg h]
include hC hS in
theorem odd_spun (K : BitVec 32) (X : Vec Ideal S256x128 .f32) (p : Fin 1) (k : Fin 128) : odd K (spun C S X) (ix3 p r k)
    = if h : k.val < 64 then turn (fun l => X (ix2 r ⟨64 + l.val, by omega⟩)) c s ⟨k.val, h⟩ * Ideal.ofBits FTy.f32 K else 0 := by
  rw [odd_at]
  by_cases h : k.val < 64
  · rw [if_pos h, dif_pos h, spun_at hC hS]
    refine congrArg (· * Ideal.ofBits FTy.f32 K) (turn_congr c s (fun l => congrArg (fun q => X (ix2 r q)) (Fin.ext ?_)) ?_)
    · show 64 * ((k.val + 128 - 64) % 128 / 64) + l.val = 64 + l.val
      omega
    · show (k.val + 128 - 64) % 128 % 64 = k.val
      omega
  · rw [if_neg h, dif_neg h]
end Tables

theorem scale_at (X : Vec Ideal S256x256 .f32) (G : Vec Ideal S1x256 .f32) (r k : Fin 256) : k0_pay31 X G (ix2 r k) = scaled 0x43800000#32 (fun l => X (ix2 r l)) (fun l => G (ix2 0 l)) k := by
  pointwise [k0_pay31, scaled]
theorem gate_at (X : Vec Ideal S256x128 .f32) (r : Fin 256) (k : Fin 128) : k0_pay65 X (ix2 r k) = Ideal.logistic (X (ix2 r k)) := by
  pointwise [k0_pay65]
theorem conv_at (X Y : Vec Ideal S256x512 .f32) (r : Fin 256) (k : Fin 512) : k0_pay1 X Y (ix2 r k) = X (ix2 r k) * Ideal.logistic (Y (ix2 r k)) := by
  pointwise [k0_pay1]
/-- The queries before they are split. -/
theorem query_at (X : Vec Ideal S256x512 .f32) (G : Vec Ideal S1x512 .f32) (W : Vec Ideal S512x1152 .bf16) (r : Fin 256) (j : Fin 1152) :
    k0_pay12 (k0_pay11 X G) W (ix2 r j) = ∑ l : Fin 512, scaled 0x44000000#32 (fun l => X (ix2 r l)) (fun l => G (ix2 0 l)) l * W (ix2 l j) := by
  pointwise [k0_pay12, k0_pay11, scaled]
end Cert.Kernel6Ideal.Post
end
-- ==== Proof.PostIn.lean ====
module
public import proofs.«01_k».proof.Proof.PostPay
@[expose] public section
set_option maxRecDepth 16384
noncomputable section
namespace Cert.Kernel6Ideal.Post
open Cert.Kernel6Ideal Cert.Kernel6Ideal.Gen Idealize.ShloMosaic Idealize.ShloMosaic.TcCoe Idealize.SL.Sem Cert.Merge Cert.Post
open Idealize.ShloMosaic.Pipeline (Dat)
variable (m : (ℓ : Loc nD τ sig) → Buf (Elt Ideal) ℓ)
theorem idx : ∀ t : Fin cfg0.N, win0_0.index t = ![t.val, 0] ∧ win0_1.index t = ![if t.val < 32 then t.val % 8 else 8, 0] ∧ win0_2.index t = ![if t.val < 32 then t.val % 8 else 8, 0] ∧ win0_3.index t = ![0, 0] ∧ win0_4.index t = ![0, 0] ∧ win0_5.index t = ![0, 0] ∧ win0_6.index t = ![0, 0, 0] ∧ win0_7.index t = ![0, t.val, 0] ∧ win0_9.index t = ![t.val, 0] ∧ win0_10.index t = ![0, t.val, 0] ∧ win0_11.index t = ![t.val, 0] ∧ win0_13.index t = ![t.val, 0] ∧ win0_14.index t = ![t.val, 0] :=
  (by decide +kernel : ∀ t : Fin grid0.N, _)

/-- The samples' steps: each row's remainder by 4, of the sign of 4. -/
def steps : IVec S256 32 :=
  let d : IVec S256 32 := broadcastInDim S256 ![] bcast_S_S256 (select (cmpi .eq (constantI S_ 32 4#32) (constantI S_ 32 0#32)) (constantI S_ 32 1#32) (constantI S_ 32 4#32))
  let q : IVec S256 32 := Host.remsi (iotaInDim S256 32 0) d
  select (andi (cmpi .ne (cmpi .slt q (broadcastInDim S256 ![] bcast_S_S256 (constantI S_ 32 0#32)))
      (broadcastInDim S256 ![] bcast_S_S256 (cmpi .slt (select (cmpi .eq (constantI S_ 32 4#32) (constantI S_ 32 0#32)) (constantI S_ 32 1#32) (constantI S_ 32 4#32)) (constantI S_ 32 0#32))))
    (cmpi .ne q (broadcastInDim S256 ![] bcast_S_S256 (constantI S_ 32 0#32)))) (addi q d) q
/-- The tables' positions: a prompt's 2048, then 256 rows of samples. -/
def places : IVec S2304 32 :=
  concatenate S2304 0 [⟨S2048, iotaInDim S2048 32 0⟩, ⟨S256, addi (broadcastInDim S256 ![] bcast_S_S256 (constantI S_ 32 8192#32)) steps⟩] concatenates_S2048_S256_S2304_d0
/-- The tables' angles. -/
def angles : FVec Ideal S2304x32 .f32 :=
  mulf (broadcastInDim S2304x32 ![0, 1] bcast_S2304x1_S2304x32_0_1 (broadcastInDim S2304x1 ![0] bcast_S2304_S2304x1_0 (sitofp .f32 places)))
    (broadcastInDim S2304x32 ![0, 1] bcast_S1x32_S2304x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
/-- A table laid over the 128 lanes. -/
def wide (x : FVec Ideal S2304x32 .f32) : FVec Ideal S2304x128 .f32 :=
  shapeCast _ (broadcastInDim S1x2304x4x32 ![0, 1, 2, 3] bcast_S1x2304x1x32_S1x2304x4x32_0_1_2_3 (shapeCast _ x shapeCasts_S2304x32_S1x2304x1x32)) shapeCasts_S1x2304x4x32_S2304x128

/-- The queries' matrix of the layer, its heads' columns regrouped: first each head's 128, then each head's 64. -/
def packed (W : FVec Ideal S4x512x1152 .f32) : FVec Ideal S512x1152 .bf16 :=
  let w : FVec Ideal S512x6x192 .f32 := shapeCast _ (shapeCast S512x1152 (extractStridedSlice S1x512x1152 ![0, 0, 0] W slices_S4x512x1152_S1x512x1152_0_0_0) shapeCasts_S1x512x1152_S512x1152) shapeCasts_S512x1152_S512x6x192
  truncf .bf16 (concatenate S512x1152 1 [⟨S512x768, shapeCast _ (extractStridedSlice S512x6x128 ![0, 0, 0] w slices_S512x6x192_S512x6x128_0_0_0) shapeCasts_S512x6x128_S512x768⟩,
    ⟨S512x384, shapeCast _ (extractStridedSlice S512x6x64 ![0, 0, 128] w slices_S512x6x192_S512x6x64_0_0_128) shapeCasts_S512x6x64_S512x384⟩] concatenates_S512x768_S512x384_S512x1152_d1) bitsLt_bf16_f32
/-- The keys' matrix of the layer, by head. -/
def byHead (U : FVec Ideal S4x256x6x128 .f32) : FVec Ideal S6x128x256 .bf16 :=
  truncf .bf16 (transpose S6x128x256 [1, 2, 0] (shapeCast S256x6x128 (extractStridedSlice S1x256x6x128 ![0, 0, 0, 0] U slices_S4x256x6x128_S1x256x6x128_0_0_0_0) shapeCasts_S1x256x6x128_S256x6x128) transposes_S256x6x128_S6x128x256_1_2_0) bitsLt_bf16_f32
/-- The layer's scales, as a row. -/
def scaleQ (g : FVec Ideal S4x512 .f32) : FVec Ideal S1x512 .f32 :=
  broadcastInDim S1x512 ![1] bcast_S512_S1x512_1 (shapeCast S512 (extractStridedSlice S1x512 ![0, 0] g slices_S4x512_S1x512_0_0) shapeCasts_S1x512_S512)
def scaleK (g : FVec Ideal S4x256 .f32) : FVec Ideal S1x256 .f32 :=
  broadcastInDim S1x256 ![1] bcast_S256_S1x256_1 (shapeCast S256 (extractStridedSlice S1x256 ![0, 0] g slices_S4x256_S1x256_0_0) shapeCasts_S1x256_S256)

theorem table_cos (c : Dev nD) : V m c main_v21 = wide (Host.cos angles) := by
  show StableHlo.after (hostOps0 ++ (hostOps0_1 ++ (hostOps0_2 ++ []))) (fun b => m (c, b)) (Proc.tc.devRef main_v21) = _
  simp only [List.append_nil, List.cons_append, List.nil_append]
  after_results
  rfl
theorem table_sin (c : Dev nD) : V m c main_v25 = wide (Host.sin angles) := by
  show StableHlo.after (hostOps0 ++ (hostOps0_1 ++ (hostOps0_2 ++ []))) (fun b => m (c, b)) (Proc.tc.devRef main_v25) = _
  simp only [List.append_nil, List.cons_append, List.nil_append]
  after_results
  rfl
theorem op_wq (c : Dev nD) : V m c main_v34 = packed (m ((c : Thread nD τ).loc main_arg5)) := by
  show StableHlo.after (hostOps0 ++ (hostOps0_1 ++ (hostOps0_2 ++ []))) (fun b => m (c, b)) (Proc.tc.devRef main_v34) = _
  simp only [List.append_nil, List.cons_append, List.nil_append]
  after_results
  rfl
theorem op_wuk (c : Dev nD) : V m c main_v38 = byHead (m ((c : Thread nD τ).loc main_arg6)) := by
  show StableHlo.after (hostOps0 ++ (hostOps0_1 ++ (hostOps0_2 ++ []))) (fun b => m (c, b)) (Proc.tc.devRef main_v38) = _
  simp only [List.append_nil, List.cons_append, List.nil_append]
  after_results
  rfl
theorem op_qn (c : Dev nD) : V m c main_v41 = scaleQ (m ((c : Thread nD τ).loc main_arg3)) := by
  show StableHlo.after (hostOps0 ++ (hostOps0_1 ++ (hostOps0_2 ++ []))) (fun b => m (c, b)) (Proc.tc.devRef main_v41) = _
  simp only [List.append_nil, List.cons_append, List.nil_append]
  after_results
  rfl
theorem op_kvn (c : Dev nD) : V m c main_v44 = scaleK (m ((c : Thread nD τ).loc main_arg4)) := by
  show StableHlo.after (hostOps0 ++ (hostOps0_1 ++ (hostOps0_2 ++ []))) (fun b => m (c, b)) (Proc.tc.devRef main_v44) = _
  simp only [List.append_nil, List.cons_append, List.nil_append]
  after_results
  rfl
theorem op_z (c : Dev nD) : V m c main_arg0 = (m ((c : Thread nD τ).loc main_arg0)) := by
  show StableHlo.after (hostOps0 ++ (hostOps0_1 ++ (hostOps0_2 ++ []))) (fun b => m (c, b)) (Proc.tc.devRef main_arg0) = _
  simp only [List.append_nil, List.cons_append, List.nil_append]
  after_results

theorem wide_at (x : FVec Ideal S2304x32 .f32) (r : Fin 2304) (k : Fin 128) : wide x (ix2 r k) = x (ix2 r ⟨k.val % 32, by omega⟩) := by
  pointwise [wide]
theorem steps_at (r : Fin 256) : steps (ix1 r) = BitVec.ofNat 32 (r.val % 4) := by
  pointwise [steps]
  revert r; decide
/-- The position a table's row holds. -/
def slot (i : Fin 2304) : BitVec 32 := if h : i.val < 2048 then BitVec.ofNat 32 i.val else IntOp.addi (8192#32) (steps (ix1 ⟨i.val - 2048, by omega⟩))
theorem cos_angles (r : Fin 2304) (k : Fin 32) : Host.cos angles (ix2 r k) = cosA (slot r) k := by
  pointwise [angles, places]
  rfl
theorem sin_angles (r : Fin 2304) (k : Fin 32) : Host.sin angles (ix2 r k) = sinA (slot r) k := by
  pointwise [angles, places]
  rfl
theorem packed_low (W : FVec Ideal S4x512x1152 .f32) (l : Fin 512) (h : Fin 6) (x : Fin 128) : packed W (ix2 l ⟨128 * h.val + x.val, by omega⟩) = W (ix3 0 l ⟨192 * h.val + x.val, by omega⟩) := by
  pointwise [packed]
  rw [dif_pos (by omega)]
  refine congrArg (fun q => W (ix3 0 l q)) (Fin.ext ?_)
  show h.val * 192 + x.val = 192 * h.val + x.val
  omega
theorem packed_high (W : FVec Ideal S4x512x1152 .f32) (l : Fin 512) (h : Fin 6) (x : Fin 64) : packed W (ix2 l ⟨768 + 64 * h.val + x.val, by omega⟩) = W (ix3 0 l ⟨192 * h.val + 128 + x.val, by omega⟩) := by
  pointwise [packed]
  rw [dif_neg (by omega)]
  refine congrArg (fun q => W (ix3 0 l q)) (Fin.ext ?_)
  show (768 + 64 * h.val + x.val - 768) / 64 * 192 + (128 + (768 + 64 * h.val + x.val - 768) % 64) = 192 * h.val + 128 + x.val
  omega
theorem byHead_at (U : FVec Ideal S4x256x6x128 .f32) (h : Fin 6) (x : Fin 128) (k : Fin 256) : byHead U (ix3 h x k) = U (ix4 0 k h x) := by
  pointwise [byHead]
theorem scaleQ_at (g : FVec Ideal S4x512 .f32) (p : Fin 1) (l : Fin 512) : scaleQ g (ix2 p l) = g (ix2 0 l) := by
  pointwise [scaleQ]
theorem scaleK_at (g : FVec Ideal S4x256 .f32) (p : Fin 1) (l : Fin 256) : scaleK g (ix2 p l) = g (ix2 0 l) := by
  pointwise [scaleK]

theorem row_lt (t : Fin cfg0.N) (r : Fin 256) : t.val * 256 + r.val < 8704 := by
  have h : t.val < 34 := t.isLt
  have := r.isLt
  omega
/-- The row of z a block's row is. -/
def rowOf (t : Fin cfg0.N) (r : Fin 256) : Fin 8704 := ⟨t.val * 256 + r.val, row_lt t r⟩
theorem slot_lt (t : Fin cfg0.N) (r : Fin 256) : (if t.val < 32 then t.val % 8 else 8) * 256 + r.val < 2304 := by
  have := r.isLt
  split_ifs <;> omega
theorem slot_eq (t : Fin cfg0.N) (r : Fin 256) : slot ⟨(if t.val < 32 then t.val % 8 else 8) * 256 + r.val, slot_lt t r⟩ = place (rowOf t r).val := by
  have hr := r.isLt
  have hN : t.val < 34 := t.isLt
  by_cases h : t.val < 32
  · have e : (⟨(if t.val < 32 then t.val % 8 else 8) * 256 + r.val, slot_lt t r⟩ : Fin 2304) = ⟨t.val % 8 * 256 + r.val, by omega⟩ := Fin.ext (by simp [h])
    rw [e]
    unfold slot place rowOf
    dsimp only
    rw [dif_pos (by omega), if_pos (by omega)]
    congr 1
    omega
  · have e : (⟨(if t.val < 32 then t.val % 8 else 8) * 256 + r.val, slot_lt t r⟩ : Fin 2304) = ⟨2048 + r.val, by omega⟩ := Fin.ext (by simp [h])
    rw [e]
    unfold slot place rowOf
    dsimp only
    rw [dif_neg (by omega), if_neg (by omega)]
    have e2 : (⟨2048 + r.val - 2048, by omega⟩ : Fin 256) = r := Fin.ext (by simp)
    rw [e2, steps_at]
    have e3 : (t.val * 256 + r.val) % 4 = r.val % 4 := by omega
    rw [e3]
    show BitVec.ofNat 32 8192 + BitVec.ofNat 32 (r.val % 4) = _
    rw [BitVec.ofNat_add]

theorem z_blk (c : Dev nD) (t : Fin cfg0.N) (r : Fin 256) (p : Fin 3200) : iblk m c 0 t (ix2 r p) = m ((c : Thread nD τ).loc main_arg0) (ix2 (rowOf t r) p) := by
  have e' : iblk m c 0 t (ix2 r p) = V m c main_arg0 (ix2 (rowOf t r) p) := by blk_ext [iblk, idx t, rowOf]
  rw [e', op_z]
theorem z_ld (c : Dev nD) (t : Fin cfg0.N) (o w : ℕ) (ho : o + w ≤ 3200) (inb) (r : Fin 256) (l : Fin w) :
    View.ld (iblk m c 0 t) (Rect.unit ![0, o] ![256, w] inb) (ix2 r l) = m ((c : Thread nD τ).loc main_arg0) (ix2 (rowOf t r) ⟨o + l.val, by omega⟩) := by
  rw [ld_at _ _ _ _ _ (ix2 r ⟨o + l.val, by omega⟩) (by intro a; fin_cases a <;> simp [ix2])]
  exact z_blk m c t r _
theorem cos_blk (c : Dev nD) (t : Fin cfg0.N) (r : Fin 256) (k : Fin 128) : iblk m c 1 t (ix2 r k) = cosA (place (rowOf t r).val) ⟨k.val % 32, by omega⟩ := by
  have e' : iblk m c 1 t (ix2 r k) = V m c main_v21 (ix2 ⟨(if t.val < 32 then t.val % 8 else 8) * 256 + r.val, slot_lt t r⟩ k) := by blk_ext [iblk, idx t]
  rw [e', table_cos, wide_at, cos_angles, slot_eq]
theorem sin_blk (c : Dev nD) (t : Fin cfg0.N) (r : Fin 256) (k : Fin 128) : iblk m c 2 t (ix2 r k) = sinA (place (rowOf t r).val) ⟨k.val % 32, by omega⟩ := by
  have e' : iblk m c 2 t (ix2 r k) = V m c main_v25 (ix2 ⟨(if t.val < 32 then t.val % 8 else 8) * 256 + r.val, slot_lt t r⟩ k) := by blk_ext [iblk, idx t]
  rw [e', table_sin, wide_at, sin_angles, slot_eq]
theorem qn_blk (c : Dev nD) (t : Fin cfg0.N) (l : Fin 512) : iblk m c 3 t (ix2 0 l) = m ((c : Thread nD τ).loc main_arg3) (ix2 0 l) := by
  have e' : iblk m c 3 t (ix2 0 l) = V m c main_v41 (ix2 0 l) := by blk_ext [iblk, idx t]
  rw [e', op_qn, scaleQ_at]
theorem kvn_blk (c : Dev nD) (t : Fin cfg0.N) (l : Fin 256) : iblk m c 4 t (ix2 0 l) = m ((c : Thread nD τ).loc main_arg4) (ix2 0 l) := by
  have e' : iblk m c 4 t (ix2 0 l) = V m c main_v44 (ix2 0 l) := by blk_ext [iblk, idx t]
  rw [e', op_kvn, scaleK_at]
theorem wq_blk (c : Dev nD) (t : Fin cfg0.N) (l : Fin 512) (j : Fin 1152) : iblk m c 5 t (ix2 l j) = packed (m ((c : Thread nD τ).loc main_arg5)) (ix2 l j) := by
  have e' : iblk m c 5 t (ix2 l j) = V m c main_v34 (ix2 l j) := by blk_ext [iblk, idx t]
  rw [e', op_wq]
theorem wuk_blk (c : Dev nD) (t : Fin cfg0.N) (h : Fin 6) (x : Fin 128) (k : Fin 256) : iblk m c 6 t (ix3 h x k) = m ((c : Thread nD τ).loc main_arg6) (ix4 0 k h x) := by
  have e' : iblk m c 6 t (ix3 h x k) = V m c main_v38 (ix3 h x k) := by blk_ext [iblk, idx t]
  rw [e', op_wuk, byHead_at]
theorem wuk_ld (c : Dev nD) (t : Fin cfg0.N) (h : ℕ) (hh : h < 6) (inb) (p : Fin 1) (x : Fin 128) (k : Fin 256) :
    View.ld (iblk m c 6 t) (Rect.unit ![h, 0, 0] ![1, 128, 256] inb) (ix3 p x k) = m ((c : Thread nD τ).loc main_arg6) (ix4 0 k ⟨h, hh⟩ x) := by
  rw [ld_at _ _ _ _ _ (ix3 ⟨h, hh⟩ x k) (by intro a; fin_cases a <;> simp [ix3])]
  exact wuk_blk m c t _ x k
end Cert.Kernel6Ideal.Post
end
-- ==== Proof.PostOut.lean ====
module
public import proofs.«01_k».proof.Proof.PostIn
@[expose] public section
set_option maxRecDepth 16384
noncomputable section
namespace Cert.Kernel6Ideal.Post
open Cert.Kernel6Ideal Cert.Kernel6Ideal.Gen Idealize.ShloMosaic Idealize.ShloMosaic.TcCoe Idealize.SL.Sem Cert.Merge Cert.Post
open Idealize.ShloMosaic.Pipeline (Dat)
variable (m : (ℓ : Loc nD τ sig) → Buf (Elt Ideal) ℓ)

/-- A head's columns of the queries through the head's matrix, scaled. -/
def latent (Q : FVec Ideal S256x1152 .f32) (o : ℕ) (hs : S256x1152.Slices ![0, o] S256x128) (U : Vec Ideal S1x128x256 .bf16) : FVec Ideal S1x256x256 .bf16 :=
  shapeCast S1x256x256 (truncf .bf16 (mulf (matmul (φ₂ := .bf16) dot_S256x128_S128x256_S256x256_1_0_0_1_n_n none (truncf .bf16 (extractStridedSlice S256x128 ![0, o] Q hs) bitsLt_bf16_f32) (shapeCast (α := Ideal .bf16) S128x256 U shapeCasts_S1x128x256_S128x256) (constant S256x256 .f32 0x00000000#32))
    (broadcast S256x256 (Scalar.ofBits (F := Ideal) .f32 0x3D93CD3A#32))) bitsLt_bf16_f32) shapeCasts_S256x256_S1x256x256
theorem latent_at (Q : FVec Ideal S256x1152 .f32) (o : ℕ) (ho : o + 128 ≤ 1152) (hs) (U : Vec Ideal S1x128x256 .bf16) (p : Fin 1) (r k : Fin 256) :
    latent Q o hs U (ix3 p r k) = (∑ x : Fin 128, Q (ix2 r ⟨o + x.val, by omega⟩) * U (ix3 0 x k)) * Ideal.ofBits FTy.f32 0x3D93CD3A#32 := by
  pointwise [latent]

/-- A row of z. -/
def zrow (Z : FVec Ideal S8704x3200 .f32) (i : Fin 8704) (p : Fin 3200) : EReal := Z (ix2 i p)
/-- A row's queries of the latent attention. -/
def upper (Z : FVec Ideal S8704x3200 .f32) (g : FVec Ideal S4x512 .f32) (W : FVec Ideal S4x512x1152 .f32) (i : Fin 8704) : Fin 1152 → EReal :=
  upRow (zrow Z i) (fun l => g (ix2 0 l)) (fun l j => W (ix3 0 l j))
/-- The call's results, whole. -/
def mlaA (Z : FVec Ideal S8704x3200 .f32) (g : FVec Ideal S4x256 .f32) : FVec Ideal S8704x384 .f32 :=
  fun z => mlaRow (zrow Z (z 0)) (cosA (place (z 0).val)) (sinA (place (z 0).val)) (fun l => g (ix2 0 l)) (z 1)
def keyA (Z : FVec Ideal S8704x3200 .f32) : FVec Ideal S8704x384 .f32 :=
  fun z => keyRow (zrow Z (z 0)) (cosA (place (z 0).val)) (sinA (place (z 0).val)) (z 1)
def convA (Z : FVec Ideal S8704x3200 .f32) : FVec Ideal S8704x512 .f32 := fun z => convRow (zrow Z (z 0)) (z 1)
def gateA (Z : FVec Ideal S8704x3200 .f32) : FVec Ideal S8704x128 .f32 := fun z => gateRow (zrow Z (z 0)) (z 1)
def sparseA (Z : FVec Ideal S8704x3200 .f32) : FVec Ideal S12x8704x128 .bf16 :=
  fun z => sparseRow (zrow Z (z 1)) (cosA (place (z 1).val)) (sinA (place (z 1).val)) (z 0) (z 2)
def queryA (Z : FVec Ideal S8704x3200 .f32) (g : FVec Ideal S4x512 .f32) (W : FVec Ideal S4x512x1152 .f32) (U : FVec Ideal S4x256x6x128 .f32) : FVec Ideal S6x8704x384 .bf16 :=
  fun z => queryRow (cosA (place (z 1).val)) (sinA (place (z 1).val)) (upper Z g W (z 1)) (fun k h x => U (ix4 0 k h x)) (z 0) (z 2)

theorem cut_at (Q : FVec Ideal S256x1152 .f32) (o : ℕ) (ho : o + 128 ≤ 1152) (hs : S256x1152.Slices ![0, o] S256x128) (r : Fin 256) (l : Fin 128) :
    extractStridedSlice S256x128 ![0, o] Q hs (ix2 r l) = Q (ix2 r ⟨o + l.val, by omega⟩) := by
  pointwise []

section
variable (c : Dev nD) (t : Fin cfg0.N)

theorem out_conv (r : Fin 256) (k : Fin 512) : (outsAt0 m c t).2.2.2.2.2.2.2 (ix2 r k) = convRow (zrow (m ((c : Thread nD τ).loc main_arg0)) (rowOf t r)) k := by
  unfold outsAt0
  dsimp only
  frame_out
  refine (conv_at _ _ r k).trans ?_
  rw [z_ld m c t 2176 512 (by omega), z_ld m c t 2688 512 (by omega)]
  rfl
theorem out_gate (r : Fin 256) (k : Fin 128) : (outsAt0 m c t).2.2.2.2.2.2.1 (ix2 r k) = gateRow (zrow (m ((c : Thread nD τ).loc main_arg0)) (rowOf t r)) k := by
  unfold outsAt0
  dsimp only
  frame_out
  refine (gate_at _ r k).trans ?_
  rw [z_ld m c t 2048 128 (by omega)]
  rfl
theorem out_mla (r : Fin 256) (k : Fin 384) : (outsAt0 m c t).2.2.1 (ix2 r k) = mlaRow (zrow (m ((c : Thread nD τ).loc main_arg0)) (rowOf t r)) (cosA (place (rowOf t r).val)) (sinA (place (rowOf t r).val)) (fun l => m ((c : Thread nD τ).loc main_arg4) (ix2 0 l)) k := by
  have hc := cover0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (ix2 r k)
  unfold outsAt0
  dsimp only
  unfold out0_A_9
  unfold kernelRun0_A at hc ⊢
  dsimp only at hc ⊢
  rw [View.read_writes_junk_eq_canon]
  canon_tiles x h using hc
  all_goals clear hc
  all_goals idx_vars x
  all_goals frame_out
  · have e0 : r = x0 := Fin.ext h0
    subst e0
    refine (half_at (cos_blk m c t r) (sin_blk m c t r) _ x1).trans ?_
    unfold mlaRow
    rw [dif_neg (show ¬ k.val < 256 by omega)]
    have e1 : x1.val = k.val - 256 := by omega
    by_cases h : x1.val < 64
    · rw [dif_pos h, dif_pos (show k.val - 256 < 64 by omega)]
      refine turn_congr _ _ (fun l => ?_) e1
      exact z_ld m c t 768 128 (by omega) _ r ⟨l.val, by omega⟩
    · rw [dif_neg h, dif_neg (show ¬ k.val - 256 < 64 by omega)]
      refine (z_ld m c t 768 128 (by omega) _ r x1).trans ?_
      exact congrArg (zrow (m ((c : Thread nD τ).loc main_arg0)) (rowOf t r)) (Fin.ext (by simp only [e1]))
  · have e0 : r = x0 := Fin.ext h0
    subst e0
    refine (scale_at _ _ r x1).trans ?_
    unfold mlaRow
    rw [dif_pos (show k.val < 256 by omega)]
    have e1 : x1 = ⟨k.val, by omega⟩ := Fin.ext (by simp only; omega)
    rw [← e1]
    refine congrArg₂ (fun a b => scaled 0x43800000#32 a b x1) (funext fun l => ?_) (funext fun l => ?_)
    · exact z_ld m c t 512 256 (by omega) _ r l
    · exact kvn_blk m c t l
theorem key_piece (r : Fin 256) (k : Fin 384) (o j : ℕ) (ho : o = 1664 + 128 * j) (hj : j < 3) (inb) (x0 : Fin 256) (x1 : Fin 128) (h0 : r.val = x0.val) (h1 : k.val = 128 * j + x1.val) :
    k0_pay32 (k0_pay8 (iblk m c 1 t)) (k0_pay9 (iblk m c 2 t)) (k0_pay10 (iblk m c 2 t)) (View.ld (iblk m c 0 t) (Rect.unit ![0, o] ![256, 128] inb)) (ix2 x0 x1)
    = keyRow (zrow (m ((c : Thread nD τ).loc main_arg0)) (rowOf t r)) (cosA (place (rowOf t r).val)) (sinA (place (rowOf t r).val)) k := by
  have e0 : r = x0 := Fin.ext h0
  subst e0
  subst ho
  refine (half_at (cos_blk m c t r) (sin_blk m c t r) _ x1).trans ?_
  have e1 : x1.val = k.val % 128 := by omega
  have e2 : k.val / 128 = j := by omega
  unfold keyRow
  by_cases h : x1.val < 64
  · rw [dif_pos h, dif_pos (show k.val % 128 < 64 by omega)]
    refine turn_congr _ _ (fun l => ?_) e1
    refine (z_ld m c t _ 128 (by omega) _ r ⟨l.val, by omega⟩).trans ?_
    exact congrArg (zrow (m ((c : Thread nD τ).loc main_arg0)) (rowOf t r)) (Fin.ext (by simp only [e2]))
  · rw [dif_neg h, dif_neg (show ¬ k.val % 128 < 64 by omega)]
    refine (z_ld m c t _ 128 (by omega) _ r x1).trans ?_
    exact congrArg (zrow (m ((c : Thread nD τ).loc main_arg0)) (rowOf t r)) (Fin.ext (by simp only; omega))
theorem out_key (r : Fin 256) (k : Fin 384) : (outsAt0 m c t).2.2.2.2.1 (ix2 r k) = keyRow (zrow (m ((c : Thread nD τ).loc main_arg0)) (rowOf t r)) (cosA (place (rowOf t r).val)) (sinA (place (rowOf t r).val)) k := by
  have hc := cover0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (ix2 r k)
  unfold outsAt0
  dsimp only
  unfold out0_A_11
  unfold kernelRun0_A at hc ⊢
  dsimp only at hc ⊢
  rw [View.read_writes_junk_eq_canon]
  canon_tiles x h using hc
  all_goals clear hc
  all_goals idx_vars x
  all_goals frame_out
  · exact key_piece m c t r k 1920 2 (by omega) (by omega) _ x0 x1 h0 (by omega)
  · exact key_piece m c t r k 1792 1 (by omega) (by omega) _ x0 x1 h0 (by omega)
  · exact key_piece m c t r k 1664 0 (by omega) (by omega) _ x0 x1 h0 (by omega)
theorem sparse_even (r : Fin 256) (h : Fin 12) (k : Fin 128) (o j : ℕ) (ho : o = 896 + 128 * j) (hh : h.val = 2 * j + 0) (inb) (x0 : Fin 1) (x1 : Fin 256) (x2 : Fin 128) (h1 : r.val = x1.val) (h2 : k.val = x2.val) :
    even 0x3E000000#32 (spun (iblk m c 1 t) (iblk m c 2 t) (View.ld (iblk m c 0 t) (Rect.unit ![0, o] ![256, 128] inb))) (ix3 x0 x1 x2)
    = sparseRow (zrow (m ((c : Thread nD τ).loc main_arg0)) (rowOf t r)) (cosA (place (rowOf t r).val)) (sinA (place (rowOf t r).val)) h k := by
  have e0 : r = x1 := Fin.ext h1
  have e1 : k = x2 := Fin.ext h2
  subst e0
  subst e1
  subst ho
  refine (even_spun (cos_blk m c t r) (sin_blk m c t r) _ _ x0 k).trans ?_
  unfold sparseRow
  by_cases hk : k.val < 64
  · rw [dif_pos hk, dif_pos hk]
    refine congrArg (· * Ideal.ofBits FTy.f32 0x3E000000#32) (turn_congr _ _ (fun l => ?_) rfl)
    refine (z_ld m c t _ 128 (by omega) _ r ⟨l.val, by omega⟩).trans ?_
    exact congrArg (zrow (m ((c : Thread nD τ).loc main_arg0)) (rowOf t r)) (Fin.ext (by simp only; omega))
  · rw [dif_neg hk, dif_neg hk]
theorem sparse_odd (r : Fin 256) (h : Fin 12) (k : Fin 128) (o j : ℕ) (ho : o = 896 + 128 * j) (hh : h.val = 2 * j + 1) (inb) (x0 : Fin 1) (x1 : Fin 256) (x2 : Fin 128) (h1 : r.val = x1.val) (h2 : k.val = x2.val) :
    odd 0x3E000000#32 (spun (iblk m c 1 t) (iblk m c 2 t) (View.ld (iblk m c 0 t) (Rect.unit ![0, o] ![256, 128] inb))) (ix3 x0 x1 x2)
    = sparseRow (zrow (m ((c : Thread nD τ).loc main_arg0)) (rowOf t r)) (cosA (place (rowOf t r).val)) (sinA (place (rowOf t r).val)) h k := by
  have e0 : r = x1 := Fin.ext h1
  have e1 : k = x2 := Fin.ext h2
  subst e0
  subst e1
  subst ho
  refine (odd_spun (cos_blk m c t r) (sin_blk m c t r) _ _ x0 k).trans ?_
  unfold sparseRow
  by_cases hk : k.val < 64
  · rw [dif_pos hk, dif_pos hk]
    refine congrArg (· * Ideal.ofBits FTy.f32 0x3E000000#32) (turn_congr _ _ (fun l => ?_) rfl)
    refine (z_ld m c t _ 128 (by omega) _ r ⟨64 + l.val, by omega⟩).trans ?_
    exact congrArg (zrow (m ((c : Thread nD τ).loc main_arg0)) (rowOf t r)) (Fin.ext (by simp only; omega))
  · rw [dif_neg hk, dif_neg hk]
theorem out_sparse (h : Fin 12) (r : Fin 256) (k : Fin 128) : (outsAt0 m c t).2.2.2.1 (ix3 h r k) = sparseRow (zrow (m ((c : Thread nD τ).loc main_arg0)) (rowOf t r)) (cosA (place (rowOf t r).val)) (sinA (place (rowOf t r).val)) h k := by
  have hc := cover0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (ix3 h r k)
  unfold outsAt0
  dsimp only
  unfold out0_A_10
  unfold kernelRun0_A at hc ⊢
  dsimp only at hc ⊢
  rw [View.read_writes_junk_eq_canon]
  canon_tiles x q using hc
  all_goals clear hc
  all_goals idx_vars x
  all_goals frame_out
  · exact sparse_odd m c t r h k 1536 5 rfl (by omega) _ x0 x1 x2 (by omega) (by omega)
  · exact sparse_even m c t r h k 1536 5 rfl (by omega) _ x0 x1 x2 (by omega) (by omega)
  · exact sparse_odd m c t r h k 1408 4 rfl (by omega) _ x0 x1 x2 (by omega) (by omega)
  · exact sparse_even m c t r h k 1408 4 rfl (by omega) _ x0 x1 x2 (by omega) (by omega)
  · exact sparse_odd m c t r h k 1280 3 rfl (by omega) _ x0 x1 x2 (by omega) (by omega)
  · exact sparse_even m c t r h k 1280 3 rfl (by omega) _ x0 x1 x2 (by omega) (by omega)
  · exact sparse_odd m c t r h k 1152 2 rfl (by omega) _ x0 x1 x2 (by omega) (by omega)
  · exact sparse_even m c t r h k 1152 2 rfl (by omega) _ x0 x1 x2 (by omega) (by omega)
  · exact sparse_odd m c t r h k 1024 1 rfl (by omega) _ x0 x1 x2 (by omega) (by omega)
  · exact sparse_even m c t r h k 1024 1 rfl (by omega) _ x0 x1 x2 (by omega) (by omega)
  · exact sparse_odd m c t r h k 896 0 rfl (by omega) _ x0 x1 x2 (by omega) (by omega)
  · exact sparse_even m c t r h k 896 0 rfl (by omega) _ x0 x1 x2 (by omega) (by omega)
/-- A block's queries before they are split. -/
def blockQ (inb : ∀ a, (![0, 0] : Fin 2 → ℕ) a + (![256, 512] : Fin 2 → ℕ) a ≤ S256x3200.size a) : FVec Ideal S256x1152 .f32 := k0_pay12 (k0_pay11 (View.ld (iblk m c 0 t) (Rect.unit ![0, 0] ![256, 512] inb)) (iblk m c 3 t)) (iblk m c 5 t)
theorem blockQ_at (inb) (r : Fin 256) (j : Fin 1152) (j' : Fin 1152) (hj : ∀ l, packed (m ((c : Thread nD τ).loc main_arg5)) (ix2 l j) = (m ((c : Thread nD τ).loc main_arg5)) (ix3 0 l j')) :
    blockQ m c t inb (ix2 r j) = upper (m ((c : Thread nD τ).loc main_arg0)) (m ((c : Thread nD τ).loc main_arg3)) (m ((c : Thread nD τ).loc main_arg5)) (rowOf t r) j' := by
  refine (query_at _ _ _ r j).trans ?_
  unfold upper upRow
  refine Finset.sum_congr rfl fun l _ => ?_
  rw [wq_blk, hj]
  refine congrArg₂ (fun a b => scaled 0x44000000#32 a b l * _) (funext fun l => ?_) (funext fun l => ?_)
  · refine (z_ld m c t 0 512 (by omega) _ r l).trans ?_
    exact congrArg (zrow (m ((c : Thread nD τ).loc main_arg0)) (rowOf t r)) (Fin.ext (by simp))
  · exact qn_blk m c t l
theorem query_latent (r : Fin 256) (h : Fin 6) (k : Fin 384) (o j : ℕ) (ho : o = 128 * j) (hh : h.val = j) (hs) (inb) (inb') (x0 : Fin 1) (x1 x2 : Fin 256) (h1 : r.val = x1.val) (h2 : k.val = x2.val) :
    latent (blockQ m c t inb) o hs (View.ld (iblk m c 6 t) (Rect.unit ![j, 0, 0] ![1, 128, 256] inb')) (ix3 x0 x1 x2)
    = queryRow (cosA (place (rowOf t r).val)) (sinA (place (rowOf t r).val)) (upper (m ((c : Thread nD τ).loc main_arg0)) (m ((c : Thread nD τ).loc main_arg3)) (m ((c : Thread nD τ).loc main_arg5)) (rowOf t r)) (fun k h x => (m ((c : Thread nD τ).loc main_arg6)) (ix4 0 k h x)) h k := by
  have e0 : r = x1 := Fin.ext h1
  subst e0
  subst ho
  have hj : j < 6 := by omega
  have eh : (⟨j, hj⟩ : Fin 6) = h := Fin.ext hh.symm
  have e2 : (⟨k.val, by omega⟩ : Fin 256) = x2 := Fin.ext h2
  refine (latent_at _ _ (by omega) hs _ x0 r x2).trans ?_
  unfold queryRow
  rw [dif_pos (show k.val < 256 by omega)]
  refine congrArg (· * Ideal.ofBits FTy.f32 0x3D93CD3A#32) (Finset.sum_congr rfl fun x _ => congrArg₂ (· * ·) ?_ ?_)
  · refine blockQ_at m c t inb r _ _ fun l => ?_
    refine Eq.trans ?_ (packed_low _ l h x)
    exact congrArg (fun q => packed (m ((c : Thread nD τ).loc main_arg5)) (ix2 l q)) (Fin.ext (by simp only [hh]))
  · rw [wuk_ld m c t j hj, eh, e2]
theorem query_even (r : Fin 256) (h : Fin 6) (k : Fin 384) (o j : ℕ) (ho : o = 768 + 128 * j) (hh : h.val = 2 * j + 0) (hs : S256x1152.Slices ![0, o] S256x128) (inb) (x0 : Fin 1) (x1 : Fin 256) (x2 : Fin 128) (h1 : r.val = x1.val) (h2 : k.val = 256 + x2.val) :
    even 0x3D93CD3A#32 (spun (iblk m c 1 t) (iblk m c 2 t) (extractStridedSlice S256x128 ![0, o] (blockQ m c t inb) hs)) (ix3 x0 x1 x2)
    = queryRow (cosA (place (rowOf t r).val)) (sinA (place (rowOf t r).val)) (upper (m ((c : Thread nD τ).loc main_arg0)) (m ((c : Thread nD τ).loc main_arg3)) (m ((c : Thread nD τ).loc main_arg5)) (rowOf t r)) (fun k h x => (m ((c : Thread nD τ).loc main_arg6)) (ix4 0 k h x)) h k := by
  have e0 : r = x1 := Fin.ext h1
  subst e0
  subst ho
  refine (even_spun (cos_blk m c t r) (sin_blk m c t r) _ _ x0 x2).trans ?_
  unfold queryRow
  rw [dif_neg (show ¬ k.val < 256 by omega)]
  by_cases hk : x2.val < 64
  · rw [dif_pos hk, dif_pos (show k.val - 256 < 64 by omega)]
    refine congrArg (· * Ideal.ofBits FTy.f32 0x3D93CD3A#32) (turn_congr _ _ (fun l => ?_) (by simp only; omega))
    refine (cut_at _ _ (by omega) hs r _).trans ?_
    refine blockQ_at m c t inb r _ _ fun p => ?_
    refine Eq.trans ?_ (packed_high _ p h l)
    exact congrArg (fun q => packed (m ((c : Thread nD τ).loc main_arg5)) (ix2 p q)) (Fin.ext (by simp only [hh]; omega))
  · rw [dif_neg hk, dif_neg (show ¬ k.val - 256 < 64 by omega)]
theorem query_odd (r : Fin 256) (h : Fin 6) (k : Fin 384) (o j : ℕ) (ho : o = 768 + 128 * j) (hh : h.val = 2 * j + 1) (hs : S256x1152.Slices ![0, o] S256x128) (inb) (x0 : Fin 1) (x1 : Fin 256) (x2 : Fin 128) (h1 : r.val = x1.val) (h2 : k.val = 256 + x2.val) :
    odd 0x3D93CD3A#32 (spun (iblk m c 1 t) (iblk m c 2 t) (extractStridedSlice S256x128 ![0, o] (blockQ m c t inb) hs)) (ix3 x0 x1 x2)
    = queryRow (cosA (place (rowOf t r).val)) (sinA (place (rowOf t r).val)) (upper (m ((c : Thread nD τ).loc main_arg0)) (m ((c : Thread nD τ).loc main_arg3)) (m ((c : Thread nD τ).loc main_arg5)) (rowOf t r)) (fun k h x => (m ((c : Thread nD τ).loc main_arg6)) (ix4 0 k h x)) h k := by
  have e0 : r = x1 := Fin.ext h1
  subst e0
  subst ho
  refine (odd_spun (cos_blk m c t r) (sin_blk m c t r) _ _ x0 x2).trans ?_
  unfold queryRow
  rw [dif_neg (show ¬ k.val < 256 by omega)]
  by_cases hk : x2.val < 64
  · rw [dif_pos hk, dif_pos (show k.val - 256 < 64 by omega)]
    refine congrArg (· * Ideal.ofBits FTy.f32 0x3D93CD3A#32) (turn_congr _ _ (fun l => ?_) (by simp only; omega))
    refine (cut_at _ _ (by omega) hs r _).trans ?_
    refine blockQ_at m c t inb r _ _ fun p => ?_
    refine Eq.trans ?_ (packed_high _ p h l)
    exact congrArg (fun q => packed (m ((c : Thread nD τ).loc main_arg5)) (ix2 p q)) (Fin.ext (by simp only [hh]; omega))
  · rw [dif_neg hk, dif_neg (show ¬ k.val - 256 < 64 by omega)]
theorem out_query (h : Fin 6) (r : Fin 256) (k : Fin 384) : (outsAt0 m c t).1 (ix3 h r k)
    = queryRow (cosA (place (rowOf t r).val)) (sinA (place (rowOf t r).val)) (upper (m ((c : Thread nD τ).loc main_arg0)) (m ((c : Thread nD τ).loc main_arg3)) (m ((c : Thread nD τ).loc main_arg5)) (rowOf t r)) (fun k h x => (m ((c : Thread nD τ).loc main_arg6)) (ix4 0 k h x)) h k := by
  have hc := cover0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (ix3 h r k)
  unfold outsAt0
  dsimp only
  unfold out0_A_7
  unfold kernelRun0_A at hc ⊢
  dsimp only at hc ⊢
  rw [View.read_writes_junk_eq_canon]
  canon_tiles x q using hc
  all_goals clear hc
  all_goals idx_vars x
  all_goals frame_out
  · exact query_odd m c t r h k 1024 2 rfl (by omega) slices_S256x1152_o0_1024_S256x128 inb_S256x3200_S256x512_0_0 x0 x1 x2 (by omega) (by omega)
  · exact query_even m c t r h k 1024 2 rfl (by omega) slices_S256x1152_o0_1024_S256x128 inb_S256x3200_S256x512_0_0 x0 x1 x2 (by omega) (by omega)
  · exact query_odd m c t r h k 896 1 rfl (by omega) slices_S256x1152_o0_896_S256x128 inb_S256x3200_S256x512_0_0 x0 x1 x2 (by omega) (by omega)
  · exact query_even m c t r h k 896 1 rfl (by omega) slices_S256x1152_o0_896_S256x128 inb_S256x3200_S256x512_0_0 x0 x1 x2 (by omega) (by omega)
  · exact query_odd m c t r h k 768 0 rfl (by omega) slices_S256x1152_o0_768_S256x128 inb_S256x3200_S256x512_0_0 x0 x1 x2 (by omega) (by omega)
  · exact query_even m c t r h k 768 0 rfl (by omega) slices_S256x1152_o0_768_S256x128 inb_S256x3200_S256x512_0_0 x0 x1 x2 (by omega) (by omega)
  · exact query_latent m c t r h k 640 5 rfl (by omega) slices_S256x1152_o0_640_S256x128 inb_S256x3200_S256x512_0_0 inb_S6x128x256_S1x128x256_5_0_0 x0 x1 x2 (by omega) (by omega)
  · exact query_latent m c t r h k 512 4 rfl (by omega) slices_S256x1152_o0_512_S256x128 inb_S256x3200_S256x512_0_0 inb_S6x128x256_S1x128x256_4_0_0 x0 x1 x2 (by omega) (by omega)
  · exact query_latent m c t r h k 384 3 rfl (by omega) slices_S256x1152_o0_384_S256x128 inb_S256x3200_S256x512_0_0 inb_S6x128x256_S1x128x256_3_0_0 x0 x1 x2 (by omega) (by omega)
  · exact query_latent m c t r h k 256 2 rfl (by omega) slices_S256x1152_o0_256_S256x128 inb_S256x3200_S256x512_0_0 inb_S6x128x256_S1x128x256_2_0_0 x0 x1 x2 (by omega) (by omega)
  · exact query_latent m c t r h k 128 1 rfl (by omega) slices_S256x1152_o0_128_S256x128 inb_S256x3200_S256x512_0_0 inb_S6x128x256_S1x128x256_1_0_0 x0 x1 x2 (by omega) (by omega)
  · exact query_latent m c t r h k 0 0 rfl (by omega) slices_S256x1152_o0_0_S256x128 inb_S256x3200_S256x512_0_0 inb_S6x128x256_S1x128x256_0_0_0 x0 x1 x2 (by omega) (by omega)
end
end Cert.Kernel6Ideal.Post
end
-- ==== Proof.PostRefA.lean ====
module
public import proofs.«01_k».proof.Proof.Gen.Reference6Ideal.Run
public import proofs.«01_k».proof.Proof.PostOut
@[expose] public section
set_option maxRecDepth 16384
noncomputable section
namespace Cert.Reference6Ideal.Post
open Cert.Reference6Ideal Cert.Reference6Ideal.Gen Cert.Reference6Ideal.Value Idealize.ShloMosaic Idealize.ShloMosaic.TcCoe Idealize.SL.Sem Cert.Merge Cert.Post
open Cert.Kernel6Ideal.Post (zrow upper)
variable (V : Valuation τ sig (Elt Ideal))

/-- z, the run's first argument. -/
def zOf : FVec Ideal S8704x3200 .f32 := V (Proc.devRef .tc main_arg0)
/-- The column of z a column without the gaps is. -/
def spot (p : Fin 3044) : Fin 3200 := ⟨if p.val < 832 then p.val else if p.val < 2020 then p.val + 64 else p.val + 156, by split_ifs <;> omega⟩
theorem v3_at (i : Fin 8704) (p : Fin 3044) : res_main_v3 V (ix2 i p) = zrow (zOf V) i (spot p) := by
  pointwise [res_main_v3]
  by_cases h : p.val < 832
  · rw [dif_pos h]
    exact congrArg (zrow (zOf V) i) (Fin.ext (by simp only [spot]; split_ifs; rfl))
  · rw [dif_neg h]
    by_cases h' : p.val - 832 < 1188
    · rw [dif_pos h']
      exact congrArg (zrow (zOf V) i) (Fin.ext (by simp only [spot]; split_ifs <;> omega))
    · rw [dif_neg h']
      exact congrArg (zrow (zOf V) i) (Fin.ext (by simp only [spot]; split_ifs <;> omega))
theorem place_P (b : Fin 4) (p : Fin 2048) (i : Fin 8704) (hi : i.val = b.val * 2048 + p.val) : place i.val = BitVec.ofNat 32 p.val := by
  unfold place
  rw [if_pos (by omega)]
  congr 1
  omega
theorem place_S (b : Fin 128) (p : Fin 4) (i : Fin 8704) (hi : i.val = 8192 + (b.val * 4 + p.val)) : place i.val = IntOp.addi (8192#32) (BitVec.ofNat 32 p.val) := by
  unfold place
  rw [if_neg (by omega)]
  have e : i.val % 4 = p.val := by omega
  rw [e]
  show _ = BitVec.ofNat 32 8192 + BitVec.ofNat 32 p.val
  rw [BitVec.ofNat_add]
theorem v5_at (b : Fin 4) (p : Fin 2048) (k : Fin 3044) (i : Fin 8704) (hi : i.val = b.val * 2048 + p.val) : res_main_v5 V (ix3 b p k) = zrow (zOf V) i (spot k) := by
  pointwise [res_main_v5]
  rw [v3_at]
  exact congrArg (fun q => zrow (zOf V) q (spot k)) (Fin.ext hi.symm)
theorem v102_at (b : Fin 4) (p : Fin 2048) (u : Fin 1) (l : Fin 32) (i : Fin 8704) (hi : i.val = b.val * 2048 + p.val) : res_main_v102 V (ix3 p u l) = cosA (place i.val) l := by
  rw [place_P b p i hi]
  pointwise [res_main_v102, res_main_v100, res_main_v8]
  rfl
theorem v104_at (b : Fin 4) (p : Fin 2048) (u : Fin 1) (l : Fin 32) (i : Fin 8704) (hi : i.val = b.val * 2048 + p.val) : res_main_v104 V (ix3 p u l) = sinA (place i.val) l := by
  rw [place_P b p i hi]
  pointwise [res_main_v104, res_main_v100, res_main_v8]
  rfl
theorem v177_at (b : Fin 4) (p : Fin 2048) (u : Fin 1) (l : Fin 32) (i : Fin 8704) (hi : i.val = b.val * 2048 + p.val) : res_main_v177 V (ix3 p u l) = cosA (place i.val) l := by
  rw [place_P b p i hi]
  pointwise [res_main_v177, res_main_v175, res_main_v8]
  rfl
theorem v179_at (b : Fin 4) (p : Fin 2048) (u : Fin 1) (l : Fin 32) (i : Fin 8704) (hi : i.val = b.val * 2048 + p.val) : res_main_v179 V (ix3 p u l) = sinA (place i.val) l := by
  rw [place_P b p i hi]
  pointwise [res_main_v179, res_main_v175, res_main_v8]
  rfl
theorem v50_at (b : Fin 4) (p : Fin 2048) (u : Fin 1) (l : Fin 32) (i : Fin 8704) (hi : i.val = b.val * 2048 + p.val) : res_main_v50 V (ix3 p u l) = cosA (place i.val) l := by
  rw [place_P b p i hi]
  pointwise [res_main_v50, res_main_v48, res_main_v8]
  rfl
theorem v52_at (b : Fin 4) (p : Fin 2048) (u : Fin 1) (l : Fin 32) (i : Fin 8704) (hi : i.val = b.val * 2048 + p.val) : res_main_v52 V (ix3 p u l) = sinA (place i.val) l := by
  rw [place_P b p i hi]
  pointwise [res_main_v52, res_main_v48, res_main_v8]
  rfl
theorem v139_at (b : Fin 4) (p : Fin 2048) (u : Fin 1) (l : Fin 32) (i : Fin 8704) (hi : i.val = b.val * 2048 + p.val) : res_main_v139 V (ix3 p u l) = cosA (place i.val) l := by
  rw [place_P b p i hi]
  pointwise [res_main_v139, res_main_v137, res_main_v8]
  rfl
theorem v141_at (b : Fin 4) (p : Fin 2048) (u : Fin 1) (l : Fin 32) (i : Fin 8704) (hi : i.val = b.val * 2048 + p.val) : res_main_v141 V (ix3 p u l) = sinA (place i.val) l := by
  rw [place_P b p i hi]
  pointwise [res_main_v141, res_main_v137, res_main_v8]
  rfl
theorem v7_at (b : Fin 128) (p : Fin 4) (k : Fin 3044) (i : Fin 8704) (hi : i.val = 8192 + (b.val * 4 + p.val)) : res_main_v7 V (ix3 b p k) = zrow (zOf V) i (spot k) := by
  pointwise [res_main_v7]
  rw [v3_at]
  exact congrArg (fun q => zrow (zOf V) q (spot k)) (Fin.ext hi.symm)
theorem v310_at (b : Fin 128) (p : Fin 4) (u : Fin 1) (l : Fin 32) (i : Fin 8704) (hi : i.val = 8192 + (b.val * 4 + p.val)) : res_main_v310 V (ix3 p u l) = cosA (place i.val) l := by
  rw [place_S b p i hi]
  pointwise [res_main_v310, res_main_v308, res_main_v11]
  rfl
theorem v312_at (b : Fin 128) (p : Fin 4) (u : Fin 1) (l : Fin 32) (i : Fin 8704) (hi : i.val = 8192 + (b.val * 4 + p.val)) : res_main_v312 V (ix3 p u l) = sinA (place i.val) l := by
  rw [place_S b p i hi]
  pointwise [res_main_v312, res_main_v308, res_main_v11]
  rfl
theorem v385_at (b : Fin 128) (p : Fin 4) (u : Fin 1) (l : Fin 32) (i : Fin 8704) (hi : i.val = 8192 + (b.val * 4 + p.val)) : res_main_v385 V (ix3 p u l) = cosA (place i.val) l := by
  rw [place_S b p i hi]
  pointwise [res_main_v385, res_main_v383, res_main_v11]
  rfl
theorem v387_at (b : Fin 128) (p : Fin 4) (u : Fin 1) (l : Fin 32) (i : Fin 8704) (hi : i.val = 8192 + (b.val * 4 + p.val)) : res_main_v387 V (ix3 p u l) = sinA (place i.val) l := by
  rw [place_S b p i hi]
  pointwise [res_main_v387, res_main_v383, res_main_v11]
  rfl
theorem v258_at (b : Fin 128) (p : Fin 4) (u : Fin 1) (l : Fin 32) (i : Fin 8704) (hi : i.val = 8192 + (b.val * 4 + p.val)) : res_main_v258 V (ix3 p u l) = cosA (place i.val) l := by
  rw [place_S b p i hi]
  pointwise [res_main_v258, res_main_v256, res_main_v11]
  rfl
theorem v260_at (b : Fin 128) (p : Fin 4) (u : Fin 1) (l : Fin 32) (i : Fin 8704) (hi : i.val = 8192 + (b.val * 4 + p.val)) : res_main_v260 V (ix3 p u l) = sinA (place i.val) l := by
  rw [place_S b p i hi]
  pointwise [res_main_v260, res_main_v256, res_main_v11]
  rfl
theorem v347_at (b : Fin 128) (p : Fin 4) (u : Fin 1) (l : Fin 32) (i : Fin 8704) (hi : i.val = 8192 + (b.val * 4 + p.val)) : res_main_v347 V (ix3 p u l) = cosA (place i.val) l := by
  rw [place_S b p i hi]
  pointwise [res_main_v347, res_main_v345, res_main_v11]
  rfl
theorem v349_at (b : Fin 128) (p : Fin 4) (u : Fin 1) (l : Fin 32) (i : Fin 8704) (hi : i.val = 8192 + (b.val * 4 + p.val)) : res_main_v349 V (ix3 p u l) = sinA (place i.val) l := by
  rw [place_S b p i hi]
  pointwise [res_main_v349, res_main_v345, res_main_v11]
  rfl
/-- 1 head turned. -/
def heads1P (X Y : FVec Ideal S4x2048x1x32 .f32) (C S : FVec Ideal S2048x1x32 .f32) : FVec Ideal S4x2048x1x64 .f32 :=
  concatenate S4x2048x1x64 3 [⟨S4x2048x1x32, (subf (mulf X (broadcastInDim S4x2048x1x32 ![0, 1, 2, 3] bcast_S1x2048x1x32_S4x2048x1x32_0_1_2_3 (broadcastInDim S1x2048x1x32 ![1, 2, 3] bcast_S2048x1x32_S1x2048x1x32_1_2_3 C))) (mulf Y (broadcastInDim S4x2048x1x32 ![0, 1, 2, 3] bcast_S1x2048x1x32_S4x2048x1x32_0_1_2_3 (broadcastInDim S1x2048x1x32 ![1, 2, 3] bcast_S2048x1x32_S1x2048x1x32_1_2_3 S))))⟩, ⟨S4x2048x1x32, (addf (mulf X (broadcastInDim S4x2048x1x32 ![0, 1, 2, 3] bcast_S1x2048x1x32_S4x2048x1x32_0_1_2_3 (broadcastInDim S1x2048x1x32 ![1, 2, 3] bcast_S2048x1x32_S1x2048x1x32_1_2_3 S))) (mulf Y (broadcastInDim S4x2048x1x32 ![0, 1, 2, 3] bcast_S1x2048x1x32_S4x2048x1x32_0_1_2_3 (broadcastInDim S1x2048x1x32 ![1, 2, 3] bcast_S2048x1x32_S1x2048x1x32_1_2_3 C))))⟩] concatenates_S4x2048x1x32_S4x2048x1x32_S4x2048x1x64_d3
theorem heads1P_at (X Y : FVec Ideal S4x2048x1x32 .f32) (C S : FVec Ideal S2048x1x32 .f32) (b : Fin 4) (p : Fin 2048) (h : Fin 1) (k : Fin 64) (x : Fin 64 → EReal) (c s : Fin 32 → EReal)
    (hX : ∀ l : Fin 32, X (ix4 b p 0 l) = x ⟨l.val, by omega⟩) (hY : ∀ l : Fin 32, Y (ix4 b p 0 l) = x ⟨l.val + 32, by omega⟩) (hC : ∀ l, C (ix3 p 0 l) = c l) (hS : ∀ l, S (ix3 p 0 l) = s l) :
    heads1P X Y C S (ix4 b p h k) = turn x c s k := by
  pointwise [heads1P]
  unfold turn
  by_cases hk : k.val < 32
  · rw [dif_pos hk, dif_pos hk, hX, hY, hC, hS]
  · have e : (⟨k.val - 32 + 32, by omega⟩ : Fin 64) = k := Fin.ext (by simp only; omega)
    rw [dif_neg hk, dif_neg hk, hX, hY, hC, hS, e]
/-- 3 heads turned. -/
def heads3P (X Y : FVec Ideal S4x2048x3x32 .f32) (C S : FVec Ideal S2048x1x32 .f32) : FVec Ideal S4x2048x3x64 .f32 :=
  concatenate S4x2048x3x64 3 [⟨S4x2048x3x32, (subf (mulf X (broadcastInDim S4x2048x3x32 ![0, 1, 2, 3] bcast_S1x2048x1x32_S4x2048x3x32_0_1_2_3 (broadcastInDim S1x2048x1x32 ![1, 2, 3] bcast_S2048x1x32_S1x2048x1x32_1_2_3 C))) (mulf Y (broadcastInDim S4x2048x3x32 ![0, 1, 2, 3] bcast_S1x2048x1x32_S4x2048x3x32_0_1_2_3 (broadcastInDim S1x2048x1x32 ![1, 2, 3] bcast_S2048x1x32_S1x2048x1x32_1_2_3 S))))⟩, ⟨S4x2048x3x32, (addf (mulf X (broadcastInDim S4x2048x3x32 ![0, 1, 2, 3] bcast_S1x2048x1x32_S4x2048x3x32_0_1_2_3 (broadcastInDim S1x2048x1x32 ![1, 2, 3] bcast_S2048x1x32_S1x2048x1x32_1_2_3 S))) (mulf Y (broadcastInDim S4x2048x3x32 ![0, 1, 2, 3] bcast_S1x2048x1x32_S4x2048x3x32_0_1_2_3 (broadcastInDim S1x2048x1x32 ![1, 2, 3] bcast_S2048x1x32_S1x2048x1x32_1_2_3 C))))⟩] concatenates_S4x2048x3x32_S4x2048x3x32_S4x2048x3x64_d3
theorem heads3P_at (X Y : FVec Ideal S4x2048x3x32 .f32) (C S : FVec Ideal S2048x1x32 .f32) (b : Fin 4) (p : Fin 2048) (h : Fin 3) (k : Fin 64) (x : Fin 64 → EReal) (c s : Fin 32 → EReal)
    (hX : ∀ l : Fin 32, X (ix4 b p h l) = x ⟨l.val, by omega⟩) (hY : ∀ l : Fin 32, Y (ix4 b p h l) = x ⟨l.val + 32, by omega⟩) (hC : ∀ l, C (ix3 p 0 l) = c l) (hS : ∀ l, S (ix3 p 0 l) = s l) :
    heads3P X Y C S (ix4 b p h k) = turn x c s k := by
  pointwise [heads3P]
  unfold turn
  by_cases hk : k.val < 32
  · rw [dif_pos hk, dif_pos hk, hX, hY, hC, hS]
  · have e : (⟨k.val - 32 + 32, by omega⟩ : Fin 64) = k := Fin.ext (by simp only; omega)
    rw [dif_neg hk, dif_neg hk, hX, hY, hC, hS, e]
/-- 6 heads turned. -/
def heads6P (X Y : FVec Ideal S4x2048x6x32 .f32) (C S : FVec Ideal S2048x1x32 .f32) : FVec Ideal S4x2048x6x64 .f32 :=
  concatenate S4x2048x6x64 3 [⟨S4x2048x6x32, (subf (mulf X (broadcastInDim S4x2048x6x32 ![0, 1, 2, 3] bcast_S1x2048x1x32_S4x2048x6x32_0_1_2_3 (broadcastInDim S1x2048x1x32 ![1, 2, 3] bcast_S2048x1x32_S1x2048x1x32_1_2_3 C))) (mulf Y (broadcastInDim S4x2048x6x32 ![0, 1, 2, 3] bcast_S1x2048x1x32_S4x2048x6x32_0_1_2_3 (broadcastInDim S1x2048x1x32 ![1, 2, 3] bcast_S2048x1x32_S1x2048x1x32_1_2_3 S))))⟩, ⟨S4x2048x6x32, (addf (mulf X (broadcastInDim S4x2048x6x32 ![0, 1, 2, 3] bcast_S1x2048x1x32_S4x2048x6x32_0_1_2_3 (broadcastInDim S1x2048x1x32 ![1, 2, 3] bcast_S2048x1x32_S1x2048x1x32_1_2_3 S))) (mulf Y (broadcastInDim S4x2048x6x32 ![0, 1, 2, 3] bcast_S1x2048x1x32_S4x2048x6x32_0_1_2_3 (broadcastInDim S1x2048x1x32 ![1, 2, 3] bcast_S2048x1x32_S1x2048x1x32_1_2_3 C))))⟩] concatenates_S4x2048x6x32_S4x2048x6x32_S4x2048x6x64_d3
theorem heads6P_at (X Y : FVec Ideal S4x2048x6x32 .f32) (C S : FVec Ideal S2048x1x32 .f32) (b : Fin 4) (p : Fin 2048) (h : Fin 6) (k : Fin 64) (x : Fin 64 → EReal) (c s : Fin 32 → EReal)
    (hX : ∀ l : Fin 32, X (ix4 b p h l) = x ⟨l.val, by omega⟩) (hY : ∀ l : Fin 32, Y (ix4 b p h l) = x ⟨l.val + 32, by omega⟩) (hC : ∀ l, C (ix3 p 0 l) = c l) (hS : ∀ l, S (ix3 p 0 l) = s l) :
    heads6P X Y C S (ix4 b p h k) = turn x c s k := by
  pointwise [heads6P]
  unfold turn
  by_cases hk : k.val < 32
  · rw [dif_pos hk, dif_pos hk, hX, hY, hC, hS]
  · have e : (⟨k.val - 32 + 32, by omega⟩ : Fin 64) = k := Fin.ext (by simp only; omega)
    rw [dif_neg hk, dif_neg hk, hX, hY, hC, hS, e]
/-- 12 heads turned. -/
def heads12P (X Y : FVec Ideal S4x2048x12x32 .f32) (C S : FVec Ideal S2048x1x32 .f32) : FVec Ideal S4x2048x12x64 .f32 :=
  concatenate S4x2048x12x64 3 [⟨S4x2048x12x32, (subf (mulf X (broadcastInDim S4x2048x12x32 ![0, 1, 2, 3] bcast_S1x2048x1x32_S4x2048x12x32_0_1_2_3 (broadcastInDim S1x2048x1x32 ![1, 2, 3] bcast_S2048x1x32_S1x2048x1x32_1_2_3 C))) (mulf Y (broadcastInDim S4x2048x12x32 ![0, 1, 2, 3] bcast_S1x2048x1x32_S4x2048x12x32_0_1_2_3 (broadcastInDim S1x2048x1x32 ![1, 2, 3] bcast_S2048x1x32_S1x2048x1x32_1_2_3 S))))⟩, ⟨S4x2048x12x32, (addf (mulf X (broadcastInDim S4x2048x12x32 ![0, 1, 2, 3] bcast_S1x2048x1x32_S4x2048x12x32_0_1_2_3 (broadcastInDim S1x2048x1x32 ![1, 2, 3] bcast_S2048x1x32_S1x2048x1x32_1_2_3 S))) (mulf Y (broadcastInDim S4x2048x12x32 ![0, 1, 2, 3] bcast_S1x2048x1x32_S4x2048x12x32_0_1_2_3 (broadcastInDim S1x2048x1x32 ![1, 2, 3] bcast_S2048x1x32_S1x2048x1x32_1_2_3 C))))⟩] concatenates_S4x2048x12x32_S4x2048x12x32_S4x2048x12x64_d3
theorem heads12P_at (X Y : FVec Ideal S4x2048x12x32 .f32) (C S : FVec Ideal S2048x1x32 .f32) (b : Fin 4) (p : Fin 2048) (h : Fin 12) (k : Fin 64) (x : Fin 64 → EReal) (c s : Fin 32 → EReal)
    (hX : ∀ l : Fin 32, X (ix4 b p h l) = x ⟨l.val, by omega⟩) (hY : ∀ l : Fin 32, Y (ix4 b p h l) = x ⟨l.val + 32, by omega⟩) (hC : ∀ l, C (ix3 p 0 l) = c l) (hS : ∀ l, S (ix3 p 0 l) = s l) :
    heads12P X Y C S (ix4 b p h k) = turn x c s k := by
  pointwise [heads12P]
  unfold turn
  by_cases hk : k.val < 32
  · rw [dif_pos hk, dif_pos hk, hX, hY, hC, hS]
  · have e : (⟨k.val - 32 + 32, by omega⟩ : Fin 64) = k := Fin.ext (by simp only; omega)
    rw [dif_neg hk, dif_neg hk, hX, hY, hC, hS, e]
/-- 1 head turned. -/
def heads1S (X Y : FVec Ideal S128x4x1x32 .f32) (C S : FVec Ideal S4x1x32 .f32) : FVec Ideal S128x4x1x64 .f32 :=
  concatenate S128x4x1x64 3 [⟨S128x4x1x32, (subf (mulf X (broadcastInDim S128x4x1x32 ![0, 1, 2, 3] bcast_S1x4x1x32_S128x4x1x32_0_1_2_3 (broadcastInDim S1x4x1x32 ![1, 2, 3] bcast_S4x1x32_S1x4x1x32_1_2_3 C))) (mulf Y (broadcastInDim S128x4x1x32 ![0, 1, 2, 3] bcast_S1x4x1x32_S128x4x1x32_0_1_2_3 (broadcastInDim S1x4x1x32 ![1, 2, 3] bcast_S4x1x32_S1x4x1x32_1_2_3 S))))⟩, ⟨S128x4x1x32, (addf (mulf X (broadcastInDim S128x4x1x32 ![0, 1, 2, 3] bcast_S1x4x1x32_S128x4x1x32_0_1_2_3 (broadcastInDim S1x4x1x32 ![1, 2, 3] bcast_S4x1x32_S1x4x1x32_1_2_3 S))) (mulf Y (broadcastInDim S128x4x1x32 ![0, 1, 2, 3] bcast_S1x4x1x32_S128x4x1x32_0_1_2_3 (broadcastInDim S1x4x1x32 ![1, 2, 3] bcast_S4x1x32_S1x4x1x32_1_2_3 C))))⟩] concatenates_S128x4x1x32_S128x4x1x32_S128x4x1x64_d3
theorem heads1S_at (X Y : FVec Ideal S128x4x1x32 .f32) (C S : FVec Ideal S4x1x32 .f32) (b : Fin 128) (p : Fin 4) (h : Fin 1) (k : Fin 64) (x : Fin 64 → EReal) (c s : Fin 32 → EReal)
    (hX : ∀ l : Fin 32, X (ix4 b p 0 l) = x ⟨l.val, by omega⟩) (hY : ∀ l : Fin 32, Y (ix4 b p 0 l) = x ⟨l.val + 32, by omega⟩) (hC : ∀ l, C (ix3 p 0 l) = c l) (hS : ∀ l, S (ix3 p 0 l) = s l) :
    heads1S X Y C S (ix4 b p h k) = turn x c s k := by
  pointwise [heads1S]
  unfold turn
  by_cases hk : k.val < 32
  · rw [dif_pos hk, dif_pos hk, hX, hY, hC, hS]
  · have e : (⟨k.val - 32 + 32, by omega⟩ : Fin 64) = k := Fin.ext (by simp only; omega)
    rw [dif_neg hk, dif_neg hk, hX, hY, hC, hS, e]
/-- 3 heads turned. -/
def heads3S (X Y : FVec Ideal S128x4x3x32 .f32) (C S : FVec Ideal S4x1x32 .f32) : FVec Ideal S128x4x3x64 .f32 :=
  concatenate S128x4x3x64 3 [⟨S128x4x3x32, (subf (mulf X (broadcastInDim S128x4x3x32 ![0, 1, 2, 3] bcast_S1x4x1x32_S128x4x3x32_0_1_2_3 (broadcastInDim S1x4x1x32 ![1, 2, 3] bcast_S4x1x32_S1x4x1x32_1_2_3 C))) (mulf Y (broadcastInDim S128x4x3x32 ![0, 1, 2, 3] bcast_S1x4x1x32_S128x4x3x32_0_1_2_3 (broadcastInDim S1x4x1x32 ![1, 2, 3] bcast_S4x1x32_S1x4x1x32_1_2_3 S))))⟩, ⟨S128x4x3x32, (addf (mulf X (broadcastInDim S128x4x3x32 ![0, 1, 2, 3] bcast_S1x4x1x32_S128x4x3x32_0_1_2_3 (broadcastInDim S1x4x1x32 ![1, 2, 3] bcast_S4x1x32_S1x4x1x32_1_2_3 S))) (mulf Y (broadcastInDim S128x4x3x32 ![0, 1, 2, 3] bcast_S1x4x1x32_S128x4x3x32_0_1_2_3 (broadcastInDim S1x4x1x32 ![1, 2, 3] bcast_S4x1x32_S1x4x1x32_1_2_3 C))))⟩] concatenates_S128x4x3x32_S128x4x3x32_S128x4x3x64_d3
theorem heads3S_at (X Y : FVec Ideal S128x4x3x32 .f32) (C S : FVec Ideal S4x1x32 .f32) (b : Fin 128) (p : Fin 4) (h : Fin 3) (k : Fin 64) (x : Fin 64 → EReal) (c s : Fin 32 → EReal)
    (hX : ∀ l : Fin 32, X (ix4 b p h l) = x ⟨l.val, by omega⟩) (hY : ∀ l : Fin 32, Y (ix4 b p h l) = x ⟨l.val + 32, by omega⟩) (hC : ∀ l, C (ix3 p 0 l) = c l) (hS : ∀ l, S (ix3 p 0 l) = s l) :
    heads3S X Y C S (ix4 b p h k) = turn x c s k := by
  pointwise [heads3S]
  unfold turn
  by_cases hk : k.val < 32
  · rw [dif_pos hk, dif_pos hk, hX, hY, hC, hS]
  · have e : (⟨k.val - 32 + 32, by omega⟩ : Fin 64) = k := Fin.ext (by simp only; omega)
    rw [dif_neg hk, dif_neg hk, hX, hY, hC, hS, e]
/-- 6 heads turned. -/
def heads6S (X Y : FVec Ideal S128x4x6x32 .f32) (C S : FVec Ideal S4x1x32 .f32) : FVec Ideal S128x4x6x64 .f32 :=
  concatenate S128x4x6x64 3 [⟨S128x4x6x32, (subf (mulf X (broadcastInDim S128x4x6x32 ![0, 1, 2, 3] bcast_S1x4x1x32_S128x4x6x32_0_1_2_3 (broadcastInDim S1x4x1x32 ![1, 2, 3] bcast_S4x1x32_S1x4x1x32_1_2_3 C))) (mulf Y (broadcastInDim S128x4x6x32 ![0, 1, 2, 3] bcast_S1x4x1x32_S128x4x6x32_0_1_2_3 (broadcastInDim S1x4x1x32 ![1, 2, 3] bcast_S4x1x32_S1x4x1x32_1_2_3 S))))⟩, ⟨S128x4x6x32, (addf (mulf X (broadcastInDim S128x4x6x32 ![0, 1, 2, 3] bcast_S1x4x1x32_S128x4x6x32_0_1_2_3 (broadcastInDim S1x4x1x32 ![1, 2, 3] bcast_S4x1x32_S1x4x1x32_1_2_3 S))) (mulf Y (broadcastInDim S128x4x6x32 ![0, 1, 2, 3] bcast_S1x4x1x32_S128x4x6x32_0_1_2_3 (broadcastInDim S1x4x1x32 ![1, 2, 3] bcast_S4x1x32_S1x4x1x32_1_2_3 C))))⟩] concatenates_S128x4x6x32_S128x4x6x32_S128x4x6x64_d3
theorem heads6S_at (X Y : FVec Ideal S128x4x6x32 .f32) (C S : FVec Ideal S4x1x32 .f32) (b : Fin 128) (p : Fin 4) (h : Fin 6) (k : Fin 64) (x : Fin 64 → EReal) (c s : Fin 32 → EReal)
    (hX : ∀ l : Fin 32, X (ix4 b p h l) = x ⟨l.val, by omega⟩) (hY : ∀ l : Fin 32, Y (ix4 b p h l) = x ⟨l.val + 32, by omega⟩) (hC : ∀ l, C (ix3 p 0 l) = c l) (hS : ∀ l, S (ix3 p 0 l) = s l) :
    heads6S X Y C S (ix4 b p h k) = turn x c s k := by
  pointwise [heads6S]
  unfold turn
  by_cases hk : k.val < 32
  · rw [dif_pos hk, dif_pos hk, hX, hY, hC, hS]
  · have e : (⟨k.val - 32 + 32, by omega⟩ : Fin 64) = k := Fin.ext (by simp only; omega)
    rw [dif_neg hk, dif_neg hk, hX, hY, hC, hS, e]
/-- 12 heads turned. -/
def heads12S (X Y : FVec Ideal S128x4x12x32 .f32) (C S : FVec Ideal S4x1x32 .f32) : FVec Ideal S128x4x12x64 .f32 :=
  concatenate S128x4x12x64 3 [⟨S128x4x12x32, (subf (mulf X (broadcastInDim S128x4x12x32 ![0, 1, 2, 3] bcast_S1x4x1x32_S128x4x12x32_0_1_2_3 (broadcastInDim S1x4x1x32 ![1, 2, 3] bcast_S4x1x32_S1x4x1x32_1_2_3 C))) (mulf Y (broadcastInDim S128x4x12x32 ![0, 1, 2, 3] bcast_S1x4x1x32_S128x4x12x32_0_1_2_3 (broadcastInDim S1x4x1x32 ![1, 2, 3] bcast_S4x1x32_S1x4x1x32_1_2_3 S))))⟩, ⟨S128x4x12x32, (addf (mulf X (broadcastInDim S128x4x12x32 ![0, 1, 2, 3] bcast_S1x4x1x32_S128x4x12x32_0_1_2_3 (broadcastInDim S1x4x1x32 ![1, 2, 3] bcast_S4x1x32_S1x4x1x32_1_2_3 S))) (mulf Y (broadcastInDim S128x4x12x32 ![0, 1, 2, 3] bcast_S1x4x1x32_S128x4x12x32_0_1_2_3 (broadcastInDim S1x4x1x32 ![1, 2, 3] bcast_S4x1x32_S1x4x1x32_1_2_3 C))))⟩] concatenates_S128x4x12x32_S128x4x12x32_S128x4x12x64_d3
theorem heads12S_at (X Y : FVec Ideal S128x4x12x32 .f32) (C S : FVec Ideal S4x1x32 .f32) (b : Fin 128) (p : Fin 4) (h : Fin 12) (k : Fin 64) (x : Fin 64 → EReal) (c s : Fin 32 → EReal)
    (hX : ∀ l : Fin 32, X (ix4 b p h l) = x ⟨l.val, by omega⟩) (hY : ∀ l : Fin 32, Y (ix4 b p h l) = x ⟨l.val + 32, by omega⟩) (hC : ∀ l, C (ix3 p 0 l) = c l) (hS : ∀ l, S (ix3 p 0 l) = s l) :
    heads12S X Y C S (ix4 b p h k) = turn x c s k := by
  pointwise [heads12S]
  unfold turn
  by_cases hk : k.val < 32
  · rw [dif_pos hk, dif_pos hk, hX, hY, hC, hS]
  · have e : (⟨k.val - 32 + 32, by omega⟩ : Fin 64) = k := Fin.ext (by simp only; omega)
    rw [dif_neg hk, dif_neg hk, hX, hY, hC, hS, e]

end Cert.Reference6Ideal.Post
end
-- ==== Proof.PostRefB.lean ====
module
public import proofs.«01_k».proof.Proof.Gen.Reference6Ideal.Run
public import proofs.«01_k».proof.Proof.PostRefA
@[expose] public section
set_option maxRecDepth 16384
noncomputable section
namespace Cert.Reference6Ideal.Post
open Cert.Reference6Ideal Cert.Reference6Ideal.Gen Cert.Reference6Ideal.Value Idealize.ShloMosaic Idealize.ShloMosaic.TcCoe Idealize.SL.Sem Cert.Merge Cert.Post
open Cert.Kernel6Ideal.Post (zrow upper)

/-- The first halves of 6 heads. -/
def halfA6P (u : FVec Ideal S4x2048x6x192 .f32) : FVec Ideal S4x2048x6x32 .f32 :=
  extractStridedSlice S4x2048x6x32 ![0, 0, 0, 0] (extractStridedSlice S4x2048x6x64 ![0, 0, 0, 128] u slices_S4x2048x6x192_S4x2048x6x64_0_0_0_128) slices_S4x2048x6x64_S4x2048x6x32_0_0_0_0

/-- The second halves of 6 heads. -/
def halfB6P (u : FVec Ideal S4x2048x6x192 .f32) : FVec Ideal S4x2048x6x32 .f32 :=
  extractStridedSlice S4x2048x6x32 ![0, 0, 0, 32] (extractStridedSlice S4x2048x6x64 ![0, 0, 0, 128] u slices_S4x2048x6x192_S4x2048x6x64_0_0_0_128) slices_S4x2048x6x64_S4x2048x6x32_0_0_0_32

/-- The first halves of 1 head. -/
def halfA1P (x : FVec Ideal S4x2048x3044 .f32) : FVec Ideal S4x2048x1x32 .f32 :=
  extractStridedSlice S4x2048x1x32 ![0, 0, 0, 0] (broadcastInDim S4x2048x1x64 ![0, 1, 3] bcast_S4x2048x64_S4x2048x1x64_0_1_3 (extractStridedSlice S4x2048x64 ![0, 0, 768] x slices_S4x2048x3044_S4x2048x64_0_0_768)) slices_S4x2048x1x64_S4x2048x1x32_0_0_0_0

/-- The second halves of 1 head. -/
def halfB1P (x : FVec Ideal S4x2048x3044 .f32) : FVec Ideal S4x2048x1x32 .f32 :=
  extractStridedSlice S4x2048x1x32 ![0, 0, 0, 32] (broadcastInDim S4x2048x1x64 ![0, 1, 3] bcast_S4x2048x64_S4x2048x1x64_0_1_3 (extractStridedSlice S4x2048x64 ![0, 0, 768] x slices_S4x2048x3044_S4x2048x64_0_0_768)) slices_S4x2048x1x64_S4x2048x1x32_0_0_0_32

/-- The first halves of 12 heads. -/
def halfA12P (x : FVec Ideal S4x2048x3044 .f32) : FVec Ideal S4x2048x12x32 .f32 :=
  extractStridedSlice S4x2048x12x32 ![0, 0, 0, 0] (shapeCast _ (extractStridedSlice S4x2048x768 ![0, 0, 832] x slices_S4x2048x3044_S4x2048x768_0_0_832) shapeCasts_S4x2048x768_S4x2048x12x64) slices_S4x2048x12x64_S4x2048x12x32_0_0_0_0

/-- The second halves of 12 heads. -/
def halfB12P (x : FVec Ideal S4x2048x3044 .f32) : FVec Ideal S4x2048x12x32 .f32 :=
  extractStridedSlice S4x2048x12x32 ![0, 0, 0, 32] (shapeCast _ (extractStridedSlice S4x2048x768 ![0, 0, 832] x slices_S4x2048x3044_S4x2048x768_0_0_832) shapeCasts_S4x2048x768_S4x2048x12x64) slices_S4x2048x12x64_S4x2048x12x32_0_0_0_32

/-- The first halves of 3 heads. -/
def halfA3P (x : FVec Ideal S4x2048x3044 .f32) : FVec Ideal S4x2048x3x32 .f32 :=
  extractStridedSlice S4x2048x3x32 ![0, 0, 0, 0] (shapeCast _ (shapeCast _ (extractStridedSlice S4x2048x3x1x1x64 ![0, 0, 0, 0, 0, 0] (shapeCast _ (extractStridedSlice S4x2048x384 ![0, 0, 1600] x slices_S4x2048x3044_S4x2048x384_0_0_1600) shapeCasts_S4x2048x384_S4x2048x3x2x1x64) slices_S4x2048x3x2x1x64_S4x2048x3x1x1x64_0_0_0_0_0_0) shapeCasts_S4x2048x3x1x1x64_S4x2048x3x1x64) shapeCasts_S4x2048x3x1x64_S4x2048x3x64) slices_S4x2048x3x64_S4x2048x3x32_0_0_0_0

/-- The second halves of 3 heads. -/
def halfB3P (x : FVec Ideal S4x2048x3044 .f32) : FVec Ideal S4x2048x3x32 .f32 :=
  extractStridedSlice S4x2048x3x32 ![0, 0, 0, 32] (shapeCast _ (shapeCast _ (extractStridedSlice S4x2048x3x1x1x64 ![0, 0, 0, 0, 0, 0] (shapeCast _ (extractStridedSlice S4x2048x384 ![0, 0, 1600] x slices_S4x2048x3044_S4x2048x384_0_0_1600) shapeCasts_S4x2048x384_S4x2048x3x2x1x64) slices_S4x2048x3x2x1x64_S4x2048x3x1x1x64_0_0_0_0_0_0) shapeCasts_S4x2048x3x1x1x64_S4x2048x3x1x64) shapeCasts_S4x2048x3x1x64_S4x2048x3x64) slices_S4x2048x3x64_S4x2048x3x32_0_0_0_32

/-- The query latent. -/
def cqP (x : FVec Ideal S4x2048x3044 .f32) : FVec Ideal S4x2048x512 .f32 :=
  extractStridedSlice S4x2048x512 ![0, 0, 0] x slices_S4x2048x3044_S4x2048x512_0_0_0

/-- The queries, by head. -/
def upP (x : FVec Ideal S4x2048x512 .f32) (g : FVec Ideal S4x512 .f32) (W : FVec Ideal S4x512x1152 .f32) : FVec Ideal S4x2048x6x192 .f32 :=
  shapeCast _ (Host.dotGeneral dot_S4x2048x512_S512x1152_S4x2048x1152_2_0_01_1_n_n none (mulf (mulf x (broadcastInDim S4x2048x512 ![0, 1, 2] bcast_S4x2048x1_S4x2048x512_0_1_2 (Host.rsqrt (addf (Host.divf (broadcastInDim S4x2048x1 ![0, 1] bcast_S4x2048_S4x2048x1_0_1 (Host.reduceAdd (mulf x x) (constant S_ .f32 0x00000000#32) reducesTo_S4x2048x512_S4x2048_d2 h_S_)) (broadcastInDim S4x2048x1 ![] bcast_S_S4x2048x1 (constant S_ .f32 0x44000000#32))) (broadcastInDim S4x2048x1 ![] bcast_S_S4x2048x1 (constant S_ .f32 0x358637BD#32)))))) (broadcastInDim S4x2048x512 ![0, 1, 2] bcast_S1x1x512_S4x2048x512_0_1_2 (broadcastInDim S1x1x512 ![2] bcast_S512_S1x1x512_2 (shapeCast _ (extractStridedSlice S1x512 ![0, 0] g slices_S4x512_S1x512_0_0) shapeCasts_S1x512_S512)))) (shapeCast _ (extractStridedSlice S1x512x1152 ![0, 0, 0] W slices_S4x512x1152_S1x512x1152_0_0_0) shapeCasts_S1x512x1152_S512x1152)) shapeCasts_S4x2048x1152_S4x2048x6x192

/-- The rows the latent attention keeps. -/
def mlaOfP (x : FVec Ideal S4x2048x3044 .f32) (g : FVec Ideal S4x256 .f32) (C S : FVec Ideal S2048x1x32 .f32) : FVec Ideal S4x2048x320 .f32 :=
  concatenate S4x2048x320 2 [⟨S4x2048x256, (mulf (mulf (extractStridedSlice S4x2048x256 ![0, 0, 512] x slices_S4x2048x3044_S4x2048x256_0_0_512) (broadcastInDim S4x2048x256 ![0, 1, 2] bcast_S4x2048x1_S4x2048x256_0_1_2 (Host.rsqrt (addf (Host.divf (broadcastInDim S4x2048x1 ![0, 1] bcast_S4x2048_S4x2048x1_0_1 (Host.reduceAdd (mulf (extractStridedSlice S4x2048x256 ![0, 0, 512] x slices_S4x2048x3044_S4x2048x256_0_0_512) (extractStridedSlice S4x2048x256 ![0, 0, 512] x slices_S4x2048x3044_S4x2048x256_0_0_512)) (constant S_ .f32 0x00000000#32) reducesTo_S4x2048x256_S4x2048_d2 h_S_)) (broadcastInDim S4x2048x1 ![] bcast_S_S4x2048x1 (constant S_ .f32 0x43800000#32))) (broadcastInDim S4x2048x1 ![] bcast_S_S4x2048x1 (constant S_ .f32 0x358637BD#32)))))) (broadcastInDim S4x2048x256 ![0, 1, 2] bcast_S1x1x256_S4x2048x256_0_1_2 (broadcastInDim S1x1x256 ![2] bcast_S256_S1x1x256_2 (shapeCast _ (extractStridedSlice S1x256 ![0, 0] g slices_S4x256_S1x256_0_0) shapeCasts_S1x256_S256))))⟩, ⟨S4x2048x64, (shapeCast _ (heads1P (halfA1P x) (halfB1P x) C S) shapeCasts_S4x2048x1x64_S4x2048x64)⟩] concatenates_S4x2048x256_S4x2048x64_S4x2048x320_d2

/-- The rows the sparse attention keeps. -/
def keysOfP (x : FVec Ideal S4x2048x3044 .f32) (C S : FVec Ideal S2048x1x32 .f32) : FVec Ideal S4x2048x6x1x64 .f32 :=
  shapeCast _ (concatenate S4x2048x3x2x1x64 3 [⟨S4x2048x3x1x1x64, (broadcastInDim S4x2048x3x1x1x64 ![0, 1, 2, 4, 5] bcast_S4x2048x3x1x64_S4x2048x3x1x1x64_0_1_2_4_5 (shapeCast _ (heads3P (halfA3P x) (halfB3P x) C S) shapeCasts_S4x2048x3x64_S4x2048x3x1x64))⟩, ⟨S4x2048x3x1x1x64, (broadcastInDim S4x2048x3x1x1x64 ![0, 1, 2, 4, 5] bcast_S4x2048x3x1x64_S4x2048x3x1x1x64_0_1_2_4_5 (shapeCast _ (extractStridedSlice S4x2048x3x1x1x64 ![0, 0, 0, 1, 0, 0] (shapeCast _ (extractStridedSlice S4x2048x384 ![0, 0, 1600] x slices_S4x2048x3044_S4x2048x384_0_0_1600) shapeCasts_S4x2048x384_S4x2048x3x2x1x64) slices_S4x2048x3x2x1x64_S4x2048x3x1x1x64_0_0_0_1_0_0) shapeCasts_S4x2048x3x1x1x64_S4x2048x3x1x64))⟩] concatenates_S4x2048x3x1x1x64_S4x2048x3x1x1x64_S4x2048x3x2x1x64_d3) shapeCasts_S4x2048x3x2x1x64_S4x2048x6x1x64

/-- The first halves of 6 heads. -/
def halfA6S (u : FVec Ideal S128x4x6x192 .f32) : FVec Ideal S128x4x6x32 .f32 :=
  extractStridedSlice S128x4x6x32 ![0, 0, 0, 0] (extractStridedSlice S128x4x6x64 ![0, 0, 0, 128] u slices_S128x4x6x192_S128x4x6x64_0_0_0_128) slices_S128x4x6x64_S128x4x6x32_0_0_0_0

/-- The second halves of 6 heads. -/
def halfB6S (u : FVec Ideal S128x4x6x192 .f32) : FVec Ideal S128x4x6x32 .f32 :=
  extractStridedSlice S128x4x6x32 ![0, 0, 0, 32] (extractStridedSlice S128x4x6x64 ![0, 0, 0, 128] u slices_S128x4x6x192_S128x4x6x64_0_0_0_128) slices_S128x4x6x64_S128x4x6x32_0_0_0_32

/-- The first halves of 1 head. -/
def halfA1S (x : FVec Ideal S128x4x3044 .f32) : FVec Ideal S128x4x1x32 .f32 :=
  extractStridedSlice S128x4x1x32 ![0, 0, 0, 0] (broadcastInDim S128x4x1x64 ![0, 1, 3] bcast_S128x4x64_S128x4x1x64_0_1_3 (extractStridedSlice S128x4x64 ![0, 0, 768] x slices_S128x4x3044_S128x4x64_0_0_768)) slices_S128x4x1x64_S128x4x1x32_0_0_0_0

/-- The second halves of 1 head. -/
def halfB1S (x : FVec Ideal S128x4x3044 .f32) : FVec Ideal S128x4x1x32 .f32 :=
  extractStridedSlice S128x4x1x32 ![0, 0, 0, 32] (broadcastInDim S128x4x1x64 ![0, 1, 3] bcast_S128x4x64_S128x4x1x64_0_1_3 (extractStridedSlice S128x4x64 ![0, 0, 768] x slices_S128x4x3044_S128x4x64_0_0_768)) slices_S128x4x1x64_S128x4x1x32_0_0_0_32

/-- The first halves of 12 heads. -/
def halfA12S (x : FVec Ideal S128x4x3044 .f32) : FVec Ideal S128x4x12x32 .f32 :=
  extractStridedSlice S128x4x12x32 ![0, 0, 0, 0] (shapeCast _ (extractStridedSlice S128x4x768 ![0, 0, 832] x slices_S128x4x3044_S128x4x768_0_0_832) shapeCasts_S128x4x768_S128x4x12x64) slices_S128x4x12x64_S128x4x12x32_0_0_0_0

/-- The second halves of 12 heads. -/
def halfB12S (x : FVec Ideal S128x4x3044 .f32) : FVec Ideal S128x4x12x32 .f32 :=
  extractStridedSlice S128x4x12x32 ![0, 0, 0, 32] (shapeCast _ (extractStridedSlice S128x4x768 ![0, 0, 832] x slices_S128x4x3044_S128x4x768_0_0_832) shapeCasts_S128x4x768_S128x4x12x64) slices_S128x4x12x64_S128x4x12x32_0_0_0_32

/-- The first halves of 3 heads. -/
def halfA3S (x : FVec Ideal S128x4x3044 .f32) : FVec Ideal S128x4x3x32 .f32 :=
  extractStridedSlice S128x4x3x32 ![0, 0, 0, 0] (shapeCast _ (shapeCast _ (extractStridedSlice S128x4x3x1x1x64 ![0, 0, 0, 0, 0, 0] (shapeCast _ (extractStridedSlice S128x4x384 ![0, 0, 1600] x slices_S128x4x3044_S128x4x384_0_0_1600) shapeCasts_S128x4x384_S128x4x3x2x1x64) slices_S128x4x3x2x1x64_S128x4x3x1x1x64_0_0_0_0_0_0) shapeCasts_S128x4x3x1x1x64_S128x4x3x1x64) shapeCasts_S128x4x3x1x64_S128x4x3x64) slices_S128x4x3x64_S128x4x3x32_0_0_0_0

/-- The second halves of 3 heads. -/
def halfB3S (x : FVec Ideal S128x4x3044 .f32) : FVec Ideal S128x4x3x32 .f32 :=
  extractStridedSlice S128x4x3x32 ![0, 0, 0, 32] (shapeCast _ (shapeCast _ (extractStridedSlice S128x4x3x1x1x64 ![0, 0, 0, 0, 0, 0] (shapeCast _ (extractStridedSlice S128x4x384 ![0, 0, 1600] x slices_S128x4x3044_S128x4x384_0_0_1600) shapeCasts_S128x4x384_S128x4x3x2x1x64) slices_S128x4x3x2x1x64_S128x4x3x1x1x64_0_0_0_0_0_0) shapeCasts_S128x4x3x1x1x64_S128x4x3x1x64) shapeCasts_S128x4x3x1x64_S128x4x3x64) slices_S128x4x3x64_S128x4x3x32_0_0_0_32

/-- The query latent. -/
def cqS (x : FVec Ideal S128x4x3044 .f32) : FVec Ideal S128x4x512 .f32 :=
  extractStridedSlice S128x4x512 ![0, 0, 0] x slices_S128x4x3044_S128x4x512_0_0_0

/-- The queries, by head. -/
def upS (x : FVec Ideal S128x4x512 .f32) (g : FVec Ideal S4x512 .f32) (W : FVec Ideal S4x512x1152 .f32) : FVec Ideal S128x4x6x192 .f32 :=
  shapeCast _ (Host.dotGeneral dot_S128x4x512_S512x1152_S128x4x1152_2_0_01_1_n_n none (mulf (mulf x (broadcastInDim S128x4x512 ![0, 1, 2] bcast_S128x4x1_S128x4x512_0_1_2 (Host.rsqrt (addf (Host.divf (broadcastInDim S128x4x1 ![0, 1] bcast_S128x4_S128x4x1_0_1 (Host.reduceAdd (mulf x x) (constant S_ .f32 0x00000000#32) reducesTo_S128x4x512_S128x4_d2 h_S_)) (broadcastInDim S128x4x1 ![] bcast_S_S128x4x1 (constant S_ .f32 0x44000000#32))) (broadcastInDim S128x4x1 ![] bcast_S_S128x4x1 (constant S_ .f32 0x358637BD#32)))))) (broadcastInDim S128x4x512 ![0, 1, 2] bcast_S1x1x512_S128x4x512_0_1_2 (broadcastInDim S1x1x512 ![2] bcast_S512_S1x1x512_2 (shapeCast _ (extractStridedSlice S1x512 ![0, 0] g slices_S4x512_S1x512_0_0) shapeCasts_S1x512_S512)))) (shapeCast _ (extractStridedSlice S1x512x1152 ![0, 0, 0] W slices_S4x512x1152_S1x512x1152_0_0_0) shapeCasts_S1x512x1152_S512x1152)) shapeCasts_S128x4x1152_S128x4x6x192

/-- The rows the latent attention keeps. -/
def mlaOfS (x : FVec Ideal S128x4x3044 .f32) (g : FVec Ideal S4x256 .f32) (C S : FVec Ideal S4x1x32 .f32) : FVec Ideal S128x4x320 .f32 :=
  concatenate S128x4x320 2 [⟨S128x4x256, (mulf (mulf (extractStridedSlice S128x4x256 ![0, 0, 512] x slices_S128x4x3044_S128x4x256_0_0_512) (broadcastInDim S128x4x256 ![0, 1, 2] bcast_S128x4x1_S128x4x256_0_1_2 (Host.rsqrt (addf (Host.divf (broadcastInDim S128x4x1 ![0, 1] bcast_S128x4_S128x4x1_0_1 (Host.reduceAdd (mulf (extractStridedSlice S128x4x256 ![0, 0, 512] x slices_S128x4x3044_S128x4x256_0_0_512) (extractStridedSlice S128x4x256 ![0, 0, 512] x slices_S128x4x3044_S128x4x256_0_0_512)) (constant S_ .f32 0x00000000#32) reducesTo_S128x4x256_S128x4_d2 h_S_)) (broadcastInDim S128x4x1 ![] bcast_S_S128x4x1 (constant S_ .f32 0x43800000#32))) (broadcastInDim S128x4x1 ![] bcast_S_S128x4x1 (constant S_ .f32 0x358637BD#32)))))) (broadcastInDim S128x4x256 ![0, 1, 2] bcast_S1x1x256_S128x4x256_0_1_2 (broadcastInDim S1x1x256 ![2] bcast_S256_S1x1x256_2 (shapeCast _ (extractStridedSlice S1x256 ![0, 0] g slices_S4x256_S1x256_0_0) shapeCasts_S1x256_S256))))⟩, ⟨S128x4x64, (shapeCast _ (heads1S (halfA1S x) (halfB1S x) C S) shapeCasts_S128x4x1x64_S128x4x64)⟩] concatenates_S128x4x256_S128x4x64_S128x4x320_d2

/-- The rows the sparse attention keeps. -/
def keysOfS (x : FVec Ideal S128x4x3044 .f32) (C S : FVec Ideal S4x1x32 .f32) : FVec Ideal S128x4x6x1x64 .f32 :=
  shapeCast _ (concatenate S128x4x3x2x1x64 3 [⟨S128x4x3x1x1x64, (broadcastInDim S128x4x3x1x1x64 ![0, 1, 2, 4, 5] bcast_S128x4x3x1x64_S128x4x3x1x1x64_0_1_2_4_5 (shapeCast _ (heads3S (halfA3S x) (halfB3S x) C S) shapeCasts_S128x4x3x64_S128x4x3x1x64))⟩, ⟨S128x4x3x1x1x64, (broadcastInDim S128x4x3x1x1x64 ![0, 1, 2, 4, 5] bcast_S128x4x3x1x64_S128x4x3x1x1x64_0_1_2_4_5 (shapeCast _ (extractStridedSlice S128x4x3x1x1x64 ![0, 0, 0, 1, 0, 0] (shapeCast _ (extractStridedSlice S128x4x384 ![0, 0, 1600] x slices_S128x4x3044_S128x4x384_0_0_1600) shapeCasts_S128x4x384_S128x4x3x2x1x64) slices_S128x4x3x2x1x64_S128x4x3x1x1x64_0_0_0_1_0_0) shapeCasts_S128x4x3x1x1x64_S128x4x3x1x64))⟩] concatenates_S128x4x3x1x1x64_S128x4x3x1x1x64_S128x4x3x2x1x64_d3) shapeCasts_S128x4x3x2x1x64_S128x4x6x1x64

/-- The first four rows. -/
def firstP (y : FVec Ideal S4x2048x6x1x64 .f32) : FVec Ideal S4x2048x4x1x64 .f32 :=
  extractStridedSlice S4x2048x4x1x64 ![0, 0, 0, 0, 0] y slices_S4x2048x6x1x64_S4x2048x4x1x64_0_0_0_0_0

/-- The first four rows. -/
def firstS (y : FVec Ideal S128x4x6x1x64 .f32) : FVec Ideal S128x4x4x1x64 .f32 :=
  extractStridedSlice S128x4x4x1x64 ![0, 0, 0, 0, 0] y slices_S128x4x6x1x64_S128x4x4x1x64_0_0_0_0_0

/-- The last two rows of the last 512 positions. -/
def lastP (y : FVec Ideal S4x2048x6x1x64 .f32) : FVec Ideal S4x512x2x1x64 .f32 :=
  extractStridedSlice S4x512x2x1x64 ![0, 2048, 0, 0, 0] (pad S4x2560x2x1x64 ![0, 512, 0, 0, 0] ![0, 0, 0, 0, 0] ![0, 0, 0, 0, 0] (extractStridedSlice S4x2048x2x1x64 ![0, 0, 4, 0, 0] y slices_S4x2048x6x1x64_S4x2048x2x1x64_0_0_4_0_0) (sitofp .f32 (constantI S_ 32 0#32)) pads_S4x2048x2x1x64_S4x2560x2x1x64_000_51200_000_000_000 h_S_) slices_S4x2560x2x1x64_S4x512x2x1x64_0_2048_0_0_0

/-- The window, moved on by the last two rows. -/
def lastS (B : FVec Ideal S4x128x512x2x1x64 .f32) (y : FVec Ideal S128x4x6x1x64 .f32) : FVec Ideal S128x512x2x1x64 .f32 :=
  extractStridedSlice S128x512x2x1x64 ![0, 4, 0, 0, 0] (concatenate S128x516x2x1x64 1 [⟨S128x512x2x1x64, (shapeCast _ (extractStridedSlice S1x128x512x2x1x64 ![0, 0, 0, 0, 0, 0] B slices_S4x128x512x2x1x64_S1x128x512x2x1x64_0_0_0_0_0_0) shapeCasts_S1x128x512x2x1x64_S128x512x2x1x64)⟩, ⟨S128x4x2x1x64, (extractStridedSlice S128x4x2x1x64 ![0, 0, 4, 0, 0] y slices_S128x4x6x1x64_S128x4x2x1x64_0_0_4_0_0)⟩] concatenates_S128x512x2x1x64_S128x4x2x1x64_S128x516x2x1x64_d1) slices_S128x516x2x1x64_S128x512x2x1x64_0_4_0_0_0

/-- The last 30 inputs of the convolution. -/
def convOfP (x : FVec Ideal S4x2048x3044 .f32) : FVec Ideal S4x30x512 .f32 :=
  extractStridedSlice S4x30x512 ![0, 2048, 0] (pad S4x2078x512 ![0, 30, 0] ![0, 0, 0] ![0, 0, 0] (mulf (extractStridedSlice S4x2048x512 ![0, 0, 2020] x slices_S4x2048x3044_S4x2048x512_0_0_2020) (Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf (extractStridedSlice S4x2048x512 ![0, 0, 2532] x slices_S4x2048x3044_S4x2048x512_0_0_2532)))))) (sitofp .f32 (constantI S_ 32 0#32)) pads_S4x2048x512_S4x2078x512_000_3000_000 h_S_) slices_S4x2078x512_S4x30x512_0_2048_0

/-- The buffer of inputs, moved on. -/
def convOfS (B : FVec Ideal S4x128x30x512 .f32) (x : FVec Ideal S128x4x3044 .f32) : FVec Ideal S128x30x512 .f32 :=
  extractStridedSlice S128x30x512 ![0, 4, 0] (concatenate S128x34x512 1 [⟨S128x30x512, (shapeCast _ (extractStridedSlice S1x128x30x512 ![0, 0, 0, 0] B slices_S4x128x30x512_S1x128x30x512_0_0_0_0) shapeCasts_S1x128x30x512_S128x30x512)⟩, ⟨S128x4x512, (mulf (extractStridedSlice S128x4x512 ![0, 0, 2020] x slices_S128x4x3044_S128x4x512_0_0_2020) (Host.divf (broadcastInDim S128x4x512 ![] bcast_S_S128x4x512 (constant S_ .f32 0x3F800000#32)) (addf (broadcastInDim S128x4x512 ![] bcast_S_S128x4x512 (constant S_ .f32 0x3F800000#32)) (Host.exp (Host.negf (extractStridedSlice S128x4x512 ![0, 0, 2532] x slices_S128x4x3044_S128x4x512_0_0_2532))))))⟩] concatenates_S128x30x512_S128x4x512_S128x34x512_d1) slices_S128x34x512_S128x30x512_0_4_0

/-- The queries through the keys' matrix. -/
def latP (u : FVec Ideal S4x2048x6x192 .f32) (U : FVec Ideal S4x256x6x128 .f32) : FVec Ideal S4x2048x6x256 .f32 :=
  (transpose S4x2048x6x256 [2, 3, 0, 1] (Host.dotGeneral dot_S256x6x128_S4x2048x6x128_S6x256x4x2048_2_3_0_01_1_2 none (shapeCast _ (extractStridedSlice S1x256x6x128 ![0, 0, 0, 0] U slices_S4x256x6x128_S1x256x6x128_0_0_0_0) shapeCasts_S1x256x6x128_S256x6x128) (extractStridedSlice S4x2048x6x128 ![0, 0, 0, 0] u slices_S4x2048x6x192_S4x2048x6x128_0_0_0_0)) transposes_S6x256x4x2048_S4x2048x6x256_2_3_0_1)

/-- The queries through the keys' matrix. -/
def latS (u : FVec Ideal S128x4x6x192 .f32) (U : FVec Ideal S4x256x6x128 .f32) : FVec Ideal S128x4x6x256 .f32 :=
  (transpose S128x4x6x256 [2, 3, 0, 1] (Host.dotGeneral dot_S256x6x128_S128x4x6x128_S6x256x128x4_2_3_0_01_1_2 none (shapeCast _ (extractStridedSlice S1x256x6x128 ![0, 0, 0, 0] U slices_S4x256x6x128_S1x256x6x128_0_0_0_0) shapeCasts_S1x256x6x128_S256x6x128) (extractStridedSlice S128x4x6x128 ![0, 0, 0, 0] u slices_S128x4x6x192_S128x4x6x128_0_0_0_0)) transposes_S6x256x128x4_S128x4x6x256_2_3_0_1)

/-- The queries of the latent attention. -/
def queryOf (uP : FVec Ideal S4x2048x6x192 .f32) (uS : FVec Ideal S128x4x6x192 .f32) (U : FVec Ideal S4x256x6x128 .f32) (CP SP : FVec Ideal S2048x1x32 .f32) (CS SS : FVec Ideal S4x1x32 .f32) : FVec Ideal S6x8704x320 .bf16 :=
  truncf .bf16 (mulf (transpose S6x8704x320 [1, 0, 2] (concatenate S8704x6x320 2 [⟨S8704x6x256, (concatenate S8704x6x256 0 [⟨S8192x6x256, (shapeCast _ (latP uP U) shapeCasts_S4x2048x6x256_S8192x6x256)⟩, ⟨S512x6x256, (shapeCast _ (latS uS U) shapeCasts_S128x4x6x256_S512x6x256)⟩] concatenates_S8192x6x256_S512x6x256_S8704x6x256_d0)⟩, ⟨S8704x6x64, (concatenate S8704x6x64 0 [⟨S8192x6x64, (shapeCast _ (heads6P (halfA6P uP) (halfB6P uP) CP SP) shapeCasts_S4x2048x6x64_S8192x6x64)⟩, ⟨S512x6x64, (shapeCast _ (heads6S (halfA6S uS) (halfB6S uS) CS SS) shapeCasts_S128x4x6x64_S512x6x64)⟩] concatenates_S8192x6x64_S512x6x64_S8704x6x64_d0)⟩] concatenates_S8704x6x256_S8704x6x64_S8704x6x320_d2) transposes_S8704x6x320_S6x8704x320_1_0_2) (broadcastInDim S6x8704x320 ![] bcast_S_S6x8704x320 (constant S_ .f32 0x3D93CD3A#32))) bitsLt_bf16_f32

/-- The queries of the sparse attention. -/
def sparseOf (xP : FVec Ideal S4x2048x3044 .f32) (xS : FVec Ideal S128x4x3044 .f32) (CP SP : FVec Ideal S2048x1x32 .f32) (CS SS : FVec Ideal S4x1x32 .f32) : FVec Ideal S12x8704x64 .bf16 :=
  truncf .bf16 (mulf (transpose S12x8704x64 [1, 0, 2] (concatenate S8704x12x64 0 [⟨S8192x12x64, (shapeCast _ (heads12P (halfA12P xP) (halfB12P xP) CP SP) shapeCasts_S4x2048x12x64_S8192x12x64)⟩, ⟨S512x12x64, (shapeCast _ (heads12S (halfA12S xS) (halfB12S xS) CS SS) shapeCasts_S128x4x12x64_S512x12x64)⟩] concatenates_S8192x12x64_S512x12x64_S8704x12x64_d0) transposes_S8704x12x64_S12x8704x64_1_0_2) (broadcastInDim S12x8704x64 ![] bcast_S_S12x8704x64 (constant S_ .f32 0x3E000000#32))) bitsLt_bf16_f32

/-- The gates, by token. -/
def gatesP (x : FVec Ideal S4x2048x3044 .f32) : FVec Ideal S4x2048x36 .f32 :=
  (Host.divf (broadcastInDim S4x2048x36 ![] bcast_S_S4x2048x36 (constant S_ .f32 0x3F800000#32)) (addf (broadcastInDim S4x2048x36 ![] bcast_S_S4x2048x36 (constant S_ .f32 0x3F800000#32)) (Host.exp (Host.negf (extractStridedSlice S4x2048x36 ![0, 0, 1984] x slices_S4x2048x3044_S4x2048x36_0_0_1984)))))

/-- The gates, by token. -/
def gatesS (x : FVec Ideal S128x4x3044 .f32) : FVec Ideal S128x4x36 .f32 :=
  (Host.divf (broadcastInDim S128x4x36 ![] bcast_S_S128x4x36 (constant S_ .f32 0x3F800000#32)) (addf (broadcastInDim S128x4x36 ![] bcast_S_S128x4x36 (constant S_ .f32 0x3F800000#32)) (Host.exp (Host.negf (extractStridedSlice S128x4x36 ![0, 0, 1984] x slices_S128x4x3044_S128x4x36_0_0_1984)))))

/-- The gates. -/
def gateOf (xP : FVec Ideal S4x2048x3044 .f32) (xS : FVec Ideal S128x4x3044 .f32) : FVec Ideal S8704x36 .f32 :=
  concatenate S8704x36 0 [⟨S8192x36, (shapeCast _ (gatesP xP) shapeCasts_S4x2048x36_S8192x36)⟩, ⟨S512x36, (shapeCast _ (gatesS xS) shapeCasts_S128x4x36_S512x36)⟩] concatenates_S8192x36_S512x36_S8704x36_d0
end Cert.Reference6Ideal.Post
end
-- ==== Proof.PostRefC.lean ====
module
public import proofs.«01_k».proof.Proof.Gen.Reference6Ideal.Run
public import proofs.«01_k».proof.Proof.PostRefB
@[expose] public section
set_option maxRecDepth 16384
noncomputable section
namespace Cert.Reference6Ideal.Post
open Cert.Reference6Ideal Cert.Reference6Ideal.Gen Cert.Reference6Ideal.Value Idealize.ShloMosaic Idealize.ShloMosaic.TcCoe Idealize.SL.Sem Cert.Merge Cert.Post
open Cert.Kernel6Ideal.Post (zrow upper)

theorem halfA1P_at (x : FVec Ideal S4x2048x3044 .f32) (b : Fin 4) (p : Fin 2048) (l : Fin 32) : halfA1P x (ix4 b p 0 l) = x (ix3 b p ⟨768 + l.val, by omega⟩) := by
  pointwise [halfA1P]

theorem halfA12P_at (x : FVec Ideal S4x2048x3044 .f32) (b : Fin 4) (p : Fin 2048) (h : Fin 12) (l : Fin 32) : halfA12P x (ix4 b p h l) = x (ix3 b p ⟨832 + (h.val * 64 + l.val), by omega⟩) := by
  pointwise [halfA12P]

theorem halfA3P_at (x : FVec Ideal S4x2048x3044 .f32) (b : Fin 4) (p : Fin 2048) (h : Fin 3) (l : Fin 32) : halfA3P x (ix4 b p h l) = x (ix3 b p ⟨1600 + (h.val * 128 + l.val), by omega⟩) := by
  pointwise [halfA3P]

theorem halfA6P_at (u : FVec Ideal S4x2048x6x192 .f32) (b : Fin 4) (p : Fin 2048) (h : Fin 6) (l : Fin 32) : halfA6P u (ix4 b p h l) = u (ix4 b p h ⟨128 + l.val, by omega⟩) := by
  pointwise [halfA6P]

theorem halfB1P_at (x : FVec Ideal S4x2048x3044 .f32) (b : Fin 4) (p : Fin 2048) (l : Fin 32) : halfB1P x (ix4 b p 0 l) = x (ix3 b p ⟨768 + (32 + l.val), by omega⟩) := by
  pointwise [halfB1P]

theorem halfB12P_at (x : FVec Ideal S4x2048x3044 .f32) (b : Fin 4) (p : Fin 2048) (h : Fin 12) (l : Fin 32) : halfB12P x (ix4 b p h l) = x (ix3 b p ⟨832 + (h.val * 64 + (32 + l.val)), by omega⟩) := by
  pointwise [halfB12P]

theorem halfB3P_at (x : FVec Ideal S4x2048x3044 .f32) (b : Fin 4) (p : Fin 2048) (h : Fin 3) (l : Fin 32) : halfB3P x (ix4 b p h l) = x (ix3 b p ⟨1600 + (h.val * 128 + (32 + l.val)), by omega⟩) := by
  pointwise [halfB3P]

theorem halfB6P_at (u : FVec Ideal S4x2048x6x192 .f32) (b : Fin 4) (p : Fin 2048) (h : Fin 6) (l : Fin 32) : halfB6P u (ix4 b p h l) = u (ix4 b p h ⟨128 + (32 + l.val), by omega⟩) := by
  pointwise [halfB6P]

theorem cqP_at (x : FVec Ideal S4x2048x3044 .f32) (b : Fin 4) (p : Fin 2048) (l : Fin 512) : cqP x (ix3 b p l) = x (ix3 b p ⟨l.val, by omega⟩) := by
  pointwise [cqP]

theorem upP_at (x : FVec Ideal S4x2048x512 .f32) (g : FVec Ideal S4x512 .f32) (W : FVec Ideal S4x512x1152 .f32) (b : Fin 4) (p : Fin 2048) (h : Fin 6) (j : Fin 192) : upP x g W (ix4 b p h j) = ∑ q : Fin 512, scaled 0x44000000#32 (fun l : Fin 512 => x (ix3 b p l)) (fun l => g (ix2 0 l)) q * W (ix3 0 q ⟨h.val * 192 + j.val, by omega⟩) := by
  pointwise [upP]
  rfl

theorem mlaOfP_at (x : FVec Ideal S4x2048x3044 .f32) (g : FVec Ideal S4x256 .f32) (C S : FVec Ideal S2048x1x32 .f32) (b : Fin 4) (p : Fin 2048) (k : Fin 320) : mlaOfP x g C S (ix3 b p k) = if h : k.val < 256 then scaled 0x43800000#32 (fun l : Fin 256 => x (ix3 b p ⟨512 + l.val, by omega⟩)) (fun l => g (ix2 0 l)) ⟨k.val, h⟩ else heads1P (halfA1P x) (halfB1P x) C S (ix4 b p 0 ⟨k.val - 256, by omega⟩) := by
  pointwise [mlaOfP]
  rfl

theorem firstP_at (y : FVec Ideal S4x2048x6x1x64 .f32) (b : Fin 4) (p : Fin 2048) (j : Fin 4) (u : Fin 1) (k : Fin 64) : firstP y (ix5 b p j u k) = y (ix5 b p ⟨j.val, by omega⟩ 0 k) := by
  pointwise [firstP]

theorem latP_at (u : FVec Ideal S4x2048x6x192 .f32) (U : FVec Ideal S4x256x6x128 .f32) (b : Fin 4) (p : Fin 2048) (h : Fin 6) (k : Fin 256) : latP u U (ix4 b p h k) = ∑ q : Fin 128, U (ix4 0 k h q) * u (ix4 b p h ⟨q.val, by omega⟩) := by
  pointwise [latP]

theorem gatesP_at (x : FVec Ideal S4x2048x3044 .f32) (b : Fin 4) (p : Fin 2048) (k : Fin 36) : gatesP x (ix3 b p k) = Ideal.logistic (x (ix3 b p ⟨1984 + k.val, by omega⟩)) := by
  pointwise [gatesP]
  rfl

theorem halfA1S_at (x : FVec Ideal S128x4x3044 .f32) (b : Fin 128) (p : Fin 4) (l : Fin 32) : halfA1S x (ix4 b p 0 l) = x (ix3 b p ⟨768 + l.val, by omega⟩) := by
  pointwise [halfA1S]

theorem halfA12S_at (x : FVec Ideal S128x4x3044 .f32) (b : Fin 128) (p : Fin 4) (h : Fin 12) (l : Fin 32) : halfA12S x (ix4 b p h l) = x (ix3 b p ⟨832 + (h.val * 64 + l.val), by omega⟩) := by
  pointwise [halfA12S]

theorem halfA3S_at (x : FVec Ideal S128x4x3044 .f32) (b : Fin 128) (p : Fin 4) (h : Fin 3) (l : Fin 32) : halfA3S x (ix4 b p h l) = x (ix3 b p ⟨1600 + (h.val * 128 + l.val), by omega⟩) := by
  pointwise [halfA3S]

theorem halfA6S_at (u : FVec Ideal S128x4x6x192 .f32) (b : Fin 128) (p : Fin 4) (h : Fin 6) (l : Fin 32) : halfA6S u (ix4 b p h l) = u (ix4 b p h ⟨128 + l.val, by omega⟩) := by
  pointwise [halfA6S]

theorem halfB1S_at (x : FVec Ideal S128x4x3044 .f32) (b : Fin 128) (p : Fin 4) (l : Fin 32) : halfB1S x (ix4 b p 0 l) = x (ix3 b p ⟨768 + (32 + l.val), by omega⟩) := by
  pointwise [halfB1S]

theorem halfB12S_at (x : FVec Ideal S128x4x3044 .f32) (b : Fin 128) (p : Fin 4) (h : Fin 12) (l : Fin 32) : halfB12S x (ix4 b p h l) = x (ix3 b p ⟨832 + (h.val * 64 + (32 + l.val)), by omega⟩) := by
  pointwise [halfB12S]

theorem halfB3S_at (x : FVec Ideal S128x4x3044 .f32) (b : Fin 128) (p : Fin 4) (h : Fin 3) (l : Fin 32) : halfB3S x (ix4 b p h l) = x (ix3 b p ⟨1600 + (h.val * 128 + (32 + l.val)), by omega⟩) := by
  pointwise [halfB3S]

theorem halfB6S_at (u : FVec Ideal S128x4x6x192 .f32) (b : Fin 128) (p : Fin 4) (h : Fin 6) (l : Fin 32) : halfB6S u (ix4 b p h l) = u (ix4 b p h ⟨128 + (32 + l.val), by omega⟩) := by
  pointwise [halfB6S]

theorem cqS_at (x : FVec Ideal S128x4x3044 .f32) (b : Fin 128) (p : Fin 4) (l : Fin 512) : cqS x (ix3 b p l) = x (ix3 b p ⟨l.val, by omega⟩) := by
  pointwise [cqS]

theorem upS_at (x : FVec Ideal S128x4x512 .f32) (g : FVec Ideal S4x512 .f32) (W : FVec Ideal S4x512x1152 .f32) (b : Fin 128) (p : Fin 4) (h : Fin 6) (j : Fin 192) : upS x g W (ix4 b p h j) = ∑ q : Fin 512, scaled 0x44000000#32 (fun l : Fin 512 => x (ix3 b p l)) (fun l => g (ix2 0 l)) q * W (ix3 0 q ⟨h.val * 192 + j.val, by omega⟩) := by
  pointwise [upS]
  rfl

theorem mlaOfS_at (x : FVec Ideal S128x4x3044 .f32) (g : FVec Ideal S4x256 .f32) (C S : FVec Ideal S4x1x32 .f32) (b : Fin 128) (p : Fin 4) (k : Fin 320) : mlaOfS x g C S (ix3 b p k) = if h : k.val < 256 then scaled 0x43800000#32 (fun l : Fin 256 => x (ix3 b p ⟨512 + l.val, by omega⟩)) (fun l => g (ix2 0 l)) ⟨k.val, h⟩ else heads1S (halfA1S x) (halfB1S x) C S (ix4 b p 0 ⟨k.val - 256, by omega⟩) := by
  pointwise [mlaOfS]
  rfl

theorem firstS_at (y : FVec Ideal S128x4x6x1x64 .f32) (b : Fin 128) (p : Fin 4) (j : Fin 4) (u : Fin 1) (k : Fin 64) : firstS y (ix5 b p j u k) = y (ix5 b p ⟨j.val, by omega⟩ 0 k) := by
  pointwise [firstS]

theorem latS_at (u : FVec Ideal S128x4x6x192 .f32) (U : FVec Ideal S4x256x6x128 .f32) (b : Fin 128) (p : Fin 4) (h : Fin 6) (k : Fin 256) : latS u U (ix4 b p h k) = ∑ q : Fin 128, U (ix4 0 k h q) * u (ix4 b p h ⟨q.val, by omega⟩) := by
  pointwise [latS]

theorem gatesS_at (x : FVec Ideal S128x4x3044 .f32) (b : Fin 128) (p : Fin 4) (k : Fin 36) : gatesS x (ix3 b p k) = Ideal.logistic (x (ix3 b p ⟨1984 + k.val, by omega⟩)) := by
  pointwise [gatesS]
  rfl

theorem lastP_at (y : FVec Ideal S4x2048x6x1x64 .f32) (b : Fin 4) (w : Fin 512) (j : Fin 2) (u : Fin 1) (k : Fin 64) : lastP y (ix5 b w j u k) = y (ix5 b ⟨2048 + w.val - 512, by omega⟩ ⟨4 + j.val, by omega⟩ 0 k) := by
  pointwise [lastP]
  exact dif_pos ⟨by omega, by omega⟩

theorem lastS_at (B : FVec Ideal S4x128x512x2x1x64 .f32) (y : FVec Ideal S128x4x6x1x64 .f32) (b : Fin 128) (w : Fin 512) (j : Fin 2) (u : Fin 1) (k : Fin 64) : lastS B y (ix5 b w j u k) = if h : 4 + w.val < 512 then B (ix6 0 b ⟨4 + w.val, by omega⟩ j 0 k) else y (ix5 b ⟨4 + w.val - 512, by omega⟩ ⟨4 + j.val, by omega⟩ 0 k) := by
  pointwise [lastS]

theorem convOfP_at (x : FVec Ideal S4x2048x3044 .f32) (b : Fin 4) (w : Fin 30) (k : Fin 512) : convOfP x (ix3 b w k) = x (ix3 b ⟨2048 + w.val - 30, by omega⟩ ⟨2020 + k.val, by omega⟩) * Ideal.logistic (x (ix3 b ⟨2048 + w.val - 30, by omega⟩ ⟨2532 + k.val, by omega⟩)) := by
  pointwise [convOfP]
  exact dif_pos ⟨by omega, by omega⟩

theorem convOfS_at (B : FVec Ideal S4x128x30x512 .f32) (x : FVec Ideal S128x4x3044 .f32) (b : Fin 128) (w : Fin 30) (k : Fin 512) : convOfS B x (ix3 b w k) = if h : 4 + w.val < 30 then B (ix4 0 b ⟨4 + w.val, by omega⟩ k) else x (ix3 b ⟨4 + w.val - 30, by omega⟩ ⟨2020 + k.val, by omega⟩) * Ideal.logistic (x (ix3 b ⟨4 + w.val - 30, by omega⟩ ⟨2532 + k.val, by omega⟩)) := by
  pointwise [convOfS]
  rfl

theorem gateOf_at (xP : FVec Ideal S4x2048x3044 .f32) (xS : FVec Ideal S128x4x3044 .f32) (i : Fin 8704) (k : Fin 36) : gateOf xP xS (ix2 i k) = if h : i.val < 8192 then gatesP xP (ix3 ⟨i.val / 2048, by omega⟩ ⟨i.val % 2048, by omega⟩ k) else gatesS xS (ix3 ⟨(i.val - 8192) / 4, by omega⟩ ⟨(i.val - 8192) % 4, by omega⟩ k) := by
  pointwise [gateOf]

theorem queryOf_at (uP : FVec Ideal S4x2048x6x192 .f32) (uS : FVec Ideal S128x4x6x192 .f32) (U : FVec Ideal S4x256x6x128 .f32) (CP SP : FVec Ideal S2048x1x32 .f32) (CS SS : FVec Ideal S4x1x32 .f32) (h : Fin 6) (i : Fin 8704) (k : Fin 320) : queryOf uP uS U CP SP CS SS (ix3 h i k) = (if h_1 : k.val < 256 then
        if h_2 : i.val < 8192 then latP uP U (ix4 ⟨i.val / 2048, by omega⟩ ⟨i.val % 2048, by omega⟩ h ⟨k.val, h_1⟩) else latS uS U (ix4 ⟨(i.val - 8192) / 4, by omega⟩ ⟨(i.val - 8192) % 4, by omega⟩ h ⟨k.val, h_1⟩)
      else
        if h_2 : i.val < 8192 then heads6P (halfA6P uP) (halfB6P uP) CP SP (ix4 ⟨i.val / 2048, by omega⟩ ⟨i.val % 2048, by omega⟩ h ⟨k.val - 256, by omega⟩) else heads6S (halfA6S uS) (halfB6S uS) CS SS (ix4 ⟨(i.val - 8192) / 4, by omega⟩ ⟨(i.val - 8192) % 4, by omega⟩ h ⟨k.val - 256, by omega⟩))
      * Ideal.ofBits FTy.f32 0x3D93CD3A#32 := by
  pointwise [queryOf]

theorem sparseOf_at (xP : FVec Ideal S4x2048x3044 .f32) (xS : FVec Ideal S128x4x3044 .f32) (CP SP : FVec Ideal S2048x1x32 .f32) (CS SS : FVec Ideal S4x1x32 .f32) (h : Fin 12) (i : Fin 8704) (k : Fin 64) : sparseOf xP xS CP SP CS SS (ix3 h i k) = (if h_1 : i.val < 8192 then heads12P (halfA12P xP) (halfB12P xP) CP SP (ix4 ⟨i.val / 2048, by omega⟩ ⟨i.val % 2048, by omega⟩ h k) else heads12S (halfA12S xS) (halfB12S xS) CS SS (ix4 ⟨(i.val - 8192) / 4, by omega⟩ ⟨(i.val - 8192) % 4, by omega⟩ h k))
      * Ideal.ofBits FTy.f32 0x3E000000#32 := by
  pointwise [sparseOf]
end Cert.Reference6Ideal.Post
end
-- ==== Proof.PostRefD.lean ====
module
public import proofs.«01_k».proof.Proof.Gen.Reference6Ideal.Run
public import proofs.«01_k».proof.Proof.PostRefB
@[expose] public section
set_option maxRecDepth 16384
noncomputable section
namespace Cert.Reference6Ideal.Post
open Cert.Reference6Ideal Cert.Reference6Ideal.Gen Cert.Reference6Ideal.Value Idealize.ShloMosaic Idealize.ShloMosaic.TcCoe Idealize.SL.Sem Cert.Merge Cert.Post
open Cert.Kernel6Ideal.Post (zrow upper)

theorem keysOfP_at (x : FVec Ideal S4x2048x3044 .f32) (C S : FVec Ideal S2048x1x32 .f32) (b : Fin 4) (p : Fin 2048) (j : Fin 6) (u : Fin 1) (k : Fin 64) : keysOfP x C S (ix5 b p j u k) = if h : j.val % 2 < 1 then heads3P (halfA3P x) (halfB3P x) C S (ix4 b p ⟨j.val / 2, by omega⟩ k) else x (ix3 b p ⟨1600 + (j.val / 2 * 128 + 64 + k.val), by omega⟩) := by
  pointwise [keysOfP]

theorem keysOfS_at (x : FVec Ideal S128x4x3044 .f32) (C S : FVec Ideal S4x1x32 .f32) (b : Fin 128) (p : Fin 4) (j : Fin 6) (u : Fin 1) (k : Fin 64) : keysOfS x C S (ix5 b p j u k) = if h : j.val % 2 < 1 then heads3S (halfA3S x) (halfB3S x) C S (ix4 b p ⟨j.val / 2, by omega⟩ k) else x (ix3 b p ⟨1600 + (j.val / 2 * 128 + 64 + k.val), by omega⟩) := by
  pointwise [keysOfS]
end Cert.Reference6Ideal.Post
end
-- ==== Proof.Post.lean ====
module
public import proofs.«01_k».proof.Proof.PostOut
@[expose] public section
set_option maxRecDepth 16384
noncomputable section
namespace Cert.Kernel6Ideal.Post
open Cert.Kernel6Ideal Cert.Kernel6Ideal.Gen Idealize.ShloMosaic Idealize.ShloMosaic.TcCoe Idealize.SL.Sem Cert.Merge Cert.Post
open Idealize.ShloMosaic.Pipeline (Dat)
variable (m : (ℓ : Loc nD τ sig) → Buf (Elt Ideal) ℓ)
theorem point_mla (c : Dev nD) (t : Fin cfg0.N) (r : Fin 256) (k : Fin 384) (z : S8704x384.Idx) (hz0 : (z 0).val = t.val * 256 + r.val) (hz1 : (z 1).val = k.val) :
    (outsAt0 m c t).2.2.1 (ix2 r k) = mlaA (m ((c : Thread nD τ).loc main_arg0)) (m ((c : Thread nD τ).loc main_arg4)) z := by
  rw [out_mla]
  have e0 : z 0 = rowOf t r := Fin.ext hz0
  have e1 : z 1 = k := Fin.ext hz1
  unfold mlaA
  try dsimp only
  rw [e0, e1]
theorem region_mla (c : Dev nD) : (dats m 0 c).arrAt 9 cfg0.N = mlaA (m ((c : Thread nD τ).loc main_arg0)) (m ((c : Thread nD τ).loc main_arg4)) := by
  refine (dats m 0 c).arrAt_eq_of_covers 9 _ (by decide +kernel) fun t hf y => ?_
  blk_simp
  rw [after0_9]
  idx_vars y
  refine point_mla m c t _ _ _ ?_ ?_
  all_goals blk_simp [idx t]
theorem point_key (c : Dev nD) (t : Fin cfg0.N) (r : Fin 256) (k : Fin 384) (z : S8704x384.Idx) (hz0 : (z 0).val = t.val * 256 + r.val) (hz1 : (z 1).val = k.val) :
    (outsAt0 m c t).2.2.2.2.1 (ix2 r k) = keyA (m ((c : Thread nD τ).loc main_arg0)) z := by
  rw [out_key]
  have e0 : z 0 = rowOf t r := Fin.ext hz0
  have e1 : z 1 = k := Fin.ext hz1
  unfold keyA
  try dsimp only
  rw [e0, e1]
theorem region_key (c : Dev nD) : (dats m 0 c).arrAt 11 cfg0.N = keyA (m ((c : Thread nD τ).loc main_arg0)) := by
  refine (dats m 0 c).arrAt_eq_of_covers 11 _ (by decide +kernel) fun t hf y => ?_
  blk_simp
  rw [after0_11]
  idx_vars y
  refine point_key m c t _ _ _ ?_ ?_
  all_goals blk_simp [idx t]
theorem point_conv (c : Dev nD) (t : Fin cfg0.N) (r : Fin 256) (k : Fin 512) (z : S8704x512.Idx) (hz0 : (z 0).val = t.val * 256 + r.val) (hz1 : (z 1).val = k.val) :
    (outsAt0 m c t).2.2.2.2.2.2.2 (ix2 r k) = convA (m ((c : Thread nD τ).loc main_arg0)) z := by
  rw [out_conv]
  have e0 : z 0 = rowOf t r := Fin.ext hz0
  have e1 : z 1 = k := Fin.ext hz1
  unfold convA
  try dsimp only
  rw [e0, e1]
theorem region_conv (c : Dev nD) : (dats m 0 c).arrAt 14 cfg0.N = convA (m ((c : Thread nD τ).loc main_arg0)) := by
  refine (dats m 0 c).arrAt_eq_of_covers 14 _ (by decide +kernel) fun t hf y => ?_
  blk_simp
  rw [after0_14]
  idx_vars y
  refine point_conv m c t _ _ _ ?_ ?_
  all_goals blk_simp [idx t]
theorem point_gate (c : Dev nD) (t : Fin cfg0.N) (r : Fin 256) (k : Fin 128) (z : S8704x128.Idx) (hz0 : (z 0).val = t.val * 256 + r.val) (hz1 : (z 1).val = k.val) :
    (outsAt0 m c t).2.2.2.2.2.2.1 (ix2 r k) = gateA (m ((c : Thread nD τ).loc main_arg0)) z := by
  rw [out_gate]
  have e0 : z 0 = rowOf t r := Fin.ext hz0
  have e1 : z 1 = k := Fin.ext hz1
  unfold gateA
  try dsimp only
  rw [e0, e1]
theorem region_gate (c : Dev nD) : (dats m 0 c).arrAt 13 cfg0.N = gateA (m ((c : Thread nD τ).loc main_arg0)) := by
  refine (dats m 0 c).arrAt_eq_of_covers 13 _ (by decide +kernel) fun t hf y => ?_
  blk_simp
  rw [after0_13]
  idx_vars y
  refine point_gate m c t _ _ _ ?_ ?_
  all_goals blk_simp [idx t]
theorem point_sparse (c : Dev nD) (t : Fin cfg0.N) (h : Fin 12) (r : Fin 256) (k : Fin 128) (z : S12x8704x128.Idx) (hz0 : (z 0).val = h.val) (hz1 : (z 1).val = t.val * 256 + r.val) (hz2 : (z 2).val = k.val) :
    (outsAt0 m c t).2.2.2.1 (ix3 h r k) = sparseA (m ((c : Thread nD τ).loc main_arg0)) z := by
  rw [out_sparse]
  have e0 : z 0 = h := Fin.ext hz0
  have e1 : z 1 = rowOf t r := Fin.ext hz1
  have e2 : z 2 = k := Fin.ext hz2
  unfold sparseA
  try dsimp only
  rw [e0, e1, e2]
theorem region_sparse (c : Dev nD) : (dats m 0 c).arrAt 10 cfg0.N = sparseA (m ((c : Thread nD τ).loc main_arg0)) := by
  refine (dats m 0 c).arrAt_eq_of_covers 10 _ (by decide +kernel) fun t hf y => ?_
  blk_simp
  rw [after0_10]
  idx_vars y
  refine point_sparse m c t _ _ _ _ ?_ ?_ ?_
  all_goals blk_simp [idx t]
theorem point_query (c : Dev nD) (t : Fin cfg0.N) (h : Fin 6) (r : Fin 256) (k : Fin 384) (z : S6x8704x384.Idx) (hz0 : (z 0).val = h.val) (hz1 : (z 1).val = t.val * 256 + r.val) (hz2 : (z 2).val = k.val) :
    (outsAt0 m c t).1 (ix3 h r k) = queryA (m ((c : Thread nD τ).loc main_arg0)) (m ((c : Thread nD τ).loc main_arg3)) (m ((c : Thread nD τ).loc main_arg5)) (m ((c : Thread nD τ).loc main_arg6)) z := by
  rw [out_query]
  have e0 : z 0 = h := Fin.ext hz0
  have e1 : z 1 = rowOf t r := Fin.ext hz1
  have e2 : z 2 = k := Fin.ext hz2
  unfold queryA
  try dsimp only
  rw [e0, e1, e2]
theorem region_query (c : Dev nD) : (dats m 0 c).arrAt 7 cfg0.N = queryA (m ((c : Thread nD τ).loc main_arg0)) (m ((c : Thread nD τ).loc main_arg3)) (m ((c : Thread nD τ).loc main_arg5)) (m ((c : Thread nD τ).loc main_arg6)) := by
  refine (dats m 0 c).arrAt_eq_of_covers 7 _ (by decide +kernel) fun t hf y => ?_
  blk_simp
  rw [after0_7]
  idx_vars y
  refine point_query m c t _ _ _ _ ?_ ?_ ?_
  all_goals blk_simp [idx t]

/-- The call's results as the lines after it shape them. -/
def mlaP (A : FVec Ideal S8704x384 .f32) : FVec Ideal S4x2048x320 .f32 := shapeCast _ (extractStridedSlice S8192x320 ![0, 0] A slices_S8704x384_S8192x320_0_0) shapeCasts_S8192x320_S4x2048x320
def mlaS (A : FVec Ideal S8704x384 .f32) : FVec Ideal S128x4x320 .f32 := shapeCast _ (extractStridedSlice S512x320 ![8192, 0] A slices_S8704x384_S512x320_8192_0) shapeCasts_S512x320_S128x4x320
def keyP (A : FVec Ideal S8704x384 .f32) : FVec Ideal S4x2048x4x1x64 .f32 := shapeCast _ (extractStridedSlice S8192x256 ![0, 0] A slices_S8704x384_S8192x256_0_0) shapeCasts_S8192x256_S4x2048x4x1x64
def keyS (A : FVec Ideal S8704x384 .f32) : FVec Ideal S128x4x4x1x64 .f32 := shapeCast _ (extractStridedSlice S512x256 ![8192, 0] A slices_S8704x384_S512x256_8192_0) shapeCasts_S512x256_S128x4x4x1x64
def winP (A : FVec Ideal S8704x384 .f32) : FVec Ideal S4x512x2x1x64 .f32 :=
  extractStridedSlice S4x512x2x1x64 ![0, 1536, 0, 0, 0] (shapeCast S4x2048x2x1x64 (extractStridedSlice S8192x128 ![0, 256] A slices_S8704x384_S8192x128_0_256) shapeCasts_S8192x128_S4x2048x2x1x64) slices_S4x2048x2x1x64_S4x512x2x1x64_0_1536_0_0_0
def winS (B : FVec Ideal S4x128x512x2x1x64 .f32) (A : FVec Ideal S8704x384 .f32) : FVec Ideal S128x512x2x1x64 .f32 :=
  concatenate S128x512x2x1x64 1 [⟨S128x508x2x1x64, extractStridedSlice S128x508x2x1x64 ![0, 4, 0, 0, 0] (shapeCast S128x512x2x1x64 (extractStridedSlice S1x128x512x2x1x64 ![0, 0, 0, 0, 0, 0] B slices_S4x128x512x2x1x64_S1x128x512x2x1x64_0_0_0_0_0_0) shapeCasts_S1x128x512x2x1x64_S128x512x2x1x64) slices_S128x512x2x1x64_S128x508x2x1x64_0_4_0_0_0⟩,
    ⟨S128x4x2x1x64, shapeCast _ (extractStridedSlice S512x128 ![8192, 256] A slices_S8704x384_S512x128_8192_256) shapeCasts_S512x128_S128x4x2x1x64⟩] concatenates_S128x508x2x1x64_S128x4x2x1x64_S128x512x2x1x64_d1
def convP (A : FVec Ideal S8704x512 .f32) : FVec Ideal S4x30x512 .f32 :=
  extractStridedSlice S4x30x512 ![0, 2018, 0] (shapeCast S4x2048x512 (extractStridedSlice S8192x512 ![0, 0] A slices_S8704x512_S8192x512_0_0) shapeCasts_S8192x512_S4x2048x512) slices_S4x2048x512_S4x30x512_0_2018_0
def convS (B : FVec Ideal S4x128x30x512 .f32) (A : FVec Ideal S8704x512 .f32) : FVec Ideal S128x30x512 .f32 :=
  extractStridedSlice S128x30x512 ![0, 4, 0] (concatenate S128x34x512 1 [⟨S128x30x512, shapeCast _ (extractStridedSlice S1x128x30x512 ![0, 0, 0, 0] B slices_S4x128x30x512_S1x128x30x512_0_0_0_0) shapeCasts_S1x128x30x512_S128x30x512⟩,
    ⟨S128x4x512, shapeCast _ (extractStridedSlice S512x512 ![8192, 0] A slices_S8704x512_S512x512_8192_0) shapeCasts_S512x512_S128x4x512⟩] concatenates_S128x30x512_S128x4x512_S128x34x512_d1) slices_S128x34x512_S128x30x512_0_4_0
def queryT (A : FVec Ideal S6x8704x384 .bf16) : FVec Ideal S6x8704x320 .bf16 := extractStridedSlice S6x8704x320 ![0, 0, 0] A slices_S6x8704x384_S6x8704x320_0_0_0
def sparseT (A : FVec Ideal S12x8704x128 .bf16) : FVec Ideal S12x8704x64 .bf16 := extractStridedSlice S12x8704x64 ![0, 0, 0] A slices_S12x8704x128_S12x8704x64_0_0_0
def gateT (A : FVec Ideal S8704x128 .f32) : FVec Ideal S8704x36 .f32 := extractStridedSlice S8704x36 ![0, 0] A slices_S8704x128_S8704x36_0_0

theorem kept_arg1 (c : Dev nD) : V0 m c (Proc.tc.devRef main_arg1) = (m ((c : Thread nD τ).loc main_arg1)) := by
  show StableHlo.after (hostOps0 ++ (hostOps0_1 ++ (hostOps0_2 ++ []))) (fun b => m (c, b)) (Proc.tc.devRef main_arg1) = _
  simp only [List.append_nil, List.cons_append, List.nil_append]
  after_results
theorem kept_arg2 (c : Dev nD) : V0 m c (Proc.tc.devRef main_arg2) = (m ((c : Thread nD τ).loc main_arg2)) := by
  show StableHlo.after (hostOps0 ++ (hostOps0_1 ++ (hostOps0_2 ++ []))) (fun b => m (c, b)) (Proc.tc.devRef main_arg2) = _
  simp only [List.append_nil, List.cons_append, List.nil_append]
  after_results
theorem tail_mlaP (c : Dev nD) : Pipeline.afterTail₀ cfgs (dats m) 0 (V0 m) [hostOps1] c main_v58 = mlaP (mlaA (m ((c : Thread nD τ).loc main_arg0)) (m ((c : Thread nD τ).loc main_arg4))) := by
  rw [← region_mla]
  unfold Pipeline.afterTail₀
  have e : Pipeline.withArrays (cfgs 0).spec c (V0 m c) (fun w => (dats m 0 c).arrAt w (cfgs 0).N) (Proc.tc.devRef main_v45_2) = (dats m 0 c).arrAt 9 cfg0.N :=
    Pipeline.withArrays_arr spec0 (by decide) c (V0 m c) (fun w => (dats m 0 c).arrAt w (cfgs 0).N) 9
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl
theorem tail_mlaS (c : Dev nD) : Pipeline.afterTail₀ cfgs (dats m) 0 (V0 m) [hostOps1] c main_v60 = mlaS (mlaA (m ((c : Thread nD τ).loc main_arg0)) (m ((c : Thread nD τ).loc main_arg4))) := by
  rw [← region_mla]
  unfold Pipeline.afterTail₀
  have e : Pipeline.withArrays (cfgs 0).spec c (V0 m c) (fun w => (dats m 0 c).arrAt w (cfgs 0).N) (Proc.tc.devRef main_v45_2) = (dats m 0 c).arrAt 9 cfg0.N :=
    Pipeline.withArrays_arr spec0 (by decide) c (V0 m c) (fun w => (dats m 0 c).arrAt w (cfgs 0).N) 9
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl
theorem tail_keyP (c : Dev nD) : Pipeline.afterTail₀ cfgs (dats m) 0 (V0 m) [hostOps1] c main_v62 = keyP (keyA (m ((c : Thread nD τ).loc main_arg0))) := by
  rw [← region_key]
  unfold Pipeline.afterTail₀
  have e : Pipeline.withArrays (cfgs 0).spec c (V0 m c) (fun w => (dats m 0 c).arrAt w (cfgs 0).N) (Proc.tc.devRef main_v45_4) = (dats m 0 c).arrAt 11 cfg0.N :=
    Pipeline.withArrays_arr spec0 (by decide) c (V0 m c) (fun w => (dats m 0 c).arrAt w (cfgs 0).N) 11
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl
theorem tail_keyS (c : Dev nD) : Pipeline.afterTail₀ cfgs (dats m) 0 (V0 m) [hostOps1] c main_v64 = keyS (keyA (m ((c : Thread nD τ).loc main_arg0))) := by
  rw [← region_key]
  unfold Pipeline.afterTail₀
  have e : Pipeline.withArrays (cfgs 0).spec c (V0 m c) (fun w => (dats m 0 c).arrAt w (cfgs 0).N) (Proc.tc.devRef main_v45_4) = (dats m 0 c).arrAt 11 cfg0.N :=
    Pipeline.withArrays_arr spec0 (by decide) c (V0 m c) (fun w => (dats m 0 c).arrAt w (cfgs 0).N) 11
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl
theorem tail_winP (c : Dev nD) : Pipeline.afterTail₀ cfgs (dats m) 0 (V0 m) [hostOps1] c main_v65 = winP (keyA (m ((c : Thread nD τ).loc main_arg0))) := by
  rw [← region_key]
  unfold Pipeline.afterTail₀
  have e : Pipeline.withArrays (cfgs 0).spec c (V0 m c) (fun w => (dats m 0 c).arrAt w (cfgs 0).N) (Proc.tc.devRef main_v45_4) = (dats m 0 c).arrAt 11 cfg0.N :=
    Pipeline.withArrays_arr spec0 (by decide) c (V0 m c) (fun w => (dats m 0 c).arrAt w (cfgs 0).N) 11
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl
theorem tail_winS (c : Dev nD) : Pipeline.afterTail₀ cfgs (dats m) 0 (V0 m) [hostOps1] c main_v69 = winS (m ((c : Thread nD τ).loc main_arg1)) (keyA (m ((c : Thread nD τ).loc main_arg0))) := by
  rw [← region_key]
  unfold Pipeline.afterTail₀
  have e : Pipeline.withArrays (cfgs 0).spec c (V0 m c) (fun w => (dats m 0 c).arrAt w (cfgs 0).N) (Proc.tc.devRef main_v45_4) = (dats m 0 c).arrAt 11 cfg0.N :=
    Pipeline.withArrays_arr spec0 (by decide) c (V0 m c) (fun w => (dats m 0 c).arrAt w (cfgs 0).N) 11
  have e' : Pipeline.withArrays (cfgs 0).spec c (V0 m c) (fun w => (dats m 0 c).arrAt w (cfgs 0).N) (Proc.tc.devRef main_arg1) = (m ((c : Thread nD τ).loc main_arg1)) :=
    (Pipeline.withArrays_of_ne spec0 c (V0 m c) (fun w => (dats m 0 c).arrAt w (cfgs 0).N) main_arg1 (by decide)).trans (kept_arg1 m c)
  generalize Pipeline.withArrays (cfgs 0).spec c (V0 m c) (fun w => (dats m 0 c).arrAt w (cfgs 0).N) = A at e e' ⊢
  simp only [hostOps1, List.flatten_cons, List.flatten_nil, List.append_nil, List.cons_append, List.nil_append]
  after_results
  rw [← e, ← e']
  rfl
theorem tail_convP (c : Dev nD) : Pipeline.afterTail₀ cfgs (dats m) 0 (V0 m) [hostOps1] c main_v70 = convP (convA (m ((c : Thread nD τ).loc main_arg0))) := by
  rw [← region_conv]
  unfold Pipeline.afterTail₀
  have e : Pipeline.withArrays (cfgs 0).spec c (V0 m c) (fun w => (dats m 0 c).arrAt w (cfgs 0).N) (Proc.tc.devRef main_v45_7) = (dats m 0 c).arrAt 14 cfg0.N :=
    Pipeline.withArrays_arr spec0 (by decide) c (V0 m c) (fun w => (dats m 0 c).arrAt w (cfgs 0).N) 14
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl
theorem tail_convS (c : Dev nD) : Pipeline.afterTail₀ cfgs (dats m) 0 (V0 m) [hostOps1] c main_v71 = convS (m ((c : Thread nD τ).loc main_arg2)) (convA (m ((c : Thread nD τ).loc main_arg0))) := by
  rw [← region_conv]
  unfold Pipeline.afterTail₀
  have e : Pipeline.withArrays (cfgs 0).spec c (V0 m c) (fun w => (dats m 0 c).arrAt w (cfgs 0).N) (Proc.tc.devRef main_v45_7) = (dats m 0 c).arrAt 14 cfg0.N :=
    Pipeline.withArrays_arr spec0 (by decide) c (V0 m c) (fun w => (dats m 0 c).arrAt w (cfgs 0).N) 14
  have e' : Pipeline.withArrays (cfgs 0).spec c (V0 m c) (fun w => (dats m 0 c).arrAt w (cfgs 0).N) (Proc.tc.devRef main_arg2) = (m ((c : Thread nD τ).loc main_arg2)) :=
    (Pipeline.withArrays_of_ne spec0 c (V0 m c) (fun w => (dats m 0 c).arrAt w (cfgs 0).N) main_arg2 (by decide)).trans (kept_arg2 m c)
  generalize Pipeline.withArrays (cfgs 0).spec c (V0 m c) (fun w => (dats m 0 c).arrAt w (cfgs 0).N) = A at e e' ⊢
  simp only [hostOps1, List.flatten_cons, List.flatten_nil, List.append_nil, List.cons_append, List.nil_append]
  after_results
  rw [← e, ← e']
  rfl
theorem tail_queryT (c : Dev nD) : Pipeline.afterTail₀ cfgs (dats m) 0 (V0 m) [hostOps1] c main_v72 = queryT (queryA (m ((c : Thread nD τ).loc main_arg0)) (m ((c : Thread nD τ).loc main_arg3)) (m ((c : Thread nD τ).loc main_arg5)) (m ((c : Thread nD τ).loc main_arg6))) := by
  rw [← region_query]
  unfold Pipeline.afterTail₀
  have e : Pipeline.withArrays (cfgs 0).spec c (V0 m c) (fun w => (dats m 0 c).arrAt w (cfgs 0).N) (Proc.tc.devRef main_v45_0) = (dats m 0 c).arrAt 7 cfg0.N :=
    Pipeline.withArrays_arr spec0 (by decide) c (V0 m c) (fun w => (dats m 0 c).arrAt w (cfgs 0).N) 7
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl
theorem tail_sparseT (c : Dev nD) : Pipeline.afterTail₀ cfgs (dats m) 0 (V0 m) [hostOps1] c main_v73 = sparseT (sparseA (m ((c : Thread nD τ).loc main_arg0))) := by
  rw [← region_sparse]
  unfold Pipeline.afterTail₀
  have e : Pipeline.withArrays (cfgs 0).spec c (V0 m c) (fun w => (dats m 0 c).arrAt w (cfgs 0).N) (Proc.tc.devRef main_v45_3) = (dats m 0 c).arrAt 10 cfg0.N :=
    Pipeline.withArrays_arr spec0 (by decide) c (V0 m c) (fun w => (dats m 0 c).arrAt w (cfgs 0).N) 10
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl
theorem tail_gateT (c : Dev nD) : Pipeline.afterTail₀ cfgs (dats m) 0 (V0 m) [hostOps1] c main_v74 = gateT (gateA (m ((c : Thread nD τ).loc main_arg0))) := by
  rw [← region_gate]
  unfold Pipeline.afterTail₀
  have e : Pipeline.withArrays (cfgs 0).spec c (V0 m c) (fun w => (dats m 0 c).arrAt w (cfgs 0).N) (Proc.tc.devRef main_v45_6) = (dats m 0 c).arrAt 13 cfg0.N :=
    Pipeline.withArrays_arr spec0 (by decide) c (V0 m c) (fun w => (dats m 0 c).arrAt w (cfgs 0).N) 13
  generalize Pipeline.withArrays (cfgs 0).spec c (V0 m c) (fun w => (dats m 0 c).arrAt w (cfgs 0).N) = A at e ⊢
  simp only [hostOps1, List.flatten_cons, List.flatten_nil, List.append_nil, List.cons_append, List.nil_append]
  after_results
  rw [← e]
  rfl

theorem run_final (g : Dev nD → PrngReg) : θ_run (defs (F := Ideal)) (onTc (τ := τ) (main (F := Ideal))) ⟨m, fun _ => 0, g⟩ (fun r => ∀ c : Dev nD,
      r.2.mem ((c.tc : Thread nD τ).loc main_v58) = mlaP (mlaA (m ((c : Thread nD τ).loc main_arg0)) (m ((c : Thread nD τ).loc main_arg4)))
      ∧ r.2.mem ((c.tc : Thread nD τ).loc main_v60) = mlaS (mlaA (m ((c : Thread nD τ).loc main_arg0)) (m ((c : Thread nD τ).loc main_arg4)))
      ∧ r.2.mem ((c.tc : Thread nD τ).loc main_v62) = keyP (keyA (m ((c : Thread nD τ).loc main_arg0)))
      ∧ r.2.mem ((c.tc : Thread nD τ).loc main_v64) = keyS (keyA (m ((c : Thread nD τ).loc main_arg0)))
      ∧ r.2.mem ((c.tc : Thread nD τ).loc main_v65) = winP (keyA (m ((c : Thread nD τ).loc main_arg0)))
      ∧ r.2.mem ((c.tc : Thread nD τ).loc main_v69) = winS (m ((c : Thread nD τ).loc main_arg1)) (keyA (m ((c : Thread nD τ).loc main_arg0)))
      ∧ r.2.mem ((c.tc : Thread nD τ).loc main_v70) = convP (convA (m ((c : Thread nD τ).loc main_arg0)))
      ∧ r.2.mem ((c.tc : Thread nD τ).loc main_v71) = convS (m ((c : Thread nD τ).loc main_arg2)) (convA (m ((c : Thread nD τ).loc main_arg0)))
      ∧ r.2.mem ((c.tc : Thread nD τ).loc main_v72) = queryT (queryA (m ((c : Thread nD τ).loc main_arg0)) (m ((c : Thread nD τ).loc main_arg3)) (m ((c : Thread nD τ).loc main_arg5)) (m ((c : Thread nD τ).loc main_arg6)))
      ∧ r.2.mem ((c.tc : Thread nD τ).loc main_v73) = sparseT (sparseA (m ((c : Thread nD τ).loc main_arg0)))
      ∧ r.2.mem ((c.tc : Thread nD τ).loc main_v74) = gateT (gateA (m ((c : Thread nD τ).loc main_arg0)))) := by
  run_from Gen.run_main m g
  · rw [tail_mlaP]
  · rw [tail_mlaS]
  · rw [tail_keyP]
  · rw [tail_keyS]
  · rw [tail_winP]
  · rw [tail_winS]
  · rw [tail_convP]
  · rw [tail_convS]
  · rw [tail_queryT]
  · rw [tail_sparseT]
  · rw [tail_gateT]
end Cert.Kernel6Ideal.Post
end
-- ==== Proof.PostTail.lean ====
module
public import proofs.«01_k».proof.Proof.Post
@[expose] public section
set_option maxRecDepth 16384
noncomputable section
namespace Cert.Kernel6Ideal.Post
open Cert.Kernel6Ideal Cert.Kernel6Ideal.Gen Idealize.ShloMosaic Cert.Merge Cert.Post
theorem mlaP_at (A : FVec Ideal S8704x384 .f32) (b : Fin 4) (p : Fin 2048) (k : Fin 320) : mlaP A (ix3 b p k) = A (ix2 ⟨b.val * 2048 + p.val, by omega⟩ ⟨k.val, by omega⟩) := by
  pointwise [mlaP]
theorem mlaS_at (A : FVec Ideal S8704x384 .f32) (b : Fin 128) (p : Fin 4) (k : Fin 320) : mlaS A (ix3 b p k) = A (ix2 ⟨8192 + (b.val * 4 + p.val), by omega⟩ ⟨k.val, by omega⟩) := by
  pointwise [mlaS]
theorem keyP_at (A : FVec Ideal S8704x384 .f32) (b : Fin 4) (p : Fin 2048) (j : Fin 4) (u : Fin 1) (k : Fin 64) : keyP A (ix5 b p j u k) = A (ix2 ⟨b.val * 2048 + p.val, by omega⟩ ⟨j.val * 64 + k.val, by omega⟩) := by
  pointwise [keyP]
theorem keyS_at (A : FVec Ideal S8704x384 .f32) (b : Fin 128) (p : Fin 4) (j : Fin 4) (u : Fin 1) (k : Fin 64) : keyS A (ix5 b p j u k) = A (ix2 ⟨8192 + (b.val * 4 + p.val), by omega⟩ ⟨j.val * 64 + k.val, by omega⟩) := by
  pointwise [keyS]
theorem winP_at (A : FVec Ideal S8704x384 .f32) (b : Fin 4) (w : Fin 512) (j : Fin 2) (u : Fin 1) (k : Fin 64) : winP A (ix5 b w j u k) = A (ix2 ⟨b.val * 2048 + (1536 + w.val), by omega⟩ ⟨256 + (j.val * 64 + k.val), by omega⟩) := by
  pointwise [winP]
theorem winS_at (B : FVec Ideal S4x128x512x2x1x64 .f32) (A : FVec Ideal S8704x384 .f32) (b : Fin 128) (w : Fin 512) (j : Fin 2) (u : Fin 1) (k : Fin 64) : winS B A (ix5 b w j u k) = if h : w.val < 508 then B (ix6 0 b ⟨4 + w.val, by omega⟩ j 0 k) else A (ix2 ⟨8192 + (b.val * 4 + (w.val - 508)), by omega⟩ ⟨256 + (j.val * 64 + k.val), by omega⟩) := by
  pointwise [winS]
theorem convP_at (A : FVec Ideal S8704x512 .f32) (b : Fin 4) (w : Fin 30) (k : Fin 512) : convP A (ix3 b w k) = A (ix2 ⟨b.val * 2048 + (2018 + w.val), by omega⟩ k) := by
  pointwise [convP]
theorem convS_at (B : FVec Ideal S4x128x30x512 .f32) (A : FVec Ideal S8704x512 .f32) (b : Fin 128) (w : Fin 30) (k : Fin 512) : convS B A (ix3 b w k) = if h : 4 + w.val < 30 then B (ix4 0 b ⟨4 + w.val, by omega⟩ k) else A (ix2 ⟨8192 + (b.val * 4 + (4 + w.val - 30)), by omega⟩ k) := by
  pointwise [convS]
theorem queryT_at (A : FVec Ideal S6x8704x384 .bf16) (h : Fin 6) (i : Fin 8704) (k : Fin 320) : queryT A (ix3 h i k) = A (ix3 h i ⟨k.val, by omega⟩) := by
  pointwise [queryT]
theorem sparseT_at (A : FVec Ideal S12x8704x128 .bf16) (h : Fin 12) (i : Fin 8704) (k : Fin 64) : sparseT A (ix3 h i k) = A (ix3 h i ⟨k.val, by omega⟩) := by
  pointwise [sparseT]
theorem gateT_at (A : FVec Ideal S8704x128 .f32) (i : Fin 8704) (k : Fin 36) : gateT A (ix2 i k) = A (ix2 i ⟨k.val, by omega⟩) := by
  pointwise [gateT]
end Cert.Kernel6Ideal.Post
end
-- ==== Proof.PostRef.lean ====
module
public import proofs.«01_k».proof.Proof.Gen.Reference6Ideal.Run
public import proofs.«01_k».proof.Proof.PostRefC
public import proofs.«01_k».proof.Proof.PostRefD
public import proofs.«01_k».proof.Proof.PostTail
@[expose] public section
set_option maxRecDepth 16384
noncomputable section
namespace Cert.Reference6Ideal.Post
open Cert.Reference6Ideal Cert.Reference6Ideal.Gen Cert.Reference6Ideal.Value Idealize.ShloMosaic Idealize.ShloMosaic.TcCoe Idealize.SL.Sem Idealize.ShloMosaic.StableHlo Cert.Merge Cert.Post
open Cert.Kernel6Ideal.Post (zrow upper mlaA keyA convA gateA sparseA queryA)
variable (V : Valuation τ sig (Elt Ideal))

/-- A column of z below 832, up to 2020, and above. -/
theorem spot_lo (p : Fin 3044) (h : p.val < 832) (z : Fin 3200 → EReal) (q : Fin 3200) (hq : q.val = p.val) : z (spot p) = z q := by
  refine congrArg z (Fin.ext ?_)
  unfold spot
  rw [hq]
  exact if_pos h
theorem spot_mid (p : Fin 3044) (h : 832 ≤ p.val) (h' : p.val < 2020) (z : Fin 3200 → EReal) (q : Fin 3200) (hq : q.val = p.val + 64) : z (spot p) = z q := by
  refine congrArg z (Fin.ext ?_)
  unfold spot
  rw [hq]
  exact (if_neg (by omega)).trans (if_pos h')
theorem spot_hi (p : Fin 3044) (h : 2020 ≤ p.val) (z : Fin 3200 → EReal) (q : Fin 3200) (hq : q.val = p.val + 156) : z (spot p) = z q := by
  refine congrArg z (Fin.ext ?_)
  unfold spot
  rw [hq]
  exact (if_neg (by omega)).trans (if_neg (by omega))
/-- The arguments, as arrays. -/
def winOf : FVec Ideal S4x128x512x2x1x64 .f32 := V (Proc.devRef .tc main_arg1)
def bufOf : FVec Ideal S4x128x30x512 .f32 := V (Proc.devRef .tc main_arg2)
def qnOf : FVec Ideal S4x512 .f32 := V (Proc.devRef .tc main_arg3)
def knOf : FVec Ideal S4x256 .f32 := V (Proc.devRef .tc main_arg4)
def wqOf : FVec Ideal S4x512x1152 .f32 := V (Proc.devRef .tc main_arg5)
def wkOf : FVec Ideal S4x256x6x128 .f32 := V (Proc.devRef .tc main_arg6)
theorem col_loP (b : Fin 4) (p : Fin 2048) (k : Fin 3044) (i : Fin 8704) (hi : i.val = b.val * 2048 + p.val) (h : k.val < 832) (q : Fin 3200) (hq : q.val = k.val) : res_main_v5 V (ix3 b p k) = zrow (zOf V) i q :=
  (v5_at V b p k i hi).trans (spot_lo k h _ q hq)
theorem col_midP (b : Fin 4) (p : Fin 2048) (k : Fin 3044) (i : Fin 8704) (hi : i.val = b.val * 2048 + p.val) (h : 832 ≤ k.val) (h' : k.val < 2020) (q : Fin 3200) (hq : q.val = k.val + 64) : res_main_v5 V (ix3 b p k) = zrow (zOf V) i q :=
  (v5_at V b p k i hi).trans (spot_mid k h h' _ q hq)
theorem col_hiP (b : Fin 4) (p : Fin 2048) (k : Fin 3044) (i : Fin 8704) (hi : i.val = b.val * 2048 + p.val) (h : 2020 ≤ k.val) (q : Fin 3200) (hq : q.val = k.val + 156) : res_main_v5 V (ix3 b p k) = zrow (zOf V) i q :=
  (v5_at V b p k i hi).trans (spot_hi k h _ q hq)
theorem kr_P (b : Fin 4) (p : Fin 2048) (i : Fin 8704) (hi : i.val = b.val * 2048 + p.val) (k : Fin 64) : heads1P (halfA1P (res_main_v5 V)) (halfB1P (res_main_v5 V)) (res_main_v102 V) (res_main_v104 V) (ix4 b p 0 k) = turn (fun l => zrow (zOf V) i ⟨768 + l.val, by omega⟩) (cosA (place i.val)) (sinA (place i.val)) k := by
  refine heads1P_at _ _ _ _ b p 0 k (fun l => zrow (zOf V) i ⟨768 + l.val, by omega⟩) _ _ (fun l => ?_) (fun l => ?_) (fun l => v102_at V b p 0 l i hi) (fun l => v104_at V b p 0 l i hi)
  · exact (halfA1P_at _ b p l).trans (col_loP V b p _ i hi (by simp only; omega) _ rfl)
  · exact (halfB1P_at _ b p l).trans (col_loP V b p _ i hi (by simp only; omega) _ (by simp only; omega))
theorem mla_P (b : Fin 4) (p : Fin 2048) (k : Fin 320) (i : Fin 8704) (hi : i.val = b.val * 2048 + p.val) : mlaOfP (res_main_v5 V) (knOf V) (res_main_v102 V) (res_main_v104 V) (ix3 b p k) = mlaRow (zrow (zOf V) i) (cosA (place i.val)) (sinA (place i.val)) (fun l => knOf V (ix2 0 l)) ⟨k.val, by omega⟩ := by
  rw [mlaOfP_at]
  unfold mlaRow
  by_cases h : k.val < 256
  · rw [dif_pos h, dif_pos (show k.val < 256 from h)]
    refine congrArg (fun x => scaled 0x43800000#32 x (fun l => knOf V (ix2 0 l)) ⟨k.val, h⟩) (funext fun l => ?_)
    exact col_loP V b p _ i hi (by simp only; omega) _ rfl
  · rw [dif_neg h, dif_neg (show ¬ k.val < 256 from h), dif_pos (show k.val - 256 < 64 by omega)]
    exact kr_P V b p i hi _
theorem keys_P (b : Fin 4) (p : Fin 2048) (j : Fin 6) (u : Fin 1) (k : Fin 64) (i : Fin 8704) (hi : i.val = b.val * 2048 + p.val) (q : Fin 384) (hq : q.val = j.val * 64 + k.val) : keysOfP (res_main_v5 V) (res_main_v177 V) (res_main_v179 V) (ix5 b p j u k) = keyRow (zrow (zOf V) i) (cosA (place i.val)) (sinA (place i.val)) q := by
  rw [keysOfP_at]
  unfold keyRow
  by_cases h : j.val % 2 < 1
  · rw [dif_pos h, dif_pos (show q.val % 128 < 64 by omega)]
    refine (heads3P_at _ _ _ _ b p ⟨j.val / 2, by omega⟩ k (fun l => zrow (zOf V) i ⟨1664 + 128 * (q.val / 128) + l.val, by omega⟩) _ _ (fun l => ?_) (fun l => ?_) (fun l => v177_at V b p 0 l i hi) (fun l => v179_at V b p 0 l i hi)).trans ?_
    · exact (halfA3P_at _ b p _ l).trans (col_midP V b p _ i hi (by simp only; omega) (by simp only; omega) _ (by simp only; omega))
    · exact (halfB3P_at _ b p _ l).trans (col_midP V b p _ i hi (by simp only; omega) (by simp only; omega) _ (by simp only; omega))
    · refine turn_congr _ _ (fun l => rfl) ?_
      simp only
      omega
  · rw [dif_neg h, dif_neg (show ¬ q.val % 128 < 64 by omega)]
    exact col_midP V b p _ i hi (by simp only; omega) (by simp only; omega) _ (by simp only; omega)
theorem sparse_P (b : Fin 4) (p : Fin 2048) (h : Fin 12) (k : Fin 64) (i : Fin 8704) (hi : i.val = b.val * 2048 + p.val) : heads12P (halfA12P (res_main_v5 V)) (halfB12P (res_main_v5 V)) (res_main_v139 V) (res_main_v141 V) (ix4 b p h k) = turn (fun l => zrow (zOf V) i ⟨896 + 64 * h.val + l.val, by omega⟩) (cosA (place i.val)) (sinA (place i.val)) k := by
  refine heads12P_at _ _ _ _ b p h k (fun l => zrow (zOf V) i ⟨896 + 64 * h.val + l.val, by omega⟩) _ _ (fun l => ?_) (fun l => ?_) (fun l => v139_at V b p 0 l i hi) (fun l => v141_at V b p 0 l i hi)
  · exact (halfA12P_at _ b p h l).trans (col_midP V b p _ i hi (by simp only; omega) (by simp only; omega) _ (by simp only; omega))
  · exact (halfB12P_at _ b p h l).trans (col_midP V b p _ i hi (by simp only; omega) (by simp only; omega) _ (by simp only; omega))
theorem gate_P (b : Fin 4) (p : Fin 2048) (k : Fin 36) (i : Fin 8704) (hi : i.val = b.val * 2048 + p.val) : gatesP (res_main_v5 V) (ix3 b p k) = gateRow (zrow (zOf V) i) ⟨k.val, by omega⟩ := by
  rw [gatesP_at]
  exact congrArg Ideal.logistic (col_midP V b p _ i hi (by simp only; omega) (by simp only; omega) _ (by simp only; omega))
theorem cqP_eq : res_main_v20 V = cqP (res_main_v5 V) := rfl
theorem upP_eq : res_main_v35 V = upP (res_main_v20 V) (qnOf V) (wqOf V) := rfl
theorem upper_P (b : Fin 4) (p : Fin 2048) (h : Fin 6) (j : Fin 192) (i : Fin 8704) (hi : i.val = b.val * 2048 + p.val) (q : Fin 1152) (hq : q.val = 192 * h.val + j.val) : res_main_v35 V (ix4 b p h j) = upper (zOf V) (qnOf V) (wqOf V) i q := by
  rw [upP_eq]
  refine Eq.trans (α := EReal) (upP_at _ _ _ b p h j) ?_
  unfold upper upRow
  refine Finset.sum_congr rfl fun l _ => ?_
  have e : (⟨h.val * 192 + j.val, by omega⟩ : Fin 1152) = q := Fin.ext (by simp only; omega)
  rw [e]
  refine congrArg (fun x => scaled 0x44000000#32 x (fun l => qnOf V (ix2 0 l)) l * wqOf V (ix3 0 l q)) (funext fun l' => ?_)
  rw [cqP_eq]
  exact (cqP_at _ b p l').trans (col_loP V b p _ i hi (by simp only; omega) _ rfl)
theorem rope_P (b : Fin 4) (p : Fin 2048) (h : Fin 6) (k : Fin 64) (i : Fin 8704) (hi : i.val = b.val * 2048 + p.val) : heads6P (halfA6P (res_main_v35 V)) (halfB6P (res_main_v35 V)) (res_main_v50 V) (res_main_v52 V) (ix4 b p h k) = turn (fun l => upper (zOf V) (qnOf V) (wqOf V) i ⟨192 * h.val + 128 + l.val, by omega⟩) (cosA (place i.val)) (sinA (place i.val)) k := by
  refine heads6P_at _ _ _ _ b p h k (fun l => upper (zOf V) (qnOf V) (wqOf V) i ⟨192 * h.val + 128 + l.val, by omega⟩) _ _ (fun l => ?_) (fun l => ?_) (fun l => v50_at V b p 0 l i hi) (fun l => v52_at V b p 0 l i hi)
  · exact (halfA6P_at _ b p h l).trans (upper_P V b p h _ i hi _ (by simp only; omega))
  · exact (halfB6P_at _ b p h l).trans (upper_P V b p h _ i hi _ (by simp only; omega))
theorem lat_P (b : Fin 4) (p : Fin 2048) (h : Fin 6) (k : Fin 256) (i : Fin 8704) (hi : i.val = b.val * 2048 + p.val) : latP (res_main_v35 V) (wkOf V) (ix4 b p h k) = ∑ x : Fin 128, upper (zOf V) (qnOf V) (wqOf V) i ⟨192 * h.val + x.val, by omega⟩ * wkOf V (ix4 0 k h x) := by
  rw [latP_at]
  refine Finset.sum_congr rfl fun x _ => ?_
  rw [mul_comm]
  exact congrArg (fun q => q * wkOf V (ix4 0 k h x)) (upper_P V b p h _ i hi _ rfl)
theorem col_loS (b : Fin 128) (p : Fin 4) (k : Fin 3044) (i : Fin 8704) (hi : i.val = 8192 + (b.val * 4 + p.val)) (h : k.val < 832) (q : Fin 3200) (hq : q.val = k.val) : res_main_v7 V (ix3 b p k) = zrow (zOf V) i q :=
  (v7_at V b p k i hi).trans (spot_lo k h _ q hq)
theorem col_midS (b : Fin 128) (p : Fin 4) (k : Fin 3044) (i : Fin 8704) (hi : i.val = 8192 + (b.val * 4 + p.val)) (h : 832 ≤ k.val) (h' : k.val < 2020) (q : Fin 3200) (hq : q.val = k.val + 64) : res_main_v7 V (ix3 b p k) = zrow (zOf V) i q :=
  (v7_at V b p k i hi).trans (spot_mid k h h' _ q hq)
theorem col_hiS (b : Fin 128) (p : Fin 4) (k : Fin 3044) (i : Fin 8704) (hi : i.val = 8192 + (b.val * 4 + p.val)) (h : 2020 ≤ k.val) (q : Fin 3200) (hq : q.val = k.val + 156) : res_main_v7 V (ix3 b p k) = zrow (zOf V) i q :=
  (v7_at V b p k i hi).trans (spot_hi k h _ q hq)
theorem kr_S (b : Fin 128) (p : Fin 4) (i : Fin 8704) (hi : i.val = 8192 + (b.val * 4 + p.val)) (k : Fin 64) : heads1S (halfA1S (res_main_v7 V)) (halfB1S (res_main_v7 V)) (res_main_v310 V) (res_main_v312 V) (ix4 b p 0 k) = turn (fun l => zrow (zOf V) i ⟨768 + l.val, by omega⟩) (cosA (place i.val)) (sinA (place i.val)) k := by
  refine heads1S_at _ _ _ _ b p 0 k (fun l => zrow (zOf V) i ⟨768 + l.val, by omega⟩) _ _ (fun l => ?_) (fun l => ?_) (fun l => v310_at V b p 0 l i hi) (fun l => v312_at V b p 0 l i hi)
  · exact (halfA1S_at _ b p l).trans (col_loS V b p _ i hi (by simp only; omega) _ rfl)
  · exact (halfB1S_at _ b p l).trans (col_loS V b p _ i hi (by simp only; omega) _ (by simp only; omega))
theorem mla_S (b : Fin 128) (p : Fin 4) (k : Fin 320) (i : Fin 8704) (hi : i.val = 8192 + (b.val * 4 + p.val)) : mlaOfS (res_main_v7 V) (knOf V) (res_main_v310 V) (res_main_v312 V) (ix3 b p k) = mlaRow (zrow (zOf V) i) (cosA (place i.val)) (sinA (place i.val)) (fun l => knOf V (ix2 0 l)) ⟨k.val, by omega⟩ := by
  rw [mlaOfS_at]
  unfold mlaRow
  by_cases h : k.val < 256
  · rw [dif_pos h, dif_pos (show k.val < 256 from h)]
    refine congrArg (fun x => scaled 0x43800000#32 x (fun l => knOf V (ix2 0 l)) ⟨k.val, h⟩) (funext fun l => ?_)
    exact col_loS V b p _ i hi (by simp only; omega) _ rfl
  · rw [dif_neg h, dif_neg (show ¬ k.val < 256 from h), dif_pos (show k.val - 256 < 64 by omega)]
    exact kr_S V b p i hi _
theorem keys_S (b : Fin 128) (p : Fin 4) (j : Fin 6) (u : Fin 1) (k : Fin 64) (i : Fin 8704) (hi : i.val = 8192 + (b.val * 4 + p.val)) (q : Fin 384) (hq : q.val = j.val * 64 + k.val) : keysOfS (res_main_v7 V) (res_main_v385 V) (res_main_v387 V) (ix5 b p j u k) = keyRow (zrow (zOf V) i) (cosA (place i.val)) (sinA (place i.val)) q := by
  rw [keysOfS_at]
  unfold keyRow
  by_cases h : j.val % 2 < 1
  · rw [dif_pos h, dif_pos (show q.val % 128 < 64 by omega)]
    refine (heads3S_at _ _ _ _ b p ⟨j.val / 2, by omega⟩ k (fun l => zrow (zOf V) i ⟨1664 + 128 * (q.val / 128) + l.val, by omega⟩) _ _ (fun l => ?_) (fun l => ?_) (fun l => v385_at V b p 0 l i hi) (fun l => v387_at V b p 0 l i hi)).trans ?_
    · exact (halfA3S_at _ b p _ l).trans (col_midS V b p _ i hi (by simp only; omega) (by simp only; omega) _ (by simp only; omega))
    · exact (halfB3S_at _ b p _ l).trans (col_midS V b p _ i hi (by simp only; omega) (by simp only; omega) _ (by simp only; omega))
    · refine turn_congr _ _ (fun l => rfl) ?_
      simp only
      omega
  · rw [dif_neg h, dif_neg (show ¬ q.val % 128 < 64 by omega)]
    exact col_midS V b p _ i hi (by simp only; omega) (by simp only; omega) _ (by simp only; omega)
theorem sparse_S (b : Fin 128) (p : Fin 4) (h : Fin 12) (k : Fin 64) (i : Fin 8704) (hi : i.val = 8192 + (b.val * 4 + p.val)) : heads12S (halfA12S (res_main_v7 V)) (halfB12S (res_main_v7 V)) (res_main_v347 V) (res_main_v349 V) (ix4 b p h k) = turn (fun l => zrow (zOf V) i ⟨896 + 64 * h.val + l.val, by omega⟩) (cosA (place i.val)) (sinA (place i.val)) k := by
  refine heads12S_at _ _ _ _ b p h k (fun l => zrow (zOf V) i ⟨896 + 64 * h.val + l.val, by omega⟩) _ _ (fun l => ?_) (fun l => ?_) (fun l => v347_at V b p 0 l i hi) (fun l => v349_at V b p 0 l i hi)
  · exact (halfA12S_at _ b p h l).trans (col_midS V b p _ i hi (by simp only; omega) (by simp only; omega) _ (by simp only; omega))
  · exact (halfB12S_at _ b p h l).trans (col_midS V b p _ i hi (by simp only; omega) (by simp only; omega) _ (by simp only; omega))
theorem gate_S (b : Fin 128) (p : Fin 4) (k : Fin 36) (i : Fin 8704) (hi : i.val = 8192 + (b.val * 4 + p.val)) : gatesS (res_main_v7 V) (ix3 b p k) = gateRow (zrow (zOf V) i) ⟨k.val, by omega⟩ := by
  rw [gatesS_at]
  exact congrArg Ideal.logistic (col_midS V b p _ i hi (by simp only; omega) (by simp only; omega) _ (by simp only; omega))
theorem cqS_eq : res_main_v228 V = cqS (res_main_v7 V) := rfl
theorem upS_eq : res_main_v243 V = upS (res_main_v228 V) (qnOf V) (wqOf V) := rfl
theorem upper_S (b : Fin 128) (p : Fin 4) (h : Fin 6) (j : Fin 192) (i : Fin 8704) (hi : i.val = 8192 + (b.val * 4 + p.val)) (q : Fin 1152) (hq : q.val = 192 * h.val + j.val) : res_main_v243 V (ix4 b p h j) = upper (zOf V) (qnOf V) (wqOf V) i q := by
  rw [upS_eq]
  refine Eq.trans (α := EReal) (upS_at _ _ _ b p h j) ?_
  unfold upper upRow
  refine Finset.sum_congr rfl fun l _ => ?_
  have e : (⟨h.val * 192 + j.val, by omega⟩ : Fin 1152) = q := Fin.ext (by simp only; omega)
  rw [e]
  refine congrArg (fun x => scaled 0x44000000#32 x (fun l => qnOf V (ix2 0 l)) l * wqOf V (ix3 0 l q)) (funext fun l' => ?_)
  rw [cqS_eq]
  exact (cqS_at _ b p l').trans (col_loS V b p _ i hi (by simp only; omega) _ rfl)
theorem rope_S (b : Fin 128) (p : Fin 4) (h : Fin 6) (k : Fin 64) (i : Fin 8704) (hi : i.val = 8192 + (b.val * 4 + p.val)) : heads6S (halfA6S (res_main_v243 V)) (halfB6S (res_main_v243 V)) (res_main_v258 V) (res_main_v260 V) (ix4 b p h k) = turn (fun l => upper (zOf V) (qnOf V) (wqOf V) i ⟨192 * h.val + 128 + l.val, by omega⟩) (cosA (place i.val)) (sinA (place i.val)) k := by
  refine heads6S_at _ _ _ _ b p h k (fun l => upper (zOf V) (qnOf V) (wqOf V) i ⟨192 * h.val + 128 + l.val, by omega⟩) _ _ (fun l => ?_) (fun l => ?_) (fun l => v258_at V b p 0 l i hi) (fun l => v260_at V b p 0 l i hi)
  · exact (halfA6S_at _ b p h l).trans (upper_S V b p h _ i hi _ (by simp only; omega))
  · exact (halfB6S_at _ b p h l).trans (upper_S V b p h _ i hi _ (by simp only; omega))
theorem lat_S (b : Fin 128) (p : Fin 4) (h : Fin 6) (k : Fin 256) (i : Fin 8704) (hi : i.val = 8192 + (b.val * 4 + p.val)) : latS (res_main_v243 V) (wkOf V) (ix4 b p h k) = ∑ x : Fin 128, upper (zOf V) (qnOf V) (wqOf V) i ⟨192 * h.val + x.val, by omega⟩ * wkOf V (ix4 0 k h x) := by
  rw [latS_at]
  refine Finset.sum_congr rfl fun x _ => ?_
  rw [mul_comm]
  exact congrArg (fun q => q * wkOf V (ix4 0 k h x)) (upper_S V b p h _ i hi _ rfl)
theorem mlaP_eq : mlaOfP (res_main_v5 V) (knOf V) (res_main_v102 V) (res_main_v104 V) = Cert.Kernel6Ideal.Post.mlaP (mlaA (zOf V) (knOf V)) := by
  have e : ∀ (b : Fin 4) (p : Fin 2048) (k : Fin 320), (mlaOfP (res_main_v5 V) (knOf V) (res_main_v102 V) (res_main_v104 V)) (ix3 b p k) = (Cert.Kernel6Ideal.Post.mlaP (mlaA (zOf V) (knOf V))) (ix3 b p k) := by
    intro b p k
    rw [Cert.Kernel6Ideal.Post.mlaP_at]
    exact mla_P V b p k _ rfl
  funext y
  idx_vars y
  exact e _ _ _
theorem firstP_eq : firstP (keysOfP (res_main_v5 V) (res_main_v177 V) (res_main_v179 V)) = Cert.Kernel6Ideal.Post.keyP (keyA (zOf V)) := by
  have e : ∀ (b : Fin 4) (p : Fin 2048) (j : Fin 4) (u : Fin 1) (k : Fin 64), (firstP (keysOfP (res_main_v5 V) (res_main_v177 V) (res_main_v179 V))) (ix5 b p j u k) = (Cert.Kernel6Ideal.Post.keyP (keyA (zOf V))) (ix5 b p j u k) := by
    intro b p j u k
    rw [Cert.Kernel6Ideal.Post.keyP_at, firstP_at]
    exact keys_P V b p ⟨j.val, by omega⟩ 0 k _ rfl _ rfl
  funext y
  idx_vars y
  exact e _ _ _ _ _
theorem mlaS_eq : mlaOfS (res_main_v7 V) (knOf V) (res_main_v310 V) (res_main_v312 V) = Cert.Kernel6Ideal.Post.mlaS (mlaA (zOf V) (knOf V)) := by
  have e : ∀ (b : Fin 128) (p : Fin 4) (k : Fin 320), (mlaOfS (res_main_v7 V) (knOf V) (res_main_v310 V) (res_main_v312 V)) (ix3 b p k) = (Cert.Kernel6Ideal.Post.mlaS (mlaA (zOf V) (knOf V))) (ix3 b p k) := by
    intro b p k
    rw [Cert.Kernel6Ideal.Post.mlaS_at]
    exact mla_S V b p k _ rfl
  funext y
  idx_vars y
  exact e _ _ _
theorem firstS_eq : firstS (keysOfS (res_main_v7 V) (res_main_v385 V) (res_main_v387 V)) = Cert.Kernel6Ideal.Post.keyS (keyA (zOf V)) := by
  have e : ∀ (b : Fin 128) (p : Fin 4) (j : Fin 4) (u : Fin 1) (k : Fin 64), (firstS (keysOfS (res_main_v7 V) (res_main_v385 V) (res_main_v387 V))) (ix5 b p j u k) = (Cert.Kernel6Ideal.Post.keyS (keyA (zOf V))) (ix5 b p j u k) := by
    intro b p j u k
    rw [Cert.Kernel6Ideal.Post.keyS_at, firstS_at]
    exact keys_S V b p ⟨j.val, by omega⟩ 0 k _ rfl _ rfl
  funext y
  idx_vars y
  exact e _ _ _ _ _
theorem lastP_eq : lastP (keysOfP (res_main_v5 V) (res_main_v177 V) (res_main_v179 V)) = Cert.Kernel6Ideal.Post.winP (keyA (zOf V)) := by
  have e : ∀ (b : Fin 4) (w : Fin 512) (j : Fin 2) (u : Fin 1) (k : Fin 64), (lastP (keysOfP (res_main_v5 V) (res_main_v177 V) (res_main_v179 V))) (ix5 b w j u k) = (Cert.Kernel6Ideal.Post.winP (keyA (zOf V))) (ix5 b w j u k) := by
    intro b w j u k
    rw [Cert.Kernel6Ideal.Post.winP_at, lastP_at]
    exact keys_P V b ⟨2048 + w.val - 512, by omega⟩ ⟨4 + j.val, by omega⟩ 0 k ⟨b.val * 2048 + (1536 + w.val), by omega⟩ (by simp only; omega) ⟨256 + (j.val * 64 + k.val), by omega⟩ (by simp only; omega)
  funext y
  idx_vars y
  exact e _ _ _ _ _
theorem lastS_eq : lastS (winOf V) (keysOfS (res_main_v7 V) (res_main_v385 V) (res_main_v387 V)) = Cert.Kernel6Ideal.Post.winS (winOf V) (keyA (zOf V)) := by
  have e : ∀ (b : Fin 128) (w : Fin 512) (j : Fin 2) (u : Fin 1) (k : Fin 64), (lastS (winOf V) (keysOfS (res_main_v7 V) (res_main_v385 V) (res_main_v387 V))) (ix5 b w j u k) = (Cert.Kernel6Ideal.Post.winS (winOf V) (keyA (zOf V))) (ix5 b w j u k) := by
    intro b w j u k
    rw [Cert.Kernel6Ideal.Post.winS_at, lastS_at]
    by_cases h : w.val < 508
    · rw [dif_pos h, dif_pos (show 4 + w.val < 512 by omega)]
    · rw [dif_neg h, dif_neg (show ¬ 4 + w.val < 512 by omega)]
      exact keys_S V b ⟨4 + w.val - 512, by omega⟩ ⟨4 + j.val, by omega⟩ 0 k ⟨8192 + (b.val * 4 + (w.val - 508)), by omega⟩ (by simp only; omega) ⟨256 + (j.val * 64 + k.val), by omega⟩ (by simp only; omega)
  funext y
  idx_vars y
  exact e _ _ _ _ _
theorem convOfP_eq : convOfP (res_main_v5 V) = Cert.Kernel6Ideal.Post.convP (convA (zOf V)) := by
  have e : ∀ (b : Fin 4) (w : Fin 30) (k : Fin 512), (convOfP (res_main_v5 V)) (ix3 b w k) = (Cert.Kernel6Ideal.Post.convP (convA (zOf V))) (ix3 b w k) := by
    intro b w k
    rw [Cert.Kernel6Ideal.Post.convP_at, convOfP_at]
    rw [col_hiP V b ⟨2048 + w.val - 30, by omega⟩ ⟨2020 + k.val, by omega⟩ ⟨b.val * 2048 + (2018 + w.val), by omega⟩ (by simp only; omega) (by simp only; omega) ⟨2176 + k.val, by omega⟩ (by simp only; omega),
      col_hiP V b ⟨2048 + w.val - 30, by omega⟩ ⟨2532 + k.val, by omega⟩ ⟨b.val * 2048 + (2018 + w.val), by omega⟩ (by simp only; omega) (by simp only; omega) ⟨2688 + k.val, by omega⟩ (by simp only; omega)]
    rfl
  funext y
  idx_vars y
  exact e _ _ _
theorem convOfS_eq : convOfS (bufOf V) (res_main_v7 V) = Cert.Kernel6Ideal.Post.convS (bufOf V) (convA (zOf V)) := by
  have e : ∀ (b : Fin 128) (w : Fin 30) (k : Fin 512), (convOfS (bufOf V) (res_main_v7 V)) (ix3 b w k) = (Cert.Kernel6Ideal.Post.convS (bufOf V) (convA (zOf V))) (ix3 b w k) := by
    intro b w k
    rw [Cert.Kernel6Ideal.Post.convS_at, convOfS_at]
    by_cases h : 4 + w.val < 30
    · rw [dif_pos h, dif_pos h]
    · rw [dif_neg h, dif_neg h]
      rw [col_hiS V b ⟨4 + w.val - 30, by omega⟩ ⟨2020 + k.val, by omega⟩ ⟨8192 + (b.val * 4 + (4 + w.val - 30)), by omega⟩ rfl (by simp only; omega) ⟨2176 + k.val, by omega⟩ (by simp only; omega),
        col_hiS V b ⟨4 + w.val - 30, by omega⟩ ⟨2532 + k.val, by omega⟩ ⟨8192 + (b.val * 4 + (4 + w.val - 30)), by omega⟩ rfl (by simp only; omega) ⟨2688 + k.val, by omega⟩ (by simp only; omega)]
      rfl
  funext y
  idx_vars y
  exact e _ _ _
theorem gateOf_eq : gateOf (res_main_v5 V) (res_main_v7 V) = Cert.Kernel6Ideal.Post.gateT (gateA (zOf V)) := by
  have e : ∀ (i : Fin 8704) (k : Fin 36), (gateOf (res_main_v5 V) (res_main_v7 V)) (ix2 i k) = (Cert.Kernel6Ideal.Post.gateT (gateA (zOf V))) (ix2 i k) := by
    intro i k
    rw [Cert.Kernel6Ideal.Post.gateT_at, gateOf_at]
    by_cases h : i.val < 8192
    · rw [dif_pos h]
      exact gate_P V ⟨i.val / 2048, by omega⟩ ⟨i.val % 2048, by omega⟩ k i (by simp only; omega)
    · rw [dif_neg h]
      exact gate_S V ⟨(i.val - 8192) / 4, by omega⟩ ⟨(i.val - 8192) % 4, by omega⟩ k i (by simp only; omega)
  funext y
  idx_vars y
  exact e _ _
theorem sparseOf_eq : sparseOf (res_main_v5 V) (res_main_v7 V) (res_main_v139 V) (res_main_v141 V) (res_main_v347 V) (res_main_v349 V) = Cert.Kernel6Ideal.Post.sparseT (sparseA (zOf V)) := by
  have e : ∀ (h : Fin 12) (i : Fin 8704) (k : Fin 64), (sparseOf (res_main_v5 V) (res_main_v7 V) (res_main_v139 V) (res_main_v141 V) (res_main_v347 V) (res_main_v349 V)) (ix3 h i k) = (Cert.Kernel6Ideal.Post.sparseT (sparseA (zOf V))) (ix3 h i k) := by
    intro h i k
    rw [Cert.Kernel6Ideal.Post.sparseT_at, sparseOf_at]
    show _ = sparseRow (zrow (zOf V) i) (cosA (place i.val)) (sinA (place i.val)) h ⟨k.val, by omega⟩
    unfold sparseRow
    rw [dif_pos (show k.val < 64 from k.isLt)]
    refine congrArg (fun q => q * Ideal.ofBits FTy.f32 0x3E000000#32) ?_
    by_cases hi : i.val < 8192
    · rw [dif_pos hi]
      exact sparse_P V ⟨i.val / 2048, by omega⟩ ⟨i.val % 2048, by omega⟩ h k i (by simp only; omega)
    · rw [dif_neg hi]
      exact sparse_S V ⟨(i.val - 8192) / 4, by omega⟩ ⟨(i.val - 8192) % 4, by omega⟩ h k i (by simp only; omega)
  funext y
  idx_vars y
  exact e _ _ _
theorem queryOf_eq : queryOf (res_main_v35 V) (res_main_v243 V) (wkOf V) (res_main_v50 V) (res_main_v52 V) (res_main_v258 V) (res_main_v260 V) = Cert.Kernel6Ideal.Post.queryT (queryA (zOf V) (qnOf V) (wqOf V) (wkOf V)) := by
  have e : ∀ (h : Fin 6) (i : Fin 8704) (k : Fin 320), (queryOf (res_main_v35 V) (res_main_v243 V) (wkOf V) (res_main_v50 V) (res_main_v52 V) (res_main_v258 V) (res_main_v260 V)) (ix3 h i k) = (Cert.Kernel6Ideal.Post.queryT (queryA (zOf V) (qnOf V) (wqOf V) (wkOf V))) (ix3 h i k) := by
    intro h i k
    rw [Cert.Kernel6Ideal.Post.queryT_at, queryOf_at]
    show _ = queryRow (cosA (place i.val)) (sinA (place i.val)) (upper (zOf V) (qnOf V) (wqOf V) i) (fun k h x => wkOf V (ix4 0 k h x)) h ⟨k.val, by omega⟩
    unfold queryRow
    by_cases hk : k.val < 256
    · rw [dif_pos hk, dif_pos (show k.val < 256 from hk)]
      refine congrArg (fun q => q * Ideal.ofBits FTy.f32 0x3D93CD3A#32) ?_
      by_cases hi : i.val < 8192
      · rw [dif_pos hi]
        exact lat_P V ⟨i.val / 2048, by omega⟩ ⟨i.val % 2048, by omega⟩ h ⟨k.val, hk⟩ i (by simp only; omega)
      · rw [dif_neg hi]
        exact lat_S V ⟨(i.val - 8192) / 4, by omega⟩ ⟨(i.val - 8192) % 4, by omega⟩ h ⟨k.val, hk⟩ i (by simp only; omega)
    · rw [dif_neg hk, dif_neg (show ¬ k.val < 256 from hk), dif_pos (show k.val - 256 < 64 by omega)]
      refine congrArg (fun q => q * Ideal.ofBits FTy.f32 0x3D93CD3A#32) ?_
      by_cases hi : i.val < 8192
      · rw [dif_pos hi]
        exact rope_P V ⟨i.val / 2048, by omega⟩ ⟨i.val % 2048, by omega⟩ h ⟨k.val - 256, by omega⟩ i (by simp only; omega)
      · rw [dif_neg hi]
        exact rope_S V ⟨(i.val - 8192) / 4, by omega⟩ ⟨(i.val - 8192) % 4, by omega⟩ h ⟨k.val - 256, by omega⟩ i (by simp only; omega)
  funext y
  idx_vars y
  exact e _ _ _
/-- The results of a run are the kernel's, and its arguments stay. -/
theorem run_joined (m : (ℓ : Loc nD τ sig) → Buf (Elt Ideal) ℓ) (g : Dev nD → PrngReg) : θ_run (defs (F := Ideal)) (onTc (τ := τ) (main (F := Ideal))) ⟨m, fun _ => 0, g⟩ (fun r => ∀ c : Dev nD,
      r.2.mem ((c.tc : Thread nD τ).loc main_v123) = Cert.Kernel6Ideal.Post.mlaP (mlaA (m ((c.tc : Thread nD τ).loc main_arg0)) (m ((c.tc : Thread nD τ).loc main_arg4)))
      ∧ r.2.mem ((c.tc : Thread nD τ).loc main_v331) = Cert.Kernel6Ideal.Post.mlaS (mlaA (m ((c.tc : Thread nD τ).loc main_arg0)) (m ((c.tc : Thread nD τ).loc main_arg4)))
      ∧ r.2.mem ((c.tc : Thread nD τ).loc main_v445) = Cert.Kernel6Ideal.Post.keyP (keyA (m ((c.tc : Thread nD τ).loc main_arg0)))
      ∧ r.2.mem ((c.tc : Thread nD τ).loc main_v446) = Cert.Kernel6Ideal.Post.keyS (keyA (m ((c.tc : Thread nD τ).loc main_arg0)))
      ∧ r.2.mem ((c.tc : Thread nD τ).loc main_v447) = Cert.Kernel6Ideal.Post.winP (keyA (m ((c.tc : Thread nD τ).loc main_arg0)))
      ∧ r.2.mem ((c.tc : Thread nD τ).loc main_v448) = Cert.Kernel6Ideal.Post.winS (m ((c.tc : Thread nD τ).loc main_arg1)) (keyA (m ((c.tc : Thread nD τ).loc main_arg0)))
      ∧ r.2.mem ((c.tc : Thread nD τ).loc main_v449) = Cert.Kernel6Ideal.Post.convP (convA (m ((c.tc : Thread nD τ).loc main_arg0)))
      ∧ r.2.mem ((c.tc : Thread nD τ).loc main_v450) = Cert.Kernel6Ideal.Post.convS (m ((c.tc : Thread nD τ).loc main_arg2)) (convA (m ((c.tc : Thread nD τ).loc main_arg0)))
      ∧ r.2.mem ((c.tc : Thread nD τ).loc main_v454) = Cert.Kernel6Ideal.Post.queryT (queryA (m ((c.tc : Thread nD τ).loc main_arg0)) (m ((c.tc : Thread nD τ).loc main_arg3)) (m ((c.tc : Thread nD τ).loc main_arg5)) (m ((c.tc : Thread nD τ).loc main_arg6)))
      ∧ r.2.mem ((c.tc : Thread nD τ).loc main_v461) = Cert.Kernel6Ideal.Post.sparseT (sparseA (m ((c.tc : Thread nD τ).loc main_arg0)))
      ∧ r.2.mem ((c.tc : Thread nD τ).loc main_v464) = Cert.Kernel6Ideal.Post.gateT (gateA (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Value.run m g)
  exact ⟨(h c).1.trans (mlaP_eq (launchContents m c)),
    (h c).2.1.trans (mlaS_eq (launchContents m c)),
    (h c).2.2.1.trans (firstP_eq (launchContents m c)),
    (h c).2.2.2.1.trans (firstS_eq (launchContents m c)),
    (h c).2.2.2.2.1.trans (lastP_eq (launchContents m c)),
    (h c).2.2.2.2.2.1.trans (lastS_eq (launchContents m c)),
    (h c).2.2.2.2.2.2.1.trans (convOfP_eq (launchContents m c)),
    (h c).2.2.2.2.2.2.2.1.trans (convOfS_eq (launchContents m c)),
    (h c).2.2.2.2.2.2.2.2.1.trans (queryOf_eq (launchContents m c)),
    (h c).2.2.2.2.2.2.2.2.2.1.trans (sparseOf_eq (launchContents m c)),
    (h c).2.2.2.2.2.2.2.2.2.2.1.trans (gateOf_eq (launchContents m c)),
    (h c).2.2.2.2.2.2.2.2.2.2.2⟩
end Cert.Reference6Ideal.Post
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Conv
public import proofs.«01_k».proof.Proof.ConvRef
public import proofs.«01_k».proof.Proof.Final
public import proofs.«01_k».proof.Proof.Ref
public import proofs.«01_k».proof.Proof.Pre
public import proofs.«01_k».proof.Proof.MlpRef
public import proofs.«01_k».proof.Proof.InprojRef
public import proofs.«01_k».proof.Proof.Norm
public import proofs.«01_k».proof.Proof.MergeRef
public import proofs.«01_k».proof.Proof.PostRef
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

instance preFacts : Cert.Pre_finite.Facts := Cert.Pre_finite.Dec.facts

theorem frame_K : Cert.quiescent_Kernel := by
  intro m g _
  exact Cert.Kernel.Gen.frame m g
theorem frame_KI : Cert.quiescent_KernelIdeal := by
  intro m g _
  exact Cert.KernelIdeal.Gen.frame m g
theorem frame_KI_pre : Cert.quiescent_KernelIdeal_pre_finite := by
  intro m g _
  exact Cert.KernelIdeal.Gen.frame m g
theorem frame_RI : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)
theorem frame_RI_pre : Cert.quiescent_ReferenceIdeal_pre_finite := by
  intro m g _
  exact (θ_run Cert.ReferenceIdeal.defs _ _).mono (fun r h => ⟨fun c => (h c).2, sem_eq_zero_of_no_sems (by decide) r.2⟩)
    (Cert.ReferenceIdeal.Value.run m g)
theorem preserves : Cert.preserves_Kernel_KernelIdeal := IdealRules.named_const.statement _ _ _ _ _ rfl
/-- The reference's result is the attention at every token, head and column. -/
theorem ref_final (m' : (ℓ : Loc Cert.ReferenceIdeal.nD Cert.ReferenceIdeal.τ Cert.ReferenceIdeal.sig) → Buf (Elt Ideal) ℓ) (c : Dev Cert.ReferenceIdeal.nD)
    (hf : Cert.Model.Finite (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))) :
    Cert.ReferenceIdeal.Value.res_main_v42 m' c = Cert.KernelIdeal.Mla.full (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) := by
  rw [Cert.ReferenceIdeal.Att.res_eq]
  funext y
  idx_vars y
  rw [Cert.ReferenceIdeal.Att.mix_eq hf]
  rfl
theorem algebraic : Cert.algebraic_KernelIdeal_ReferenceIdeal_pre_finite := by
  intro m g m' g' hpre hagree
  have hf := fun c => Cert.Pre_finite.Dec.finite_of (hpre c)
  refine ⟨fun c => Cert.KernelIdeal.Mla.full (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Value.run_blocks m g)
    exact ⟨(h c).1.trans (Cert.KernelIdeal.Mla.final m c (hf c)), (h c).2⟩
  · refine (θ_run Cert.ReferenceIdeal.defs _ _).mono (fun r h c => ?_) (Cert.ReferenceIdeal.Value.run m' g')
    refine ⟨(h c).1.trans ?_, (h c).2⟩
    have e := ref_final m' c
    rw [(hagree c).1, (hagree c).2] at e
    exact e (hf c)

/-! The feed-forward part. -/
theorem frame_K2 : Cert.quiescent_Kernel2 := by
  intro m g _
  exact Cert.Kernel2.Gen.frame m g
theorem frame_KI2 : Cert.quiescent_Kernel2Ideal := by
  intro m g _
  exact Cert.Kernel2Ideal.Gen.frame m g
theorem frame_RI2 : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)
theorem preserves2 : Cert.preserves_Kernel2_Kernel2Ideal := trivial
theorem algebraic2 : Cert.algebraic_Kernel2Ideal_Reference2Ideal := by
  intro m g m' g' _ hagree
  refine ⟨fun c => Cert.Kernel2Ideal.Mlp.full (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), ?_, ?_⟩
  · refine (θ_run Cert.Kernel2Ideal.defs _ _).mono (fun r h c => ?_) (Cert.Kernel2Ideal.Value.run_blocks m g)
    exact ⟨(h c).1.trans (Cert.Kernel2Ideal.Mlp.final m c), (h c).2⟩
  · refine (θ_run Cert.Reference2Ideal.defs _ _).mono (fun r h c => ?_) (Cert.Reference2Ideal.Value.run m' g')
    refine ⟨(h c).1.trans ?_, (h c).2⟩
    refine (Cert.Reference2Ideal.Mlp.full_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))).trans ?_
    rw [(hagree c).1, (hagree c).2.1, (hagree c).2.2.1, (hagree c).2.2.2]

/-! The projection into the layer. -/
theorem frame_K3 : Cert.quiescent_Kernel3 := by
  intro m g _
  exact Cert.Kernel3.Gen.frame m g
theorem frame_KI3 : Cert.quiescent_Kernel3Ideal := by
  intro m g _
  exact Cert.Kernel3Ideal.Gen.frame m g
theorem frame_RI3 : Cert.quiescent_Reference3Ideal := by
  intro m g _
  exact (θ_run Cert.Reference3Ideal.defs _ _).mono (fun r h => ⟨fun c => (h c).2, sem_eq_zero_of_no_sems (by decide) r.2⟩)
    (Cert.Reference3Ideal.Value.run m g)
theorem preserves3 : Cert.preserves_Kernel3_Kernel3Ideal := trivial
theorem algebraic3 : Cert.algebraic_Kernel3Ideal_Reference3Ideal := by
  intro m g m' g' _ hagree
  refine ⟨fun c => Cert.Kernel3Ideal.Inproj.full (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · refine (θ_run Cert.Kernel3Ideal.defs _ _).mono (fun r h c => ?_) (θ_run_and (Cert.Kernel3Ideal.Inproj.run_final m g) (Cert.Kernel3Ideal.Gen.unchanged m g))
    exact ⟨h.1 c, h.2 c⟩
  · refine (θ_run Cert.Reference3Ideal.defs _ _).mono (fun r h c => ?_) (Cert.Reference3Ideal.Value.run m' g')
    refine ⟨(h c).1.trans ?_, (h c).2⟩
    refine (Cert.Reference3Ideal.Inproj.full_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans ?_
    rw [(hagree c).1, (hagree c).2.1, (hagree c).2.2]

/-! The last scaling. -/
theorem frame_K4 : Cert.quiescent_Kernel4 := by
  intro m g _
  exact Cert.Kernel4.Gen.frame m g
theorem frame_KI4 : Cert.quiescent_Kernel4Ideal := by
  intro m g _
  exact Cert.Kernel4Ideal.Gen.frame m g
theorem frame_RI4 : Cert.quiescent_Reference4Ideal := by
  intro m g _
  exact (θ_run Cert.Reference4Ideal.defs _ _).mono (fun r h => ⟨fun c => (h c).2.2, sem_eq_zero_of_no_sems (by decide) r.2⟩)
    (Cert.Reference4Ideal.Value.run m g)
theorem preserves4 : Cert.preserves_Kernel4_Kernel4Ideal := trivial
theorem algebraic4 : Cert.algebraic_Kernel4Ideal_Reference4Ideal := by
  intro m g m' g' _ hagree
  refine ⟨fun c => Cert.Kernel4Ideal.Norm.prompt (Cert.Kernel4Ideal.Norm.rowsN (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))), fun c => Cert.Kernel4Ideal.Norm.sample (Cert.Kernel4Ideal.Norm.rowsN (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))), ?_, ?_⟩
  · refine (θ_run Cert.Kernel4Ideal.defs _ _).mono (fun r h c => ?_) (θ_run_and (Cert.Kernel4Ideal.Norm.run_final m g) (Cert.Kernel4Ideal.Gen.unchanged m g))
    exact ⟨(h.1 c).1, (h.1 c).2, h.2 c⟩
  · refine (θ_run Cert.Reference4Ideal.defs _ _).mono (fun r h c => ?_) (Cert.Reference4Ideal.Value.run m' g')
    refine ⟨(h c).1.trans ?_, (h c).2.1.trans ?_, (h c).2.2⟩
    · refine (Cert.Reference4Ideal.Norm.prompt_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))).trans ?_
      rw [(hagree c).1, (hagree c).2]
    · refine (Cert.Reference4Ideal.Norm.sample_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))).trans ?_
      rw [(hagree c).1, (hagree c).2]

/-! The merge of the three mixers. -/
theorem frame_K5 : Cert.quiescent_Kernel5 := by
  intro m g _
  exact Cert.Kernel5.Gen.frame m g
theorem frame_KI5 : Cert.quiescent_Kernel5Ideal := by
  intro m g _
  exact Cert.Kernel5Ideal.Gen.frame m g
theorem frame_RI5 : Cert.quiescent_Reference5Ideal := by
  intro m g _
  exact (θ_run Cert.Reference5Ideal.defs _ _).mono (fun r h => ⟨fun c => (h c).2.2, sem_eq_zero_of_no_sems (by decide) r.2⟩)
    (Cert.Reference5Ideal.Value.run m g)
theorem preserves5 : Cert.preserves_Kernel5_Kernel5Ideal := trivial
theorem algebraic5 : Cert.algebraic_Kernel5Ideal_Reference5Ideal := by
  intro m g m' g' _ hagree
  refine ⟨fun c => Cert.Kernel5Ideal.Merge.prompt (Cert.Kernel5Ideal.Merge.full (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))), fun c => Cert.Kernel5Ideal.Merge.sample (Cert.Kernel5Ideal.Merge.full (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))), ?_, ?_⟩
  · refine (θ_run Cert.Kernel5Ideal.defs _ _).mono (fun r h c => ?_) (θ_run_and (Cert.Kernel5Ideal.Merge.run_final m g) (Cert.Kernel5Ideal.Gen.unchanged m g))
    exact ⟨(h.1 c).1, (h.1 c).2, h.2 c⟩
  · refine (θ_run Cert.Reference5Ideal.defs _ _).mono (fun r h c => ?_) (Cert.Reference5Ideal.Value.run m' g')
    refine ⟨(h c).1.trans ?_, (h c).2.1.trans ?_, (h c).2.2⟩
    · refine (Cert.Reference5Ideal.Merge.run_prompt m' c).trans ((Cert.Reference5Ideal.Merge.prompt_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9))).trans ?_)
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    · refine (Cert.Reference5Ideal.Merge.run_sample m' c).trans ((Cert.Reference5Ideal.Merge.sample_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9))).trans ?_)
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

/-! What the mixers read of a row, and what the layer keeps of it. -/
theorem frame_K6 : Cert.quiescent_Kernel6 := by
  intro m g _
  exact Cert.Kernel6.Gen.frame m g
theorem frame_KI6 : Cert.quiescent_Kernel6Ideal := by
  intro m g _
  exact Cert.Kernel6Ideal.Gen.frame m g
theorem frame_RI6 : Cert.quiescent_Reference6Ideal := by
  intro m g _
  exact (θ_run Cert.Reference6Ideal.defs _ _).mono (fun r h => ⟨fun c => (h c).2.2.2.2.2.2.2.2.2.2.2, sem_eq_zero_of_no_sems (by decide) r.2⟩)
    (Cert.Reference6Ideal.Value.run m g)
theorem preserves6 : Cert.preserves_Kernel6_Kernel6Ideal := trivial
theorem algebraic6 : Cert.algebraic_Kernel6Ideal_Reference6Ideal := by
  intro m g m' g' _ hagree
  refine ⟨fun c => Cert.Kernel6Ideal.Post.mlaP (Cert.Kernel6Ideal.Post.mlaA (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg4))),
    fun c => Cert.Kernel6Ideal.Post.mlaS (Cert.Kernel6Ideal.Post.mlaA (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg4))),
    fun c => Cert.Kernel6Ideal.Post.keyP (Cert.Kernel6Ideal.Post.keyA (m ((c.tc : Thread Cert.Kernel6Ideal.nD Cert.Kernel6Ideal.τ).loc Cert.Kernel6Ideal.main_arg0))),
    fun c => Cert.Kernel6Ideal.Post.keyS (Cert.Kernel6Ideal.Post.keyA (m ((c.tc : Thread Cert.Kernel6Ideal.nD Cert.Kernel6Ideal.τ).loc Cert.Kernel6Ideal.main_arg0))),
    fun c => Cert.Kernel6Ideal.Post.winP (Cert.Kernel6Ideal.Post.keyA (m ((c.tc : Thread Cert.Kernel6Ideal.nD Cert.Kernel6Ideal.τ).loc Cert.Kernel6Ideal.main_arg0))),
    fun c => Cert.Kernel6Ideal.Post.winS (m ((c.tc : Thread Cert.Kernel6Ideal.nD Cert.Kernel6Ideal.τ).loc Cert.Kernel6Ideal.main_arg1)) (Cert.Kernel6Ideal.Post.keyA (m ((c.tc : Thread Cert.Kernel6Ideal.nD Cert.Kernel6Ideal.τ).loc Cert.Kernel6Ideal.main_arg0))),
    fun c => Cert.Kernel6Ideal.Post.convP (Cert.Kernel6Ideal.Post.convA (m ((c.tc : Thread Cert.Kernel6Ideal.nD Cert.Kernel6Ideal.τ).loc Cert.Kernel6Ideal.main_arg0))),
    fun c => Cert.Kernel6Ideal.Post.convS (m ((c.tc : Thread Cert.Kernel6Ideal.nD Cert.Kernel6Ideal.τ).loc Cert.Kernel6Ideal.main_arg2)) (Cert.Kernel6Ideal.Post.convA (m ((c.tc : Thread Cert.Kernel6Ideal.nD Cert.Kernel6Ideal.τ).loc Cert.Kernel6Ideal.main_arg0))),
    fun c => Cert.Kernel6Ideal.Post.queryT (Cert.Kernel6Ideal.Post.queryA (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))),
    fun c => Cert.Kernel6Ideal.Post.sparseT (Cert.Kernel6Ideal.Post.sparseA (m ((c.tc : Thread Cert.Kernel6Ideal.nD Cert.Kernel6Ideal.τ).loc Cert.Kernel6Ideal.main_arg0))),
    fun c => Cert.Kernel6Ideal.Post.gateT (Cert.Kernel6Ideal.Post.gateA (m ((c.tc : Thread Cert.Kernel6Ideal.nD Cert.Kernel6Ideal.τ).loc Cert.Kernel6Ideal.main_arg0))), ?_, ?_⟩
  · refine (θ_run Cert.Kernel6Ideal.defs _ _).mono (fun r h c => ?_) (θ_run_and (Cert.Kernel6Ideal.Post.run_final m g) (Cert.Kernel6Ideal.Gen.unchanged m g))
    exact ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2, h.2 c⟩
  · refine (θ_run Cert.Reference6Ideal.defs _ _).mono (fun r h c => ?_) (Cert.Reference6Ideal.Post.run_joined m' g')
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2⟩
    · rw [(hagree c).1, (hagree c).2.2.2.2.1]
    · rw [(hagree c).1, (hagree c).2.2.2.2.1]
    · rw [(hagree c).1]
    · rw [(hagree c).1]
    · rw [(hagree c).1]
    · rw [(hagree c).1, (hagree c).2.1]
    · rw [(hagree c).1]
    · rw [(hagree c).1, (hagree c).2.2.1]
    · rw [(hagree c).1, (hagree c).2.2.2.1, (hagree c).2.2.2.2.2.1, (hagree c).2.2.2.2.2.2]
    · rw [(hagree c).1]
    · rw [(hagree c).1]

/-! The prompts' convolution. -/
theorem frame_K7 : Cert.quiescent_Kernel7 := by
  intro m g _
  exact Cert.Kernel7.Gen.frame m g
theorem frame_KI7 : Cert.quiescent_Kernel7Ideal := by
  intro m g _
  exact Cert.Kernel7Ideal.Gen.frame m g
theorem frame_RI7 : Cert.quiescent_Reference7Ideal := by
  intro m g _
  exact (θ_run Cert.Reference7Ideal.defs _ _).mono (fun r h => ⟨fun c => (h c).2, sem_eq_zero_of_no_sems (by decide) r.2⟩)
    (Cert.Reference7Ideal.Value.run m g)
theorem preserves7 : Cert.preserves_Kernel7_Kernel7Ideal := trivial
theorem algebraic7 : Cert.algebraic_Kernel7Ideal_Reference7Ideal := by
  intro m g m' g' _ hagree
  refine ⟨fun c => Cert.Kernel7Ideal.Conv.flat (Cert.Kernel7Ideal.Conv.convA (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))), ?_, ?_⟩
  · refine (θ_run Cert.Kernel7Ideal.defs _ _).mono (fun r h c => ?_) (θ_run_and (Cert.Kernel7Ideal.Conv.run_final m g) (Cert.Kernel7Ideal.Gen.unchanged m g))
    exact ⟨h.1 c, h.2 c⟩
  · refine (θ_run Cert.Reference7Ideal.defs _ _).mono (fun r h c => ?_) (Cert.Reference7Ideal.Value.run m' g')
    refine ⟨(h c).1.trans ?_, (h c).2⟩
    refine (Cert.Reference7Ideal.Conv.full_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4))).trans ?_
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, preFacts,
    frame_K, frame_KI, frame_KI_pre, frame_RI, frame_RI_pre,
    frame_K2, frame_KI2, frame_RI2,
    frame_K3, frame_KI3, frame_RI3,
    frame_K4, frame_KI4, frame_RI4,
    frame_K5, frame_KI5, frame_RI5,
    frame_K6, frame_KI6, frame_RI6,
    frame_K7, frame_KI7, frame_RI7,
    preserves, algebraic, preserves2, algebraic2, preserves3, algebraic3, preserves4, algebraic4, preserves5, algebraic5, preserves6, algebraic6, preserves7, algebraic7⟩

end Cert.Proof

end
